-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_centres [hPre_finite_centres : Cert.Pre_finite_centres.Facts] (m : (ℓ : Loc Cert.KernelIdeal.nD Cert.KernelIdeal.τ Cert.KernelIdeal.sig) → Buf (Elt Ideal) ℓ) : Prop :=
  ∀ c : Dev Cert.KernelIdeal.nD,
    (Cert.Pre_finite_centres.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_centres [hPre_finite_centres : Cert.Pre_finite_centres.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_centres.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_centres [hKernelIdeal : Cert.KernelIdeal.Facts] [hPre_finite_centres : Cert.Pre_finite_centres.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_centres m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_centres [hReferenceIdeal : Cert.ReferenceIdeal.Facts] [hPre_finite_centres : Cert.Pre_finite_centres.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_centres m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_v0" .f32 0x41200000#32 ((134217728 / 13421773 : ℝ) : EReal)
  ∧ IdealRules.named_const.Statement Cert.KernelIdeal.κ "inv_v1" .f32 0x40A00000#32 ((67108864 / 13421773 : ℝ) : EReal)

def algebraic_KernelIdeal_ReferenceIdeal_pre_finite_centres [hKernelIdeal : Cert.KernelIdeal.Facts] [hReferenceIdeal : Cert.ReferenceIdeal.Facts] [hPre_finite_centres : Cert.Pre_finite_centres.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_centres m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_centres : Cert.Pre_finite_centres.Facts),
    quiescent_Kernel (hKernel := hKernel)
    ∧ quiescent_KernelIdeal (hKernelIdeal := hKernelIdeal)
    ∧ quiescent_KernelIdeal_pre_finite_centres (hKernelIdeal := hKernelIdeal) (hPre_finite_centres := hPre_finite_centres)
    ∧ quiescent_ReferenceIdeal (hReferenceIdeal := hReferenceIdeal)
    ∧ quiescent_ReferenceIdeal_pre_finite_centres (hReferenceIdeal := hReferenceIdeal) (hPre_finite_centres := hPre_finite_centres)
    ∧ preserves_Kernel_KernelIdeal
    ∧ algebraic_KernelIdeal_ReferenceIdeal_pre_finite_centres (hKernelIdeal := hKernelIdeal) (hReferenceIdeal := hReferenceIdeal) (hPre_finite_centres := hPre_finite_centres)
-- ==== Pre_finite_centres.lean ====
abbrev S20000x4 : Shape := ⟨2, ![20000, 4]⟩
abbrev S8x100x4 : Shape := ⟨3, ![8, 100, 4]⟩
abbrev S8x100 : Shape := ⟨2, ![8, 100]⟩
abbrev S20000x2 : Shape := ⟨2, ![20000, 2]⟩
abbrev S_ : Shape := ⟨0, ![]⟩

class Facts : Prop where
  slices_S20000x4_S20000x2_0_0 : S20000x4.Slices ![0, 0] S20000x2
  bcast_S_S20000x2 : S_.BroadcastsInDim S20000x2 (![] : Fin 0 → Fin S20000x2.rank)

variable [Facts]

def fn {F : FTy → Type} [FloatOps F] (main_arg0 : FVec F S20000x4 .f32) (main_arg1 : FVec F S8x100x4 .f32) (main_arg2 : IVec S8x100 32) : IVec S20000x2 1 :=
  let main_v0 : FVec F S20000x2 .f32 := (extractStridedSlice S20000x2 ![0, 0] · slices_S20000x4_S20000x2_0_0) main_arg0
  let main_v1 : FVec F S20000x2 .f32 := Host.absf main_v0
  let main_cst : FVec F S_ .f32 := constant S_ .f32 0x7F800000#32
  let main_v2 : FVec F S20000x2 .f32 := broadcastInDim S20000x2 ![] bcast_S_S20000x2 main_cst
  let main_v3 : IVec S20000x2 1 := cmpf .olt main_v1 main_v2
  main_v3
-- ==== Kernel.lean ====
abbrev S20000x4 : Shape := ⟨2, ![20000, 4]⟩
abbrev S8x100x4 : Shape := ⟨3, ![8, 100, 4]⟩
abbrev S8x100 : Shape := ⟨2, ![8, 100]⟩
abbrev S4x20000 : Shape := ⟨2, ![4, 20000]⟩
abbrev S8x1x20000 : Shape := ⟨3, ![8, 1, 20000]⟩
abbrev S8x112x1 : Shape := ⟨3, ![8, 112, 1]⟩
abbrev S1x100x4 : Shape := ⟨3, ![1, 100, 4]⟩
abbrev S1x1x20000 : Shape := ⟨3, ![1, 1, 20000]⟩
abbrev S1x112x1 : Shape := ⟨3, ![1, 112, 1]⟩
abbrev S1x20000 : Shape := ⟨2, ![1, 20000]⟩
abbrev S1x100x1 : Shape := ⟨3, ![1, 100, 1]⟩
abbrev S100x1 : Shape := ⟨2, ![100, 1]⟩
abbrev S100x20000 : Shape := ⟨2, ![100, 20000]⟩
abbrev S20000 : Shape := ⟨1, ![20000]⟩
abbrev S100 : Shape := ⟨1, ![100]⟩
abbrev S12x1 : Shape := ⟨2, ![12, 1]⟩
abbrev S112x1 : Shape := ⟨2, ![112, 1]⟩
abbrev S_ : Shape := ⟨0, ![]⟩
abbrev S8x112x4 : Shape := ⟨3, ![8, 112, 4]⟩
abbrev S4x8x112 : Shape := ⟨3, ![4, 8, 112]⟩
abbrev S4x896 : Shape := ⟨2, ![4, 896]⟩
abbrev S8x112 : Shape := ⟨2, ![8, 112]⟩
abbrev S160000 : Shape := ⟨1, ![160000]⟩
abbrev S896 : Shape := ⟨1, ![896]⟩
abbrev S1x896 : Shape := ⟨2, ![1, 896]⟩
abbrev S640000 : Shape := ⟨1, ![640000]⟩
abbrev S5008 : Shape := ⟨1, ![5008]⟩
abbrev S112 : Shape := ⟨1, ![112]⟩
abbrev S20032 : Shape := ⟨1, ![20032]⟩
abbrev S5000 : Shape := ⟨1, ![5000]⟩
abbrev S16 : Shape := ⟨1, ![16]⟩
abbrev S8x20000x4 : Shape := ⟨3, ![8, 20000, 4]⟩
abbrev S8x20000 : Shape := ⟨2, ![8, 20000]⟩

abbrev nBuf : Table → Nat
  | .hbm => 39
  | .local .tc .vmem => 9
  | .local .scVector .vmem => 15
  | _ => 0

abbrev bufTy : (tb : Table) → Fin (nBuf tb) → BufTy
  | .hbm, ⟨0, _⟩ => ⟨S20000x4, .f32⟩
  | .hbm, ⟨1, _⟩ => ⟨S8x100x4, .f32⟩
  | .hbm, ⟨2, _⟩ => ⟨S8x100, .i32⟩
  | .hbm, ⟨3, _⟩ => ⟨S4x20000, .f32⟩
  | .hbm, ⟨4, _⟩ => ⟨S8x1x20000, .i32⟩
  | .hbm, ⟨5, _⟩ => ⟨S8x1x20000, .i32⟩
  | .hbm, ⟨6, _⟩ => ⟨S8x112x1, .i32⟩
  | .hbm, ⟨7, _⟩ => ⟨S_, .i32⟩
  | .hbm, ⟨8, _⟩ => ⟨S_, .f32⟩
  | .hbm, ⟨9, _⟩ => ⟨S8x112x4, .f32⟩
  | .hbm, ⟨10, _⟩ => ⟨S4x8x112, .f32⟩
  | .hbm, ⟨11, _⟩ => ⟨S4x896, .f32⟩
  | .hbm, ⟨12, _⟩ => ⟨S_, .i32⟩
  | .hbm, ⟨13, _⟩ => ⟨S_, .i32⟩
  | .hbm, ⟨14, _⟩ => ⟨S8x112, .i32⟩
  | .hbm, ⟨15, _⟩ => ⟨S160000, .i32⟩
  | .hbm, ⟨16, _⟩ => ⟨S160000, .i32⟩
  | .hbm, ⟨17, _⟩ => ⟨S896, .i32⟩
  | .hbm, ⟨18, _⟩ => ⟨S1x896, .f32⟩
  | .hbm, ⟨19, _⟩ => ⟨S896, .f32⟩
  | .hbm, ⟨20, _⟩ => ⟨S1x896, .f32⟩
  | .hbm, ⟨21, _⟩ => ⟨S896, .f32⟩
  | .hbm, ⟨22, _⟩ => ⟨S1x896, .f32⟩
  | .hbm, ⟨23, _⟩ => ⟨S896, .f32⟩
  | .hbm, ⟨24, _⟩ => ⟨S1x896, .f32⟩
  | .hbm, ⟨25, _⟩ => ⟨S896, .f32⟩
  | .hbm, ⟨26, _⟩ => ⟨S896, .i32⟩
  | .hbm, ⟨27, _⟩ => ⟨S1x20000, .f32⟩
  | .hbm, ⟨28, _⟩ => ⟨S20000, .f32⟩
  | .hbm, ⟨29, _⟩ => ⟨S1x20000, .f32⟩
  | .hbm, ⟨30, _⟩ => ⟨S20000, .f32⟩
  | .hbm, ⟨31, _⟩ => ⟨S1x20000, .f32⟩
  | .hbm, ⟨32, _⟩ => ⟨S20000, .f32⟩
  | .hbm, ⟨33, _⟩ => ⟨S1x20000, .f32⟩
  | .hbm, ⟨34, _⟩ => ⟨S20000, .f32⟩
  | .hbm, ⟨35, _⟩ => ⟨S640000, .f32⟩
  | .hbm, ⟨36, _⟩ => ⟨S160000, .i32⟩
  | .hbm, ⟨37, _⟩ => ⟨S8x20000x4, .f32⟩
  | .hbm, ⟨38, _⟩ => ⟨S8x20000, .i32⟩
  | .local .tc .vmem, ⟨0, _⟩ => ⟨S4x20000, .f32⟩
  | .local .tc .vmem, ⟨1, _⟩ => ⟨S1x100x4, .f32⟩
  | .local .tc .vmem, ⟨2, _⟩ => ⟨S1x100x4, .f32⟩
  | .local .tc .vmem, ⟨3, _⟩ => ⟨S1x1x20000, .i32⟩
  | .local .tc .vmem, ⟨4, _⟩ => ⟨S1x1x20000, .i32⟩
  | .local .tc .vmem, ⟨5, _⟩ => ⟨S1x1x20000, .i32⟩
  | .local .tc .vmem, ⟨6, _⟩ => ⟨S1x1x20000, .i32⟩
  | .local .tc .vmem, ⟨7, _⟩ => ⟨S1x112x1, .i32⟩
  | .local .tc .vmem, ⟨8, _⟩ => ⟨S1x112x1, .i32⟩
  | .local .scVector .vmem, ⟨0, _⟩ => ⟨S5008, .i32⟩
  | .local .scVector .vmem, ⟨1, _⟩ => ⟨S5008, .i32⟩
  | .local .scVector .vmem, ⟨2, _⟩ => ⟨S5008, .i32⟩
  | .local .scVector .vmem, ⟨3, _⟩ => ⟨S5008, .i32⟩
  | .local .scVector .vmem, ⟨4, _⟩ => ⟨S5008, .f32⟩
  | .local .scVector .vmem, ⟨5, _⟩ => ⟨S5008, .f32⟩
  | .local .scVector .vmem, ⟨6, _⟩ => ⟨S5008, .f32⟩
  | .local .scVector .vmem, ⟨7, _⟩ => ⟨S5008, .f32⟩
  | .local .scVector .vmem, ⟨8, _⟩ => ⟨S112, .i32⟩
  | .local .scVector .vmem, ⟨9, _⟩ => ⟨S112, .f32⟩
  | .local .scVector .vmem, ⟨10, _⟩ => ⟨S112, .f32⟩
  | .local .scVector .vmem, ⟨11, _⟩ => ⟨S112, .f32⟩
  | .local .scVector .vmem, ⟨12, _⟩ => ⟨S112, .f32⟩
  | .local .scVector .vmem, ⟨13, _⟩ => ⟨S112, .i32⟩
  | .local .scVector .vmem, ⟨14, _⟩ => ⟨S20032, .f32⟩
  | _, _ => ⟨S20000x4, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v27 : Ref sig .tc := ⟨.hbm, 37, rfl⟩
abbrev main_v28 : Ref sig .tc := ⟨.hbm, 38, rfl⟩
abbrev main_v6_scv : Ref sig .scVector := ⟨.hbm, 15, rfl⟩
abbrev main_v7_scv : Ref sig .scVector := ⟨.hbm, 16, rfl⟩
abbrev main_v8_scv : Ref sig .scVector := ⟨.hbm, 17, rfl⟩
abbrev main_v10_scv : Ref sig .scVector := ⟨.hbm, 19, rfl⟩
abbrev main_v12_scv : Ref sig .scVector := ⟨.hbm, 21, rfl⟩
abbrev main_v14_scv : Ref sig .scVector := ⟨.hbm, 23, rfl⟩
abbrev main_v16_scv : Ref sig .scVector := ⟨.hbm, 25, rfl⟩
abbrev main_v17_scv : Ref sig .scVector := ⟨.hbm, 26, rfl⟩
abbrev main_v19_scv : Ref sig .scVector := ⟨.hbm, 28, rfl⟩
abbrev main_v21_scv : Ref sig .scVector := ⟨.hbm, 30, rfl⟩
abbrev main_v23_scv : Ref sig .scVector := ⟨.hbm, 32, rfl⟩
abbrev main_v25_scv : Ref sig .scVector := ⟨.hbm, 34, rfl⟩
abbrev main_v26_0_scv : Ref sig .scVector := ⟨.hbm, 35, rfl⟩
abbrev main_v26_1_scv : Ref sig .scVector := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc1_scratch9 : Ref sig .scVector := ⟨.vmem, 9, rfl⟩
abbrev cc1_scratch10 : Ref sig .scVector := ⟨.vmem, 10, rfl⟩
abbrev cc1_scratch11 : Ref sig .scVector := ⟨.vmem, 11, rfl⟩
abbrev cc1_scratch12 : Ref sig .scVector := ⟨.vmem, 12, rfl⟩
abbrev cc1_scratch13 : Ref sig .scVector := ⟨.vmem, 13, rfl⟩
abbrev cc1_scratch14 : Ref sig .scVector := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x20000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x100x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x20000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x20000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x112x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c20000_i32 : BitVec 32 := 20000#32
  let v30 : BitVec 32 := Scalar.muli v18 c20000_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c5000_i32 : BitVec 32 := 5000#32
  let v29 : BitVec 32 := Scalar.muli v28 c5000_i32
  let v31 : BitVec 32 := Scalar.addi v30 v29
  ![v31.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c5000_i32 : BitVec 32 := 5000#32
  let v29 : BitVec 32 := Scalar.muli v28 c5000_i32
  ![v29.toNat]
def k1_off3 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c112_i32 : BitVec 32 := 112#32
  let v32 : BitVec 32 := Scalar.muli v18 c112_i32
  ![v32.toNat]
@[reducible] def k1_t1_loop : Scf.Loop 32 :=
  let c0_i32_12 : BitVec 32 := 0#32
  let c313_i32 : BitVec 32 := 313#32
  let v35 : BitVec 32 := Scalar.addi c0_i32_12 c313_i32
  let c1_i32_13 : BitVec 32 := 1#32
  ⟨c0_i32_12, v35, c1_i32_13⟩
def k1_off4 (k1_t1 : Fin k1_t1_loop.trips) : Fin 1 → Nat :=
  let c0_i32_12 : BitVec 32 := 0#32
  let c1_i32_13 : BitVec 32 := 1#32
  let arg31 : BitVec 32 := Scf.iv c0_i32_12 c1_i32_13 k1_t1
  let c16_i32_156 : BitVec 32 := 16#32
  let v494 : BitVec 32 := Scalar.muli arg31 c16_i32_156
  let v495 : Index := Scalar.indexCast v494
  ![v495.toNat]

def k1_chk1 (v53 : IVec S16 32) : Prop :=
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a) ∧
  (∀ a x, ((![v53] : Fin 1 → IVec S16 32) a x).toNat < S5008.size a)
theorem k1_idx1_inb : ∀ (v53 : IVec S16 32) (k1_hw1 : k1_chk1 v53), ∀ a x, ((![v53] : Fin 1 → IVec S16 32) a x).toNat < S5008.size a := fun v53 k1_hw1 => k1_hw1.1
theorem k1_idx2_inb : ∀ (v53 : IVec S16 32) (k1_hw1 : k1_chk1 v53), ∀ a x, ((![v53] : Fin 1 → IVec S16 32) a x).toNat < S5008.size a := fun v53 k1_hw1 => k1_hw1.2.1
theorem k1_idx3_inb : ∀ (v53 : IVec S16 32) (k1_hw1 : k1_chk1 v53), ∀ a x, ((![v53] : Fin 1 → IVec S16 32) a x).toNat < S5008.size a := fun v53 k1_hw1 => k1_hw1.2.2.1
theorem k1_idx4_inb : ∀ (v53 : IVec S16 32) (k1_hw1 : k1_chk1 v53), ∀ a x, ((![v53] : Fin 1 → IVec S16 32) a x).toNat < S5008.size a := fun v53 k1_hw1 => k1_hw1.2.2.2.1
theorem k1_idx5_inb : ∀ (v53 : IVec S16 32) (k1_hw1 : k1_chk1 v53), ∀ a x, ((![v53] : Fin 1 → IVec S16 32) a x).toNat < S5008.size a := fun v53 k1_hw1 => k1_hw1.2.2.2.2.1
theorem k1_idx6_inb : ∀ (v53 : IVec S16 32) (k1_hw1 : k1_chk1 v53), ∀ a x, ((![v53] : Fin 1 → IVec S16 32) a x).toNat < S5008.size a := fun v53 k1_hw1 => k1_hw1.2.2.2.2.2.1
theorem k1_idx7_inb : ∀ (v53 : IVec S16 32) (k1_hw1 : k1_chk1 v53), ∀ a x, ((![v53] : Fin 1 → IVec S16 32) a x).toNat < S5008.size a := fun v53 k1_hw1 => k1_hw1.2.2.2.2.2.2.1
theorem k1_idx8_inb : ∀ (v53 : IVec S16 32) (k1_hw1 : k1_chk1 v53), ∀ a x, ((![v53] : Fin 1 → IVec S16 32) a x).toNat < S5008.size a := fun v53 k1_hw1 => k1_hw1.2.2.2.2.2.2.2.1
theorem k1_idx9_inb : ∀ (v53 : IVec S16 32) (k1_hw1 : k1_chk1 v53), ∀ a x, ((![v53] : Fin 1 → IVec S16 32) a x).toNat < S5008.size a := fun v53 k1_hw1 => k1_hw1.2.2.2.2.2.2.2.2.1
theorem k1_idx10_inb : ∀ (v53 : IVec S16 32) (k1_hw1 : k1_chk1 v53), ∀ a x, ((![v53] : Fin 1 → IVec S16 32) a x).toNat < S5008.size a := fun v53 k1_hw1 => k1_hw1.2.2.2.2.2.2.2.2.2.1
theorem k1_idx11_inb : ∀ (v53 : IVec S16 32) (k1_hw1 : k1_chk1 v53), ∀ a x, ((![v53] : Fin 1 → IVec S16 32) a x).toNat < S5008.size a := fun v53 k1_hw1 => k1_hw1.2.2.2.2.2.2.2.2.2.2.1
theorem k1_idx12_inb : ∀ (v53 : IVec S16 32) (k1_hw1 : k1_chk1 v53), ∀ a x, ((![v53] : Fin 1 → IVec S16 32) a x).toNat < S5008.size a := fun v53 k1_hw1 => k1_hw1.2.2.2.2.2.2.2.2.2.2.2.1
theorem k1_idx13_inb : ∀ (v53 : IVec S16 32) (k1_hw1 : k1_chk1 v53), ∀ a x, ((![v53] : Fin 1 → IVec S16 32) a x).toNat < S5008.size a := fun v53 k1_hw1 => k1_hw1.2.2.2.2.2.2.2.2.2.2.2.2.1
theorem k1_idx14_inb : ∀ (v53 : IVec S16 32) (k1_hw1 : k1_chk1 v53), ∀ a x, ((![v53] : Fin 1 → IVec S16 32) a x).toNat < S5008.size a := fun v53 k1_hw1 => k1_hw1.2.2.2.2.2.2.2.2.2.2.2.2.2.1
theorem k1_idx15_inb : ∀ (v53 : IVec S16 32) (k1_hw1 : k1_chk1 v53), ∀ a x, ((![v53] : Fin 1 → IVec S16 32) a x).toNat < S5008.size a := fun v53 k1_hw1 => k1_hw1.2.2.2.2.2.2.2.2.2.2.2.2.2.2.1
theorem k1_idx16_inb : ∀ (v53 : IVec S16 32) (k1_hw1 : k1_chk1 v53), ∀ a x, ((![v53] : Fin 1 → IVec S16 32) a x).toNat < S5008.size a := fun v53 k1_hw1 => k1_hw1.2.2.2.2.2.2.2.2.2.2.2.2.2.2.2.1
theorem k1_idx17_inb : ∀ (v53 : IVec S16 32) (k1_hw1 : k1_chk1 v53), ∀ a x, ((![v53] : Fin 1 → IVec S16 32) a x).toNat < S5008.size a := fun v53 k1_hw1 => k1_hw1.2.2.2.2.2.2.2.2.2.2.2.2.2.2.2.2

def k1_chk2 (v118 : IVec S16 32) : Prop :=
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a) ∧
  (∀ a x, ((![v118] : Fin 1 → IVec S16 32) a x).toNat < S5008.size a)
theorem k1_idx18_inb : ∀ (v118 : IVec S16 32) (k1_hw2 : k1_chk2 v118), ∀ a x, ((![v118] : Fin 1 → IVec S16 32) a x).toNat < S5008.size a := fun v118 k1_hw2 => k1_hw2.1
theorem k1_idx19_inb : ∀ (v118 : IVec S16 32) (k1_hw2 : k1_chk2 v118), ∀ a x, ((![v118] : Fin 1 → IVec S16 32) a x).toNat < S5008.size a := fun v118 k1_hw2 => k1_hw2.2.1
theorem k1_idx20_inb : ∀ (v118 : IVec S16 32) (k1_hw2 : k1_chk2 v118), ∀ a x, ((![v118] : Fin 1 → IVec S16 32) a x).toNat < S5008.size a := fun v118 k1_hw2 => k1_hw2.2.2.1
theorem k1_idx21_inb : ∀ (v118 : IVec S16 32) (k1_hw2 : k1_chk2 v118), ∀ a x, ((![v118] : Fin 1 → IVec S16 32) a x).toNat < S5008.size a := fun v118 k1_hw2 => k1_hw2.2.2.2.1
theorem k1_idx22_inb : ∀ (v118 : IVec S16 32) (k1_hw2 : k1_chk2 v118), ∀ a x, ((![v118] : Fin 1 → IVec S16 32) a x).toNat < S5008.size a := fun v118 k1_hw2 => k1_hw2.2.2.2.2.1
theorem k1_idx23_inb : ∀ (v118 : IVec S16 32) (k1_hw2 : k1_chk2 v118), ∀ a x, ((![v118] : Fin 1 → IVec S16 32) a x).toNat < S5008.size a := fun v118 k1_hw2 => k1_hw2.2.2.2.2.2.1
theorem k1_idx24_inb : ∀ (v118 : IVec S16 32) (k1_hw2 : k1_chk2 v118), ∀ a x, ((![v118] : Fin 1 → IVec S16 32) a x).toNat < S5008.size a := fun v118 k1_hw2 => k1_hw2.2.2.2.2.2.2.1
theorem k1_idx25_inb : ∀ (v118 : IVec S16 32) (k1_hw2 : k1_chk2 v118), ∀ a x, ((![v118] : Fin 1 → IVec S16 32) a x).toNat < S5008.size a := fun v118 k1_hw2 => k1_hw2.2.2.2.2.2.2.2.1
theorem k1_idx26_inb : ∀ (v118 : IVec S16 32) (k1_hw2 : k1_chk2 v118), ∀ a x, ((![v118] : Fin 1 → IVec S16 32) a x).toNat < S5008.size a := fun v118 k1_hw2 => k1_hw2.2.2.2.2.2.2.2.2.1
theorem k1_idx27_inb : ∀ (v118 : IVec S16 32) (k1_hw2 : k1_chk2 v118), ∀ a x, ((![v118] : Fin 1 → IVec S16 32) a x).toNat < S5008.size a := fun v118 k1_hw2 => k1_hw2.2.2.2.2.2.2.2.2.2.1
theorem k1_idx28_inb : ∀ (v118 : IVec S16 32) (k1_hw2 : k1_chk2 v118), ∀ a x, ((![v118] : Fin 1 → IVec S16 32) a x).toNat < S5008.size a := fun v118 k1_hw2 => k1_hw2.2.2.2.2.2.2.2.2.2.2.1
theorem k1_idx29_inb : ∀ (v118 : IVec S16 32) (k1_hw2 : k1_chk2 v118), ∀ a x, ((![v118] : Fin 1 → IVec S16 32) a x).toNat < S5008.size a := fun v118 k1_hw2 => k1_hw2.2.2.2.2.2.2.2.2.2.2.2.1
theorem k1_idx30_inb : ∀ (v118 : IVec S16 32) (k1_hw2 : k1_chk2 v118), ∀ a x, ((![v118] : Fin 1 → IVec S16 32) a x).toNat < S5008.size a := fun v118 k1_hw2 => k1_hw2.2.2.2.2.2.2.2.2.2.2.2.2.1
theorem k1_idx31_inb : ∀ (v118 : IVec S16 32) (k1_hw2 : k1_chk2 v118), ∀ a x, ((![v118] : Fin 1 → IVec S16 32) a x).toNat < S5008.size a := fun v118 k1_hw2 => k1_hw2.2.2.2.2.2.2.2.2.2.2.2.2.2.1
theorem k1_idx32_inb : ∀ (v118 : IVec S16 32) (k1_hw2 : k1_chk2 v118), ∀ a x, ((![v118] : Fin 1 → IVec S16 32) a x).toNat < S5008.size a := fun v118 k1_hw2 => k1_hw2.2.2.2.2.2.2.2.2.2.2.2.2.2.2.1
theorem k1_idx33_inb : ∀ (v118 : IVec S16 32) (k1_hw2 : k1_chk2 v118), ∀ a x, ((![v118] : Fin 1 → IVec S16 32) a x).toNat < S5008.size a := fun v118 k1_hw2 => k1_hw2.2.2.2.2.2.2.2.2.2.2.2.2.2.2.2.1
theorem k1_idx34_inb : ∀ (v118 : IVec S16 32) (k1_hw2 : k1_chk2 v118), ∀ a x, ((![v118] : Fin 1 → IVec S16 32) a x).toNat < S5008.size a := fun v118 k1_hw2 => k1_hw2.2.2.2.2.2.2.2.2.2.2.2.2.2.2.2.2

def k1_chk3 (v183 : IVec S16 32) : Prop :=
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a) ∧
  (∀ a x, ((![v183] : Fin 1 → IVec S16 32) a x).toNat < S5008.size a)
theorem k1_idx35_inb : ∀ (v183 : IVec S16 32) (k1_hw3 : k1_chk3 v183), ∀ a x, ((![v183] : Fin 1 → IVec S16 32) a x).toNat < S5008.size a := fun v183 k1_hw3 => k1_hw3.1
theorem k1_idx36_inb : ∀ (v183 : IVec S16 32) (k1_hw3 : k1_chk3 v183), ∀ a x, ((![v183] : Fin 1 → IVec S16 32) a x).toNat < S5008.size a := fun v183 k1_hw3 => k1_hw3.2.1
theorem k1_idx37_inb : ∀ (v183 : IVec S16 32) (k1_hw3 : k1_chk3 v183), ∀ a x, ((![v183] : Fin 1 → IVec S16 32) a x).toNat < S5008.size a := fun v183 k1_hw3 => k1_hw3.2.2.1
theorem k1_idx38_inb : ∀ (v183 : IVec S16 32) (k1_hw3 : k1_chk3 v183), ∀ a x, ((![v183] : Fin 1 → IVec S16 32) a x).toNat < S5008.size a := fun v183 k1_hw3 => k1_hw3.2.2.2.1
theorem k1_idx39_inb : ∀ (v183 : IVec S16 32) (k1_hw3 : k1_chk3 v183), ∀ a x, ((![v183] : Fin 1 → IVec S16 32) a x).toNat < S5008.size a := fun v183 k1_hw3 => k1_hw3.2.2.2.2.1
theorem k1_idx40_inb : ∀ (v183 : IVec S16 32) (k1_hw3 : k1_chk3 v183), ∀ a x, ((![v183] : Fin 1 → IVec S16 32) a x).toNat < S5008.size a := fun v183 k1_hw3 => k1_hw3.2.2.2.2.2.1
theorem k1_idx41_inb : ∀ (v183 : IVec S16 32) (k1_hw3 : k1_chk3 v183), ∀ a x, ((![v183] : Fin 1 → IVec S16 32) a x).toNat < S5008.size a := fun v183 k1_hw3 => k1_hw3.2.2.2.2.2.2.1
theorem k1_idx42_inb : ∀ (v183 : IVec S16 32) (k1_hw3 : k1_chk3 v183), ∀ a x, ((![v183] : Fin 1 → IVec S16 32) a x).toNat < S5008.size a := fun v183 k1_hw3 => k1_hw3.2.2.2.2.2.2.2.1
theorem k1_idx43_inb : ∀ (v183 : IVec S16 32) (k1_hw3 : k1_chk3 v183), ∀ a x, ((![v183] : Fin 1 → IVec S16 32) a x).toNat < S5008.size a := fun v183 k1_hw3 => k1_hw3.2.2.2.2.2.2.2.2.1
theorem k1_idx44_inb : ∀ (v183 : IVec S16 32) (k1_hw3 : k1_chk3 v183), ∀ a x, ((![v183] : Fin 1 → IVec S16 32) a x).toNat < S5008.size a := fun v183 k1_hw3 => k1_hw3.2.2.2.2.2.2.2.2.2.1
theorem k1_idx45_inb : ∀ (v183 : IVec S16 32) (k1_hw3 : k1_chk3 v183), ∀ a x, ((![v183] : Fin 1 → IVec S16 32) a x).toNat < S5008.size a := fun v183 k1_hw3 => k1_hw3.2.2.2.2.2.2.2.2.2.2.1
theorem k1_idx46_inb : ∀ (v183 : IVec S16 32) (k1_hw3 : k1_chk3 v183), ∀ a x, ((![v183] : Fin 1 → IVec S16 32) a x).toNat < S5008.size a := fun v183 k1_hw3 => k1_hw3.2.2.2.2.2.2.2.2.2.2.2.1
theorem k1_idx47_inb : ∀ (v183 : IVec S16 32) (k1_hw3 : k1_chk3 v183), ∀ a x, ((![v183] : Fin 1 → IVec S16 32) a x).toNat < S5008.size a := fun v183 k1_hw3 => k1_hw3.2.2.2.2.2.2.2.2.2.2.2.2.1
theorem k1_idx48_inb : ∀ (v183 : IVec S16 32) (k1_hw3 : k1_chk3 v183), ∀ a x, ((![v183] : Fin 1 → IVec S16 32) a x).toNat < S5008.size a := fun v183 k1_hw3 => k1_hw3.2.2.2.2.2.2.2.2.2.2.2.2.2.1
theorem k1_idx49_inb : ∀ (v183 : IVec S16 32) (k1_hw3 : k1_chk3 v183), ∀ a x, ((![v183] : Fin 1 → IVec S16 32) a x).toNat < S5008.size a := fun v183 k1_hw3 => k1_hw3.2.2.2.2.2.2.2.2.2.2.2.2.2.2.1
theorem k1_idx50_inb : ∀ (v183 : IVec S16 32) (k1_hw3 : k1_chk3 v183), ∀ a x, ((![v183] : Fin 1 → IVec S16 32) a x).toNat < S5008.size a := fun v183 k1_hw3 => k1_hw3.2.2.2.2.2.2.2.2.2.2.2.2.2.2.2.1
theorem k1_idx51_inb : ∀ (v183 : IVec S16 32) (k1_hw3 : k1_chk3 v183), ∀ a x, ((![v183] : Fin 1 → IVec S16 32) a x).toNat < S5008.size a := fun v183 k1_hw3 => k1_hw3.2.2.2.2.2.2.2.2.2.2.2.2.2.2.2.2

def k1_chk4 (v248 : IVec S16 32) : Prop :=
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a) ∧
  (∀ a x, ((![v248] : Fin 1 → IVec S16 32) a x).toNat < S5008.size a)
theorem k1_idx52_inb : ∀ (v248 : IVec S16 32) (k1_hw4 : k1_chk4 v248), ∀ a x, ((![v248] : Fin 1 → IVec S16 32) a x).toNat < S5008.size a := fun v248 k1_hw4 => k1_hw4.1
theorem k1_idx53_inb : ∀ (v248 : IVec S16 32) (k1_hw4 : k1_chk4 v248), ∀ a x, ((![v248] : Fin 1 → IVec S16 32) a x).toNat < S5008.size a := fun v248 k1_hw4 => k1_hw4.2.1
theorem k1_idx54_inb : ∀ (v248 : IVec S16 32) (k1_hw4 : k1_chk4 v248), ∀ a x, ((![v248] : Fin 1 → IVec S16 32) a x).toNat < S5008.size a := fun v248 k1_hw4 => k1_hw4.2.2.1
theorem k1_idx55_inb : ∀ (v248 : IVec S16 32) (k1_hw4 : k1_chk4 v248), ∀ a x, ((![v248] : Fin 1 → IVec S16 32) a x).toNat < S5008.size a := fun v248 k1_hw4 => k1_hw4.2.2.2.1
theorem k1_idx56_inb : ∀ (v248 : IVec S16 32) (k1_hw4 : k1_chk4 v248), ∀ a x, ((![v248] : Fin 1 → IVec S16 32) a x).toNat < S5008.size a := fun v248 k1_hw4 => k1_hw4.2.2.2.2.1
theorem k1_idx57_inb : ∀ (v248 : IVec S16 32) (k1_hw4 : k1_chk4 v248), ∀ a x, ((![v248] : Fin 1 → IVec S16 32) a x).toNat < S5008.size a := fun v248 k1_hw4 => k1_hw4.2.2.2.2.2.1
theorem k1_idx58_inb : ∀ (v248 : IVec S16 32) (k1_hw4 : k1_chk4 v248), ∀ a x, ((![v248] : Fin 1 → IVec S16 32) a x).toNat < S5008.size a := fun v248 k1_hw4 => k1_hw4.2.2.2.2.2.2.1
theorem k1_idx59_inb : ∀ (v248 : IVec S16 32) (k1_hw4 : k1_chk4 v248), ∀ a x, ((![v248] : Fin 1 → IVec S16 32) a x).toNat < S5008.size a := fun v248 k1_hw4 => k1_hw4.2.2.2.2.2.2.2.1
theorem k1_idx60_inb : ∀ (v248 : IVec S16 32) (k1_hw4 : k1_chk4 v248), ∀ a x, ((![v248] : Fin 1 → IVec S16 32) a x).toNat < S5008.size a := fun v248 k1_hw4 => k1_hw4.2.2.2.2.2.2.2.2.1
theorem k1_idx61_inb : ∀ (v248 : IVec S16 32) (k1_hw4 : k1_chk4 v248), ∀ a x, ((![v248] : Fin 1 → IVec S16 32) a x).toNat < S5008.size a := fun v248 k1_hw4 => k1_hw4.2.2.2.2.2.2.2.2.2.1
theorem k1_idx62_inb : ∀ (v248 : IVec S16 32) (k1_hw4 : k1_chk4 v248), ∀ a x, ((![v248] : Fin 1 → IVec S16 32) a x).toNat < S5008.size a := fun v248 k1_hw4 => k1_hw4.2.2.2.2.2.2.2.2.2.2.1
theorem k1_idx63_inb : ∀ (v248 : IVec S16 32) (k1_hw4 : k1_chk4 v248), ∀ a x, ((![v248] : Fin 1 → IVec S16 32) a x).toNat < S5008.size a := fun v248 k1_hw4 => k1_hw4.2.2.2.2.2.2.2.2.2.2.2.1
theorem k1_idx64_inb : ∀ (v248 : IVec S16 32) (k1_hw4 : k1_chk4 v248), ∀ a x, ((![v248] : Fin 1 → IVec S16 32) a x).toNat < S5008.size a := fun v248 k1_hw4 => k1_hw4.2.2.2.2.2.2.2.2.2.2.2.2.1
theorem k1_idx65_inb : ∀ (v248 : IVec S16 32) (k1_hw4 : k1_chk4 v248), ∀ a x, ((![v248] : Fin 1 → IVec S16 32) a x).toNat < S5008.size a := fun v248 k1_hw4 => k1_hw4.2.2.2.2.2.2.2.2.2.2.2.2.2.1
theorem k1_idx66_inb : ∀ (v248 : IVec S16 32) (k1_hw4 : k1_chk4 v248), ∀ a x, ((![v248] : Fin 1 → IVec S16 32) a x).toNat < S5008.size a := fun v248 k1_hw4 => k1_hw4.2.2.2.2.2.2.2.2.2.2.2.2.2.2.1
theorem k1_idx67_inb : ∀ (v248 : IVec S16 32) (k1_hw4 : k1_chk4 v248), ∀ a x, ((![v248] : Fin 1 → IVec S16 32) a x).toNat < S5008.size a := fun v248 k1_hw4 => k1_hw4.2.2.2.2.2.2.2.2.2.2.2.2.2.2.2.1
theorem k1_idx68_inb : ∀ (v248 : IVec S16 32) (k1_hw4 : k1_chk4 v248), ∀ a x, ((![v248] : Fin 1 → IVec S16 32) a x).toNat < S5008.size a := fun v248 k1_hw4 => k1_hw4.2.2.2.2.2.2.2.2.2.2.2.2.2.2.2.2

def k1_chk5 (v313 : IVec S16 32) : Prop :=
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a) ∧
  (∀ a x, ((![v313] : Fin 1 → IVec S16 32) a x).toNat < S5008.size a)
theorem k1_idx69_inb : ∀ (v313 : IVec S16 32) (k1_hw5 : k1_chk5 v313), ∀ a x, ((![v313] : Fin 1 → IVec S16 32) a x).toNat < S5008.size a := fun v313 k1_hw5 => k1_hw5.1
theorem k1_idx70_inb : ∀ (v313 : IVec S16 32) (k1_hw5 : k1_chk5 v313), ∀ a x, ((![v313] : Fin 1 → IVec S16 32) a x).toNat < S5008.size a := fun v313 k1_hw5 => k1_hw5.2.1
theorem k1_idx71_inb : ∀ (v313 : IVec S16 32) (k1_hw5 : k1_chk5 v313), ∀ a x, ((![v313] : Fin 1 → IVec S16 32) a x).toNat < S5008.size a := fun v313 k1_hw5 => k1_hw5.2.2.1
theorem k1_idx72_inb : ∀ (v313 : IVec S16 32) (k1_hw5 : k1_chk5 v313), ∀ a x, ((![v313] : Fin 1 → IVec S16 32) a x).toNat < S5008.size a := fun v313 k1_hw5 => k1_hw5.2.2.2.1
theorem k1_idx73_inb : ∀ (v313 : IVec S16 32) (k1_hw5 : k1_chk5 v313), ∀ a x, ((![v313] : Fin 1 → IVec S16 32) a x).toNat < S5008.size a := fun v313 k1_hw5 => k1_hw5.2.2.2.2.1
theorem k1_idx74_inb : ∀ (v313 : IVec S16 32) (k1_hw5 : k1_chk5 v313), ∀ a x, ((![v313] : Fin 1 → IVec S16 32) a x).toNat < S5008.size a := fun v313 k1_hw5 => k1_hw5.2.2.2.2.2.1
theorem k1_idx75_inb : ∀ (v313 : IVec S16 32) (k1_hw5 : k1_chk5 v313), ∀ a x, ((![v313] : Fin 1 → IVec S16 32) a x).toNat < S5008.size a := fun v313 k1_hw5 => k1_hw5.2.2.2.2.2.2.1
theorem k1_idx76_inb : ∀ (v313 : IVec S16 32) (k1_hw5 : k1_chk5 v313), ∀ a x, ((![v313] : Fin 1 → IVec S16 32) a x).toNat < S5008.size a := fun v313 k1_hw5 => k1_hw5.2.2.2.2.2.2.2.1
theorem k1_idx77_inb : ∀ (v313 : IVec S16 32) (k1_hw5 : k1_chk5 v313), ∀ a x, ((![v313] : Fin 1 → IVec S16 32) a x).toNat < S5008.size a := fun v313 k1_hw5 => k1_hw5.2.2.2.2.2.2.2.2.1
theorem k1_idx78_inb : ∀ (v313 : IVec S16 32) (k1_hw5 : k1_chk5 v313), ∀ a x, ((![v313] : Fin 1 → IVec S16 32) a x).toNat < S5008.size a := fun v313 k1_hw5 => k1_hw5.2.2.2.2.2.2.2.2.2.1
theorem k1_idx79_inb : ∀ (v313 : IVec S16 32) (k1_hw5 : k1_chk5 v313), ∀ a x, ((![v313] : Fin 1 → IVec S16 32) a x).toNat < S5008.size a := fun v313 k1_hw5 => k1_hw5.2.2.2.2.2.2.2.2.2.2.1
theorem k1_idx80_inb : ∀ (v313 : IVec S16 32) (k1_hw5 : k1_chk5 v313), ∀ a x, ((![v313] : Fin 1 → IVec S16 32) a x).toNat < S5008.size a := fun v313 k1_hw5 => k1_hw5.2.2.2.2.2.2.2.2.2.2.2.1
theorem k1_idx81_inb : ∀ (v313 : IVec S16 32) (k1_hw5 : k1_chk5 v313), ∀ a x, ((![v313] : Fin 1 → IVec S16 32) a x).toNat < S5008.size a := fun v313 k1_hw5 => k1_hw5.2.2.2.2.2.2.2.2.2.2.2.2.1
theorem k1_idx82_inb : ∀ (v313 : IVec S16 32) (k1_hw5 : k1_chk5 v313), ∀ a x, ((![v313] : Fin 1 → IVec S16 32) a x).toNat < S5008.size a := fun v313 k1_hw5 => k1_hw5.2.2.2.2.2.2.2.2.2.2.2.2.2.1
theorem k1_idx83_inb : ∀ (v313 : IVec S16 32) (k1_hw5 : k1_chk5 v313), ∀ a x, ((![v313] : Fin 1 → IVec S16 32) a x).toNat < S5008.size a := fun v313 k1_hw5 => k1_hw5.2.2.2.2.2.2.2.2.2.2.2.2.2.2.1
theorem k1_idx84_inb : ∀ (v313 : IVec S16 32) (k1_hw5 : k1_chk5 v313), ∀ a x, ((![v313] : Fin 1 → IVec S16 32) a x).toNat < S5008.size a := fun v313 k1_hw5 => k1_hw5.2.2.2.2.2.2.2.2.2.2.2.2.2.2.2.1
theorem k1_idx85_inb : ∀ (v313 : IVec S16 32) (k1_hw5 : k1_chk5 v313), ∀ a x, ((![v313] : Fin 1 → IVec S16 32) a x).toNat < S5008.size a := fun v313 k1_hw5 => k1_hw5.2.2.2.2.2.2.2.2.2.2.2.2.2.2.2.2

def k1_chk6 (v378 : IVec S16 32) : Prop :=
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a) ∧
  (∀ a x, ((![v378] : Fin 1 → IVec S16 32) a x).toNat < S5008.size a)
theorem k1_idx86_inb : ∀ (v378 : IVec S16 32) (k1_hw6 : k1_chk6 v378), ∀ a x, ((![v378] : Fin 1 → IVec S16 32) a x).toNat < S5008.size a := fun v378 k1_hw6 => k1_hw6.1
theorem k1_idx87_inb : ∀ (v378 : IVec S16 32) (k1_hw6 : k1_chk6 v378), ∀ a x, ((![v378] : Fin 1 → IVec S16 32) a x).toNat < S5008.size a := fun v378 k1_hw6 => k1_hw6.2.1
theorem k1_idx88_inb : ∀ (v378 : IVec S16 32) (k1_hw6 : k1_chk6 v378), ∀ a x, ((![v378] : Fin 1 → IVec S16 32) a x).toNat < S5008.size a := fun v378 k1_hw6 => k1_hw6.2.2.1
theorem k1_idx89_inb : ∀ (v378 : IVec S16 32) (k1_hw6 : k1_chk6 v378), ∀ a x, ((![v378] : Fin 1 → IVec S16 32) a x).toNat < S5008.size a := fun v378 k1_hw6 => k1_hw6.2.2.2.1
theorem k1_idx90_inb : ∀ (v378 : IVec S16 32) (k1_hw6 : k1_chk6 v378), ∀ a x, ((![v378] : Fin 1 → IVec S16 32) a x).toNat < S5008.size a := fun v378 k1_hw6 => k1_hw6.2.2.2.2.1
theorem k1_idx91_inb : ∀ (v378 : IVec S16 32) (k1_hw6 : k1_chk6 v378), ∀ a x, ((![v378] : Fin 1 → IVec S16 32) a x).toNat < S5008.size a := fun v378 k1_hw6 => k1_hw6.2.2.2.2.2.1
theorem k1_idx92_inb : ∀ (v378 : IVec S16 32) (k1_hw6 : k1_chk6 v378), ∀ a x, ((![v378] : Fin 1 → IVec S16 32) a x).toNat < S5008.size a := fun v378 k1_hw6 => k1_hw6.2.2.2.2.2.2.1
theorem k1_idx93_inb : ∀ (v378 : IVec S16 32) (k1_hw6 : k1_chk6 v378), ∀ a x, ((![v378] : Fin 1 → IVec S16 32) a x).toNat < S5008.size a := fun v378 k1_hw6 => k1_hw6.2.2.2.2.2.2.2.1
theorem k1_idx94_inb : ∀ (v378 : IVec S16 32) (k1_hw6 : k1_chk6 v378), ∀ a x, ((![v378] : Fin 1 → IVec S16 32) a x).toNat < S5008.size a := fun v378 k1_hw6 => k1_hw6.2.2.2.2.2.2.2.2.1
theorem k1_idx95_inb : ∀ (v378 : IVec S16 32) (k1_hw6 : k1_chk6 v378), ∀ a x, ((![v378] : Fin 1 → IVec S16 32) a x).toNat < S5008.size a := fun v378 k1_hw6 => k1_hw6.2.2.2.2.2.2.2.2.2.1
theorem k1_idx96_inb : ∀ (v378 : IVec S16 32) (k1_hw6 : k1_chk6 v378), ∀ a x, ((![v378] : Fin 1 → IVec S16 32) a x).toNat < S5008.size a := fun v378 k1_hw6 => k1_hw6.2.2.2.2.2.2.2.2.2.2.1
theorem k1_idx97_inb : ∀ (v378 : IVec S16 32) (k1_hw6 : k1_chk6 v378), ∀ a x, ((![v378] : Fin 1 → IVec S16 32) a x).toNat < S5008.size a := fun v378 k1_hw6 => k1_hw6.2.2.2.2.2.2.2.2.2.2.2.1
theorem k1_idx98_inb : ∀ (v378 : IVec S16 32) (k1_hw6 : k1_chk6 v378), ∀ a x, ((![v378] : Fin 1 → IVec S16 32) a x).toNat < S5008.size a := fun v378 k1_hw6 => k1_hw6.2.2.2.2.2.2.2.2.2.2.2.2.1
theorem k1_idx99_inb : ∀ (v378 : IVec S16 32) (k1_hw6 : k1_chk6 v378), ∀ a x, ((![v378] : Fin 1 → IVec S16 32) a x).toNat < S5008.size a := fun v378 k1_hw6 => k1_hw6.2.2.2.2.2.2.2.2.2.2.2.2.2.1
theorem k1_idx100_inb : ∀ (v378 : IVec S16 32) (k1_hw6 : k1_chk6 v378), ∀ a x, ((![v378] : Fin 1 → IVec S16 32) a x).toNat < S5008.size a := fun v378 k1_hw6 => k1_hw6.2.2.2.2.2.2.2.2.2.2.2.2.2.2.1
theorem k1_idx101_inb : ∀ (v378 : IVec S16 32) (k1_hw6 : k1_chk6 v378), ∀ a x, ((![v378] : Fin 1 → IVec S16 32) a x).toNat < S5008.size a := fun v378 k1_hw6 => k1_hw6.2.2.2.2.2.2.2.2.2.2.2.2.2.2.2.1
theorem k1_idx102_inb : ∀ (v378 : IVec S16 32) (k1_hw6 : k1_chk6 v378), ∀ a x, ((![v378] : Fin 1 → IVec S16 32) a x).toNat < S5008.size a := fun v378 k1_hw6 => k1_hw6.2.2.2.2.2.2.2.2.2.2.2.2.2.2.2.2

def k1_chk7 (v443 : IVec S16 32) : Prop :=
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a) ∧
  (∀ a x, ((![v443] : Fin 1 → IVec S16 32) a x).toNat < S5008.size a)
theorem k1_idx103_inb : ∀ (v443 : IVec S16 32) (k1_hw7 : k1_chk7 v443), ∀ a x, ((![v443] : Fin 1 → IVec S16 32) a x).toNat < S5008.size a := fun v443 k1_hw7 => k1_hw7.1
theorem k1_idx104_inb : ∀ (v443 : IVec S16 32) (k1_hw7 : k1_chk7 v443), ∀ a x, ((![v443] : Fin 1 → IVec S16 32) a x).toNat < S5008.size a := fun v443 k1_hw7 => k1_hw7.2.1
theorem k1_idx105_inb : ∀ (v443 : IVec S16 32) (k1_hw7 : k1_chk7 v443), ∀ a x, ((![v443] : Fin 1 → IVec S16 32) a x).toNat < S5008.size a := fun v443 k1_hw7 => k1_hw7.2.2.1
theorem k1_idx106_inb : ∀ (v443 : IVec S16 32) (k1_hw7 : k1_chk7 v443), ∀ a x, ((![v443] : Fin 1 → IVec S16 32) a x).toNat < S5008.size a := fun v443 k1_hw7 => k1_hw7.2.2.2.1
theorem k1_idx107_inb : ∀ (v443 : IVec S16 32) (k1_hw7 : k1_chk7 v443), ∀ a x, ((![v443] : Fin 1 → IVec S16 32) a x).toNat < S5008.size a := fun v443 k1_hw7 => k1_hw7.2.2.2.2.1
theorem k1_idx108_inb : ∀ (v443 : IVec S16 32) (k1_hw7 : k1_chk7 v443), ∀ a x, ((![v443] : Fin 1 → IVec S16 32) a x).toNat < S5008.size a := fun v443 k1_hw7 => k1_hw7.2.2.2.2.2.1
theorem k1_idx109_inb : ∀ (v443 : IVec S16 32) (k1_hw7 : k1_chk7 v443), ∀ a x, ((![v443] : Fin 1 → IVec S16 32) a x).toNat < S5008.size a := fun v443 k1_hw7 => k1_hw7.2.2.2.2.2.2.1
theorem k1_idx110_inb : ∀ (v443 : IVec S16 32) (k1_hw7 : k1_chk7 v443), ∀ a x, ((![v443] : Fin 1 → IVec S16 32) a x).toNat < S5008.size a := fun v443 k1_hw7 => k1_hw7.2.2.2.2.2.2.2.1
theorem k1_idx111_inb : ∀ (v443 : IVec S16 32) (k1_hw7 : k1_chk7 v443), ∀ a x, ((![v443] : Fin 1 → IVec S16 32) a x).toNat < S5008.size a := fun v443 k1_hw7 => k1_hw7.2.2.2.2.2.2.2.2.1
theorem k1_idx112_inb : ∀ (v443 : IVec S16 32) (k1_hw7 : k1_chk7 v443), ∀ a x, ((![v443] : Fin 1 → IVec S16 32) a x).toNat < S5008.size a := fun v443 k1_hw7 => k1_hw7.2.2.2.2.2.2.2.2.2.1
theorem k1_idx113_inb : ∀ (v443 : IVec S16 32) (k1_hw7 : k1_chk7 v443), ∀ a x, ((![v443] : Fin 1 → IVec S16 32) a x).toNat < S5008.size a := fun v443 k1_hw7 => k1_hw7.2.2.2.2.2.2.2.2.2.2.1
theorem k1_idx114_inb : ∀ (v443 : IVec S16 32) (k1_hw7 : k1_chk7 v443), ∀ a x, ((![v443] : Fin 1 → IVec S16 32) a x).toNat < S5008.size a := fun v443 k1_hw7 => k1_hw7.2.2.2.2.2.2.2.2.2.2.2.1
theorem k1_idx115_inb : ∀ (v443 : IVec S16 32) (k1_hw7 : k1_chk7 v443), ∀ a x, ((![v443] : Fin 1 → IVec S16 32) a x).toNat < S5008.size a := fun v443 k1_hw7 => k1_hw7.2.2.2.2.2.2.2.2.2.2.2.2.1
theorem k1_idx116_inb : ∀ (v443 : IVec S16 32) (k1_hw7 : k1_chk7 v443), ∀ a x, ((![v443] : Fin 1 → IVec S16 32) a x).toNat < S5008.size a := fun v443 k1_hw7 => k1_hw7.2.2.2.2.2.2.2.2.2.2.2.2.2.1
theorem k1_idx117_inb : ∀ (v443 : IVec S16 32) (k1_hw7 : k1_chk7 v443), ∀ a x, ((![v443] : Fin 1 → IVec S16 32) a x).toNat < S5008.size a := fun v443 k1_hw7 => k1_hw7.2.2.2.2.2.2.2.2.2.2.2.2.2.2.1
theorem k1_idx118_inb : ∀ (v443 : IVec S16 32) (k1_hw7 : k1_chk7 v443), ∀ a x, ((![v443] : Fin 1 → IVec S16 32) a x).toNat < S5008.size a := fun v443 k1_hw7 => k1_hw7.2.2.2.2.2.2.2.2.2.2.2.2.2.2.2.1
theorem k1_idx119_inb : ∀ (v443 : IVec S16 32) (k1_hw7 : k1_chk7 v443), ∀ a x, ((![v443] : Fin 1 → IVec S16 32) a x).toNat < S5008.size a := fun v443 k1_hw7 => k1_hw7.2.2.2.2.2.2.2.2.2.2.2.2.2.2.2.2
@[reducible] def k1_t2_loop : Scf.Loop 32 :=
  let c0_i32_151 : BitVec 32 := 0#32
  let c313_i32_152 : BitVec 32 := 313#32
  let v492 : BitVec 32 := Scalar.addi c0_i32_151 c313_i32_152
  let c1_i32_153 : BitVec 32 := 1#32
  ⟨c0_i32_151, v492, c1_i32_153⟩
def k1_off5 (k1_t2 : Fin k1_t2_loop.trips) : Fin 1 → Nat :=
  let c0_i32_151 : BitVec 32 := 0#32
  let c1_i32_153 : BitVec 32 := 1#32
  let arg31 : BitVec 32 := Scf.iv c0_i32_151 c1_i32_153 k1_t2
  let c16_i32_156 : BitVec 32 := 16#32
  let v494 : BitVec 32 := Scalar.muli arg31 c16_i32_156
  let v495 : Index := Scalar.indexCast v494
  ![v495.toNat]

def k1_chk8 (v504 : IVec S16 32) : Prop :=
  (∀ a x, ((![v504] : Fin 1 → IVec S16 32) a x).toNat < S112.size a) ∧
  (∀ a x, ((![v504] : Fin 1 → IVec S16 32) a x).toNat < S112.size a) ∧
  (∀ a x, ((![v504] : Fin 1 → IVec S16 32) a x).toNat < S112.size a) ∧
  (∀ a x, ((![v504] : Fin 1 → IVec S16 32) a x).toNat < S112.size a) ∧
  (∀ a x, ((![v504] : Fin 1 → IVec S16 32) a x).toNat < S112.size a)
theorem k1_idx120_inb : ∀ (v504 : IVec S16 32) (k1_hw8 : k1_chk8 v504), ∀ a x, ((![v504] : Fin 1 → IVec S16 32) a x).toNat < S112.size a := fun v504 k1_hw8 => k1_hw8.1
theorem k1_idx121_inb : ∀ (v504 : IVec S16 32) (k1_hw8 : k1_chk8 v504), ∀ a x, ((![v504] : Fin 1 → IVec S16 32) a x).toNat < S112.size a := fun v504 k1_hw8 => k1_hw8.2.1
theorem k1_idx122_inb : ∀ (v504 : IVec S16 32) (k1_hw8 : k1_chk8 v504), ∀ a x, ((![v504] : Fin 1 → IVec S16 32) a x).toNat < S112.size a := fun v504 k1_hw8 => k1_hw8.2.2.1
theorem k1_idx123_inb : ∀ (v504 : IVec S16 32) (k1_hw8 : k1_chk8 v504), ∀ a x, ((![v504] : Fin 1 → IVec S16 32) a x).toNat < S112.size a := fun v504 k1_hw8 => k1_hw8.2.2.2.1
theorem k1_idx124_inb : ∀ (v504 : IVec S16 32) (k1_hw8 : k1_chk8 v504), ∀ a x, ((![v504] : Fin 1 → IVec S16 32) a x).toNat < S112.size a := fun v504 k1_hw8 => k1_hw8.2.2.2.2
def k1_off6 (k1_t2 : Fin k1_t2_loop.trips) : Fin 1 → Nat :=
  let c0_i32_151 : BitVec 32 := 0#32
  let c1_i32_153 : BitVec 32 := 1#32
  let arg31 : BitVec 32 := Scf.iv c0_i32_151 c1_i32_153 k1_t2
  let c16_i32_156 : BitVec 32 := 16#32
  let v494 : BitVec 32 := Scalar.muli arg31 c16_i32_156
  let v518 : Index := Scalar.indexCast v494
  ![v518.toNat]

def k1_chk9 (v554 : IVec S16 32) : Prop :=
  (∀ a x, ((![v554] : Fin 1 → IVec S16 32) a x).toNat < S20032.size a)
theorem k1_idx125_inb : ∀ (v554 : IVec S16 32) (k1_hw9 : k1_chk9 v554), ∀ a x, ((![v554] : Fin 1 → IVec S16 32) a x).toNat < S20032.size a := fun v554 k1_hw9 => k1_hw9

def k1_chk10 (v556 : IVec S16 32) : Prop :=
  (∀ a x, ((![v556] : Fin 1 → IVec S16 32) a x).toNat < S20032.size a)
theorem k1_idx126_inb : ∀ (v556 : IVec S16 32) (k1_hw10 : k1_chk10 v556), ∀ a x, ((![v556] : Fin 1 → IVec S16 32) a x).toNat < S20032.size a := fun v556 k1_hw10 => k1_hw10

def k1_chk11 (v558 : IVec S16 32) : Prop :=
  (∀ a x, ((![v558] : Fin 1 → IVec S16 32) a x).toNat < S20032.size a)
theorem k1_idx127_inb : ∀ (v558 : IVec S16 32) (k1_hw11 : k1_chk11 v558), ∀ a x, ((![v558] : Fin 1 → IVec S16 32) a x).toNat < S20032.size a := fun v558 k1_hw11 => k1_hw11

def k1_chk12 (v560 : IVec S16 32) : Prop :=
  (∀ a x, ((![v560] : Fin 1 → IVec S16 32) a x).toNat < S20032.size a)
theorem k1_idx128_inb : ∀ (v560 : IVec S16 32) (k1_hw12 : k1_chk12 v560), ∀ a x, ((![v560] : Fin 1 → IVec S16 32) a x).toNat < S20032.size a := fun v560 k1_hw12 => k1_hw12
def k1_off7 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c20000_i32 : BitVec 32 := 20000#32
  let v30 : BitVec 32 := Scalar.muli v18 c20000_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c5000_i32 : BitVec 32 := 5000#32
  let v29 : BitVec 32 := Scalar.muli v28 c5000_i32
  let v31 : BitVec 32 := Scalar.addi v30 v29
  let c4_i32_155 : BitVec 32 := 4#32
  let v493 : BitVec 32 := Scalar.muli v31 c4_i32_155
  ![v493.toNat]
def k1_off8 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c20000_i32 : BitVec 32 := 20000#32
  let v30 : BitVec 32 := Scalar.muli v18 c20000_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c5000_i32 : BitVec 32 := 5000#32
  let v29 : BitVec 32 := Scalar.muli v28 c5000_i32
  let v31 : BitVec 32 := Scalar.addi v30 v29
  ![v31.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_v0" => some ((134217728 / 13421773 : ℝ) : EReal)
  | "inv_v1" => some ((67108864 / 13421773 : ℝ) : EReal)
  | _ => none
-- ==== ReferenceIdeal.lean ====
abbrev S20000x4 : Shape := ⟨2, ![20000, 4]⟩
abbrev S8x100x4 : Shape := ⟨3, ![8, 100, 4]⟩
abbrev S8x100 : Shape := ⟨2, ![8, 100]⟩
abbrev S8 : Shape := ⟨1, ![8]⟩
abbrev S8x1 : Shape := ⟨2, ![8, 1]⟩
abbrev S20000x2 : Shape := ⟨2, ![20000, 2]⟩
abbrev S_ : Shape := ⟨0, ![]⟩
abbrev S8x100x2 : Shape := ⟨3, ![8, 100, 2]⟩
abbrev S8x100x1x2 : Shape := ⟨4, ![8, 100, 1, 2]⟩
abbrev S1x20000x2 : Shape := ⟨3, ![1, 20000, 2]⟩
abbrev S1x1x20000x2 : Shape := ⟨4, ![1, 1, 20000, 2]⟩
abbrev S8x100x20000x2 : Shape := ⟨4, ![8, 100, 20000, 2]⟩
abbrev S8x100x20000x1 : Shape := ⟨4, ![8, 100, 20000, 1]⟩
abbrev S8x100x20000 : Shape := ⟨3, ![8, 100, 20000]⟩
abbrev S8x100x1 : Shape := ⟨3, ![8, 100, 1]⟩
abbrev S20000x1 : Shape := ⟨2, ![20000, 1]⟩
abbrev S20000 : Shape := ⟨1, ![20000]⟩
abbrev S1x20000 : Shape := ⟨2, ![1, 20000]⟩
abbrev S1x1x20000 : Shape := ⟨3, ![1, 1, 20000]⟩
abbrev S8x20000 : Shape := ⟨2, ![8, 20000]⟩
abbrev S100 : Shape := ⟨1, ![100]⟩
abbrev S8x20000x1 : Shape := ⟨3, ![8, 20000, 1]⟩
abbrev S8x20000x2 : Shape := ⟨3, ![8, 20000, 2]⟩
abbrev S8x20000x4 : Shape := ⟨3, ![8, 20000, 4]⟩

abbrev nBuf : Space → Nat
  | .hbm => 204
  | .vmem => 0
  | .smem => 0
  | _ => 0

abbrev hbmTy0_0 (i : Nat) : BufTy := match i % 128 with
  | 0 => ⟨S20000x4, .f32⟩
  | 1 => ⟨S8x100x4, .f32⟩
  | 2 => ⟨S8x100, .i32⟩
  | 3 => ⟨S8, .i32⟩
  | 4 => ⟨S8x1, .i32⟩
  | 5 => ⟨S20000x2, .f32⟩
  | 6 => ⟨S20000x2, .f32⟩
  | 7 => ⟨S_, .f32⟩
  | 8 => ⟨S20000x2, .f32⟩
  | 9 => ⟨S20000x2, .f32⟩
  | 10 => ⟨S20000x2, .f32⟩
  | 11 => ⟨S20000x2, .f32⟩
  | 12 => ⟨S20000x2, .f32⟩
  | 13 => ⟨S_, .f32⟩
  | 14 => ⟨S20000x2, .f32⟩
  | 15 => ⟨S20000x2, .f32⟩
  | 16 => ⟨S20000x2, .f32⟩
  | 17 => ⟨S20000x4, .f32⟩
  | 18 => ⟨S8x100x2, .f32⟩
  | 19 => ⟨S8x100x1x2, .f32⟩
  | 20 => ⟨S20000x2, .f32⟩
  | 21 => ⟨S1x20000x2, .f32⟩
  | 22 => ⟨S1x1x20000x2, .f32⟩
  | 23 => ⟨S8x100x20000x2, .f32⟩
  | 24 => ⟨S8x100x20000x2, .f32⟩
  | 25 => ⟨S8x100x20000x2, .f32⟩
  | 26 => ⟨S8x100x2, .f32⟩
  | 27 => ⟨S8x100x1x2, .f32⟩
  | 28 => ⟨S20000x2, .f32⟩
  | 29 => ⟨S1x20000x2, .f32⟩
  | 30 => ⟨S1x1x20000x2, .f32⟩
  | 31 => ⟨S8x100x20000x2, .f32⟩
  | 32 => ⟨S8x100x20000x2, .f32⟩
  | 33 => ⟨S8x100x20000x2, .f32⟩
  | 34 => ⟨S8x100x20000x2, .f32⟩
  | 35 => ⟨S_, .f32⟩
  | 36 => ⟨S8x100x20000x2, .f32⟩
  | 37 => ⟨S8x100x20000x2, .f32⟩
  | 38 => ⟨S8x100x20000x1, .f32⟩
  | 39 => ⟨S8x100x20000, .f32⟩
  | 40 => ⟨S8x100x20000x1, .f32⟩
  | 41 => ⟨S8x100x20000, .f32⟩
  | 42 => ⟨S8x100x20000, .f32⟩
  | 43 => ⟨S8x100x1, .f32⟩
  | 44 => ⟨S8x100, .f32⟩
  | 45 => ⟨S8x100x1, .f32⟩
  | 46 => ⟨S8x100, .f32⟩
  | 47 => ⟨S8x100, .f32⟩
  | 48 => ⟨S8x100x1, .f32⟩
  | 49 => ⟨S8x100, .f32⟩
  | 50 => ⟨S8x100x1, .f32⟩
  | 51 => ⟨S8x100, .f32⟩
  | 52 => ⟨S8x100, .f32⟩
  | 53 => ⟨S8x100, .f32⟩
  | 54 => ⟨S20000x1, .f32⟩
  | 55 => ⟨S20000, .f32⟩
  | 56 => ⟨S20000x1, .f32⟩
  | 57 => ⟨S20000, .f32⟩
  | 58 => ⟨S20000, .f32⟩
  | 59 => ⟨S20000x1, .f32⟩
  | 60 => ⟨S20000, .f32⟩
  | 61 => ⟨S20000x1, .f32⟩
  | 62 => ⟨S20000, .f32⟩
  | 63 => ⟨S20000, .f32⟩
  | 64 => ⟨S20000, .f32⟩
  | 65 => ⟨S8x100x1, .f32⟩
  | 66 => ⟨S1x20000, .f32⟩
  | 67 => ⟨S1x1x20000, .f32⟩
  | 68 => ⟨S8x100x20000, .f32⟩
  | 69 => ⟨S8x100x20000, .f32⟩
  | 70 => ⟨S8x100x20000, .f32⟩
  | 71 => ⟨S8x100x20000, .f32⟩
  | 72 => ⟨S8x100x20000, .f32⟩
  | 73 => ⟨S_, .f32⟩
  | 74 => ⟨S8x20000, .f32⟩
  | 75 => ⟨S8x100x20000, .i32⟩
  | 76 => ⟨S_, .f32⟩
  | 77 => ⟨S_, .i32⟩
  | 78 => ⟨S8x20000, .f32⟩
  | 79 => ⟨S8x20000, .i32⟩
  | 80 => ⟨S8x100x20000, .i32⟩
  | 81 => ⟨S_, .f32⟩
  | 82 => ⟨S_, .i32⟩
  | 83 => ⟨S8x100, .f32⟩
  | 84 => ⟨S8x100, .i32⟩
  | 85 => ⟨S100, .i32⟩
  | 86 => ⟨S8x100, .i32⟩
  | 87 => ⟨S_, .i32⟩
  | 88 => ⟨S8x1, .i32⟩
  | 89 => ⟨S8x1, .i1⟩
  | 90 => ⟨S_, .i32⟩
  | 91 => ⟨S8x1, .i32⟩
  | 92 => ⟨S8x1, .i32⟩
  | 93 => ⟨S8x1, .i32⟩
  | 94 => ⟨S_, .i32⟩
  | 95 => ⟨S8x100, .i32⟩
  | 96 => ⟨S8x100, .i1⟩
  | 97 => ⟨S_, .i32⟩
  | 98 => ⟨S8x100, .i32⟩
  | 99 => ⟨S8x100, .i32⟩
  | 100 => ⟨S8x100, .i32⟩
  | 101 => ⟨S8x100, .i32⟩
  | 102 => ⟨S8x100x1, .i32⟩
  | 103 => ⟨S8x100x1, .i32⟩
  | 104 => ⟨S8x100x2, .i32⟩
  | 105 => ⟨S8x20000, .i32⟩
  | 106 => ⟨S_, .i32⟩
  | 107 => ⟨S8x1, .i32⟩
  | 108 => ⟨S8x1, .i1⟩
  | 109 => ⟨S_, .i32⟩
  | 110 => ⟨S8x1, .i32⟩
  | 111 => ⟨S8x1, .i32⟩
  | 112 => ⟨S8x1, .i32⟩
  | 113 => ⟨S_, .i32⟩
  | 114 => ⟨S8x100, .i32⟩
  | 115 => ⟨S8x100, .i1⟩
  | 116 => ⟨S_, .i32⟩
  | 117 => ⟨S8x100, .i32⟩
  | 118 => ⟨S8x100, .i32⟩
  | 119 => ⟨S8x100, .i32⟩
  | 120 => ⟨S8x100, .i32⟩
  | 121 => ⟨S8x100x1, .i32⟩
  | 122 => ⟨S8x100x1, .i32⟩
  | 123 => ⟨S8x100x2, .i32⟩
  | 124 => ⟨S_, .f32⟩
  | 125 => ⟨S8x100, .f32⟩
  | 126 => ⟨S8x20000, .f32⟩
  | 127 => ⟨S_, .i32⟩
  | _ => ⟨S20000x4, .f32⟩

abbrev hbmTy0_1 (i : Nat) : BufTy := match i % 128 with
  | 0 => ⟨S8x1, .i32⟩
  | 1 => ⟨S8x1, .i1⟩
  | 2 => ⟨S_, .i32⟩
  | 3 => ⟨S8x1, .i32⟩
  | 4 => ⟨S8x1, .i32⟩
  | 5 => ⟨S8x1, .i32⟩
  | 6 => ⟨S_, .i32⟩
  | 7 => ⟨S8x20000, .i32⟩
  | 8 => ⟨S8x20000, .i1⟩
  | 9 => ⟨S_, .i32⟩
  | 10 => ⟨S8x20000, .i32⟩
  | 11 => ⟨S8x20000, .i32⟩
  | 12 => ⟨S8x20000, .i32⟩
  | 13 => ⟨S8x20000, .i32⟩
  | 14 => ⟨S8x20000x1, .i32⟩
  | 15 => ⟨S8x20000x1, .i32⟩
  | 16 => ⟨S8x20000x2, .i32⟩
  | 17 => ⟨S8x20000, .i32⟩
  | 18 => ⟨S_, .f32⟩
  | 19 => ⟨S8x20000, .f32⟩
  | 20 => ⟨S8x20000, .i1⟩
  | 21 => ⟨S_, .i32⟩
  | 22 => ⟨S_, .i32⟩
  | 23 => ⟨S8x20000, .i32⟩
  | 24 => ⟨S8x20000, .i32⟩
  | 25 => ⟨S_, .i32⟩
  | 26 => ⟨S8x1, .i32⟩
  | 27 => ⟨S8x1, .i1⟩
  | 28 => ⟨S_, .i32⟩
  | 29 => ⟨S8x1, .i32⟩
  | 30 => ⟨S8x1, .i32⟩
  | 31 => ⟨S8x1, .i32⟩
  | 32 => ⟨S_, .i32⟩
  | 33 => ⟨S8x20000, .i32⟩
  | 34 => ⟨S8x20000, .i1⟩
  | 35 => ⟨S_, .i32⟩
  | 36 => ⟨S8x20000, .i32⟩
  | 37 => ⟨S8x20000, .i32⟩
  | 38 => ⟨S8x20000, .i32⟩
  | 39 => ⟨S8x20000, .i32⟩
  | 40 => ⟨S8x20000x1, .i32⟩
  | 41 => ⟨S8x20000x1, .i32⟩
  | 42 => ⟨S8x20000x2, .i32⟩
  | 43 => ⟨S8x20000x4, .f32⟩
  | 44 => ⟨S8x20000x2, .f32⟩
  | 45 => ⟨S8x20000x2, .f32⟩
  | 46 => ⟨S8x20000x2, .f32⟩
  | 47 => ⟨S_, .f32⟩
  | 48 => ⟨S8x20000x2, .f32⟩
  | 49 => ⟨S8x20000x2, .f32⟩
  | 50 => ⟨S8x20000x2, .f32⟩
  | 51 => ⟨S8x20000x2, .f32⟩
  | 52 => ⟨S8x20000x2, .f32⟩
  | 53 => ⟨S8x20000x4, .f32⟩
  | 54 => ⟨S8x20000x2, .f32⟩
  | 55 => ⟨S20000x2, .f32⟩
  | 56 => ⟨S1x20000x2, .f32⟩
  | 57 => ⟨S8x20000x2, .f32⟩
  | 58 => ⟨S8x20000x2, .f32⟩
  | 59 => ⟨S20000x2, .f32⟩
  | 60 => ⟨S1x20000x2, .f32⟩
  | 61 => ⟨S8x20000x2, .f32⟩
  | 62 => ⟨S8x20000x2, .f32⟩
  | 63 => ⟨S_, .f32⟩
  | 64 => ⟨S8x20000x2, .f32⟩
  | 65 => ⟨S8x20000x2, .f32⟩
  | 66 => ⟨S8x20000x2, .f32⟩
  | 67 => ⟨S20000x2, .f32⟩
  | 68 => ⟨S1x20000x2, .f32⟩
  | 69 => ⟨S8x20000x2, .f32⟩
  | 70 => ⟨S8x20000x2, .f32⟩
  | 71 => ⟨S8x20000x2, .f32⟩
  | 72 => ⟨S_, .f32⟩
  | 73 => ⟨S8x20000x2, .f32⟩
  | 74 => ⟨S8x20000x2, .f32⟩
  | 75 => ⟨S8x20000x4, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_cst_2 : Ref sig .tc := ⟨.hbm, 73, rfl⟩
abbrev main_v67 : Ref sig .tc := ⟨.hbm, 74, rfl⟩
abbrev main_call0_v0 : Ref sig .tc := ⟨.hbm, 75, rfl⟩
abbrev main_call0_cst : Ref sig .tc := ⟨.hbm, 76, rfl⟩
abbrev main_call0_c : Ref sig .tc := ⟨.hbm, 77, rfl⟩
abbrev main_call0_v1_0 : Ref sig .tc := ⟨.hbm, 78, rfl⟩
abbrev main_v68 : Ref sig .tc := ⟨.hbm, 79, rfl⟩
abbrev main_call1_v0 : Ref sig .tc := ⟨.hbm, 80, rfl⟩
abbrev main_call1_cst : Ref sig .tc := ⟨.hbm, 81, rfl⟩
abbrev main_call1_c : Ref sig .tc := ⟨.hbm, 82, rfl⟩
abbrev main_call1_v1_0 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c : Ref sig .tc := ⟨.hbm, 87, rfl⟩
abbrev main_v72 : Ref sig .tc := ⟨.hbm, 88, rfl⟩
abbrev main_v73 : Ref sig .tc := ⟨.hbm, 89, rfl⟩
abbrev main_c_3 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_4 : Ref sig .tc := ⟨.hbm, 94, rfl⟩
abbrev main_v77 : Ref sig .tc := ⟨.hbm, 95, rfl⟩
abbrev main_v78 : Ref sig .tc := ⟨.hbm, 96, rfl⟩
abbrev main_c_5 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_c_6 : Ref sig .tc := ⟨.hbm, 106, rfl⟩
abbrev main_v87 : Ref sig .tc := ⟨.hbm, 107, rfl⟩
abbrev main_v88 : Ref sig .tc := ⟨.hbm, 108, rfl⟩
abbrev main_c_7 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_c_8 : Ref sig .tc := ⟨.hbm, 113, rfl⟩
abbrev main_v92 : Ref sig .tc := ⟨.hbm, 114, rfl⟩
abbrev main_v93 : Ref sig .tc := ⟨.hbm, 115, rfl⟩
abbrev main_c_9 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_10 : Ref sig .tc := ⟨.hbm, 124, rfl⟩
abbrev main_v101 : Ref sig .tc := ⟨.hbm, 125, rfl⟩
abbrev main_v102 : Ref sig .tc := ⟨.hbm, 126, rfl⟩
abbrev main_c_11 : Ref sig .tc := ⟨.hbm, 127, rfl⟩
abbrev main_v103 : Ref sig .tc := ⟨.hbm, 128, rfl⟩
abbrev main_v104 : Ref sig .tc := ⟨.hbm, 129, rfl⟩
abbrev main_c_12 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_13 : Ref sig .tc := ⟨.hbm, 134, rfl⟩
abbrev main_v108 : Ref sig .tc := ⟨.hbm, 135, rfl⟩
abbrev main_v109 : Ref sig .tc := ⟨.hbm, 136, rfl⟩
abbrev main_c_14 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_cst_15 : Ref sig .tc := ⟨.hbm, 146, rfl⟩
abbrev main_v118 : Ref sig .tc := ⟨.hbm, 147, rfl⟩
abbrev main_v119 : Ref sig .tc := ⟨.hbm, 148, rfl⟩
abbrev main_c_16 : Ref sig .tc := ⟨.hbm, 149, rfl⟩
abbrev main_call2_v0 : Ref sig .tc := ⟨.hbm, 150, rfl⟩
abbrev main_call2_v1 : Ref sig .tc := ⟨.hbm, 151, rfl⟩
abbrev main_v120 : Ref sig .tc := ⟨.hbm, 152, rfl⟩
abbrev main_c_17 : Ref sig .tc := ⟨.hbm, 153, rfl⟩
abbrev main_v121 : Ref sig .tc := ⟨.hbm, 154, rfl⟩
abbrev main_v122 : Ref sig .tc := ⟨.hbm, 155, rfl⟩
abbrev main_c_18 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_19 : Ref sig .tc := ⟨.hbm, 160, rfl⟩
abbrev main_v126 : Ref sig .tc := ⟨.hbm, 161, rfl⟩
abbrev main_v127 : Ref sig .tc := ⟨.hbm, 162, rfl⟩
abbrev main_c_20 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_cst_21 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_22 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_23 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩

abbrev nD : Nat := 1
abbrev τ : Topo := Topo.v7x

variable {F : FTy → Type} [FloatOps F]
-- ==== Proof.Setup.lean ====
/-
  The program as the launch theorem sees it: the SparseCore call's configuration, the body table, and the
  resource algebra the whole proof works in (the handshakes' rounds, the TensorCore pipeline's rounds, and the
  counters of local transfers).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [Named F]

/-- The labels of the pipelined program. -/
abbrev ΛP : Labels := Pipeline.Sig Λ₀ (Fin 1) fun p => (pcfgs (F := F) p).Adm
/-- The SparseCore call. -/
abbrev K : SparseCore.Cfg τ sig (ΛP (F := F)) 1 := sc (F := F)
/-- The body table below the SparseCore's labels. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds, the pipeline's rounds, the transfers' counters. -/
abbrev UH : Type := URounds (GSem nD τ sig) ℕ
abbrev UP : Type := URounds (GSem nD τ sig) Unit
abbrev UU : Type := UH × (UP × Counters)
/-- The machine's resources over this program's ghost state. -/
abbrev MM (F : FTy → Type) : Type := MT nD τ sig (HIx 1) (Elt F) ℕ UU ℕ
/-- Assertions over them. -/
abbrev Pr (F : FTy → Type) : Type := sProp (MM F)

omit [FloatOps F] [Named F] in
theorem nCore_zero : (K (F := F)).nCore 0 = 2 := rfl
omit [FloatOps F] [Named F] in
theorem nSub_zero : (K (F := F)).nSub 0 = 16 := rfl

end Cert.Proof

end
-- ==== Proof.Lanes.lean ====
/-
  What an indexed vector store leaves, read at one index: the lanes in order, each set lane that names the index
  overriding the ones before it. Two special cases: one lane set, and one value stored by every lane.
-/
module

public import Idealize.ShloMosaic.PureOps.ShapeOps

@[expose] public section

noncomputable section

namespace Cert.Proof

open Idealize.ShloMosaic

variable {F : FTy → Type} [FloatOps F] {s : Shape} {e : EltTy} {d : Fin 1 → Nat}

/-- Lane `k` is set and names index `j`. -/
def Hits (idxs : Fin s.rank → IVec ⟨1, d⟩ 32) (mask : IVec ⟨1, d⟩ 1) (j : s.Idx) (k : Fin (d 0)) : Prop :=
  mask (Shape.ofLane k) = 1 ∧ ∀ a, (j a).val = (idxs a (Shape.ofLane k)).toNat

instance (idxs : Fin s.rank → IVec ⟨1, d⟩ 32) (mask : IVec ⟨1, d⟩ 1) (j : s.Idx) (k : Fin (d 0)) :
    Decidable (Hits idxs mask j k) := by unfold Hits; infer_instance

theorem storeIdx_apply (f : Vec F s e) (idxs : Fin s.rank → IVec ⟨1, d⟩ 32) (v : Vec F ⟨1, d⟩ e) (mask : IVec ⟨1, d⟩ 1)
    (h : ∀ a x, (idxs a x).toNat < s.size a) (j : s.Idx) :
    storeIdx f idxs v mask false h j
      = (List.finRange (d 0)).foldl (fun acc k => if Hits idxs mask j k then v (Shape.ofLane k) else acc) (f j) := by
  unfold storeIdx
  generalize List.finRange (d 0) = l
  induction l generalizing f with
  | nil => rfl
  | cons k l ih =>
    rw [List.foldl_cons, List.foldl_cons, ih]
    congr 1
    unfold Hits
    by_cases hm : mask (Shape.ofLane k) = 1
    · simp only [hm, ↓reduceIte, Bool.false_eq_true, true_and]
      rfl
    · exact (congrFun (if_neg hm) j).trans (if_neg fun hh => hm hh.1).symm

/-- Only lanes with property `p` can be set and name `j`; the fold of them is the value of one such lane, or the old one. -/
theorem storeIdx_none (f : Vec F s e) (idxs : Fin s.rank → IVec ⟨1, d⟩ 32) (v : Vec F ⟨1, d⟩ e) (mask : IVec ⟨1, d⟩ 1)
    (h : ∀ a x, (idxs a x).toNat < s.size a) (j : s.Idx) (hn : ∀ k, ¬ Hits idxs mask j k) :
    storeIdx f idxs v mask false h j = f j := by
  rw [storeIdx_apply]
  generalize List.finRange (d 0) = l
  induction l with
  | nil => rfl
  | cons k l ih => rw [List.foldl_cons, if_neg (hn k)]; exact ih

/-- Every lane that is set and names `j` stores `c`, and there is one: `c` is what stays. -/
theorem storeIdx_some (f : Vec F s e) (idxs : Fin s.rank → IVec ⟨1, d⟩ 32) (v : Vec F ⟨1, d⟩ e) (mask : IVec ⟨1, d⟩ 1)
    (h : ∀ a x, (idxs a x).toNat < s.size a) (j : s.Idx) (c : Elt F e)
    (hv : ∀ k, Hits idxs mask j k → v (Shape.ofLane k) = c) (k : Fin (d 0)) (hk : Hits idxs mask j k) :
    storeIdx f idxs v mask false h j = c := by
  rw [storeIdx_apply]
  have key : ∀ (l : List (Fin (d 0))) (a : Elt F e), (a = c ∨ k ∈ l) →
      l.foldl (fun acc k => if Hits idxs mask j k then v (Shape.ofLane k) else acc) a = c := by
    intro l
    induction l with
    | nil => intro a ha; rcases ha with ha | ha; · exact ha
             · exact absurd ha (List.not_mem_nil)
    | cons x l ih =>
      intro a ha
      rw [List.foldl_cons]
      apply ih
      by_cases hx : Hits idxs mask j x
      · left; rw [if_pos hx]; exact hv x hx
      · rw [if_neg hx]
        rcases ha with ha | ha
        · exact Or.inl ha
        · rcases List.mem_cons.mp ha with e | e
          · exact absurd (e ▸ hk) hx
          · exact Or.inr e
  exact key _ _ (Or.inr (List.mem_finRange k))

end Cert.Proof

end
-- ==== Proof.ScVal.lean ====
/-
  The matching step of a tile as plain functions: the ground truths in order, each overriding the match of the
  prior it is best for, and the set of priors so forced. Each indexed store of the tile advances them by one step.
-/
module

public import proofs.«01_k».proof.Proof.Setup
public import proofs.«01_k».proof.Proof.Lanes

@[expose] public section

set_option maxRecDepth 16384

noncomputable section

namespace Cert.Proof

open Cert.KernelIdeal Cert.KernelIdeal.Gen
open Idealize.ShloMosaic

/-- The lane numbers. -/
def lanes : IVec S16 32 := iota .scVector S16 32 [0] iota_S16_d0_w32_scVector
/-- The ground truths of a group starting at `j`. -/
def tv (j : BitVec 32) : IVec S16 32 := addi lanes (broadcast S16 j)
/-- The best priors of a group, counted from the tile's first prior. -/
def lc (B : BitVec 32) (w : IVec S16 32) : IVec S16 32 := subi w (broadcast S16 B)
/-- The group's ground truths that exist and whose best prior is this tile's. -/
def vd (B j : BitVec 32) (w : IVec S16 32) : IVec S16 1 :=
  andi (andi (cmpi .slt (tv j) (broadcast S16 100#32)) (cmpi .sge (lc B w) (broadcast S16 0#32)))
    (cmpi .slt (lc B w) (broadcast S16 5000#32))
/-- The index stored at: the local number clamped into the tile's range. -/
def ixv (B : BitVec 32) (w : IVec S16 32) : IVec S16 32 :=
  minsi (broadcast S16 4999#32) (maxsi (broadcast S16 0#32) (lc B w))
/-- One lane's mask. -/
def mk (B j : BitVec 32) (w : IVec S16 32) (k : BitVec 32) : IVec S16 1 :=
  andi (vd B j w) (cmpi .eq lanes (broadcast S16 k))
/-- Ones. -/
def ones : IVec S16 32 := broadcast S16 1#32

/-- Ground truth `t` exists and its best prior is prior `n` of the tile starting at `B`. -/
def HitT (w : Nat → BitVec 32) (B : BitVec 32) (t n : Nat) : Prop := t < 100 ∧ (w t - B).toNat = n ∧ n < 5000
instance (w : Nat → BitVec 32) (B : BitVec 32) (t n : Nat) : Decidable (HitT w B t n) := by unfold HitT; infer_instance

/-- The matches after the first `T` ground truths. -/
def mtBuf (f0 : IVec S5008 32) (w : Nat → BitVec 32) (B : BitVec 32) : Nat → IVec S5008 32
  | 0 => f0
  | T + 1 => fun j => if HitT w B T (j 0).val then BitVec.ofNat 32 T else mtBuf f0 w B T j
/-- The forced priors after the first `n` groups. -/
def fcBuf (w : Nat → BitVec 32) (B : BitVec 32) (n : Nat) : IVec S5008 32 :=
  fun j => if ∃ t < 16 * n, HitT w B t (j 0).val then 1 else 0

theorem lanes_lane (k : Fin 16) : lanes (Shape.ofLane k) = BitVec.ofNat 32 k.val := by
  revert k; decide +kernel

theorem ofBool_iff (a b : Bool) : BitVec.ofBool a = BitVec.ofBool b ↔ a = b := by revert a b; decide

theorem slt_iff (x y : BitVec 32) : IntOp.cmpi .slt x y = 1 ↔ x.toInt < y.toInt := by
  unfold IntOp.cmpi
  rw [show (1 : BitVec 1) = BitVec.ofBool true from rfl, ofBool_iff]; simp [BitVec.slt]

theorem sge_iff (x y : BitVec 32) : IntOp.cmpi .sge x y = 1 ↔ y.toInt ≤ x.toInt := by
  unfold IntOp.cmpi
  rw [show (1 : BitVec 1) = BitVec.ofBool true from rfl, ofBool_iff]; simp [BitVec.sle]

theorem and_iff (x y : BitVec 1) : x &&& y = 1 ↔ x = 1 ∧ y = 1 := by
  revert x y; decide

theorem eq_iff (x y : BitVec 32) : IntOp.cmpi .eq x y = 1 ↔ x = y := by
  unfold IntOp.cmpi
  rw [show (1 : BitVec 1) = BitVec.ofBool true from rfl, ofBool_iff]; simp

theorem nonneg_lt_iff (x : BitVec 32) (n : Nat) (hn : n < 2 ^ 31) : (0 ≤ x.toInt ∧ x.toInt < n) ↔ x.toNat < n := by
  have := x.isLt
  rw [BitVec.toInt_eq_toNat_cond]
  split <;> omega

theorem vd_lane (B : BitVec 32) (j : Nat) (hj : j ≤ 96) (w : IVec S16 32) (k : Fin 16) :
    vd B (BitVec.ofNat 32 j) w (Shape.ofLane k) = 1 ↔ j + k.val < 100 ∧ (w (Shape.ofLane k) - B).toNat < 5000 := by
  unfold vd
  show IntOp.andi (IntOp.andi (IntOp.cmpi .slt (lanes (Shape.ofLane k) + BitVec.ofNat 32 j) 100#32)
    (IntOp.cmpi .sge (w (Shape.ofLane k) - B) 0#32)) (IntOp.cmpi .slt (w (Shape.ofLane k) - B) 5000#32) = 1 ↔ _
  unfold IntOp.andi
  rw [and_iff, and_iff, slt_iff, sge_iff, slt_iff, lanes_lane, and_assoc]
  refine and_congr ?_ (nonneg_lt_iff _ 5000 (by decide))
  have := k.isLt
  rw [← BitVec.ofNat_add, BitVec.toInt_eq_toNat_cond, BitVec.toNat_ofNat, Nat.mod_eq_of_lt (by omega)]
  rw [if_pos (by omega), show (100#32).toInt = 100 from rfl]
  omega

theorem ixv_lt (B : BitVec 32) (w : IVec S16 32) (x : S16.Idx) : (ixv B w x).toNat < 5000 := by
  show (IntOp.minsi 4999#32 (IntOp.maxsi 0#32 (w x - B))).toNat < 5000
  generalize w x - B = y
  have e : (4999#32).toInt = 4999 := rfl
  have e0 : (0#32).toInt = 0 := rfl
  have hc := BitVec.toInt_eq_toNat_cond (x := y)
  have := y.isLt
  unfold IntOp.minsi IntOp.maxsi
  by_cases h2 : y.slt 0#32 = true
  · rw [if_pos h2]; decide
  · rw [if_neg h2]
    by_cases h : (4999#32).slt y = true
    · rw [if_pos h]; decide
    · rw [if_neg h]
      simp only [BitVec.slt, decide_eq_true_eq] at h h2
      split at hc <;> omega

theorem ixv_eq (B : BitVec 32) (w : IVec S16 32) (x : S16.Idx) (h : (w x - B).toNat < 5000) : ixv B w x = w x - B := by
  show IntOp.minsi 4999#32 (IntOp.maxsi 0#32 (w x - B)) = w x - B
  revert h
  generalize w x - B = y
  intro h
  unfold IntOp.minsi IntOp.maxsi
  have e : (4999#32).toInt = 4999 := rfl
  have e0 : (0#32).toInt = 0 := rfl
  have hy : y.toInt = y.toNat := by rw [BitVec.toInt_eq_toNat_cond, if_pos (by omega)]
  rw [if_neg (c := y.slt 0#32 = true) (by simp only [BitVec.slt, decide_eq_true_eq]; omega)]
  rw [if_neg]
  simp only [BitVec.slt, decide_eq_true_eq]; omega

theorem inb_ixv (B : BitVec 32) (w : IVec S16 32) : ∀ a x, ((![ixv B w] : Fin 1 → IVec S16 32) a x).toNat < S5008.size a := by
  intro a x
  obtain rfl := Fin.eq_zero a
  exact Nat.lt_trans (ixv_lt B w x) (by decide)

/-- A lane of the forced store hits a prior when its ground truth does. -/
theorem hits_vd (B : BitVec 32) (w : IVec S16 32) (W : Nat → BitVec 32) (j : Nat) (hj : j ≤ 96)
    (hw : ∀ k : Fin 16, w (Shape.ofLane k) = W (j + k.val)) (n : S5008.Idx) (k : Fin 16) :
    Hits (s := S5008) (![ixv B w] : Fin 1 → IVec S16 32) (vd B (BitVec.ofNat 32 j) w) n k ↔ HitT W B (j + k.val) (n 0).val := by
  unfold Hits HitT
  rw [vd_lane B j hj w k, hw k]
  constructor
  · rintro ⟨⟨h1, h2⟩, h3⟩
    have h3 := h3 0
    rw [show ((![ixv B w] : Fin 1 → IVec S16 32) 0) = ixv B w from rfl, ixv_eq B w _ (by rw [hw k]; exact h2), hw k] at h3
    exact ⟨h1, h3.symm, h3 ▸ h2⟩
  · rintro ⟨h1, h2, h3⟩
    refine ⟨⟨h1, h2 ▸ h3⟩, fun a => ?_⟩
    obtain rfl := Fin.eq_zero a
    rw [show ((![ixv B w] : Fin 1 → IVec S16 32) 0) = ixv B w from rfl, ixv_eq B w _ (by rw [hw k]; exact h2 ▸ h3), hw k]
    exact h2.symm

theorem hits_mk (B : BitVec 32) (w : IVec S16 32) (W : Nat → BitVec 32) (j : Nat) (hj : j ≤ 96)
    (hw : ∀ k : Fin 16, w (Shape.ofLane k) = W (j + k.val)) (n : S5008.Idx) (l k : Fin 16) :
    Hits (s := S5008) (![ixv B w] : Fin 1 → IVec S16 32) (mk B (BitVec.ofNat 32 j) w (BitVec.ofNat 32 l.val)) n k
      ↔ k = l ∧ HitT W B (j + k.val) (n 0).val := by
  rw [← hits_vd B w W j hj hw n k]
  unfold Hits mk
  show IntOp.andi (vd B (BitVec.ofNat 32 j) w (Shape.ofLane k)) (IntOp.cmpi .eq (lanes (Shape.ofLane k)) (BitVec.ofNat 32 l.val)) = 1 ∧ _ ↔ _
  unfold IntOp.andi
  rw [and_iff, eq_iff, lanes_lane]
  have : (BitVec.ofNat 32 k.val = BitVec.ofNat 32 l.val) ↔ k = l := by revert k l; decide +kernel
  rw [this]; tauto

/-- One lane's store advances the matches by one ground truth. -/
theorem store_mt (f0 : IVec S5008 32) (B : BitVec 32) (w : IVec S16 32) (W : Nat → BitVec 32) (j : Nat) (hj : j ≤ 96)
    (hw : ∀ k : Fin 16, w (Shape.ofLane k) = W (j + k.val)) (l : Fin 16) {F : FTy → Type} [FloatOps F]
    (h : ∀ a x, ((![ixv B w] : Fin 1 → IVec S16 32) a x).toNat < S5008.size a) :
    storeIdx (F := F) (s := S5008) (e := .i32) (mtBuf f0 W B (j + l.val)) (![ixv B w] : Fin 1 → IVec S16 32) (tv (BitVec.ofNat 32 j))
      (mk B (BitVec.ofNat 32 j) w (BitVec.ofNat 32 l.val)) false h = mtBuf f0 W B (j + l.val + 1) := by
  funext n
  by_cases hh : HitT W B (j + l.val) (n 0).val
  · rw [storeIdx_some (F := F) (s := S5008) (e := .i32) _ _ _ _ _ n (BitVec.ofNat 32 (j + l.val)) (fun k hk => ?_) l
      ((hits_mk B w W j hj hw n l l).mpr ⟨rfl, hh⟩)]
    · exact (if_pos hh).symm
    · obtain ⟨rfl, -⟩ := (hits_mk B w W j hj hw n l k).mp hk
      show lanes (Shape.ofLane k) + BitVec.ofNat 32 j = _
      exact (congrArg (· + BitVec.ofNat 32 j) (lanes_lane k)).trans ((BitVec.ofNat_add _ _).symm.trans (congrArg _ (Nat.add_comm _ _)))
  · rw [storeIdx_none (F := F) (s := S5008) (e := .i32) _ _ _ _ _ n fun k hk => ?_]
    · exact (if_neg hh).symm
    · obtain ⟨rfl, h2⟩ := (hits_mk B w W j hj hw n l k).mp hk
      exact hh h2

/-- The store of ones advances the forced priors by one group. -/
theorem store_fc (B : BitVec 32) (w : IVec S16 32) (W : Nat → BitVec 32) (g : Nat) (hj : 16 * g ≤ 96)
    (hw : ∀ k : Fin 16, w (Shape.ofLane k) = W (16 * g + k.val)) {F : FTy → Type} [FloatOps F]
    (h : ∀ a x, ((![ixv B w] : Fin 1 → IVec S16 32) a x).toNat < S5008.size a) :
    storeIdx (F := F) (s := S5008) (e := .i32) (fcBuf W B g) (![ixv B w] : Fin 1 → IVec S16 32) ones
      (vd B (BitVec.ofNat 32 (16 * g)) w) false h = fcBuf W B (g + 1) := by
  funext n
  by_cases hh : ∃ k : Fin 16, HitT W B (16 * g + k.val) (n 0).val
  · obtain ⟨k, hk⟩ := hh
    rw [storeIdx_some (F := F) (s := S5008) (e := .i32) _ _ _ _ _ n 1#32 (fun k hk => rfl) k
      ((hits_vd B w W _ hj hw n k).mpr hk)]
    exact (if_pos ⟨16 * g + k.val, by have := k.isLt; omega, hk⟩).symm
  · rw [storeIdx_none (F := F) (s := S5008) (e := .i32) _ _ _ _ _ n fun k hk => hh ⟨k, (hits_vd B w W _ hj hw n k).mp hk⟩]
    unfold fcBuf
    refine if_congr ⟨fun ⟨t, h1, h2⟩ => ⟨t, by omega, h2⟩, fun ⟨t, h1, h2⟩ => ⟨t, ?_, h2⟩⟩ rfl rfl
    by_contra h3
    exact hh ⟨⟨t - 16 * g, by omega⟩, by rw [show 16 * g + (t - 16 * g) = t by omega]; exact h2⟩

theorem chk1_ixv (B : BitVec 32) (w : IVec S16 32) : k1_chk1 (ixv B w) :=
  have h := inb_ixv B w; ⟨h, h, h, h, h, h, h, h, h, h, h, h, h, h, h, h, h⟩
theorem chk2_ixv (B : BitVec 32) (w : IVec S16 32) : k1_chk2 (ixv B w) :=
  have h := inb_ixv B w; ⟨h, h, h, h, h, h, h, h, h, h, h, h, h, h, h, h, h⟩
theorem chk3_ixv (B : BitVec 32) (w : IVec S16 32) : k1_chk3 (ixv B w) :=
  have h := inb_ixv B w; ⟨h, h, h, h, h, h, h, h, h, h, h, h, h, h, h, h, h⟩
theorem chk4_ixv (B : BitVec 32) (w : IVec S16 32) : k1_chk4 (ixv B w) :=
  have h := inb_ixv B w; ⟨h, h, h, h, h, h, h, h, h, h, h, h, h, h, h, h, h⟩
theorem chk5_ixv (B : BitVec 32) (w : IVec S16 32) : k1_chk5 (ixv B w) :=
  have h := inb_ixv B w; ⟨h, h, h, h, h, h, h, h, h, h, h, h, h, h, h, h, h⟩
theorem chk6_ixv (B : BitVec 32) (w : IVec S16 32) : k1_chk6 (ixv B w) :=
  have h := inb_ixv B w; ⟨h, h, h, h, h, h, h, h, h, h, h, h, h, h, h, h, h⟩
theorem chk7_ixv (B : BitVec 32) (w : IVec S16 32) : k1_chk7 (ixv B w) :=
  have h := inb_ixv B w; ⟨h, h, h, h, h, h, h, h, h, h, h, h, h, h, h, h, h⟩

end Cert.Proof

end
-- ==== Proof.MatchBase.lean ====
/-
  The rules a tile's matching step runs by: indexed stores into the buffers of matches and forced priors, and loads
  of a group of best priors, each stated over the plain functions they advance.
-/
module

public import Idealize.ShloMosaic.Lib.Pipeline.Value
public import proofs.«01_k».proof.Proof.ScVal

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

/-- Matches of the image. -/
abbrev a2 : Memref sig .scVector .hbm S160000 .i32 := Memref.whole main_v6_scv
/-- Negative marks. -/
abbrev a3 : Memref sig .scVector .hbm S160000 .i32 := Memref.whole main_v7_scv
/-- Best priors. -/
abbrev a4 : Memref sig .scVector .hbm S896 .i32 := Memref.whole main_v8_scv
/-- Ground truths, left. -/
abbrev a5 : Memref sig .scVector .hbm S896 .f32 := Memref.whole main_v10_scv
/-- Ground truths, top. -/
abbrev a6 : Memref sig .scVector .hbm S896 .f32 := Memref.whole main_v12_scv
/-- Ground truths, right. -/
abbrev a7 : Memref sig .scVector .hbm S896 .f32 := Memref.whole main_v14_scv
/-- Ground truths, bottom. -/
abbrev a8 : Memref sig .scVector .hbm S896 .f32 := Memref.whole main_v16_scv
/-- Ground truth labels. -/
abbrev a9 : Memref sig .scVector .hbm S896 .i32 := Memref.whole main_v17_scv
/-- Priors, x. -/
abbrev a10 : Memref sig .scVector .hbm S20000 .f32 := Memref.whole main_v19_scv
/-- Priors, y. -/
abbrev a11 : Memref sig .scVector .hbm S20000 .f32 := Memref.whole main_v21_scv
/-- Priors, width. -/
abbrev a12 : Memref sig .scVector .hbm S20000 .f32 := Memref.whole main_v23_scv
/-- Priors, height. -/
abbrev a13 : Memref sig .scVector .hbm S20000 .f32 := Memref.whole main_v25_scv
/-- Encoded boxes. -/
abbrev a14 : Memref sig .scVector .hbm S640000 .f32 := Memref.whole main_v26_0_scv
/-- Labels. -/
abbrev a15 : Memref sig .scVector .hbm S160000 .i32 := Memref.whole main_v26_1_scv
/-- Tile: matches. -/
abbrev a16 : Memref sig .scVector .vmem S5008 .i32 := Memref.whole cc1_scratch0
/-- Tile: negative marks. -/
abbrev a17 : Memref sig .scVector .vmem S5008 .i32 := Memref.whole cc1_scratch1
/-- Tile: forced priors. -/
abbrev a18 : Memref sig .scVector .vmem S5008 .i32 := Memref.whole cc1_scratch2
/-- Tile: labels. -/
abbrev a19 : Memref sig .scVector .vmem S5008 .i32 := Memref.whole cc1_scratch3
/-- Tile: priors, x. -/
abbrev a20 : Memref sig .scVector .vmem S5008 .f32 := Memref.whole cc1_scratch4
/-- Tile: priors, y. -/
abbrev a21 : Memref sig .scVector .vmem S5008 .f32 := Memref.whole cc1_scratch5
/-- Tile: priors, width. -/
abbrev a22 : Memref sig .scVector .vmem S5008 .f32 := Memref.whole cc1_scratch6
/-- Tile: priors, height. -/
abbrev a23 : Memref sig .scVector .vmem S5008 .f32 := Memref.whole cc1_scratch7
/-- Tile: best priors. -/
abbrev a24 : Memref sig .scVector .vmem S112 .i32 := Memref.whole cc1_scratch8
/-- Tile: ground truths, left. -/
abbrev a25 : Memref sig .scVector .vmem S112 .f32 := Memref.whole cc1_scratch9
/-- Tile: ground truths, top. -/
abbrev a26 : Memref sig .scVector .vmem S112 .f32 := Memref.whole cc1_scratch10
/-- Tile: ground truths, right. -/
abbrev a27 : Memref sig .scVector .vmem S112 .f32 := Memref.whole cc1_scratch11
/-- Tile: ground truths, bottom. -/
abbrev a28 : Memref sig .scVector .vmem S112 .f32 := Memref.whole cc1_scratch12
/-- Tile: ground truth labels. -/
abbrev a29 : Memref sig .scVector .vmem S112 .i32 := Memref.whole cc1_scratch13
/-- Tile: encoded boxes. -/
abbrev a30 : Memref sig .scVector .vmem S20032 .f32 := Memref.whole cc1_scratch14

/-- The tile of a grid point. -/
abbrev cV (L : grid1.Coords) : Fin τ.nSC := (L 0).castLE hcore1
abbrev jV (L : grid1.Coords) : Fin τ.nSub := (L 1).castLE hsub1
/-- The thread of a grid point's tile. -/
abbrev thr (d : Dev nD) (L : grid1.Coords) : Thread nD τ := V d (cV L) (jV L)

variable (d : Dev nD) (L : grid1.Coords)

/-- A buffer of one of the tile's words, held outright. -/
abbrev pt {s : Shape} {e : EltTy} {sp : Space} (a : Memref sig .scVector sp s e) (f : Buf (Elt F) (a.view.loc (thr d L))) : Pr F :=
  a.view.loc (thr d L) ↦{fullShare} f

/-- The weakest precondition of the tile's program. -/
abbrev wpT {α : Type} (p : Prog (TpuEff nD τ sig (Elt F) Λ₀ (thr d L).2) α) (Q : α → Pr F) : Pr F :=
  wp frame (wpE (defs₀ (F := F)) 𝒱₀ (thr d L) none) Set.univ p Q

/-- An indexed store into the buffer of matches. -/
theorem wp_st16 {α : Type} {ix v : IVec S16 32} {mask : IVec S16 1} {h : ∀ a x, ((![ix] : Fin 1 → IVec S16 32) a x).toNat < S5008.size a}
    {hs : ((a16).access (.whole S5008)).Stores Finset.univ} {k : PUnit → Prog (TpuEff nD τ sig (Elt F) Λ₀ (thr d L).2) α} {Q : α → Pr F}
    {f : IVec S5008 32} (g : IVec S5008 32) (hfg : storeIdx (F := F) (s := S5008) (e := .i32) f ![ix] v mask false h = g) :
    pt (F := F) d L a16 f ⊢ iprop((pt d L a16 g -∗ wpT d L (k ⟨⟩) Q)
      -∗ wpT d L (SparseCore.vectorStoreIdx a16 ![ix] v mask false h hs >>= k) Q) := by
  have H := SparseCore.wp_vectorStoreIdx (defs := defs₀ (F := F)) (Q := Q) 𝒱₀ (thr d L) none Set.univ (base := a16) (idxs := ![ix]) (v := v) (mask := mask)
    (add := false) (h := h) (hs := hs) (k := k) (f := f)
  rw [show ((a16).access (.whole S5008)).set = Finset.univ from Memref.set_access_whole (cc1_scratch0 : Ref sig .scVector),
    show ((a16).access (.whole S5008)).read (Elt F) f = f from Memref.read_access_whole (Elt F) (cc1_scratch0 : Ref sig .scVector) f, hfg,
    show ((a16).access (.whole S5008)).write (Elt F) f g Finset.univ = g from Memref.write_access_whole_univ (Elt F) (cc1_scratch0 : Ref sig .scVector) f g] at H
  exact H

/-- An indexed store into the buffer of forced priors. -/
theorem wp_st18 {α : Type} {ix v : IVec S16 32} {mask : IVec S16 1} {h : ∀ a x, ((![ix] : Fin 1 → IVec S16 32) a x).toNat < S5008.size a}
    {hs : ((a18).access (.whole S5008)).Stores Finset.univ} {k : PUnit → Prog (TpuEff nD τ sig (Elt F) Λ₀ (thr d L).2) α} {Q : α → Pr F}
    {f : IVec S5008 32} (g : IVec S5008 32) (hfg : storeIdx (F := F) (s := S5008) (e := .i32) f ![ix] v mask false h = g) :
    pt (F := F) d L a18 f ⊢ iprop((pt d L a18 g -∗ wpT d L (k ⟨⟩) Q)
      -∗ wpT d L (SparseCore.vectorStoreIdx a18 ![ix] v mask false h hs >>= k) Q) := by
  have H := SparseCore.wp_vectorStoreIdx (defs := defs₀ (F := F)) (Q := Q) 𝒱₀ (thr d L) none Set.univ (base := a18) (idxs := ![ix]) (v := v) (mask := mask)
    (add := false) (h := h) (hs := hs) (k := k) (f := f)
  rw [show ((a18).access (.whole S5008)).set = Finset.univ from Memref.set_access_whole (cc1_scratch2 : Ref sig .scVector),
    show ((a18).access (.whole S5008)).read (Elt F) f = f from Memref.read_access_whole (Elt F) (cc1_scratch2 : Ref sig .scVector) f, hfg,
    show ((a18).access (.whole S5008)).write (Elt F) f g Finset.univ = g from Memref.write_access_whole_univ (Elt F) (cc1_scratch2 : Ref sig .scVector) f g] at H
  exact H

/-- An index of a rank-one shape. -/
def at1 {n : Nat} (t : Nat) (h : t < n) : (⟨1, ![n]⟩ : Shape).Idx := fun a => ⟨t, by obtain rfl := Fin.eq_zero a; exact h⟩

/-- The tile's best priors as a function of the ground truth's number. -/
def bpl (f : IVec S112 32) (t : Nat) : BitVec 32 := if h : t < 112 then f (at1 t h) else 0
/-- A group of sixteen of them. -/
def grp (W : Nat → BitVec 32) (j : Nat) : IVec S16 32 := fun x => W (j + (x 0).val)

theorem grp_lane (W : Nat → BitVec 32) (j : Nat) (k : Fin 16) : grp W j (Shape.ofLane k) = W (j + k.val) := rfl

/-- A load of a group of best priors. -/
theorem wp_ld24 {α : Type} (j : Nat) {inb : ∀ a, (![j] : Fin 1 → Nat) a + S16.size a ≤ S112.size a}
    {hl : (a24).view.LoadsAt (Rect.unit (s := S112) ![j] S16.size inb).toLoadRect}
    {k : Vec F S16 .i32 → Prog (TpuEff nD τ sig (Elt F) Λ₀ (thr d L).2) α} {Q : α → Pr F} {f : IVec S112 32} :
    pt (F := F) d L a24 f ⊢ iprop((pt d L a24 f -∗ wpT d L (k (grp (bpl f) j)) Q)
      -∗ wpT d L (.op (.load a24 (Rect.unit (s := S112) ![j] S16.size inb).toLoadRect hl) k) Q) := by
  have H : pt (F := F) d L a24 f ⊢ iprop((pt d L a24 f -∗ wpT d L (k ((a24).view.readAt (Elt F) (Rect.unit (s := S112) ![j] S16.size inb).toLoadRect f)) Q)
      -∗ wpT d L (.op (.load a24 (Rect.unit (s := S112) ![j] S16.size inb).toLoadRect hl) k) Q) := wp_load (defs := defs₀ (F := F)) (Q := Q) 𝒱₀ (thr d L) none Set.univ (m := a24)
    (r := (Rect.unit (s := S112) ![j] S16.size inb).toLoadRect) (hl := hl) (k := k) (q := fullShare) (f := f) (S := Finset.univ) (Finset.subset_univ _)
  have e : (a24).view.readAt (Elt F) (Rect.unit (s := S112) ![j] S16.size inb).toLoadRect f = grp (bpl f) j := by
    funext x
    have hx : j + (x 0).val < 112 := by have h1 := inb 0; have h2 := (x 0).isLt; exact Nat.lt_of_lt_of_le (Nat.add_lt_add_left h2 j) h1
    show f _ = bpl f _
    unfold bpl
    rw [dif_pos hx]
    refine congrArg f (funext fun a => Fin.ext ?_)
    obtain rfl := Fin.eq_zero a
    show j + 1 * (x 0).val = j + (x 0).val
    omega
  rw [e] at H
  exact H

/-- Sixteen elements of a buffer from `o`. -/
def ld16 {α : Type} (f : S5008.Idx → α) (o : Nat) : S16.Idx → α :=
  fun x => if h : o + (x 0).val < 5008 then f (at1 (o + (x 0).val) h) else f (at1 0 (by decide))

/-- A buffer with sixteen elements from `o` replaced. -/
def row16 {α : Type} (f : S5008.Idx → α) (o : Nat) (v : S16.Idx → α) : S5008.Idx → α :=
  fun n => if h : o ≤ (n 0).val ∧ (n 0).val < o + 16 then v (at1 ((n 0).val - o) (by omega)) else f n

/-- A load of sixteen elements of buffer 16. -/
theorem wp_ldr16 {α : Type} {off : Fin 1 → Nat} {inb : ∀ a, off a + S16.size a ≤ S5008.size a}
    {hl : (a16).view.LoadsAt (Rect.unit (s := S5008) off S16.size inb).toLoadRect}
    {k : Vec F S16 .i32 → Prog (TpuEff nD τ sig (Elt F) Λ₀ (thr d L).2) α} {Q : α → Pr F} {f : IVec S5008 32} :
    pt (F := F) d L a16 f ⊢ iprop((pt d L a16 f -∗ wpT d L (k (ld16 f (off 0))) Q)
      -∗ wpT d L (.op (.load a16 (Rect.unit (s := S5008) off S16.size inb).toLoadRect hl) k) Q) := by
  have H : pt (F := F) d L a16 f ⊢ iprop((pt d L a16 f -∗ wpT d L (k ((a16).view.readAt (Elt F) (Rect.unit (s := S5008) off S16.size inb).toLoadRect f)) Q)
      -∗ wpT d L (.op (.load a16 (Rect.unit (s := S5008) off S16.size inb).toLoadRect hl) k) Q) := wp_load (defs := defs₀ (F := F)) (Q := Q) 𝒱₀ (thr d L) none Set.univ (m := a16)
    (r := (Rect.unit (s := S5008) off S16.size inb).toLoadRect) (hl := hl) (k := k) (q := fullShare) (f := f) (S := Finset.univ) (Finset.subset_univ _)
  have e : (a16).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 17. -/
theorem wp_ldr17 {α : Type} {off : Fin 1 → Nat} {inb : ∀ a, off a + S16.size a ≤ S5008.size a}
    {hl : (a17).view.LoadsAt (Rect.unit (s := S5008) off S16.size inb).toLoadRect}
    {k : Vec F S16 .i32 → Prog (TpuEff nD τ sig (Elt F) Λ₀ (thr d L).2) α} {Q : α → Pr F} {f : IVec S5008 32} :
    pt (F := F) d L a17 f ⊢ iprop((pt d L a17 f -∗ wpT d L (k (ld16 f (off 0))) Q)
      -∗ wpT d L (.op (.load a17 (Rect.unit (s := S5008) off S16.size inb).toLoadRect hl) k) Q) := by
  have H : pt (F := F) d L a17 f ⊢ iprop((pt d L a17 f -∗ wpT d L (k ((a17).view.readAt (Elt F) (Rect.unit (s := S5008) off S16.size inb).toLoadRect f)) Q)
      -∗ wpT d L (.op (.load a17 (Rect.unit (s := S5008) off S16.size inb).toLoadRect hl) k) Q) := wp_load (defs := defs₀ (F := F)) (Q := Q) 𝒱₀ (thr d L) none Set.univ (m := a17)
    (r := (Rect.unit (s := S5008) off S16.size inb).toLoadRect) (hl := hl) (k := k) (q := fullShare) (f := f) (S := Finset.univ) (Finset.subset_univ _)
  have e : (a17).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 18. -/
theorem wp_ldr18 {α : Type} {off : Fin 1 → Nat} {inb : ∀ a, off a + S16.size a ≤ S5008.size a}
    {hl : (a18).view.LoadsAt (Rect.unit (s := S5008) off S16.size inb).toLoadRect}
    {k : Vec F S16 .i32 → Prog (TpuEff nD τ sig (Elt F) Λ₀ (thr d L).2) α} {Q : α → Pr F} {f : IVec S5008 32} :
    pt (F := F) d L a18 f ⊢ iprop((pt d L a18 f -∗ wpT d L (k (ld16 f (off 0))) Q)
      -∗ wpT d L (.op (.load a18 (Rect.unit (s := S5008) off S16.size inb).toLoadRect hl) k) Q) := by
  have H : pt (F := F) d L a18 f ⊢ iprop((pt d L a18 f -∗ wpT d L (k ((a18).view.readAt (Elt F) (Rect.unit (s := S5008) off S16.size inb).toLoadRect f)) Q)
      -∗ wpT d L (.op (.load a18 (Rect.unit (s := S5008) off S16.size inb).toLoadRect hl) k) Q) := wp_load (defs := defs₀ (F := F)) (Q := Q) 𝒱₀ (thr d L) none Set.univ (m := a18)
    (r := (Rect.unit (s := S5008) off S16.size inb).toLoadRect) (hl := hl) (k := k) (q := fullShare) (f := f) (S := Finset.univ) (Finset.subset_univ _)
  have e : (a18).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 19. -/
theorem wp_ldr19 {α : Type} {off : Fin 1 → Nat} {inb : ∀ a, off a + S16.size a ≤ S5008.size a}
    {hl : (a19).view.LoadsAt (Rect.unit (s := S5008) off S16.size inb).toLoadRect}
    {k : Vec F S16 .i32 → Prog (TpuEff nD τ sig (Elt F) Λ₀ (thr d L).2) α} {Q : α → Pr F} {f : IVec S5008 32} :
    pt (F := F) d L a19 f ⊢ iprop((pt d L a19 f -∗ wpT d L (k (ld16 f (off 0))) Q)
      -∗ wpT d L (.op (.load a19 (Rect.unit (s := S5008) off S16.size inb).toLoadRect hl) k) Q) := by
  have H : pt (F := F) d L a19 f ⊢ iprop((pt d L a19 f -∗ wpT d L (k ((a19).view.readAt (Elt F) (Rect.unit (s := S5008) off S16.size inb).toLoadRect f)) Q)
      -∗ wpT d L (.op (.load a19 (Rect.unit (s := S5008) off S16.size inb).toLoadRect hl) k) Q) := wp_load (defs := defs₀ (F := F)) (Q := Q) 𝒱₀ (thr d L) none Set.univ (m := a19)
    (r := (Rect.unit (s := S5008) off S16.size inb).toLoadRect) (hl := hl) (k := k) (q := fullShare) (f := f) (S := Finset.univ) (Finset.subset_univ _)
  have e : (a19).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 20. -/
theorem wp_ldr20 {α : Type} {off : Fin 1 → Nat} {inb : ∀ a, off a + S16.size a ≤ S5008.size a}
    {hl : (a20).view.LoadsAt (Rect.unit (s := S5008) off S16.size inb).toLoadRect}
    {k : Vec F S16 .f32 → Prog (TpuEff nD τ sig (Elt F) Λ₀ (thr d L).2) α} {Q : α → Pr F} {f : Vec F S5008 .f32} :
    pt (F := F) d L a20 f ⊢ iprop((pt d L a20 f -∗ wpT d L (k (ld16 f (off 0))) Q)
      -∗ wpT d L (.op (.load a20 (Rect.unit (s := S5008) off S16.size inb).toLoadRect hl) k) Q) := by
  have H : pt (F := F) d L a20 f ⊢ iprop((pt d L a20 f -∗ wpT d L (k ((a20).view.readAt (Elt F) (Rect.unit (s := S5008) off S16.size inb).toLoadRect f)) Q)
      -∗ wpT d L (.op (.load a20 (Rect.unit (s := S5008) off S16.size inb).toLoadRect hl) k) Q) := wp_load (defs := defs₀ (F := F)) (Q := Q) 𝒱₀ (thr d L) none Set.univ (m := a20)
    (r := (Rect.unit (s := S5008) off S16.size inb).toLoadRect) (hl := hl) (k := k) (q := fullShare) (f := f) (S := Finset.univ) (Finset.subset_univ _)
  have e : (a20).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 21. -/
theorem wp_ldr21 {α : Type} {off : Fin 1 → Nat} {inb : ∀ a, off a + S16.size a ≤ S5008.size a}
    {hl : (a21).view.LoadsAt (Rect.unit (s := S5008) off S16.size inb).toLoadRect}
    {k : Vec F S16 .f32 → Prog (TpuEff nD τ sig (Elt F) Λ₀ (thr d L).2) α} {Q : α → Pr F} {f : Vec F S5008 .f32} :
    pt (F := F) d L a21 f ⊢ iprop((pt d L a21 f -∗ wpT d L (k (ld16 f (off 0))) Q)
      -∗ wpT d L (.op (.load a21 (Rect.unit (s := S5008) off S16.size inb).toLoadRect hl) k) Q) := by
  have H : pt (F := F) d L a21 f ⊢ iprop((pt d L a21 f -∗ wpT d L (k ((a21).view.readAt (Elt F) (Rect.unit (s := S5008) off S16.size inb).toLoadRect f)) Q)
      -∗ wpT d L (.op (.load a21 (Rect.unit (s := S5008) off S16.size inb).toLoadRect hl) k) Q) := wp_load (defs := defs₀ (F := F)) (Q := Q) 𝒱₀ (thr d L) none Set.univ (m := a21)
    (r := (Rect.unit (s := S5008) off S16.size inb).toLoadRect) (hl := hl) (k := k) (q := fullShare) (f := f) (S := Finset.univ) (Finset.subset_univ _)
  have e : (a21).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 22. -/
theorem wp_ldr22 {α : Type} {off : Fin 1 → Nat} {inb : ∀ a, off a + S16.size a ≤ S5008.size a}
    {hl : (a22).view.LoadsAt (Rect.unit (s := S5008) off S16.size inb).toLoadRect}
    {k : Vec F S16 .f32 → Prog (TpuEff nD τ sig (Elt F) Λ₀ (thr d L).2) α} {Q : α → Pr F} {f : Vec F S5008 .f32} :
    pt (F := F) d L a22 f ⊢ iprop((pt d L a22 f -∗ wpT d L (k (ld16 f (off 0))) Q)
      -∗ wpT d L (.op (.load a22 (Rect.unit (s := S5008) off S16.size inb).toLoadRect hl) k) Q) := by
  have H : pt (F := F) d L a22 f ⊢ iprop((pt d L a22 f -∗ wpT d L (k ((a22).view.readAt (Elt F) (Rect.unit (s := S5008) off S16.size inb).toLoadRect f)) Q)
      -∗ wpT d L (.op (.load a22 (Rect.unit (s := S5008) off S16.size inb).toLoadRect hl) k) Q) := wp_load (defs := defs₀ (F := F)) (Q := Q) 𝒱₀ (thr d L) none Set.univ (m := a22)
    (r := (Rect.unit (s := S5008) off S16.size inb).toLoadRect) (hl := hl) (k := k) (q := fullShare) (f := f) (S := Finset.univ) (Finset.subset_univ _)
  have e : (a22).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A load of sixteen elements of buffer 23. -/
theorem wp_ldr23 {α : Type} {off : Fin 1 → Nat} {inb : ∀ a, off a + S16.size a ≤ S5008.size a}
    {hl : (a23).view.LoadsAt (Rect.unit (s := S5008) off S16.size inb).toLoadRect}
    {k : Vec F S16 .f32 → Prog (TpuEff nD τ sig (Elt F) Λ₀ (thr d L).2) α} {Q : α → Pr F} {f : Vec F S5008 .f32} :
    pt (F := F) d L a23 f ⊢ iprop((pt d L a23 f -∗ wpT d L (k (ld16 f (off 0))) Q)
      -∗ wpT d L (.op (.load a23 (Rect.unit (s := S5008) off S16.size inb).toLoadRect hl) k) Q) := by
  have H : pt (F := F) d L a23 f ⊢ iprop((pt d L a23 f -∗ wpT d L (k ((a23).view.readAt (Elt F) (Rect.unit (s := S5008) off S16.size inb).toLoadRect f)) Q)
      -∗ wpT d L (.op (.load a23 (Rect.unit (s := S5008) off S16.size inb).toLoadRect hl) k) Q) := wp_load (defs := defs₀ (F := F)) (Q := Q) 𝒱₀ (thr d L) none Set.univ (m := a23)
    (r := (Rect.unit (s := S5008) off S16.size inb).toLoadRect) (hl := hl) (k := k) (q := fullShare) (f := f) (S := Finset.univ) (Finset.subset_univ _)
  have e : (a23).view.readAt (Elt F) (Rect.unit (s := S5008) off S16.size inb).toLoadRect f = ld16 f (off 0) := by
    funext x
    have hx : off 0 + (x 0).val < 5008 := by have h1 := inb 0; have h2 := (x 0).isLt; exact Nat.lt_of_lt_of_le (Nat.add_lt_add_left h2 _) h1
    unfold ld16
    rw [dif_pos hx]
    show f _ = f _
    refine congrArg f (funext fun a => Fin.ext ?_)
    obtain rfl := Fin.eq_zero a
    show off 0 + 1 * (x 0).val = off 0 + (x 0).val
    omega
  rw [e] at H
  exact H

/-- A store of sixteen elements into buffer 18. -/
theorem wp_sto18 {α : Type} {off : Fin 1 → Nat} {inb : ∀ a, off a + S16.size a ≤ S5008.size a} {v : Vec F S16 .i32}
    {hx : ((a18).access (Rect.unit (s := S5008) off S16.size inb)).Stores Finset.univ}
    {hm : Finset.univ = Finset.univ ∨ ∀ a : Fin S5008.rank, (Rect.unit (s := S5008) off S16.size inb).stride a = 1}
    {k : PUnit → Prog (TpuEff nD τ sig (Elt F) Λ₀ (thr d L).2) α} {Q : α → Pr F} {f : IVec S5008 32} :
    pt (F := F) d L a18 f ⊢ iprop((pt d L a18 (row16 f (off 0) v) -∗ wpT d L (k ⟨⟩) Q)
      -∗ wpT d L (.op (.store a18 (Rect.unit (s := S5008) off S16.size inb) v Finset.univ hx hm) k) Q) := by
  have H : pt (F := F) d L a18 f ⊢ iprop((pt d L a18 (((a18).access (Rect.unit (s := S5008) off S16.size inb)).write (Elt F) f v Finset.univ) -∗ wpT d L (k ⟨⟩) Q)
      -∗ wpT d L (.op (.store a18 (Rect.unit (s := S5008) off S16.size inb) v Finset.univ hx hm) k) Q) :=
    wp_store (defs := defs₀ (F := F)) (Q := Q) 𝒱₀ (thr d L) none Set.univ (m := a18)
      (r := Rect.unit (s := S5008) off S16.size inb) (w := v) (Mk := Finset.univ) (hx := hx) (hm := hm) (k := k) (f := f) (S := Finset.univ) (Finset.subset_univ _)
  have e : ((a18).access (Rect.unit (s := S5008) off S16.size inb)).write (Elt F) f v Finset.univ = row16 f (off 0) v := by
    funext n
    have hw := congrFun (View.write_whole_slice_unit (Val := Elt F) (cc1_scratch2 : Ref sig .scVector) off S16.size inb f v) n
    refine hw.trans ?_
    unfold updateSlice row16
    by_cases hn : off 0 ≤ (n 0).val ∧ (n 0).val < off 0 + 16
    · rw [dif_pos hn, dif_pos (fun a => by obtain rfl := Fin.eq_zero a; exact hn)]
      refine congrArg v (funext fun a => Fin.ext ?_)
      obtain rfl := Fin.eq_zero a
      rfl
    · rw [dif_neg hn, dif_neg (fun h => hn (h 0))]
  rw [e] at H
  exact H

/-- A store of sixteen elements into buffer 19. -/
theorem wp_sto19 {α : Type} {off : Fin 1 → Nat} {inb : ∀ a, off a + S16.size a ≤ S5008.size a} {v : Vec F S16 .i32}
    {hx : ((a19).access (Rect.unit (s := S5008) off S16.size inb)).Stores Finset.univ}
    {hm : Finset.univ = Finset.univ ∨ ∀ a : Fin S5008.rank, (Rect.unit (s := S5008) off S16.size inb).stride a = 1}
    {k : PUnit → Prog (TpuEff nD τ sig (Elt F) Λ₀ (thr d L).2) α} {Q : α → Pr F} {f : IVec S5008 32} :
    pt (F := F) d L a19 f ⊢ iprop((pt d L a19 (row16 f (off 0) v) -∗ wpT d L (k ⟨⟩) Q)
      -∗ wpT d L (.op (.store a19 (Rect.unit (s := S5008) off S16.size inb) v Finset.univ hx hm) k) Q) := by
  have H : pt (F := F) d L a19 f ⊢ iprop((pt d L a19 (((a19).access (Rect.unit (s := S5008) off S16.size inb)).write (Elt F) f v Finset.univ) -∗ wpT d L (k ⟨⟩) Q)
      -∗ wpT d L (.op (.store a19 (Rect.unit (s := S5008) off S16.size inb) v Finset.univ hx hm) k) Q) :=
    wp_store (defs := defs₀ (F := F)) (Q := Q) 𝒱₀ (thr d L) none Set.univ (m := a19)
      (r := Rect.unit (s := S5008) off S16.size inb) (w := v) (Mk := Finset.univ) (hx := hx) (hm := hm) (k := k) (f := f) (S := Finset.univ) (Finset.subset_univ _)
  have e : ((a19).access (Rect.unit (s := S5008) off S16.size inb)).write (Elt F) f v Finset.univ = row16 f (off 0) v := by
    funext n
    have hw := congrFun (View.write_whole_slice_unit (Val := Elt F) (cc1_scratch3 : Ref sig .scVector) off S16.size inb f v) n
    refine hw.trans ?_
    unfold updateSlice row16
    by_cases hn : off 0 ≤ (n 0).val ∧ (n 0).val < off 0 + 16
    · rw [dif_pos hn, dif_pos (fun a => by obtain rfl := Fin.eq_zero a; exact hn)]
      refine congrArg v (funext fun a => Fin.ext ?_)
      obtain rfl := Fin.eq_zero a
      rfl
    · rw [dif_neg hn, dif_neg (fun h => hn (h 0))]
  rw [e] at H
  exact H

/-- A check that holds. -/
theorem wp_chk {α : Type} {P : Prop} {dec : Decidable P} {k : PLift P → Prog (TpuEff nD τ sig (Elt F) Λ₀ (thr d L).2) α} {Q : α → Pr F} (h : P) :
    wpT (F := F) d L (k ⟨h⟩) Q ⊢ wpT d L (.op (.assume P dec) k) Q :=
  Entails.of_eq (wp_assume_of 𝒱₀ (thr d L) none Set.univ h).symm

/-- The end of a program. -/
theorem wp_done {α : Type} {a : α} {Q : α → Pr F} : Q a ⊢ wpT (F := F) d L (.ret a) Q := by
  show _ ⊢ wp frame _ Set.univ (.ret a) Q
  rw [wp_ret]; exact fupd_intro

theorem off4_eq (t : Fin k1_t1_loop.trips) : k1_off4 t 0 = 16 * t.val := by
  revert t; decide +kernel

/-- The loop that clears the buffer of forced priors. -/
theorem wp_zero18 {α : Type} {Q : α → Pr F} {g0 : IVec S5008 32} {k : Unit → Prog (TpuEff nD τ sig (Elt F) Λ₀ (thr d L).2) α}
    (w : Nat → BitVec 32) (B v29 : BitVec 32) (v33 : IVec S16 32) :
    pt (F := F) d L a18 g0 ⊢ iprop((pt d L a18 (fcBuf w B 0) -∗ wpT d L (k ⟨⟩) Q)
      -∗ wpT d L (Scf.Loop.for k1_t1_loop k1_t1_ok ⟨⟩ (k1_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v29 v33 k1_pay6 0#32 1#32) >>= k) Q) := by
  have hloop := Scf.wp_for_bind (kk := k) (Q := Q) frame (wpE (defs₀ (F := F)) 𝒱₀ (thr d L) none) Set.univ k1_t1_loop.lb k1_t1_loop.ub k1_t1_loop.st k1_t1_ok ()
    (k1_t1_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v29 v33 k1_pay6 0#32 1#32)
    (fun n _ => iprop(∃ f : IVec S5008 32, ⌜∀ x, (x 0).val < 16 * n → f x = 0⌝ ∗ pt (F := F) d L a18 f)) (fun t _ => by
      unfold k1_t1_body
      iintro ⟨%f, %hf, H⟩
      iapply (wp_ldr18 (F := F) d L) $$ H; iintro H
      iapply (wp_sto18 (F := F) d L) $$ H; iintro H
      iapply (wp_done d L)
      iexists _
      isplitr
      rotate_left
      · iexact H
      · ipureintro
        intro x hx
        unfold row16
        rw [off4_eq]
        split
        · rfl
        · rename_i h
          exact hf x (by omega))
  iintro H Hk
  iapply hloop $$ [H]
  · iexists g0
    isplitr
    · ipureintro
      intro x hx; omega
    · iexact H
  iintro %u ⟨%f, %hf, H⟩
  iapply Hk
  have e : f = fcBuf w B 0 := by
    funext x
    refine (hf x ?_).trans (if_neg fun ⟨t, h, _⟩ => by omega).symm
    exact Nat.lt_of_lt_of_le (x 0).isLt (by decide +kernel)
  rw [← e]
  iexact H

end Cert.Proof

end
-- ==== Proof.Encode.lean ====
/-
  The encoding step of a tile: for each of its priors the label and the four encoded box coordinates, from the
  prior's match, whether it was forced, and the matched ground truth; the loop that computes them, sixteen at a time.
-/
module

public import proofs.«01_k».proof.Proof.MatchBase

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

/-! ## The plain functions -/

/-- The ground truth a match names, clamped into the table. -/
def gi (m : BitVec 32) : BitVec 32 := IntOp.minsi 111#32 (IntOp.maxsi 0#32 m)

theorem gi_lt (m : BitVec 32) : (gi m).toNat < 112 := by
  have e : (111#32).toInt = 111 := rfl
  have e0 : (0#32).toInt = 0 := rfl
  have hc := BitVec.toInt_eq_toNat_cond (x := m)
  have := m.isLt
  unfold gi IntOp.minsi IntOp.maxsi
  by_cases h2 : m.slt 0#32 = true
  · rw [if_pos h2]; decide
  · rw [if_neg h2]
    by_cases h : (111#32).slt m = true
    · rw [if_pos h]; decide
    · rw [if_neg h]
      simp only [BitVec.slt, decide_eq_true_eq] at h h2
      split at hc <;> omega

/-- The label from the negative mark, the forced mark and the matched ground truth's label. -/
def labS (n f l : BitVec 32) : BitVec 32 :=
  Scalar.select (IntOp.andi (IntOp.cmpi .ne n 0#32) (IntOp.cmpi .eq f 0#32)) 0#32 l
/-- A centre coordinate encoded: the ground truth's two edges, the prior's centre and size. -/
def encC (a b p w : F .f32) : F .f32 :=
  FloatOps.mulf (FloatOps.divf (FloatOps.subf (FloatOps.mulf (FloatOps.addf a b) (Scalar.ofBits .f32 0x3F000000#32)) p) w)
    (Named.named κ "inv_v0" 0x41200000#32)
/-- A size encoded: the ground truth's two edges, the prior's size. -/
def encS (a b w : F .f32) : F .f32 :=
  FloatOps.mulf (FloatOps.log (FloatOps.divf (FloatOps.subf b a) w)) (Named.named κ "inv_v1" 0x40A00000#32)
/-- The four coordinates. -/
def encAt (o : Nat) (x1 y1 x2 y2 px py pw ph : F .f32) : F .f32 :=
  if o = 0 then encC x1 x2 px pw else if o = 1 then encC y1 y2 py ph else if o = 2 then encS x1 x2 pw else encS y1 y2 ph

/-- What the encoding step reads. -/
structure EncIn (F : FTy → Type) where
  mt : IVec S5008 32
  ng : IVec S5008 32
  fc : IVec S5008 32
  px : Vec F S5008 .f32
  py : Vec F S5008 .f32
  pw : Vec F S5008 .f32
  ph : Vec F S5008 .f32
  x1 : Vec F S112 .f32
  y1 : Vec F S112 .f32
  x2 : Vec F S112 .f32
  y2 : Vec F S112 .f32
  lab : IVec S112 32

/-- The label of the tile's prior `n`. -/
def labT (E : EncIn F) (n : Nat) (h : n < 5008) : BitVec 32 :=
  labS (E.ng (at1 n h)) (E.fc (at1 n h)) (E.lab (at1 (gi (E.mt (at1 n h))).toNat (gi_lt _)))
/-- Coordinate `o` of the tile's prior `n`. -/
def locT (E : EncIn F) (o n : Nat) (h : n < 5008) : F .f32 :=
  encAt o (E.x1 (at1 (gi (E.mt (at1 n h))).toNat (gi_lt _))) (E.y1 (at1 (gi (E.mt (at1 n h))).toNat (gi_lt _)))
    (E.x2 (at1 (gi (E.mt (at1 n h))).toNat (gi_lt _))) (E.y2 (at1 (gi (E.mt (at1 n h))).toNat (gi_lt _)))
    (E.px (at1 n h)) (E.py (at1 n h)) (E.pw (at1 n h)) (E.ph (at1 n h))

/-- The group of matched ground truths. -/
def gv (m : IVec S16 32) : IVec S16 32 := fun x => gi (m x)

theorem inb_gv (m : IVec S16 32) : ∀ a x, ((![gv m] : Fin 1 → IVec S16 32) a x).toNat < S112.size a := by
  intro a x
  obtain rfl := Fin.eq_zero a
  exact gi_lt _
theorem chk8_gv (m : IVec S16 32) : k1_chk8 (gv m) := have h := inb_gv m; ⟨h, h, h, h, h⟩

/-- Where coordinate `o` of the `t`-th sixteen priors is stored. -/
def ox (t : Nat) : Nat → IVec S16 32
  | 0 => muli (addi lanes (broadcast S16 (BitVec.ofNat 32 (16 * t)))) (broadcast S16 4#32)
  | o + 1 => addi (muli (addi lanes (broadcast S16 (BitVec.ofNat 32 (16 * t)))) (broadcast S16 4#32)) (broadcast S16 (BitVec.ofNat 32 (o + 1)))

theorem ox_lane (t o : Nat) (ht : t < 313) (ho : o < 4) (l : Fin 16) : (ox t o (Shape.ofLane l)).toNat = 64 * t + 4 * l.val + o := by
  have hl := l.isLt
  cases o with
  | zero =>
    show ((lanes (Shape.ofLane l) + BitVec.ofNat 32 (16 * t)) * 4#32).toNat = _
    rw [lanes_lane, BitVec.toNat_mul, BitVec.toNat_add]
    simp only [BitVec.toNat_ofNat]
    omega
  | succ o =>
    show ((lanes (Shape.ofLane l) + BitVec.ofNat 32 (16 * t)) * 4#32 + BitVec.ofNat 32 (o + 1)).toNat = _
    rw [lanes_lane, BitVec.toNat_add, BitVec.toNat_mul, BitVec.toNat_add]
    simp only [BitVec.toNat_ofNat]
    omega

theorem exists_lane (x : S16.Idx) : ∃ l : Fin 16, x = Shape.ofLane l := by
  refine ⟨x 0, funext fun a => ?_⟩
  obtain rfl := Fin.eq_zero a
  rfl

theorem inb_ox (t o : Nat) (ht : t < 313) (ho : o < 4) : ∀ a x, ((![ox t o] : Fin 1 → IVec S16 32) a x).toNat < S20032.size a := by
  intro a x
  obtain rfl := Fin.eq_zero a
  obtain ⟨l, rfl⟩ := exists_lane x
  have := ox_lane t o ht ho l
  have hl := l.isLt
  show (ox t o _).toNat < 20032
  omega

/-- The buffer of encoded boxes after one coordinate's store. -/
def stN (f : Vec F S20032 .f32) (t o : Nat) (v : Vec F S16 .f32) : Vec F S20032 .f32 := fun n =>
  if h : 64 * t ≤ (n 0).val ∧ (n 0).val < 64 * t + 64 ∧ (n 0).val % 4 = o then v (at1 (((n 0).val - 64 * t) / 4) (by omega)) else f n

theorem store30 (f : Vec F S20032 .f32) (t o : Nat) (ht : t < 313) (ho : o < 4) (v : Vec F S16 .f32)
    (h : ∀ a x, ((![ox t o] : Fin 1 → IVec S16 32) a x).toNat < S20032.size a) :
    storeIdx (F := F) (s := S20032) (e := .f32) f ![ox t o] v (fun _ => 1#1) false h = stN f t o v := by
  have hh : ∀ (n : S20032.Idx) (l : Fin 16), Hits (s := S20032) (![ox t o] : Fin 1 → IVec S16 32) (fun _ => 1#1) n l ↔ (n 0).val = 64 * t + 4 * l.val + o := by
    intro n l
    unfold Hits
    constructor
    · rintro ⟨-, h⟩
      exact (h 0).trans (ox_lane t o ht ho l)
    · intro h
      refine ⟨rfl, fun a => ?_⟩
      obtain rfl := Fin.eq_zero a
      exact h.trans (ox_lane t o ht ho l).symm
  funext n
  unfold stN
  by_cases hn : 64 * t ≤ (n 0).val ∧ (n 0).val < 64 * t + 64 ∧ (n 0).val % 4 = o
  · rw [dif_pos hn]
    refine storeIdx_some (F := F) (s := S20032) (e := .f32) _ _ _ _ _ n _ (fun k hk => ?_) (⟨((n 0).val - 64 * t) / 4, by omega⟩ : Fin 16) ((hh n _).mpr ?_)
    · have hk := (hh n k).mp hk
      refine congrArg v (funext fun a => Fin.ext ?_)
      obtain rfl := Fin.eq_zero a
      show k.val = ((n 0).val - 64 * t) / 4
      omega
    · show _ = 64 * t + 4 * (((n 0).val - 64 * t) / 4) + o
      omega
  · rw [dif_neg hn]
    refine storeIdx_none (F := F) (s := S20032) (e := .f32) _ _ _ _ _ n fun k hk => hn ?_
    have := (hh n k).mp hk
    have := k.isLt
    omega

/-! ## The rules -/

variable (d : Dev nD) (L : grid1.Coords)

/-- A gather out of table 25. -/
theorem wp_gat25 {α : Type} {ix : IVec S16 32} {h : ∀ a x, ((![ix] : Fin 1 → IVec S16 32) a x).toNat < S112.size a}
    {k : Vec F S16 .f32 → Prog (TpuEff nD τ sig (Elt F) Λ₀ (thr d L).2) α} {Q : α → Pr F} {f : Vec F S112 .f32} :
    pt (F := F) d L a25 f ⊢ iprop((pt d L a25 f -∗ wpT d L (k (loadIdx f ![ix] h)) Q)
      -∗ wpT d L (SparseCore.vectorLoadIdx a25 ![ix] h (View.loads_vmem h_S112) >>= k) Q) := by
  have H := SparseCore.wp_vectorLoadIdx (defs := defs₀ (F := F)) (Q := Q) 𝒱₀ (thr d L) none Set.univ (base := a25) (idxs := ![ix])
    (h := h) (hl := View.loads_vmem h_S112) (k := k) (f := f) (q := fullShare) (S := Finset.univ) (Finset.subset_univ _)
  rw [show ((a25).access (.whole S112)).read (Elt F) f = f from Memref.read_access_whole (Elt F) (cc1_scratch9 : Ref sig .scVector) f] at H
  exact H

/-- A gather out of table 26. -/
theorem wp_gat26 {α : Type} {ix : IVec S16 32} {h : ∀ a x, ((![ix] : Fin 1 → IVec S16 32) a x).toNat < S112.size a}
    {k : Vec F S16 .f32 → Prog (TpuEff nD τ sig (Elt F) Λ₀ (thr d L).2) α} {Q : α → Pr F} {f : Vec F S112 .f32} :
    pt (F := F) d L a26 f ⊢ iprop((pt d L a26 f -∗ wpT d L (k (loadIdx f ![ix] h)) Q)
      -∗ wpT d L (SparseCore.vectorLoadIdx a26 ![ix] h (View.loads_vmem h_S112) >>= k) Q) := by
  have H := SparseCore.wp_vectorLoadIdx (defs := defs₀ (F := F)) (Q := Q) 𝒱₀ (thr d L) none Set.univ (base := a26) (idxs := ![ix])
    (h := h) (hl := View.loads_vmem h_S112) (k := k) (f := f) (q := fullShare) (S := Finset.univ) (Finset.subset_univ _)
  rw [show ((a26).access (.whole S112)).read (Elt F) f = f from Memref.read_access_whole (Elt F) (cc1_scratch10 : Ref sig .scVector) f] at H
  exact H

/-- A gather out of table 27. -/
theorem wp_gat27 {α : Type} {ix : IVec S16 32} {h : ∀ a x, ((![ix] : Fin 1 → IVec S16 32) a x).toNat < S112.size a}
    {k : Vec F S16 .f32 → Prog (TpuEff nD τ sig (Elt F) Λ₀ (thr d L).2) α} {Q : α → Pr F} {f : Vec F S112 .f32} :
    pt (F := F) d L a27 f ⊢ iprop((pt d L a27 f -∗ wpT d L (k (loadIdx f ![ix] h)) Q)
      -∗ wpT d L (SparseCore.vectorLoadIdx a27 ![ix] h (View.loads_vmem h_S112) >>= k) Q) := by
  have H := SparseCore.wp_vectorLoadIdx (defs := defs₀ (F := F)) (Q := Q) 𝒱₀ (thr d L) none Set.univ (base := a27) (idxs := ![ix])
    (h := h) (hl := View.loads_vmem h_S112) (k := k) (f := f) (q := fullShare) (S := Finset.univ) (Finset.subset_univ _)
  rw [show ((a27).access (.whole S112)).read (Elt F) f = f from Memref.read_access_whole (Elt F) (cc1_scratch11 : Ref sig .scVector) f] at H
  exact H

/-- A gather out of table 28. -/
theorem wp_gat28 {α : Type} {ix : IVec S16 32} {h : ∀ a x, ((![ix] : Fin 1 → IVec S16 32) a x).toNat < S112.size a}
    {k : Vec F S16 .f32 → Prog (TpuEff nD τ sig (Elt F) Λ₀ (thr d L).2) α} {Q : α → Pr F} {f : Vec F S112 .f32} :
    pt (F := F) d L a28 f ⊢ iprop((pt d L a28 f -∗ wpT d L (k (loadIdx f ![ix] h)) Q)
      -∗ wpT d L (SparseCore.vectorLoadIdx a28 ![ix] h (View.loads_vmem h_S112) >>= k) Q) := by
  have H := SparseCore.wp_vectorLoadIdx (defs := defs₀ (F := F)) (Q := Q) 𝒱₀ (thr d L) none Set.univ (base := a28) (idxs := ![ix])
    (h := h) (hl := View.loads_vmem h_S112) (k := k) (f := f) (q := fullShare) (S := Finset.univ) (Finset.subset_univ _)
  rw [show ((a28).access (.whole S112)).read (Elt F) f = f from Memref.read_access_whole (Elt F) (cc1_scratch12 : Ref sig .scVector) f] at H
  exact H

/-- A gather out of table 29. -/
theorem wp_gat29 {α : Type} {ix : IVec S16 32} {h : ∀ a x, ((![ix] : Fin 1 → IVec S16 32) a x).toNat < S112.size a}
    {k : Vec F S16 .i32 → Prog (TpuEff nD τ sig (Elt F) Λ₀ (thr d L).2) α} {Q : α → Pr F} {f : Vec F S112 .i32} :
    pt (F := F) d L a29 f ⊢ iprop((pt d L a29 f -∗ wpT d L (k (loadIdx f ![ix] h)) Q)
      -∗ wpT d L (SparseCore.vectorLoadIdx a29 ![ix] h (View.loads_vmem h_S112) >>= k) Q) := by
  have H := SparseCore.wp_vectorLoadIdx (defs := defs₀ (F := F)) (Q := Q) 𝒱₀ (thr d L) none Set.univ (base := a29) (idxs := ![ix])
    (h := h) (hl := View.loads_vmem h_S112) (k := k) (f := f) (q := fullShare) (S := Finset.univ) (Finset.subset_univ _)
  rw [show ((a29).access (.whole S112)).read (Elt F) f = f from Memref.read_access_whole (Elt F) (cc1_scratch13 : Ref sig .scVector) f] at H
  exact H

/-- An indexed store of one coordinate of sixteen priors. -/
theorem wp_st30 {α : Type} {ix : IVec S16 32} {v : Vec F S16 .f32} {h : ∀ a x, ((![ix] : Fin 1 → IVec S16 32) a x).toNat < S20032.size a}
    {hs : ((a30).access (.whole S20032)).Stores Finset.univ} {k : PUnit → Prog (TpuEff nD τ sig (Elt F) Λ₀ (thr d L).2) α} {Q : α → Pr F}
    {f : Vec F S20032 .f32} (g : Vec F S20032 .f32) (hfg : storeIdx (F := F) (s := S20032) (e := .f32) f ![ix] v (fun _ => 1#1) false h = g) :
    pt (F := F) d L a30 f ⊢ iprop((pt d L a30 g -∗ wpT d L (k ⟨⟩) Q)
      -∗ wpT d L (SparseCore.vectorStoreIdx a30 ![ix] v (fun _ => 1#1) false h hs >>= k) Q) := by
  have H := SparseCore.wp_vectorStoreIdx (defs := defs₀ (F := F)) (Q := Q) 𝒱₀ (thr d L) none Set.univ (base := a30) (idxs := ![ix]) (v := v) (mask := fun _ => 1#1)
    (add := false) (h := h) (hs := hs) (k := k) (f := f)
  rw [show ((a30).access (.whole S20032)).set = Finset.univ from Memref.set_access_whole (cc1_scratch14 : Ref sig .scVector),
    show ((a30).access (.whole S20032)).read (Elt F) f = f from Memref.read_access_whole (Elt F) (cc1_scratch14 : Ref sig .scVector) f, hfg,
    show ((a30).access (.whole S20032)).write (Elt F) f g Finset.univ = g from Memref.write_access_whole_univ (Elt F) (cc1_scratch14 : Ref sig .scVector) f g] at H
  exact H

/-- A part, then the rest. -/
theorem wpT_bind {α β : Type} (p : Prog (TpuEff nD τ sig (Elt F) Λ₀ (thr d L).2) α) (k : α → Prog (TpuEff nD τ sig (Elt F) Λ₀ (thr d L).2) β) (Q : β → Pr F) :
    wpT d L p (fun x => wpT d L (k x) Q) ⊢ wpT d L (p >>= k) Q := by
  show _ ⊢ wp _ _ _ _ _
  rw [wp_bind]

/-- The buffers the encoding step reads. -/
abbrev rd (E : EncIn F) : Pr F :=
  iprop(pt (F := F) d L a16 E.mt ∗ pt (F := F) d L a17 E.ng ∗ pt (F := F) d L a18 E.fc ∗ pt (F := F) d L a20 E.px ∗ pt (F := F) d L a21 E.py
    ∗ pt (F := F) d L a22 E.pw ∗ pt (F := F) d L a23 E.ph ∗ pt (F := F) d L a25 E.x1 ∗ pt (F := F) d L a26 E.y1 ∗ pt (F := F) d L a27 E.x2
    ∗ pt (F := F) d L a28 E.y2 ∗ pt (F := F) d L a29 E.lab)

/-- The sixteen ground truths matched from prior `o` on. -/
abbrev gt16 (E : EncIn F) (o : Nat) : IVec S16 32 := k1_pay1 (F := F) (ld16 E.mt o)
theorem inb_gt (E : EncIn F) (o : Nat) : ∀ a x, ((![gt16 E o] : Fin 1 → IVec S16 32) a x).toNat < S112.size a := inb_gv _
/-- A table read at them. -/
abbrev tab16 {α : EltTy} (f : Vec F S112 α) (E : EncIn F) (o : Nat) : Vec F S16 α := loadIdx f ![gt16 E o] (inb_gt E o)

theorem off5_eq (t : Fin k1_t2_loop.trips) : k1_off5 t 0 = 16 * t.val := by
  revert t; decide +kernel
theorem off6_eq (t : Fin k1_t2_loop.trips) : k1_off6 t 0 = 16 * t.val := by
  revert t; decide +kernel
theorem iv_eq (t : Fin k1_t2_loop.trips) : Scalar.muli (Scf.iv 0#32 1#32 t.val) 16#32 = BitVec.ofNat 32 (16 * t.val) := by
  revert t; decide +kernel

/-- What a trip's reading part returns. -/
abbrev Ret1 (F : FTy → Type) : Type := Σ' (v494 : BitVec 32) (v498 : Vec F S16 .i32) (v500 : Vec F S16 .i32) (v505 : Vec F S16 .i32) (v529 : FVec F S16 .f32) (v533 : FVec F S16 .f32) (v537 : FVec F S16 .f32) (v541 : FVec F S16 .f32), BitVec 32

/-- The reading part of a trip. -/
theorem part1_wp (E : EncIn F) (t : Fin k1_t2_loop.trips) (o : Nat) (ho : k1_off5 t 0 = o) (o' : Nat) (ho' : k1_off6 t 0 = o') (b : BitVec 32) (hb : Scalar.muli (Scf.iv 0#32 1#32 t.val) 16#32 = b) (Q : Ret1 F → Pr F) :
    iprop(rd d L E ∗ (rd d L E -∗ Q ⟨b, ld16 E.ng o, ld16 E.fc o, tab16 E.lab E o,
        k1_pay2 (tab16 E.x1 E o) (tab16 E.x2 E o) (ld16 E.px o') (ld16 E.pw o'),
        k1_pay3 (tab16 E.y1 E o) (tab16 E.y2 E o) (ld16 E.py o') (ld16 E.ph o'),
        k1_pay4 (tab16 E.x1 E o) (tab16 E.x2 E o) (ld16 E.pw o'),
        k1_pay5 (tab16 E.y1 E o) (tab16 E.y2 E o) (ld16 E.ph o'), 0#32⟩))
      ⊢ wpT d L (k1_part1_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 0#32 1#32 t) Q := by
  subst ho ho' hb
  unfold k1_part1_skel
  iintro ⟨⟨H16, H17, H18, H20, H21, H22, H23, H25, H26, H27, H28, H29⟩, HQ⟩
  iapply (wp_ldr16 (F := F) d L (f := E.mt) (Q := Q)) $$ H16; iintro H16
  iapply (wp_ldr17 (F := F) d L (f := E.ng) (Q := Q)) $$ H17; iintro H17
  iapply (wp_ldr18 (F := F) d L (f := E.fc) (Q := Q)) $$ H18; iintro H18
  iapply (wp_chk (F := F) d L (Q := Q) (show k1_chk8 (gt16 E (k1_off5 t 0)) from chk8_gv (ld16 E.mt (k1_off5 t 0))))
  iapply (wp_gat29 (F := F) d L (f := E.lab) (Q := Q)) $$ H29; iintro H29
  iapply (wp_gat25 (F := F) d L (f := E.x1) (Q := Q)) $$ H25; iintro H25
  iapply (wp_gat26 (F := F) d L (f := E.y1) (Q := Q)) $$ H26; iintro H26
  iapply (wp_gat27 (F := F) d L (f := E.x2) (Q := Q)) $$ H27; iintro H27
  iapply (wp_gat28 (F := F) d L (f := E.y2) (Q := Q)) $$ H28; iintro H28
  iapply (wp_ldr20 (F := F) d L (f := E.px) (Q := Q)) $$ H20; iintro H20
  iapply (wp_ldr21 (F := F) d L (f := E.py) (Q := Q)) $$ H21; iintro H21
  iapply (wp_ldr22 (F := F) d L (f := E.pw) (Q := Q)) $$ H22; iintro H22
  iapply (wp_ldr23 (F := F) d L (f := E.ph) (Q := Q)) $$ H23; iintro H23
  iapply (wp_done d L)
  iapply HQ
  isplitl [H16]; · iexact H16
  isplitl [H17]; · iexact H17
  isplitl [H18]; · iexact H18
  isplitl [H20]; · iexact H20
  isplitl [H21]; · iexact H21
  isplitl [H22]; · iexact H22
  isplitl [H23]; · iexact H23
  isplitl [H25]; · iexact H25
  isplitl [H26]; · iexact H26
  isplitl [H27]; · iexact H27
  isplitl [H28]; · iexact H28
  iexact H29

/-- What the loop has written after `t` trips. -/
structure EncOut (E : EncIn F) (t : Nat) (fl : IVec S5008 32) (f30 : Vec F S20032 .f32) : Prop where
  lab : ∀ (n : Nat) (h : n < 5008), n < 16 * t → fl (at1 n h) = labT E n h
  loc : ∀ (n o : Nat) (h : n < 5008) (ho : o < 4), n < 16 * t → f30 (at1 (4 * n + o) (by omega)) = locT E o n h

theorem ld16_at {α : Type} (f : S5008.Idx → α) (o n : Nat) (h : n < 5008) (hn : o ≤ n) (hn' : n < o + 16) :
    ld16 f o (at1 (n - o) (by omega)) = f (at1 n h) := by
  unfold ld16
  have e : o + ((at1 (n := 16) (n - o) (by omega)) 0).val = n := by show o + (n - o) = n; omega
  rw [dif_pos (by rw [e]; exact h)]
  refine congrArg f (funext fun a => Fin.ext ?_)
  exact e

theorem tab16_at {α : EltTy} (f : Vec F S112 α) (E : EncIn F) (t n : Nat) (h : n < 5008) (hn : 16 * t ≤ n) (hn' : n < 16 * t + 16) :
    tab16 f E (16 * t) (at1 (n - 16 * t) (by omega)) = f (at1 (gi (E.mt (at1 n h))).toNat (gi_lt _)) := by
  show f _ = f _
  refine congrArg f (funext fun a => Fin.ext ?_)
  obtain rfl := Fin.eq_zero a
  show (gi (ld16 E.mt (16 * t) (at1 (n - 16 * t) (by omega)))).toNat = _
  rw [ld16_at E.mt (16 * t) n h hn hn']
  rfl

theorem stN_hit (f : Vec F S20032 .f32) (t o n : Nat) (h : n < 5008) (ho : o < 4) (hn : 16 * t ≤ n) (hn' : n < 16 * t + 16) (v : Vec F S16 .f32) :
    stN f t o v (at1 (4 * n + o) (by omega)) = v (at1 (n - 16 * t) (by omega)) := by
  unfold stN
  have e : ((at1 (n := 20032) (4 * n + o) (by omega)) 0).val = 4 * n + o := rfl
  rw [dif_pos (by rw [e]; omega)]
  refine congrArg v (funext fun a => Fin.ext ?_)
  show ((4 * n + o) - 64 * t) / 4 = n - 16 * t
  omega

theorem stN_miss (f : Vec F S20032 .f32) (t o k : Nat) (h : k < 20032) (hn : k < 64 * t ∨ k % 4 ≠ o) (v : Vec F S16 .f32) :
    stN f t o v (at1 k h) = f (at1 k h) := by
  unfold stN
  have e : ((at1 (n := 20032) k h) 0).val = k := rfl
  rw [dif_neg (by rw [e]; omega)]

/-- One trip advances what is written. -/
theorem encOut_step (E : EncIn F) (t : Nat) (ht : t < 313) (fl : IVec S5008 32) (f30 : Vec F S20032 .f32) (H : EncOut E t fl f30) :
    EncOut E (t + 1) (row16 fl (16 * t) (k1_pay153 (F := F) (ld16 E.ng (16 * t)) (ld16 E.fc (16 * t)) (tab16 (α := .i32) E.lab E (16 * t)) 0#32))
      (stN (stN (stN (stN f30 t 0 (k1_pay2 (tab16 E.x1 E (16 * t)) (tab16 E.x2 E (16 * t)) (ld16 E.px (16 * t)) (ld16 E.pw (16 * t))))
        t 1 (k1_pay3 (tab16 E.y1 E (16 * t)) (tab16 E.y2 E (16 * t)) (ld16 E.py (16 * t)) (ld16 E.ph (16 * t))))
        t 2 (k1_pay4 (tab16 E.x1 E (16 * t)) (tab16 E.x2 E (16 * t)) (ld16 E.pw (16 * t))))
        t 3 (k1_pay5 (tab16 E.y1 E (16 * t)) (tab16 E.y2 E (16 * t)) (ld16 E.ph (16 * t)))) where
  lab n h hn := by
    unfold row16
    have e : ((at1 (n := 5008) n h) 0).val = n := rfl
    by_cases hb : 16 * t ≤ n
    · rw [dif_pos (by rw [e]; omega)]
      show labS (ld16 E.ng (16 * t) (at1 (n - 16 * t) _)) (ld16 E.fc (16 * t) (at1 (n - 16 * t) _)) (tab16 (α := .i32) E.lab E (16 * t) (at1 (n - 16 * t) _)) = _
      rw [ld16_at E.ng _ n h hb (by omega), ld16_at E.fc _ n h hb (by omega), tab16_at (α := .i32) E.lab E t n h hb (by omega)]
      rfl
    · rw [dif_neg (by rw [e]; omega)]
      exact H.lab n h (by omega)
  loc n o h ho hn := by
    by_cases hb : 16 * t ≤ n
    · have hb' : n < 16 * t + 16 := by omega
      have hx : ∀ (f : Vec F S112 .f32), tab16 f E (16 * t) (at1 (n - 16 * t) (by omega)) = _ := fun f => tab16_at f E t n h hb hb'
      have hp : ∀ (f : Vec F S5008 .f32), ld16 f (16 * t) (at1 (n - 16 * t) (by omega)) = _ := fun f => ld16_at f (16 * t) n h hb hb'
      have ho' : o = 0 ∨ o = 1 ∨ o = 2 ∨ o = 3 := by omega
      rcases ho' with rfl | rfl | rfl | rfl
      · rw [stN_miss _ t 3 _ _ (by omega), stN_miss _ t 2 _ _ (by omega), stN_miss _ t 1 _ _ (by omega), stN_hit _ t 0 n h (by omega) hb hb']
        show encC (tab16 E.x1 E (16 * t) (at1 (n - 16 * t) _)) (tab16 E.x2 E (16 * t) (at1 (n - 16 * t) _)) (ld16 E.px (16 * t) (at1 (n - 16 * t) _)) (ld16 E.pw (16 * t) (at1 (n - 16 * t) _)) = _
        rw [hx, hx, hp, hp]; rfl
      · rw [stN_miss _ t 3 _ _ (by omega), stN_miss _ t 2 _ _ (by omega), stN_hit _ t 1 n h (by omega) hb hb']
        show encC (tab16 E.y1 E (16 * t) (at1 (n - 16 * t) _)) (tab16 E.y2 E (16 * t) (at1 (n - 16 * t) _)) (ld16 E.py (16 * t) (at1 (n - 16 * t) _)) (ld16 E.ph (16 * t) (at1 (n - 16 * t) _)) = _
        rw [hx, hx, hp, hp]; rfl
      · rw [stN_miss _ t 3 _ _ (by omega), stN_hit _ t 2 n h (by omega) hb hb']
        show encS (tab16 E.x1 E (16 * t) (at1 (n - 16 * t) _)) (tab16 E.x2 E (16 * t) (at1 (n - 16 * t) _)) (ld16 E.pw (16 * t) (at1 (n - 16 * t) _)) = _
        rw [hx, hx, hp]; rfl
      · rw [stN_hit _ t 3 n h (by omega) hb hb']
        show encS (tab16 E.y1 E (16 * t) (at1 (n - 16 * t) _)) (tab16 E.y2 E (16 * t) (at1 (n - 16 * t) _)) (ld16 E.ph (16 * t) (at1 (n - 16 * t) _)) = _
        rw [hx, hx, hp]; rfl
    · rw [stN_miss _ t 3 _ _ (by omega), stN_miss _ t 2 _ _ (by omega), stN_miss _ t 1 _ _ (by omega), stN_miss _ t 0 _ _ (by omega)]
      exact H.loc n o h ho (by omega)

theorem trips2 : k1_t2_loop.trips = 313 := by decide +kernel

/-- What the loop keeps. -/
abbrev encI (E : EncIn F) (n : Nat) : Pr F :=
  iprop(∃ fl f30, ⌜EncOut E n fl f30⌝ ∗ rd d L E ∗ pt (F := F) d L a19 fl ∗ pt (F := F) d L a30 f30)

set_option maxHeartbeats 1600000 in
/-- One trip of the encoding loop. -/
theorem trip_wp (E : EncIn F) (v31 : BitVec 32) (v429 : IVec S16 32) (v439 : IVec S16 1) (v443 : IVec S16 32) (hw7 : k1_chk7 v443) (v476 : IVec S16 1)
    (t : Fin k1_t2_loop.trips) (u : Unit) :
    encI d L E t.val ⊢ wpT d L (k1_t2_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v31 lanes v429 v439 v443 hw7 v476 t u) (fun _ => encI d L E (t.val + 1)) := by
  have ht : t.val < 313 := Nat.lt_of_lt_of_le t.isLt (Nat.le_of_eq trips2)
  unfold k1_t2_body
  rw [k1_part1_eq_skeleton]
  iintro ⟨%fl, %f30, %H, HR, H19, H30⟩
  iapply (wpT_bind (F := F) d L)
  iapply (part1_wp (F := F) d L E t (16 * t.val) (off5_eq t) (16 * t.val) (off6_eq t) _ (iv_eq t))
  isplitl [HR]; · iexact HR
  iintro HR
  iapply (wp_ldr19 (F := F) d L (f := fl)) $$ H19; iintro H19
  iapply (wp_sto19 (F := F) d L (f := fl)) $$ H19; iintro H19
  iapply (wp_chk (F := F) d L (show k1_chk9 (ox t.val 0) from inb_ox _ _ ht (by decide)))
  iapply (wp_st30 (F := F) d L (stN f30 t.val 0 _) (store30 f30 t.val 0 ht (by decide) _ _)) $$ H30; iintro H30
  iapply (wp_chk (F := F) d L (show k1_chk10 (ox t.val 1) from inb_ox _ _ ht (by decide)))
  iapply (wp_st30 (F := F) d L (stN (stN f30 t.val 0 _) t.val 1 _) (store30 _ t.val 1 ht (by decide) _ _)) $$ H30; iintro H30
  iapply (wp_chk (F := F) d L (show k1_chk11 (ox t.val 2) from inb_ox _ _ ht (by decide)))
  iapply (wp_st30 (F := F) d L (stN (stN (stN f30 t.val 0 _) t.val 1 _) t.val 2 _) (store30 _ t.val 2 ht (by decide) _ _)) $$ H30; iintro H30
  iapply (wp_chk (F := F) d L (show k1_chk12 (ox t.val 3) from inb_ox _ _ ht (by decide)))
  iapply (wp_st30 (F := F) d L (stN (stN (stN (stN f30 t.val 0 _) t.val 1 _) t.val 2 _) t.val 3 _) (store30 _ t.val 3 ht (by decide) _ _)) $$ H30; iintro H30
  iapply (wp_done d L)
  iexists _, _
  isplitr
  rotate_left
  · isplitl [HR]; · iexact HR
    isplitl [H19]; · iexact H19
    iexact H30
  · ipureintro
    rw [off6_eq]
    exact encOut_step E t.val ht fl f30 H

/-- The encoding loop. -/
theorem wp_encode {α : Type} {Q : α → Pr F} {k : Unit → Prog (TpuEff nD τ sig (Elt F) Λ₀ (thr d L).2) α} (E : EncIn F)
    (v31 : BitVec 32) (v429 : IVec S16 32) (v439 : IVec S16 1) (v443 : IVec S16 32) (hw7 : k1_chk7 v443) (v476 : IVec S16 1) :
    iprop(rd d L E ∗ (∃ fl, pt (F := F) d L a19 fl) ∗ (∃ f30, pt (F := F) d L a30 f30))
      ⊢ iprop((∀ fl f30, (⌜EncOut E 313 fl f30⌝ ∗ rd d L E ∗ pt (F := F) d L a19 fl ∗ pt (F := F) d L a30 f30) -∗ wpT d L (k ⟨⟩) Q)
        -∗ wpT d L (Scf.Loop.for k1_t2_loop k1_t2_ok ⟨⟩ (k1_t2_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v31 lanes v429 v439 v443 hw7 v476) >>= k) Q) := by
  have hloop := Scf.wp_for_bind (kk := k) (Q := Q) frame (wpE (defs₀ (F := F)) 𝒱₀ (thr d L) none) Set.univ k1_t2_loop.lb k1_t2_loop.ub k1_t2_loop.st k1_t2_ok ()
    (k1_t2_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v31 lanes v429 v439 v443 hw7 v476)
    (fun n _ => encI d L E n) (fun t u => trip_wp d L E v31 v429 v439 v443 hw7 v476 t u)
  iintro ⟨HR, ⟨%fl, H19⟩, ⟨%f30, H30⟩⟩ Hk
  iapply hloop $$ [HR H19 H30]
  · iexists fl, f30
    isplitr
    · ipureintro
      exact ⟨fun n h hn => by omega, fun n o h ho hn => by omega⟩
    · isplitl [HR]; · iexact HR
      isplitl [H19]; · iexact H19
      iexact H30
  iintro %u ⟨%fl, %f30, %H, HR, H19, H30⟩
  iapply Hk $$ %fl %f30
  isplitr
  · ipureintro
    exact trips2 ▸ H
  · isplitl [HR]; · iexact HR
    isplitl [H19]; · iexact H19
    iexact H30

end Cert.Proof

end
-- ==== Proof.Copy.lean ====
/-
  What a tile fetches and hands back: its slices of the inputs into its own buffers, the rules of a copy and its
  wait, and the two results as functions of the call's twelve operands.
-/
module

public import proofs.«01_k».proof.Proof.Encode
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

/-! ## The two results as functions of the operands -/

/-- The call's twelve operands. -/
structure TileIn (F : FTy → Type) where
  mt : IVec S160000 32
  ng : IVec S160000 32
  bp : IVec S896 32
  x1 : Vec F S896 .f32
  y1 : Vec F S896 .f32
  x2 : Vec F S896 .f32
  y2 : Vec F S896 .f32
  lab : IVec S896 32
  px : Vec F S20000 .f32
  py : Vec F S20000 .f32
  pw : Vec F S20000 .f32
  ph : Vec F S20000 .f32

/-- Element `k` of a one-axis array. -/
def rdv {α : Type} {n : Nat} [NeZero n] (f : (⟨1, ![n]⟩ : Shape).Idx → α) (k : Nat) : α := f (at1 (k % n) (Nat.mod_lt _ (NeZero.pos n)))

theorem rdv_lt {α : Type} {n : Nat} [NeZero n] (f : (⟨1, ![n]⟩ : Shape).Idx → α) (k : Nat) (h : k < n) : rdv f k = f (at1 k h) := by
  unfold rdv
  refine congrArg f (funext fun a => Fin.ext ?_)
  exact Nat.mod_eq_of_lt h

instance : NeZero (160000 : Nat) := ⟨by decide⟩
instance : NeZero (896 : Nat) := ⟨by decide⟩
instance : NeZero (20000 : Nat) := ⟨by decide⟩

/-- Ground truth `t` forces prior `p`. -/
def HitG (w : Nat → BitVec 32) (p t : Nat) : Prop := t < 100 ∧ w t = BitVec.ofNat 32 p
instance (w : Nat → BitVec 32) (p t : Nat) : Decidable (HitG w p t) := by unfold HitG; infer_instance

/-- Prior `p`'s match after the first `T` ground truths are forced. -/
def mtR (w : Nat → BitVec 32) (x : BitVec 32) (p : Nat) : Nat → BitVec 32
  | 0 => x
  | t + 1 => if HitG w p t then BitVec.ofNat 32 t else mtR w x p t
/-- Whether prior `p` is forced. -/
def frc (w : Nat → BitVec 32) (p : Nat) : BitVec 32 := if ∃ t < 16 * 7, HitG w p t then 1 else 0

/-- The best priors of an image. -/
def bpG (I : TileIn F) (b t : Nat) : BitVec 32 := rdv I.bp (b * 112 + t)
/-- The final match of a prior. -/
def mtG (I : TileIn F) (b p : Nat) : BitVec 32 := mtR (bpG I b) (rdv I.mt (b * 20000 + p)) p 112
/-- Where the matched ground truth's row lies. -/
def gG (I : TileIn F) (b p : Nat) : Nat := b * 112 + (gi (mtG I b p)).toNat
/-- The label of prior `p` of image `b`. -/
def labG (I : TileIn F) (b p : Nat) : BitVec 32 := labS (rdv I.ng (b * 20000 + p)) (frc (bpG I b) p) (rdv I.lab (gG I b p))
/-- Coordinate `o` of prior `p` of image `b`. -/
def locG (I : TileIn F) (b p o : Nat) : F .f32 :=
  encAt o (rdv (α := F .f32) I.x1 (gG I b p)) (rdv (α := F .f32) I.y1 (gG I b p)) (rdv (α := F .f32) I.x2 (gG I b p)) (rdv (α := F .f32) I.y2 (gG I b p))
    (rdv (α := F .f32) I.px p) (rdv (α := F .f32) I.py p) (rdv (α := F .f32) I.pw p) (rdv (α := F .f32) I.ph p)
/-- The labels. -/
def LAB (I : TileIn F) : IVec S160000 32 := fun k => labG I ((k 0).val / 20000) ((k 0).val % 20000)
/-- The encoded boxes. -/
def LOC (I : TileIn F) : Vec F S640000 .f32 := fun k => locG I ((k 0).val / 80000) ((k 0).val % 80000 / 4) ((k 0).val % 4)

/-! ## The tile's place -/

/-- The tile's number. -/
def wid (L : grid1.Coords) : Nat := (L 1).val * 2 + (L 0).val
/-- The tile's first prior within its image. -/
def wB (L : grid1.Coords) : Nat := wid L % 4 * 5000

theorem wid_lt (L : grid1.Coords) : wid L < 32 := by
  have h0 : (L 0).val < 2 := (L 0).isLt
  have h1 : (L 1).val < 16 := (L 1).isLt
  unfold wid
  omega

theorem off1_eq (L : grid1.Coords) : k1_off1 L 0 = wid L * 5000 := by
  revert L; decide +kernel
theorem off2_eq (L : grid1.Coords) : k1_off2 L 0 = wB L := by
  revert L; decide +kernel
theorem off3_eq (L : grid1.Coords) : k1_off3 L 0 = wid L / 4 * 112 := by
  revert L; decide +kernel
theorem off7_eq (L : grid1.Coords) : k1_off7 L 0 = wid L * 20000 := by
  revert L; decide +kernel
theorem off8_eq (L : grid1.Coords) : k1_off8 L 0 = wid L * 5000 := by
  revert L; decide +kernel

/-- What the tile's buffers hold of the operands. -/
structure Fetched (I : TileIn F) (L : grid1.Coords) (f16 : IVec S5008 32) (f24 : IVec S112 32) (E : EncIn F) : Prop where
  mt : ∀ n (h : n < 5000), f16 (at1 n (by omega)) = rdv I.mt (wid L * 5000 + n)
  ng : ∀ n (h : n < 5000), E.ng (at1 n (by omega)) = rdv I.ng (wid L * 5000 + n)
  px : ∀ n (h : n < 5000), E.px (at1 n (by omega)) = rdv (α := F .f32) I.px (wB L + n)
  py : ∀ n (h : n < 5000), E.py (at1 n (by omega)) = rdv (α := F .f32) I.py (wB L + n)
  pw : ∀ n (h : n < 5000), E.pw (at1 n (by omega)) = rdv (α := F .f32) I.pw (wB L + n)
  ph : ∀ n (h : n < 5000), E.ph (at1 n (by omega)) = rdv (α := F .f32) I.ph (wB L + n)
  bp : ∀ n (h : n < 112), f24 (at1 n h) = rdv I.bp (wid L / 4 * 112 + n)
  x1 : ∀ n (h : n < 112), E.x1 (at1 n h) = rdv (α := F .f32) I.x1 (wid L / 4 * 112 + n)
  y1 : ∀ n (h : n < 112), E.y1 (at1 n h) = rdv (α := F .f32) I.y1 (wid L / 4 * 112 + n)
  x2 : ∀ n (h : n < 112), E.x2 (at1 n h) = rdv (α := F .f32) I.x2 (wid L / 4 * 112 + n)
  y2 : ∀ n (h : n < 112), E.y2 (at1 n h) = rdv (α := F .f32) I.y2 (wid L / 4 * 112 + n)
  lab : ∀ n (h : n < 112), E.lab (at1 n h) = rdv I.lab (wid L / 4 * 112 + n)
  emt : E.mt = mtBuf f16 (bpl f24) (BitVec.ofNat 32 (wB L)) 112
  efc : E.fc = fcBuf (bpl f24) (BitVec.ofNat 32 (wB L)) 7

theorem hit_iff (w w' : Nat → BitVec 32) (B t n : Nat) (hw : t < 100 → w t = w' t) (hn : n < 5000) (hB : B ≤ 15000) :
    HitT w (BitVec.ofNat 32 B) t n ↔ t < 100 ∧ w' t = BitVec.ofNat 32 (B + n) := by
  unfold HitT
  constructor
  · rintro ⟨h1, h2, -⟩
    refine ⟨h1, ?_⟩
    rw [← hw h1]
    apply BitVec.eq_of_toNat_eq
    rw [BitVec.toNat_sub] at h2
    simp only [BitVec.toNat_ofNat] at h2 ⊢
    have := (w t).isLt
    omega
  · rintro ⟨h1, h2⟩
    refine ⟨h1, ?_, hn⟩
    rw [hw h1, h2, BitVec.toNat_sub]
    simp only [BitVec.toNat_ofNat]
    omega

theorem wB_le (L : grid1.Coords) : wB L ≤ 15000 := by unfold wB; omega

namespace Fetched
variable {I : TileIn F} {L : grid1.Coords} {f16 : IVec S5008 32} {f24 : IVec S112 32} {E : EncIn F} (H : Fetched I L f16 f24 E)
include H

theorem hit (t n : Nat) (hn : n < 5000) : HitT (bpl f24) (BitVec.ofNat 32 (wB L)) t n ↔ HitG (bpG I (wid L / 4)) (wB L + n) t :=
  hit_iff _ _ _ _ _ (fun h => by unfold bpl; rw [dif_pos (by omega)]; exact H.bp t _) hn (wB_le L)

theorem mtT (n T : Nat) (hn : n < 5000) : mtBuf f16 (bpl f24) (BitVec.ofNat 32 (wB L)) T (at1 n (by omega))
    = mtR (bpG I (wid L / 4)) (rdv I.mt (wid L / 4 * 20000 + (wB L + n))) (wB L + n) T := by
  induction T with
  | zero =>
    show f16 _ = rdv I.mt _
    rw [H.mt n hn]
    congr 1
    unfold wB
    omega
  | succ T ih =>
    show (if HitT (bpl f24) _ T n then _ else _) = if _ then _ else _
    rw [ih]
    exact if_congr (H.hit T n hn) rfl rfl

theorem mtE (n : Nat) (hn : n < 5000) : E.mt (at1 n (by omega)) = mtG I (wid L / 4) (wB L + n) := by
  rw [H.emt]
  exact H.mtT n 112 hn

theorem fcE (n : Nat) (hn : n < 5000) : E.fc (at1 n (by omega)) = frc (bpG I (wid L / 4)) (wB L + n) := by
  rw [H.efc]
  unfold fcBuf frc
  refine if_congr (exists_congr fun t => and_congr Iff.rfl (H.hit t n hn)) rfl rfl

theorem tab {α : Type} (f : S112.Idx → α) (g : S896.Idx → α) (h : ∀ n (h : n < 112), f (at1 n h) = rdv g (wid L / 4 * 112 + n)) (n : Nat) (hn : n < 5000) :
    f (at1 (gi (E.mt (at1 n (by omega)))).toNat (gi_lt _)) = rdv g (gG I (wid L / 4) (wB L + n)) := by
  rw [h _ (gi_lt _), H.mtE n hn]
  rfl

theorem labE (n : Nat) (hn : n < 5000) : labT E n (by omega) = labG I (wid L / 4) (wB L + n) := by
  unfold labT labG
  rw [H.ng n hn, H.fcE n hn, H.tab E.lab I.lab H.lab n hn]
  refine congrArg (fun x => labS (rdv I.ng x) _ _) ?_
  unfold wB
  omega

theorem locE (o n : Nat) (hn : n < 5000) : locT E o n (by omega) = locG I (wid L / 4) (wB L + n) o := by
  unfold locT locG
  rw [H.px n hn, H.py n hn, H.pw n hn, H.ph n hn, H.tab E.x1 I.x1 H.x1 n hn, H.tab E.y1 I.y1 H.y1 n hn, H.tab E.x2 I.x2 H.x2 n hn, H.tab E.y2 I.y2 H.y2 n hn]

end Fetched

/-! ## Copies -/

variable (d : Dev nD) (L : grid1.Coords)

/-- What the tile owes, with the waits it has recorded. -/
abbrev owX (O : CellTallies nD τ sig (HIx 1)) (W : Waits sig (HIx 1)) : Pr F :=
  iprop(∃ W', ⌜∀ p ∈ W', p ∈ W ∨ p.2 = none⌝ ∗ owes (thr d L) O W')

/-- A copy under way. -/
abbrev Fly {sp sp' : Space} {s : Shape} {e : EltTy} (src : Memref sig .scVector sp s e) (dst : Memref sig .scVector sp' s e) (sem : DmaSem sig)
    (q : PosShare TreeShare) (fs : Buf (Elt F) (src.view.loc (thr d L))) (Sd : Finset (Idx (dst.view.loc (thr d L)))) (g : Buf (Elt F) (dst.view.loc (thr d L))) : Pr F :=
  iprop(Transfers.Flight (countersEmb : UEmb Counters (MM F)) (thr d L) (.dma sem) (none : HIx 1) dst.view.dmaCredit
      iprop((dst.view.loc (thr d L) ↦[Sd]{fullShare} g) ∗ (src.view.loc (thr d L) ↦[src.view.set]{q} fs))
    ∗ (src.view.loc (thr d L) ↦[Finset.univ \ src.view.set]{q} fs))

set_option maxHeartbeats 1600000 in
/-- A copy's start. -/
theorem wp_enq {α : Type} {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) sp (.dma sem) (DmaTarget.here (p := (thr d L).2) dst)}
    {k : PUnit → Prog (TpuEff nD τ sig (Elt F) Λ₀ (thr d L).2) α} {Q : α → Pr F} {q : PosShare TreeShare} {fs : Buf (Elt F) (src.view.loc (thr d L))}
    {Sd : Finset (Idx (dst.view.loc (thr d L)))} {fd : Buf (Elt F) (dst.view.loc (thr d L))} (hN : 0 < s.numel) (hSd : dst.view.set ⊆ Sd) :
    iprop((src.view.loc (thr d L) ↦{q} fs) ∗ (dst.view.loc (thr d L) ↦[Sd]{fullShare} fd) ∗ semVal (thr d L, .dma sem) 0)
      ⊢ iprop((Fly d L src dst sem q fs Sd (dst.view.write (Elt F) fd (src.view.read (Elt F) fs) Finset.univ) -∗ wpT d L (k ⟨⟩) Q)
        -∗ wpT d L (.op (.enqueueDma (p := (thr d L).2) src (DmaTarget.here (p := (thr d L).2) dst) (.dma sem) hsrc hdst hsem) k) Q) := by
  have HD := Transfers.wp_dmaLocal (defs := defs₀ (F := F)) (Q := Q) (countersEmb : UEmb Counters (MM F)) 𝒱₀ (thr d L) none (src := src) (via := .same) (dst := dst) (sm := .dma sem)
    (hsrc := hsrc) (hdst := hdst) (hsem := hsem) (k := k) (q := q) (fs := fs) (Sd := Sd) (fd := fd) (none : HIx 1) dst.view.dmaCredit rfl (dst.view.amount_pos (.dma sem) hN) hSd
  iintro ⟨Hs, Hd, Hv⟩ Hk
  ihave Hs2 := (pointsTo_split_subset (q := q) (f := fs) (S := Finset.univ) (Finset.subset_univ src.view.set)).1 $$ Hs
  icases Hs2 with ⟨Hs, Hr⟩
  iapply HD $$ [Hs Hd Hv]
  · isplitl [Hs]; · iexact Hs
    isplitl [Hd]; · iexact Hd
    iexact Hv
  iintro Hf
  iapply Hk
  isplitl [Hf]; · iexact Hf
  iexact Hr

/-- A copy's wait. -/
theorem wp_wt {α : Type} {sp sp' : Space} {s : Shape} {e : EltTy} {src : Memref sig .scVector sp s e} {dst : Memref sig .scVector sp' s e} {sem : DmaSem sig}
    {hsrc : src.view.WordExact} {hdst : dst.view.WordExact}
    {k : PUnit → Prog (TpuEff nD τ sig (Elt F) Λ₀ (thr d L).2) α} {Q : α → Pr F} {q : PosShare TreeShare} {fs : Buf (Elt F) (src.view.loc (thr d L))}
    {Sd : Finset (Idx (dst.view.loc (thr d L)))} {g : Buf (Elt F) (dst.view.loc (thr d L))} {O : CellTallies nD τ sig (HIx 1)} {W : Waits sig (HIx 1)} (hO : ∀ g, O g none = 0) :
    iprop(Fly d L src dst sem q fs Sd g ∗ owX d L O W ∗ levAts (K (F := F)).L (K (F := F)).lev)
      ⊢ iprop(((dst.view.loc (thr d L) ↦[Sd]{fullShare} g) ∗ (src.view.loc (thr d L) ↦{q} fs) ∗ semVal (thr d L, .dma sem) 0 ∗ owX d L O W -∗ wpT d L (k ⟨⟩) Q)
        -∗ wpT d L (.op (.waitDma2 sem src dst hsrc hdst) k) Q) := by
  iintro ⟨⟨Hf, Hr⟩, ⟨%W', %hW, HO⟩, Hm⟩ Hk
  have HD := Transfers.wp_waitLocalO (defs := defs₀ (F := F)) (Q := Q) (countersEmb : UEmb Counters (MM F)) 𝒱₀ (thr d L) none (sem := sem) (srcw := src) (dstw := dst)
    (hsrc := hsrc) (hdst := hdst) (k := k) (none : HIx 1) rfl (D := iprop((dst.view.loc (thr d L) ↦[Sd]{fullShare} g) ∗ (src.view.loc (thr d L) ↦[src.view.set]{q} fs))) (O := O) (W := W')
  iapply HD $$ [Hf HO Hm]
  · isplitl [Hf]; · iexact Hf
    isplitl [HO]; · iexact HO
    ihave Hmw := (show levAts (K (F := F)).L (K (F := F)).lev ⊢ Transfers.MayWaits (thr d L) (none : HIx 1) O from
      (K (F := F)).mayWaits_none (thr := thr d L) hO) $$ Hm
    iapply (Transfers.MayWaits.elim (SemLoc.dma sem)) $$ Hmw
  iintro ⟨⟨Hd, Hs⟩, Hv, HO⟩
  iapply Hk
  isplitl [Hd]; · iexact Hd
  isplitl [Hs Hr]
  · iapply (pointsTo_split_subset (q := q) (f := fs) (S := Finset.univ) (Finset.subset_univ src.view.set)).2 $$ [Hs Hr]
    isplitl [Hs]; · iexact Hs
    iexact Hr
  isplitl [Hv]; · iexact Hv
  iexists _
  isplitr
  rotate_left
  · iexact HO
  · ipureintro
    intro p hp
    rcases Finset.mem_insert.mp hp with hp | hp
    · exact .inr (hp ▸ rfl)
    · exact hW p hp

end Cert.Proof

end
-- ==== Proof.Fetch.lean ====
/-
  A tile's fetches and its write-outs, around the matching and encoding steps: the parts of its body that copy, each
  run by the rules of a copy and its wait.
-/
module

public import proofs.«01_k».proof.Proof.Copy
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

variable (d : Dev nD) (L : grid1.Coords)

/-! ## What a copy leaves -/

/-- Copy 0's source. -/
abbrev src0 : Memref sig .scVector .hbm S5000 .i32 := (a2).slice (Rect.unit (s := S160000) (k1_off1 L) S5000.size (k1_off1_inb L)) (fun _ => rfl)
/-- Copy 0's destination. -/
abbrev dst0 : Memref sig .scVector .vmem S5000 .i32 := (a16).slice (Rect.unit (s := S5008) ![0] S5000.size inb_S5008_S5000_0) (fun _ => rfl)
/-- What copy 0 leaves. -/
abbrev got0 (fd : IVec S5008 32) (fs : IVec S160000 32) : IVec S5008 32 := (dst0).view.write (Elt F) fd ((src0 L).view.read (Elt F) fs) Finset.univ
theorem got0_at (fd : IVec S5008 32) (fs : IVec S160000 32) (n : Nat) (h : n < 5000) : got0 (F := F) L fd fs (at1 n (by omega)) = rdv (α := Elt F .i32) fs (wid L * 5000 + n) := by
  have hi : (at1 n (by omega) : S5008.Idx) = (dst0).view.emb (at1 n h : S5000.Idx) := by
    funext a
    obtain rfl := Fin.eq_zero a
    exact Fin.ext (by show n = 0 + 1 * n; omega)
  have hb := k1_off1_inb L 0
  rw [off1_eq] at hb
  have hb2 : wid L * 5000 + 5000 ≤ 160000 := hb
  unfold got0
  rw [hi]
  refine ((dst0).view.write_emb_of_mem _ _ (Finset.mem_univ _)).trans ?_
  rw [rdv_lt _ _ (by omega)]
  show fs _ = fs _
  refine congrArg fs (funext fun a => Fin.ext ?_)
  obtain rfl := Fin.eq_zero a
  show k1_off1 L 0 + 1 * n = wid L * 5000 + n
  rw [off1_eq]
  omega

/-- Copy 1's source. -/
abbrev src1 : Memref sig .scVector .hbm S5000 .i32 := (a3).slice (Rect.unit (s := S160000) (k1_off1 L) S5000.size (k1_off1_inb L)) (fun _ => rfl)
/-- Copy 1's destination. -/
abbrev dst1 : Memref sig .scVector .vmem S5000 .i32 := (a17).slice (Rect.unit (s := S5008) ![0] S5000.size inb_S5008_S5000_0) (fun _ => rfl)
/-- What copy 1 leaves. -/
abbrev got1 (fd : IVec S5008 32) (fs : IVec S160000 32) : IVec S5008 32 := (dst1).view.write (Elt F) fd ((src1 L).view.read (Elt F) fs) Finset.univ
theorem got1_at (fd : IVec S5008 32) (fs : IVec S160000 32) (n : Nat) (h : n < 5000) : got1 (F := F) L fd fs (at1 n (by omega)) = rdv (α := Elt F .i32) fs (wid L * 5000 + n) := by
  have hi : (at1 n (by omega) : S5008.Idx) = (dst1).view.emb (at1 n h : S5000.Idx) := by
    funext a
    obtain rfl := Fin.eq_zero a
    exact Fin.ext (by show n = 0 + 1 * n; omega)
  have hb := k1_off1_inb L 0
  rw [off1_eq] at hb
  have hb2 : wid L * 5000 + 5000 ≤ 160000 := hb
  unfold got1
  rw [hi]
  refine ((dst1).view.write_emb_of_mem _ _ (Finset.mem_univ _)).trans ?_
  rw [rdv_lt _ _ (by omega)]
  show fs _ = fs _
  refine congrArg fs (funext fun a => Fin.ext ?_)
  obtain rfl := Fin.eq_zero a
  show k1_off1 L 0 + 1 * n = wid L * 5000 + n
  rw [off1_eq]
  omega

/-- Copy 2's source. -/
abbrev src2 : Memref sig .scVector .hbm S5000 .f32 := (a10).slice (Rect.unit (s := S20000) (k1_off2 L) S5000.size (k1_off2_inb L)) (fun _ => rfl)
/-- Copy 2's destination. -/
abbrev dst2 : Memref sig .scVector .vmem S5000 .f32 := (a20).slice (Rect.unit (s := S5008) ![0] S5000.size inb_S5008_S5000_0) (fun _ => rfl)
/-- What copy 2 leaves. -/
abbrev got2 (fd : Vec F S5008 .f32) (fs : Vec F S20000 .f32) : Vec F S5008 .f32 := (dst2).view.write (Elt F) fd ((src2 L).view.read (Elt F) fs) Finset.univ
theorem got2_at (fd : Vec F S5008 .f32) (fs : Vec F S20000 .f32) (n : Nat) (h : n < 5000) : got2 (F := F) L fd fs (at1 n (by omega)) = rdv (α := Elt F .f32) fs (wB L + n) := by
  have hi : (at1 n (by omega) : S5008.Idx) = (dst2).view.emb (at1 n h : S5000.Idx) := by
    funext a
    obtain rfl := Fin.eq_zero a
    exact Fin.ext (by show n = 0 + 1 * n; omega)
  have hb := k1_off2_inb L 0
  rw [off2_eq] at hb
  have hb2 : wB L + 5000 ≤ 20000 := hb
  unfold got2
  rw [hi]
  refine ((dst2).view.write_emb_of_mem _ _ (Finset.mem_univ _)).trans ?_
  rw [rdv_lt _ _ (by omega)]
  show fs _ = fs _
  refine congrArg fs (funext fun a => Fin.ext ?_)
  obtain rfl := Fin.eq_zero a
  show k1_off2 L 0 + 1 * n = wB L + n
  rw [off2_eq]
  omega

/-- Copy 3's source. -/
abbrev src3 : Memref sig .scVector .hbm S5000 .f32 := (a11).slice (Rect.unit (s := S20000) (k1_off2 L) S5000.size (k1_off2_inb L)) (fun _ => rfl)
/-- Copy 3's destination. -/
abbrev dst3 : Memref sig .scVector .vmem S5000 .f32 := (a21).slice (Rect.unit (s := S5008) ![0] S5000.size inb_S5008_S5000_0) (fun _ => rfl)
/-- What copy 3 leaves. -/
abbrev got3 (fd : Vec F S5008 .f32) (fs : Vec F S20000 .f32) : Vec F S5008 .f32 := (dst3).view.write (Elt F) fd ((src3 L).view.read (Elt F) fs) Finset.univ
theorem got3_at (fd : Vec F S5008 .f32) (fs : Vec F S20000 .f32) (n : Nat) (h : n < 5000) : got3 (F := F) L fd fs (at1 n (by omega)) = rdv (α := Elt F .f32) fs (wB L + n) := by
  have hi : (at1 n (by omega) : S5008.Idx) = (dst3).view.emb (at1 n h : S5000.Idx) := by
    funext a
    obtain rfl := Fin.eq_zero a
    exact Fin.ext (by show n = 0 + 1 * n; omega)
  have hb := k1_off2_inb L 0
  rw [off2_eq] at hb
  have hb2 : wB L + 5000 ≤ 20000 := hb
  unfold got3
  rw [hi]
  refine ((dst3).view.write_emb_of_mem _ _ (Finset.mem_univ _)).trans ?_
  rw [rdv_lt _ _ (by omega)]
  show fs _ = fs _
  refine congrArg fs (funext fun a => Fin.ext ?_)
  obtain rfl := Fin.eq_zero a
  show k1_off2 L 0 + 1 * n = wB L + n
  rw [off2_eq]
  omega

/-- Copy 4's source. -/
abbrev src4 : Memref sig .scVector .hbm S5000 .f32 := (a12).slice (Rect.unit (s := S20000) (k1_off2 L) S5000.size (k1_off2_inb L)) (fun _ => rfl)
/-- Copy 4's destination. -/
abbrev dst4 : Memref sig .scVector .vmem S5000 .f32 := (a22).slice (Rect.unit (s := S5008) ![0] S5000.size inb_S5008_S5000_0) (fun _ => rfl)
/-- What copy 4 leaves. -/
abbrev got4 (fd : Vec F S5008 .f32) (fs : Vec F S20000 .f32) : Vec F S5008 .f32 := (dst4).view.write (Elt F) fd ((src4 L).view.read (Elt F) fs) Finset.univ
theorem got4_at (fd : Vec F S5008 .f32) (fs : Vec F S20000 .f32) (n : Nat) (h : n < 5000) : got4 (F := F) L fd fs (at1 n (by omega)) = rdv (α := Elt F .f32) fs (wB L + n) := by
  have hi : (at1 n (by omega) : S5008.Idx) = (dst4).view.emb (at1 n h : S5000.Idx) := by
    funext a
    obtain rfl := Fin.eq_zero a
    exact Fin.ext (by show n = 0 + 1 * n; omega)
  have hb := k1_off2_inb L 0
  rw [off2_eq] at hb
  have hb2 : wB L + 5000 ≤ 20000 := hb
  unfold got4
  rw [hi]
  refine ((dst4).view.write_emb_of_mem _ _ (Finset.mem_univ _)).trans ?_
  rw [rdv_lt _ _ (by omega)]
  show fs _ = fs _
  refine congrArg fs (funext fun a => Fin.ext ?_)
  obtain rfl := Fin.eq_zero a
  show k1_off2 L 0 + 1 * n = wB L + n
  rw [off2_eq]
  omega

/-- Copy 5's source. -/
abbrev src5 : Memref sig .scVector .hbm S5000 .f32 := (a13).slice (Rect.unit (s := S20000) (k1_off2 L) S5000.size (k1_off2_inb L)) (fun _ => rfl)
/-- Copy 5's destination. -/
abbrev dst5 : Memref sig .scVector .vmem S5000 .f32 := (a23).slice (Rect.unit (s := S5008) ![0] S5000.size inb_S5008_S5000_0) (fun _ => rfl)
/-- What copy 5 leaves. -/
abbrev got5 (fd : Vec F S5008 .f32) (fs : Vec F S20000 .f32) : Vec F S5008 .f32 := (dst5).view.write (Elt F) fd ((src5 L).view.read (Elt F) fs) Finset.univ
theorem got5_at (fd : Vec F S5008 .f32) (fs : Vec F S20000 .f32) (n : Nat) (h : n < 5000) : got5 (F := F) L fd fs (at1 n (by omega)) = rdv (α := Elt F .f32) fs (wB L + n) := by
  have hi : (at1 n (by omega) : S5008.Idx) = (dst5).view.emb (at1 n h : S5000.Idx) := by
    funext a
    obtain rfl := Fin.eq_zero a
    exact Fin.ext (by show n = 0 + 1 * n; omega)
  have hb := k1_off2_inb L 0
  rw [off2_eq] at hb
  have hb2 : wB L + 5000 ≤ 20000 := hb
  unfold got5
  rw [hi]
  refine ((dst5).view.write_emb_of_mem _ _ (Finset.mem_univ _)).trans ?_
  rw [rdv_lt _ _ (by omega)]
  show fs _ = fs _
  refine congrArg fs (funext fun a => Fin.ext ?_)
  obtain rfl := Fin.eq_zero a
  show k1_off2 L 0 + 1 * n = wB L + n
  rw [off2_eq]
  omega

/-- Copy 6's source. -/
abbrev src6 : Memref sig .scVector .hbm S112 .i32 := (a4).slice (Rect.unit (s := S896) (k1_off3 L) S112.size (k1_off3_inb L)) (fun _ => rfl)
/-- Copy 6's destination. -/
abbrev dst6 : Memref sig .scVector .vmem S112 .i32 := a24
/-- What copy 6 leaves. -/
abbrev got6 (fd : IVec S112 32) (fs : IVec S896 32) : IVec S112 32 := (dst6).view.write (Elt F) fd ((src6 L).view.read (Elt F) fs) Finset.univ
theorem got6_at (fd : IVec S112 32) (fs : IVec S896 32) (n : Nat) (h : n < 112) : got6 (F := F) L fd fs (at1 n (by omega)) = rdv (α := Elt F .i32) fs (wid L / 4 * 112 + n) := by
  have hi : (at1 n (by omega) : S112.Idx) = (dst6).view.emb (at1 n h : S112.Idx) := by
    funext a
    obtain rfl := Fin.eq_zero a
    exact Fin.ext (by show n = n; omega)
  have hb := k1_off3_inb L 0
  rw [off3_eq] at hb
  have hb2 : wid L / 4 * 112 + 112 ≤ 896 := hb
  unfold got6
  rw [hi]
  refine ((dst6).view.write_emb_of_mem _ _ (Finset.mem_univ _)).trans ?_
  rw [rdv_lt _ _ (by omega)]
  show fs _ = fs _
  refine congrArg fs (funext fun a => Fin.ext ?_)
  obtain rfl := Fin.eq_zero a
  show k1_off3 L 0 + 1 * n = wid L / 4 * 112 + n
  rw [off3_eq]
  omega

/-- Copy 7's source. -/
abbrev src7 : Memref sig .scVector .hbm S112 .f32 := (a5).slice (Rect.unit (s := S896) (k1_off3 L) S112.size (k1_off3_inb L)) (fun _ => rfl)
/-- Copy 7's destination. -/
abbrev dst7 : Memref sig .scVector .vmem S112 .f32 := a25
/-- What copy 7 leaves. -/
abbrev got7 (fd : Vec F S112 .f32) (fs : Vec F S896 .f32) : Vec F S112 .f32 := (dst7).view.write (Elt F) fd ((src7 L).view.read (Elt F) fs) Finset.univ
theorem got7_at (fd : Vec F S112 .f32) (fs : Vec F S896 .f32) (n : Nat) (h : n < 112) : got7 (F := F) L fd fs (at1 n (by omega)) = rdv (α := Elt F .f32) fs (wid L / 4 * 112 + n) := by
  have hi : (at1 n (by omega) : S112.Idx) = (dst7).view.emb (at1 n h : S112.Idx) := by
    funext a
    obtain rfl := Fin.eq_zero a
    exact Fin.ext (by show n = n; omega)
  have hb := k1_off3_inb L 0
  rw [off3_eq] at hb
  have hb2 : wid L / 4 * 112 + 112 ≤ 896 := hb
  unfold got7
  rw [hi]
  refine ((dst7).view.write_emb_of_mem _ _ (Finset.mem_univ _)).trans ?_
  rw [rdv_lt _ _ (by omega)]
  show fs _ = fs _
  refine congrArg fs (funext fun a => Fin.ext ?_)
  obtain rfl := Fin.eq_zero a
  show k1_off3 L 0 + 1 * n = wid L / 4 * 112 + n
  rw [off3_eq]
  omega

/-- Copy 8's source. -/
abbrev src8 : Memref sig .scVector .hbm S112 .f32 := (a6).slice (Rect.unit (s := S896) (k1_off3 L) S112.size (k1_off3_inb L)) (fun _ => rfl)
/-- Copy 8's destination. -/
abbrev dst8 : Memref sig .scVector .vmem S112 .f32 := a26
/-- What copy 8 leaves. -/
abbrev got8 (fd : Vec F S112 .f32) (fs : Vec F S896 .f32) : Vec F S112 .f32 := (dst8).view.write (Elt F) fd ((src8 L).view.read (Elt F) fs) Finset.univ
theorem got8_at (fd : Vec F S112 .f32) (fs : Vec F S896 .f32) (n : Nat) (h : n < 112) : got8 (F := F) L fd fs (at1 n (by omega)) = rdv (α := Elt F .f32) fs (wid L / 4 * 112 + n) := by
  have hi : (at1 n (by omega) : S112.Idx) = (dst8).view.emb (at1 n h : S112.Idx) := by
    funext a
    obtain rfl := Fin.eq_zero a
    exact Fin.ext (by show n = n; omega)
  have hb := k1_off3_inb L 0
  rw [off3_eq] at hb
  have hb2 : wid L / 4 * 112 + 112 ≤ 896 := hb
  unfold got8
  rw [hi]
  refine ((dst8).view.write_emb_of_mem _ _ (Finset.mem_univ _)).trans ?_
  rw [rdv_lt _ _ (by omega)]
  show fs _ = fs _
  refine congrArg fs (funext fun a => Fin.ext ?_)
  obtain rfl := Fin.eq_zero a
  show k1_off3 L 0 + 1 * n = wid L / 4 * 112 + n
  rw [off3_eq]
  omega

/-- Copy 9's source. -/
abbrev src9 : Memref sig .scVector .hbm S112 .f32 := (a7).slice (Rect.unit (s := S896) (k1_off3 L) S112.size (k1_off3_inb L)) (fun _ => rfl)
/-- Copy 9's destination. -/
abbrev dst9 : Memref sig .scVector .vmem S112 .f32 := a27
/-- What copy 9 leaves. -/
abbrev got9 (fd : Vec F S112 .f32) (fs : Vec F S896 .f32) : Vec F S112 .f32 := (dst9).view.write (Elt F) fd ((src9 L).view.read (Elt F) fs) Finset.univ
theorem got9_at (fd : Vec F S112 .f32) (fs : Vec F S896 .f32) (n : Nat) (h : n < 112) : got9 (F := F) L fd fs (at1 n (by omega)) = rdv (α := Elt F .f32) fs (wid L / 4 * 112 + n) := by
  have hi : (at1 n (by omega) : S112.Idx) = (dst9).view.emb (at1 n h : S112.Idx) := by
    funext a
    obtain rfl := Fin.eq_zero a
    exact Fin.ext (by show n = n; omega)
  have hb := k1_off3_inb L 0
  rw [off3_eq] at hb
  have hb2 : wid L / 4 * 112 + 112 ≤ 896 := hb
  unfold got9
  rw [hi]
  refine ((dst9).view.write_emb_of_mem _ _ (Finset.mem_univ _)).trans ?_
  rw [rdv_lt _ _ (by omega)]
  show fs _ = fs _
  refine congrArg fs (funext fun a => Fin.ext ?_)
  obtain rfl := Fin.eq_zero a
  show k1_off3 L 0 + 1 * n = wid L / 4 * 112 + n
  rw [off3_eq]
  omega

/-- Copy 10's source. -/
abbrev src10 : Memref sig .scVector .hbm S112 .f32 := (a8).slice (Rect.unit (s := S896) (k1_off3 L) S112.size (k1_off3_inb L)) (fun _ => rfl)
/-- Copy 10's destination. -/
abbrev dst10 : Memref sig .scVector .vmem S112 .f32 := a28
/-- What copy 10 leaves. -/
abbrev got10 (fd : Vec F S112 .f32) (fs : Vec F S896 .f32) : Vec F S112 .f32 := (dst10).view.write (Elt F) fd ((src10 L).view.read (Elt F) fs) Finset.univ
theorem got10_at (fd : Vec F S112 .f32) (fs : Vec F S896 .f32) (n : Nat) (h : n < 112) : got10 (F := F) L fd fs (at1 n (by omega)) = rdv (α := Elt F .f32) fs (wid L / 4 * 112 + n) := by
  have hi : (at1 n (by omega) : S112.Idx) = (dst10).view.emb (at1 n h : S112.Idx) := by
    funext a
    obtain rfl := Fin.eq_zero a
    exact Fin.ext (by show n = n; omega)
  have hb := k1_off3_inb L 0
  rw [off3_eq] at hb
  have hb2 : wid L / 4 * 112 + 112 ≤ 896 := hb
  unfold got10
  rw [hi]
  refine ((dst10).view.write_emb_of_mem _ _ (Finset.mem_univ _)).trans ?_
  rw [rdv_lt _ _ (by omega)]
  show fs _ = fs _
  refine congrArg fs (funext fun a => Fin.ext ?_)
  obtain rfl := Fin.eq_zero a
  show k1_off3 L 0 + 1 * n = wid L / 4 * 112 + n
  rw [off3_eq]
  omega

/-- Copy 11's source. -/
abbrev src11 : Memref sig .scVector .hbm S112 .i32 := (a9).slice (Rect.unit (s := S896) (k1_off3 L) S112.size (k1_off3_inb L)) (fun _ => rfl)
/-- Copy 11's destination. -/
abbrev dst11 : Memref sig .scVector .vmem S112 .i32 := a29
/-- What copy 11 leaves. -/
abbrev got11 (fd : IVec S112 32) (fs : IVec S896 32) : IVec S112 32 := (dst11).view.write (Elt F) fd ((src11 L).view.read (Elt F) fs) Finset.univ
theorem got11_at (fd : IVec S112 32) (fs : IVec S896 32) (n : Nat) (h : n < 112) : got11 (F := F) L fd fs (at1 n (by omega)) = rdv (α := Elt F .i32) fs (wid L / 4 * 112 + n) := by
  have hi : (at1 n (by omega) : S112.Idx) = (dst11).view.emb (at1 n h : S112.Idx) := by
    funext a
    obtain rfl := Fin.eq_zero a
    exact Fin.ext (by show n = n; omega)
  have hb := k1_off3_inb L 0
  rw [off3_eq] at hb
  have hb2 : wid L / 4 * 112 + 112 ≤ 896 := hb
  unfold got11
  rw [hi]
  refine ((dst11).view.write_emb_of_mem _ _ (Finset.mem_univ _)).trans ?_
  rw [rdv_lt _ _ (by omega)]
  show fs _ = fs _
  refine congrArg fs (funext fun a => Fin.ext ?_)
  obtain rfl := Fin.eq_zero a
  show k1_off3 L 0 + 1 * n = wid L / 4 * 112 + n
  rw [off3_eq]
  omega

/-! ## The parts that fetch -/

/-- The first fetch starts. -/
theorem part2_wp (I : TileIn F) (q : PosShare TreeShare) (f : IVec S5008 32) (Q : (Σ' (v18 : BitVec 32) (v29 : BitVec 32), BitVec 32) → Pr F) :
    iprop(((a2).view.loc (thr d L) ↦{q} I.mt) ∗ pt (F := F) d L a16 f ∗ semVal (thr d L, .dma cc1_scoped0.sem) 0
        ∗ (∀ x y z, ⌜y = BitVec.ofNat 32 (wB L)⌝ -∗ Fly d L (src0 L) dst0 cc1_scoped0.sem q I.mt Finset.univ (got0 (F := F) L f I.mt) -∗ Q ⟨x, y, z⟩))
      ⊢ wpT d L (k1_part2_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13) Q := by
  unfold k1_part2_skel
  iintro ⟨H2, H16, Hv, HQ⟩
  iapply (wp_enq (F := F) d L (src := src0 L) (dst := dst0) (q := q) (fs := I.mt) (fd := f) (Sd := Finset.univ) (by decide) (Finset.subset_univ _)) $$ [H2 H16 Hv]
  · isplitl [H2]; · iexact H2
    isplitl [H16]; · iexact H16
    iexact Hv
  iintro Hf
  iapply (wp_done d L)
  iapply HQ $$ %_ %_ %_ [] Hf
  ipureintro
  revert L
  clear I q f Q
  decide +kernel

set_option maxHeartbeats 1000000 in
/-- The matches arrive; the negative marks and three prior coordinates are fetched. -/
theorem part3_wp (I : TileIn F) (q : PosShare TreeShare) (O : CellTallies nD τ sig (HIx 1)) (W : Waits sig (HIx 1)) (hO : ∀ g, O g none = 0) (f : IVec S5008 32) (f17 : IVec S5008 32) (f20 : Vec F S5008 .f32) (f21 : Vec F S5008 .f32) (f22 : Vec F S5008 .f32) (Q : PUnit → Pr F) :
    iprop(levAts (K (F := F)).L (K (F := F)).lev ∗ owX d L O W ∗ Fly d L (src0 L) dst0 cc1_scoped0.sem q I.mt Finset.univ (got0 (F := F) L f I.mt) ∗ ((a3).view.loc (thr d L) ↦{q} I.ng) ∗ pt (F := F) d L a17 f17 ∗ semVal (thr d L, .dma cc1_scoped1.sem) 0 ∗ ((a10).view.loc (thr d L) ↦{q} I.px) ∗ pt (F := F) d L a20 f20 ∗ semVal (thr d L, .dma cc1_scoped2.sem) 0 ∗ ((a11).view.loc (thr d L) ↦{q} I.py) ∗ pt (F := F) d L a21 f21 ∗ semVal (thr d L, .dma cc1_scoped3.sem) 0 ∗ ((a12).view.loc (thr d L) ↦{q} I.pw) ∗ pt (F := F) d L a22 f22 ∗ semVal (thr d L, .dma cc1_scoped4.sem) 0 ∗ (owX d L O W ∗ pt (F := F) d L a16 (got0 (F := F) L f I.mt) ∗ ((a2).view.loc (thr d L) ↦{q} I.mt) ∗ semVal (thr d L, .dma cc1_scoped0.sem) 0 ∗ pt (F := F) d L a17 (got1 (F := F) L f17 I.ng) ∗ ((a3).view.loc (thr d L) ↦{q} I.ng) ∗ semVal (thr d L, .dma cc1_scoped1.sem) 0 ∗ pt (F := F) d L a20 (got2 (F := F) L f20 I.px) ∗ ((a10).view.loc (thr d L) ↦{q} I.px) ∗ semVal (thr d L, .dma cc1_scoped2.sem) 0 ∗ pt (F := F) d L a21 (got3 (F := F) L f21 I.py) ∗ ((a11).view.loc (thr d L) ↦{q} I.py) ∗ semVal (thr d L, .dma cc1_scoped3.sem) 0 ∗ pt (F := F) d L a22 (got4 (F := F) L f22 I.pw) ∗ ((a12).view.loc (thr d L) ↦{q} I.pw) ∗ semVal (thr d L, .dma cc1_scoped4.sem) 0 -∗ Q ⟨⟩))
      ⊢ wpT d L (k1_part3_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13) Q := by
  unfold k1_part3_skel
  iintro ⟨#Hlv, HO, Hf, H3, H17, Hv1, H10, H20, Hv2, H11, H21, Hv3, H12, H22, Hv4, HQ⟩
  iapply (wp_wt (F := F) d L (src := src0 L) (dst := dst0) (q := q) (W := W) hO) $$ [Hf HO]
  · isplitl [Hf]; · iexact Hf
    isplitl [HO]; · iexact HO
    iexact Hlv
  iintro ⟨H16, H2, Hv0, HO⟩
  iapply (wp_enq (F := F) d L (src := src1 L) (dst := dst1) (q := q) (fs := I.ng) (fd := f17) (Sd := Finset.univ) (by decide) (Finset.subset_univ _)) $$ [H3 H17 Hv1]
  · isplitl [H3]; · iexact H3
    isplitl [H17]; · iexact H17
    iexact Hv1
  iintro Hf
  iapply (wp_wt (F := F) d L (src := src1 L) (dst := dst1) (q := q) (W := W) hO) $$ [Hf HO]
  · isplitl [Hf]; · iexact Hf
    isplitl [HO]; · iexact HO
    iexact Hlv
  iintro ⟨H17, H3, Hv1, HO⟩
  iapply (wp_enq (F := F) d L (src := src2 L) (dst := dst2) (q := q) (fs := I.px) (fd := f20) (Sd := Finset.univ) (by decide) (Finset.subset_univ _)) $$ [H10 H20 Hv2]
  · isplitl [H10]; · iexact H10
    isplitl [H20]; · iexact H20
    iexact Hv2
  iintro Hf
  iapply (wp_wt (F := F) d L (src := src2 L) (dst := dst2) (q := q) (W := W) hO) $$ [Hf HO]
  · isplitl [Hf]; · iexact Hf
    isplitl [HO]; · iexact HO
    iexact Hlv
  iintro ⟨H20, H10, Hv2, HO⟩
  iapply (wp_enq (F := F) d L (src := src3 L) (dst := dst3) (q := q) (fs := I.py) (fd := f21) (Sd := Finset.univ) (by decide) (Finset.subset_univ _)) $$ [H11 H21 Hv3]
  · isplitl [H11]; · iexact H11
    isplitl [H21]; · iexact H21
    iexact Hv3
  iintro Hf
  iapply (wp_wt (F := F) d L (src := src3 L) (dst := dst3) (q := q) (W := W) hO) $$ [Hf HO]
  · isplitl [Hf]; · iexact Hf
    isplitl [HO]; · iexact HO
    iexact Hlv
  iintro ⟨H21, H11, Hv3, HO⟩
  iapply (wp_enq (F := F) d L (src := src4 L) (dst := dst4) (q := q) (fs := I.pw) (fd := f22) (Sd := Finset.univ) (by decide) (Finset.subset_univ _)) $$ [H12 H22 Hv4]
  · isplitl [H12]; · iexact H12
    isplitl [H22]; · iexact H22
    iexact Hv4
  iintro Hf
  iapply (wp_wt (F := F) d L (src := src4 L) (dst := dst4) (q := q) (W := W) hO) $$ [Hf HO]
  · isplitl [Hf]; · iexact Hf
    isplitl [HO]; · iexact HO
    iexact Hlv
  iintro ⟨H22, H12, Hv4, HO⟩
  iapply (wp_done d L)
  iapply HQ
  isplitl [HO]; · iexact HO
  isplitl [H16]; · iexact H16
  isplitl [H2]; · iexact H2
  isplitl [Hv0]; · iexact Hv0
  isplitl [H17]; · iexact H17
  isplitl [H3]; · iexact H3
  isplitl [Hv1]; · iexact Hv1
  isplitl [H20]; · iexact H20
  isplitl [H10]; · iexact H10
  isplitl [Hv2]; · iexact Hv2
  isplitl [H21]; · iexact H21
  isplitl [H11]; · iexact H11
  isplitl [Hv3]; · iexact Hv3
  isplitl [H22]; · iexact H22
  isplitl [H12]; · iexact H12
  iexact Hv4

set_option maxHeartbeats 1000000 in
/-- The last prior coordinate and the ground truths are fetched. -/
theorem part4_wp (I : TileIn F) (q : PosShare TreeShare) (O : CellTallies nD τ sig (HIx 1)) (W : Waits sig (HIx 1)) (hO : ∀ g, O g none = 0) (v18 : BitVec 32) (f23 : Vec F S5008 .f32) (f24 : IVec S112 32) (f25 : Vec F S112 .f32) (f26 : Vec F S112 .f32) (f27 : Vec F S112 .f32) (f28 : Vec F S112 .f32) (f29 : IVec S112 32) (Q : (Σ' (v33 : IVec S16 32) (v34 : IVec S16 32) (c0_i32_12 : BitVec 32), BitVec 32) → Pr F) :
    iprop(levAts (K (F := F)).L (K (F := F)).lev ∗ owX d L O W ∗ ((a13).view.loc (thr d L) ↦{q} I.ph) ∗ pt (F := F) d L a23 f23 ∗ semVal (thr d L, .dma cc1_scoped5.sem) 0 ∗ ((a4).view.loc (thr d L) ↦{q} I.bp) ∗ pt (F := F) d L a24 f24 ∗ semVal (thr d L, .dma cc1_scoped6.sem) 0 ∗ ((a5).view.loc (thr d L) ↦{q} I.x1) ∗ pt (F := F) d L a25 f25 ∗ semVal (thr d L, .dma cc1_scoped7.sem) 0 ∗ ((a6).view.loc (thr d L) ↦{q} I.y1) ∗ pt (F := F) d L a26 f26 ∗ semVal (thr d L, .dma cc1_scoped8.sem) 0 ∗ ((a7).view.loc (thr d L) ↦{q} I.x2) ∗ pt (F := F) d L a27 f27 ∗ semVal (thr d L, .dma cc1_scoped9.sem) 0 ∗ ((a8).view.loc (thr d L) ↦{q} I.y2) ∗ pt (F := F) d L a28 f28 ∗ semVal (thr d L, .dma cc1_scoped10.sem) 0 ∗ ((a9).view.loc (thr d L) ↦{q} I.lab) ∗ pt (F := F) d L a29 f29 ∗ semVal (thr d L, .dma cc1_scoped11.sem) 0 ∗ (owX d L O W ∗ pt (F := F) d L a23 (got5 (F := F) L f23 I.ph) ∗ ((a13).view.loc (thr d L) ↦{q} I.ph) ∗ semVal (thr d L, .dma cc1_scoped5.sem) 0 ∗ pt (F := F) d L a24 (got6 (F := F) L f24 I.bp) ∗ ((a4).view.loc (thr d L) ↦{q} I.bp) ∗ semVal (thr d L, .dma cc1_scoped6.sem) 0 ∗ pt (F := F) d L a25 (got7 (F := F) L f25 I.x1) ∗ ((a5).view.loc (thr d L) ↦{q} I.x1) ∗ semVal (thr d L, .dma cc1_scoped7.sem) 0 ∗ pt (F := F) d L a26 (got8 (F := F) L f26 I.y1) ∗ ((a6).view.loc (thr d L) ↦{q} I.y1) ∗ semVal (thr d L, .dma cc1_scoped8.sem) 0 ∗ pt (F := F) d L a27 (got9 (F := F) L f27 I.x2) ∗ ((a7).view.loc (thr d L) ↦{q} I.x2) ∗ semVal (thr d L, .dma cc1_scoped9.sem) 0 ∗ pt (F := F) d L a28 (got10 (F := F) L f28 I.y2) ∗ ((a8).view.loc (thr d L) ↦{q} I.y2) ∗ semVal (thr d L, .dma cc1_scoped10.sem) 0 ∗ pt (F := F) d L a29 (got11 (F := F) L f29 I.lab) ∗ ((a9).view.loc (thr d L) ↦{q} I.lab) ∗ semVal (thr d L, .dma cc1_scoped11.sem) 0 -∗ Q ⟨lanes, k1_pay6, 0#32, 1#32⟩))
      ⊢ wpT d L (k1_part4_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v18) Q := by
  unfold k1_part4_skel
  rw [show lanes = iota .scVector S16 32 [0] iota_S16_d0_w32_scVector from rfl]
  iintro ⟨#Hlv, HO, H13, H23, Hv5, H4, H24, Hv6, H5, H25, Hv7, H6, H26, Hv8, H7, H27, Hv9, H8, H28, Hv10, H9, H29, Hv11, HQ⟩
  iapply (wp_enq (F := F) d L (src := src5 L) (dst := dst5) (q := q) (fs := I.ph) (fd := f23) (Sd := Finset.univ) (by decide) (Finset.subset_univ _)) $$ [H13 H23 Hv5]
  · isplitl [H13]; · iexact H13
    isplitl [H23]; · iexact H23
    iexact Hv5
  iintro Hf
  iapply (wp_wt (F := F) d L (src := src5 L) (dst := dst5) (q := q) (W := W) hO) $$ [Hf HO]
  · isplitl [Hf]; · iexact Hf
    isplitl [HO]; · iexact HO
    iexact Hlv
  iintro ⟨H23, H13, Hv5, HO⟩
  iapply (wp_enq (F := F) d L (src := src6 L) (dst := dst6) (q := q) (fs := I.bp) (fd := f24) (Sd := Finset.univ) (by decide) (Finset.subset_univ _)) $$ [H4 H24 Hv6]
  · isplitl [H4]; · iexact H4
    isplitl [H24]; · iexact H24
    iexact Hv6
  iintro Hf
  iapply (wp_wt (F := F) d L (src := src6 L) (dst := dst6) (q := q) (W := W) hO) $$ [Hf HO]
  · isplitl [Hf]; · iexact Hf
    isplitl [HO]; · iexact HO
    iexact Hlv
  iintro ⟨H24, H4, Hv6, HO⟩
  iapply (wp_enq (F := F) d L (src := src7 L) (dst := dst7) (q := q) (fs := I.x1) (fd := f25) (Sd := Finset.univ) (by decide) (Finset.subset_univ _)) $$ [H5 H25 Hv7]
  · isplitl [H5]; · iexact H5
    isplitl [H25]; · iexact H25
    iexact Hv7
  iintro Hf
  iapply (wp_wt (F := F) d L (src := src7 L) (dst := dst7) (q := q) (W := W) hO) $$ [Hf HO]
  · isplitl [Hf]; · iexact Hf
    isplitl [HO]; · iexact HO
    iexact Hlv
  iintro ⟨H25, H5, Hv7, HO⟩
  iapply (wp_enq (F := F) d L (src := src8 L) (dst := dst8) (q := q) (fs := I.y1) (fd := f26) (Sd := Finset.univ) (by decide) (Finset.subset_univ _)) $$ [H6 H26 Hv8]
  · isplitl [H6]; · iexact H6
    isplitl [H26]; · iexact H26
    iexact Hv8
  iintro Hf
  iapply (wp_wt (F := F) d L (src := src8 L) (dst := dst8) (q := q) (W := W) hO) $$ [Hf HO]
  · isplitl [Hf]; · iexact Hf
    isplitl [HO]; · iexact HO
    iexact Hlv
  iintro ⟨H26, H6, Hv8, HO⟩
  iapply (wp_enq (F := F) d L (src := src9 L) (dst := dst9) (q := q) (fs := I.x2) (fd := f27) (Sd := Finset.univ) (by decide) (Finset.subset_univ _)) $$ [H7 H27 Hv9]
  · isplitl [H7]; · iexact H7
    isplitl [H27]; · iexact H27
    iexact Hv9
  iintro Hf
  iapply (wp_wt (F := F) d L (src := src9 L) (dst := dst9) (q := q) (W := W) hO) $$ [Hf HO]
  · isplitl [Hf]; · iexact Hf
    isplitl [HO]; · iexact HO
    iexact Hlv
  iintro ⟨H27, H7, Hv9, HO⟩
  iapply (wp_enq (F := F) d L (src := src10 L) (dst := dst10) (q := q) (fs := I.y2) (fd := f28) (Sd := Finset.univ) (by decide) (Finset.subset_univ _)) $$ [H8 H28 Hv10]
  · isplitl [H8]; · iexact H8
    isplitl [H28]; · iexact H28
    iexact Hv10
  iintro Hf
  iapply (wp_wt (F := F) d L (src := src10 L) (dst := dst10) (q := q) (W := W) hO) $$ [Hf HO]
  · isplitl [Hf]; · iexact Hf
    isplitl [HO]; · iexact HO
    iexact Hlv
  iintro ⟨H28, H8, Hv10, HO⟩
  iapply (wp_enq (F := F) d L (src := src11 L) (dst := dst11) (q := q) (fs := I.lab) (fd := f29) (Sd := Finset.univ) (by decide) (Finset.subset_univ _)) $$ [H9 H29 Hv11]
  · isplitl [H9]; · iexact H9
    isplitl [H29]; · iexact H29
    iexact Hv11
  iintro Hf
  iapply (wp_wt (F := F) d L (src := src11 L) (dst := dst11) (q := q) (W := W) hO) $$ [Hf HO]
  · isplitl [Hf]; · iexact Hf
    isplitl [HO]; · iexact HO
    iexact Hlv
  iintro ⟨H29, H9, Hv11, HO⟩
  iapply (wp_done d L)
  iapply HQ
  isplitl [HO]; · iexact HO
  isplitl [H23]; · iexact H23
  isplitl [H13]; · iexact H13
  isplitl [Hv5]; · iexact Hv5
  isplitl [H24]; · iexact H24
  isplitl [H4]; · iexact H4
  isplitl [Hv6]; · iexact Hv6
  isplitl [H25]; · iexact H25
  isplitl [H5]; · iexact H5
  isplitl [Hv7]; · iexact Hv7
  isplitl [H26]; · iexact H26
  isplitl [H6]; · iexact H6
  isplitl [Hv8]; · iexact Hv8
  isplitl [H27]; · iexact H27
  isplitl [H7]; · iexact H7
  isplitl [Hv9]; · iexact Hv9
  isplitl [H28]; · iexact H28
  isplitl [H8]; · iexact H8
  isplitl [Hv10]; · iexact Hv10
  isplitl [H29]; · iexact H29
  isplitl [H9]; · iexact H9
  iexact Hv11

end Cert.Proof

end
-- ==== Proof.Match0.lean ====
/-
  The matching step of a tile, part by part of its program: 5 and 6 and 7 and 8 and 9 and 10.
  Each part advances the matches and the forced priors through its ground truths.
-/
module

public import proofs.«01_k».proof.Proof.MatchBase

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

variable (d : Dev nD) (L : grid1.Coords)

/-- Part 5: ground truths 0 to 5. -/
theorem part5_wp (f0 : IVec S5008 32) (w : IVec S112 32) (B : BitVec 32) (Q : (Σ' (v36 : IVec S16 32) (v39 : IVec S16 32) (v49 : IVec S16 1) (v53 : IVec S16 32), k1_chk1 v53) → Pr F) :
    iprop(pt (F := F) d L a16 (mtBuf f0 (bpl w) B 0) ∗ (∃ g0, pt (F := F) d L a18 g0) ∗ pt (F := F) d L a24 w ∗ ((pt (F := F) d L a16 (mtBuf f0 (bpl w) B 6) ∗ pt (F := F) d L a18 (fcBuf (bpl w) B 1) ∗ pt (F := F) d L a24 w) -∗ Q ⟨(k1_pay7), (k1_pay8 lanes), (k1_pay10 (F := F) B lanes (grp (bpl w) 0)), ((k1_pay11 (F := F) B (grp (bpl w) 0))), ((chk1_ixv B (grp (bpl w) 0)))⟩))
      ⊢ wpT d L (k1_part5_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes k1_pay6 0#32 1#32) Q := by
  unfold k1_part5_skel
  iintro ⟨H16, ⟨%g0, H18⟩, H24, HQ⟩
  iapply (wp_zero18 (F := F) d L (Q := Q) (bpl w) B B lanes) $$ H18; iintro H18
  iapply (wp_ld24 (F := F) d L 0 (f := w) (Q := Q)) $$ H24; iintro H24
  iapply (wp_chk (F := F) d L (Q := Q) (chk1_ixv B (grp (bpl w) 0)))
  iapply (wp_st18 (F := F) d L (Q := Q) (fcBuf (bpl w) B 1) (store_fc B (grp (bpl w) 0) (bpl w) 0 (by decide) (fun _ => rfl) _)) $$ H18; iintro H18
  iapply (wp_st16 (F := F) d L (Q := Q) (mtBuf f0 (bpl w) B 1) (store_mt f0 B (grp (bpl w) 0) (bpl w) 0 (by decide) (fun _ => rfl) 0 _)) $$ H16; iintro H16
  iapply (wp_st16 (F := F) d L (Q := Q) (mtBuf f0 (bpl w) B 2) (store_mt f0 B (grp (bpl w) 0) (bpl w) 0 (by decide) (fun _ => rfl) 1 _)) $$ H16; iintro H16
  iapply (wp_st16 (F := F) d L (Q := Q) (mtBuf f0 (bpl w) B 3) (store_mt f0 B (grp (bpl w) 0) (bpl w) 0 (by decide) (fun _ => rfl) 2 _)) $$ H16; iintro H16
  iapply (wp_st16 (F := F) d L (Q := Q) (mtBuf f0 (bpl w) B 4) (store_mt f0 B (grp (bpl w) 0) (bpl w) 0 (by decide) (fun _ => rfl) 3 _)) $$ H16; iintro H16
  iapply (wp_st16 (F := F) d L (Q := Q) (mtBuf f0 (bpl w) B 5) (store_mt f0 B (grp (bpl w) 0) (bpl w) 0 (by decide) (fun _ => rfl) 4 _)) $$ H16; iintro H16
  iapply (wp_st16 (F := F) d L (Q := Q) (mtBuf f0 (bpl w) B 6) (store_mt f0 B (grp (bpl w) 0) (bpl w) 0 (by decide) (fun _ => rfl) 5 _)) $$ H16; iintro H16
  iapply (wp_done d L)
  iapply HQ
  isplitl [H16]; · iexact H16
  isplitl [H18]; · iexact H18
  iexact H24

/-- Part 6: ground truths 6 to 15. -/
theorem part6_wp (f0 : IVec S5008 32) (w : IVec S112 32) (B : BitVec 32) (Q : (Σ' (v104 : IVec S16 32) (v106 : IVec S16 32), IVec S16 1) → Pr F) :
    iprop(pt (F := F) d L a16 (mtBuf f0 (bpl w) B 6) ∗ pt (F := F) d L a24 w ∗ ((pt (F := F) d L a16 (mtBuf f0 (bpl w) B 16) ∗ pt (F := F) d L a24 w) -∗ Q ⟨(k1_pay28 lanes), (k1_pay29 (F := F) B (grp (bpl w) 16)), (k1_pay30 lanes)⟩))
      ⊢ wpT d L (k1_part6_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes (k1_pay8 lanes) (k1_pay10 (F := F) B lanes (grp (bpl w) 0)) ((k1_pay11 (F := F) B (grp (bpl w) 0))) ((chk1_ixv B (grp (bpl w) 0)))) Q := by
  unfold k1_part6_skel
  iintro ⟨H16, H24, HQ⟩
  iapply (wp_st16 (F := F) d L (Q := Q) (mtBuf f0 (bpl w) B 7) (store_mt f0 B (grp (bpl w) 0) (bpl w) 0 (by decide) (fun _ => rfl) 6 _)) $$ H16; iintro H16
  iapply (wp_st16 (F := F) d L (Q := Q) (mtBuf f0 (bpl w) B 8) (store_mt f0 B (grp (bpl w) 0) (bpl w) 0 (by decide) (fun _ => rfl) 7 _)) $$ H16; iintro H16
  iapply (wp_st16 (F := F) d L (Q := Q) (mtBuf f0 (bpl w) B 9) (store_mt f0 B (grp (bpl w) 0) (bpl w) 0 (by decide) (fun _ => rfl) 8 _)) $$ H16; iintro H16
  iapply (wp_st16 (F := F) d L (Q := Q) (mtBuf f0 (bpl w) B 10) (store_mt f0 B (grp (bpl w) 0) (bpl w) 0 (by decide) (fun _ => rfl) 9 _)) $$ H16; iintro H16
  iapply (wp_st16 (F := F) d L (Q := Q) (mtBuf f0 (bpl w) B 11) (store_mt f0 B (grp (bpl w) 0) (bpl w) 0 (by decide) (fun _ => rfl) 10 _)) $$ H16; iintro H16
  iapply (wp_st16 (F := F) d L (Q := Q) (mtBuf f0 (bpl w) B 12) (store_mt f0 B (grp (bpl w) 0) (bpl w) 0 (by decide) (fun _ => rfl) 11 _)) $$ H16; iintro H16
  iapply (wp_st16 (F := F) d L (Q := Q) (mtBuf f0 (bpl w) B 13) (store_mt f0 B (grp (bpl w) 0) (bpl w) 0 (by decide) (fun _ => rfl) 12 _)) $$ H16; iintro H16
  iapply (wp_st16 (F := F) d L (Q := Q) (mtBuf f0 (bpl w) B 14) (store_mt f0 B (grp (bpl w) 0) (bpl w) 0 (by decide) (fun _ => rfl) 13 _)) $$ H16; iintro H16
  iapply (wp_st16 (F := F) d L (Q := Q) (mtBuf f0 (bpl w) B 15) (store_mt f0 B (grp (bpl w) 0) (bpl w) 0 (by decide) (fun _ => rfl) 14 _)) $$ H16; iintro H16
  iapply (wp_st16 (F := F) d L (Q := Q) (mtBuf f0 (bpl w) B 16) (store_mt f0 B (grp (bpl w) 0) (bpl w) 0 (by decide) (fun _ => rfl) 15 _)) $$ H16; iintro H16
  iapply (wp_ld24 (F := F) d L 16 (f := w) (Q := Q)) $$ H24; iintro H24
  iapply (wp_done d L)
  iapply HQ
  isplitl [H16]; · iexact H16
  iexact H24

/-- Part 7: ground truths 16 to 23. -/
theorem part7_wp (f0 : IVec S5008 32) (w : IVec S112 32) (B : BitVec 32) (Q : (Σ' (v114 : IVec S16 1) (v118 : IVec S16 32) (k1_hw2 : k1_chk2 v118), IVec S16 1) → Pr F) :
    iprop(pt (F := F) d L a16 (mtBuf f0 (bpl w) B 16) ∗ pt (F := F) d L a18 (fcBuf (bpl w) B 1) ∗ ((pt (F := F) d L a16 (mtBuf f0 (bpl w) B 24) ∗ pt (F := F) d L a18 (fcBuf (bpl w) B 2)) -∗ Q ⟨(k1_pay31 (k1_pay29 (F := F) B (grp (bpl w) 16)) (k1_pay30 lanes)), ((k1_pay32 (k1_pay29 (F := F) B (grp (bpl w) 16)))), ((chk2_ixv B (grp (bpl w) 16))), (k1_pay41 lanes (k1_pay29 (F := F) B (grp (bpl w) 16)) (k1_pay30 lanes))⟩))
      ⊢ wpT d L (k1_part7_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 lanes (k1_pay7) (k1_pay28 lanes) (k1_pay29 (F := F) B (grp (bpl w) 16)) (k1_pay30 lanes)) Q := by
  unfold k1_part7_skel
  iintro ⟨H16, H18, HQ⟩
  iapply (wp_chk (F := F) d L (Q := Q) (chk2_ixv B (grp (bpl w) 16)))
  iapply (wp_st18 (F := F) d L (Q := Q) (fcBuf (bpl w) B 2) (store_fc B (grp (bpl w) 16) (bpl w) 1 (by decide) (fun _ => rfl) _)) $$ H18; iintro H18
  iapply (wp_st16 (F := F) d L (Q := Q) (mtBuf f0 (bpl w) B 17) (store_mt f0 B (grp (bpl w) 16) (bpl w) 16 (by decide) (fun _ => rfl) 0 _)) $$ H16; iintro H16
  iapply (wp_st16 (F := F) d L (Q := Q) (mtBuf f0 (bpl w) B 18) (store_mt f0 B (grp (bpl w) 16) (bpl w) 16 (by decide) (fun _ => rfl) 1 _)) $$ H16; iintro H16
  iapply (wp_st16 (F := F) d L (Q := Q) (mtBuf f0 (bpl w) B 19) (store_mt f0 B (grp (bpl w) 16) (bpl w) 16 (by decide) (fun _ => rfl) 2 _)) $$ H16; iintro H16
  iapply (wp_st16 (F := F) d L (Q := Q) (mtBuf f0 (bpl w) B 20) (store_mt f0 B (grp (bpl w) 16) (bpl w) 16 (by decide) (fun _ => rfl) 3 _)) $$ H16; iintro H16
  iapply (wp_st16 (F := F) d L (Q := Q) (mtBuf f0 (bpl w) B 21) (store_mt f0 B (grp (bpl w) 16) (bpl w) 16 (by decide) (fun _ => rfl) 4 _)) $$ H16; iintro H16
  iapply (wp_st16 (F := F) d L (Q := Q) (mtBuf f0 (bpl w) B 22) (store_mt f0 B (grp (bpl w) 16) (bpl w) 16 (by decide) (fun _ => rfl) 5 _)) $$ H16; iintro H16
  iapply (wp_st16 (F := F) d L (Q := Q) (mtBuf f0 (bpl w) B 23) (store_mt f0 B (grp (bpl w) 16) (bpl w) 16 (by decide) (fun _ => rfl) 6 _)) $$ H16; iintro H16
  iapply (wp_st16 (F := F) d L (Q := Q) (mtBuf f0 (bpl w) B 24) (store_mt f0 B (grp (bpl w) 16) (bpl w) 16 (by decide) (fun _ => rfl) 7 _)) $$ H16; iintro H16
  iapply (wp_done d L)
  iapply HQ
  isplitl [H16]; · iexact H16
  iexact H18

/-- Part 8: ground truths 24 to 31. -/
theorem part8_wp (f0 : IVec S5008 32) (w : IVec S112 32) (B : BitVec 32) (Q : (Σ' (v169 : IVec S16 32) (v179 : IVec S16 1), IVec S16 32) → Pr F) :
    iprop(pt (F := F) d L a16 (mtBuf f0 (bpl w) B 24) ∗ pt (F := F) d L a24 w ∗ ((pt (F := F) d L a16 (mtBuf f0 (bpl w) B 32) ∗ pt (F := F) d L a24 w) -∗ Q ⟨(k1_pay49 lanes), (k1_pay51 (F := F) B lanes (grp (bpl w) 32)), (k1_pay52 (F := F) B (grp (bpl w) 32))⟩))
      ⊢ wpT d L (k1_part8_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes (k1_pay28 lanes) (k1_pay31 (k1_pay29 (F := F) B (grp (bpl w) 16)) (k1_pay30 lanes)) ((k1_pay32 (k1_pay29 (F := F) B (grp (bpl w) 16)))) ((chk2_ixv B (grp (bpl w) 16))) (k1_pay41 lanes (k1_pay29 (F := F) B (grp (bpl w) 16)) (k1_pay30 lanes))) Q := by
  unfold k1_part8_skel
  iintro ⟨H16, H24, HQ⟩
  iapply (wp_st16 (F := F) d L (Q := Q) (mtBuf f0 (bpl w) B 25) (store_mt f0 B (grp (bpl w) 16) (bpl w) 16 (by decide) (fun _ => rfl) 8 _)) $$ H16; iintro H16
  iapply (wp_st16 (F := F) d L (Q := Q) (mtBuf f0 (bpl w) B 26) (store_mt f0 B (grp (bpl w) 16) (bpl w) 16 (by decide) (fun _ => rfl) 9 _)) $$ H16; iintro H16
  iapply (wp_st16 (F := F) d L (Q := Q) (mtBuf f0 (bpl w) B 27) (store_mt f0 B (grp (bpl w) 16) (bpl w) 16 (by decide) (fun _ => rfl) 10 _)) $$ H16; iintro H16
  iapply (wp_st16 (F := F) d L (Q := Q) (mtBuf f0 (bpl w) B 28) (store_mt f0 B (grp (bpl w) 16) (bpl w) 16 (by decide) (fun _ => rfl) 11 _)) $$ H16; iintro H16
  iapply (wp_st16 (F := F) d L (Q := Q) (mtBuf f0 (bpl w) B 29) (store_mt f0 B (grp (bpl w) 16) (bpl w) 16 (by decide) (fun _ => rfl) 12 _)) $$ H16; iintro H16
  iapply (wp_st16 (F := F) d L (Q := Q) (mtBuf f0 (bpl w) B 30) (store_mt f0 B (grp (bpl w) 16) (bpl w) 16 (by decide) (fun _ => rfl) 13 _)) $$ H16; iintro H16
  iapply (wp_st16 (F := F) d L (Q := Q) (mtBuf f0 (bpl w) B 31) (store_mt f0 B (grp (bpl w) 16) (bpl w) 16 (by decide) (fun _ => rfl) 14 _)) $$ H16; iintro H16
  iapply (wp_st16 (F := F) d L (Q := Q) (mtBuf f0 (bpl w) B 32) (store_mt f0 B (grp (bpl w) 16) (bpl w) 16 (by decide) (fun _ => rfl) 15 _)) $$ H16; iintro H16
  iapply (wp_ld24 (F := F) d L 32 (f := w) (Q := Q)) $$ H24; iintro H24
  iapply (wp_done d L)
  iapply HQ
  isplitl [H16]; · iexact H16
  iexact H24

/-- Part 9: ground truths 32 to 42. -/
theorem part9_wp (f0 : IVec S5008 32) (w : IVec S112 32) (B : BitVec 32) (Q : (Σ' (k1_hw3 : k1_chk3 (k1_pay52 (F := F) B (grp (bpl w) 32))), IVec S16 1) → Pr F) :
    iprop(pt (F := F) d L a16 (mtBuf f0 (bpl w) B 32) ∗ pt (F := F) d L a18 (fcBuf (bpl w) B 2) ∗ ((pt (F := F) d L a16 (mtBuf f0 (bpl w) B 43) ∗ pt (F := F) d L a18 (fcBuf (bpl w) B 3)) -∗ Q ⟨((chk3_ixv B (grp (bpl w) 32))), (k1_pay64 lanes)⟩))
      ⊢ wpT d L (k1_part9_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 lanes (k1_pay7) (k1_pay49 lanes) (k1_pay51 (F := F) B lanes (grp (bpl w) 32)) (k1_pay52 (F := F) B (grp (bpl w) 32))) Q := by
  unfold k1_part9_skel
  iintro ⟨H16, H18, HQ⟩
  iapply (wp_chk (F := F) d L (Q := Q) (chk3_ixv B (grp (bpl w) 32)))
  iapply (wp_st18 (F := F) d L (Q := Q) (fcBuf (bpl w) B 3) (store_fc B (grp (bpl w) 32) (bpl w) 2 (by decide) (fun _ => rfl) _)) $$ H18; iintro H18
  iapply (wp_st16 (F := F) d L (Q := Q) (mtBuf f0 (bpl w) B 33) (store_mt f0 B (grp (bpl w) 32) (bpl w) 32 (by decide) (fun _ => rfl) 0 _)) $$ H16; iintro H16
  iapply (wp_st16 (F := F) d L (Q := Q) (mtBuf f0 (bpl w) B 34) (store_mt f0 B (grp (bpl w) 32) (bpl w) 32 (by decide) (fun _ => rfl) 1 _)) $$ H16; iintro H16
  iapply (wp_st16 (F := F) d L (Q := Q) (mtBuf f0 (bpl w) B 35) (store_mt f0 B (grp (bpl w) 32) (bpl w) 32 (by decide) (fun _ => rfl) 2 _)) $$ H16; iintro H16
  iapply (wp_st16 (F := F) d L (Q := Q) (mtBuf f0 (bpl w) B 36) (store_mt f0 B (grp (bpl w) 32) (bpl w) 32 (by decide) (fun _ => rfl) 3 _)) $$ H16; iintro H16
  iapply (wp_st16 (F := F) d L (Q := Q) (mtBuf f0 (bpl w) B 37) (store_mt f0 B (grp (bpl w) 32) (bpl w) 32 (by decide) (fun _ => rfl) 4 _)) $$ H16; iintro H16
  iapply (wp_st16 (F := F) d L (Q := Q) (mtBuf f0 (bpl w) B 38) (store_mt f0 B (grp (bpl w) 32) (bpl w) 32 (by decide) (fun _ => rfl) 5 _)) $$ H16; iintro H16
  iapply (wp_st16 (F := F) d L (Q := Q) (mtBuf f0 (bpl w) B 39) (store_mt f0 B (grp (bpl w) 32) (bpl w) 32 (by decide) (fun _ => rfl) 6 _)) $$ H16; iintro H16
  iapply (wp_st16 (F := F) d L (Q := Q) (mtBuf f0 (bpl w) B 40) (store_mt f0 B (grp (bpl w) 32) (bpl w) 32 (by decide) (fun _ => rfl) 7 _)) $$ H16; iintro H16
  iapply (wp_st16 (F := F) d L (Q := Q) (mtBuf f0 (bpl w) B 41) (store_mt f0 B (grp (bpl w) 32) (bpl w) 32 (by decide) (fun _ => rfl) 8 _)) $$ H16; iintro H16
  iapply (wp_st16 (F := F) d L (Q := Q) (mtBuf f0 (bpl w) B 42) (store_mt f0 B (grp (bpl w) 32) (bpl w) 32 (by decide) (fun _ => rfl) 9 _)) $$ H16; iintro H16
  iapply (wp_st16 (F := F) d L (Q := Q) (mtBuf f0 (bpl w) B 43) (store_mt f0 B (grp (bpl w) 32) (bpl w) 32 (by decide) (fun _ => rfl) 10 _)) $$ H16; iintro H16
  iapply (wp_done d L)
  iapply HQ
  isplitl [H16]; · iexact H16
  iexact H18

/-- Part 10: ground truths 43 to 49. -/
theorem part10_wp (f0 : IVec S5008 32) (w : IVec S112 32) (B : BitVec 32) (Q : (Σ' (v234 : IVec S16 32) (v244 : IVec S16 1) (v248 : IVec S16 32) (k1_hw4 : k1_chk4 v248), IVec S16 32) → Pr F) :
    iprop(pt (F := F) d L a16 (mtBuf f0 (bpl w) B 43) ∗ pt (F := F) d L a18 (fcBuf (bpl w) B 3) ∗ pt (F := F) d L a24 w ∗ ((pt (F := F) d L a16 (mtBuf f0 (bpl w) B 50) ∗ pt (F := F) d L a18 (fcBuf (bpl w) B 4) ∗ pt (F := F) d L a24 w) -∗ Q ⟨(k1_pay70 lanes), (k1_pay72 (F := F) B lanes (grp (bpl w) 48)), ((k1_pay73 (F := F) B (grp (bpl w) 48))), ((chk4_ixv B (grp (bpl w) 48))), (k1_pay76)⟩))
      ⊢ wpT d L (k1_part10_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes (k1_pay7) (k1_pay49 lanes) (k1_pay51 (F := F) B lanes (grp (bpl w) 32)) (k1_pay52 (F := F) B (grp (bpl w) 32)) ((chk3_ixv B (grp (bpl w) 32))) (k1_pay64 lanes)) Q := by
  unfold k1_part10_skel
  iintro ⟨H16, H18, H24, HQ⟩
  iapply (wp_st16 (F := F) d L (Q := Q) (mtBuf f0 (bpl w) B 44) (store_mt f0 B (grp (bpl w) 32) (bpl w) 32 (by decide) (fun _ => rfl) 11 _)) $$ H16; iintro H16
  iapply (wp_st16 (F := F) d L (Q := Q) (mtBuf f0 (bpl w) B 45) (store_mt f0 B (grp (bpl w) 32) (bpl w) 32 (by decide) (fun _ => rfl) 12 _)) $$ H16; iintro H16
  iapply (wp_st16 (F := F) d L (Q := Q) (mtBuf f0 (bpl w) B 46) (store_mt f0 B (grp (bpl w) 32) (bpl w) 32 (by decide) (fun _ => rfl) 13 _)) $$ H16; iintro H16
  iapply (wp_st16 (F := F) d L (Q := Q) (mtBuf f0 (bpl w) B 47) (store_mt f0 B (grp (bpl w) 32) (bpl w) 32 (by decide) (fun _ => rfl) 14 _)) $$ H16; iintro H16
  iapply (wp_st16 (F := F) d L (Q := Q) (mtBuf f0 (bpl w) B 48) (store_mt f0 B (grp (bpl w) 32) (bpl w) 32 (by decide) (fun _ => rfl) 15 _)) $$ H16; iintro H16
  iapply (wp_ld24 (F := F) d L 48 (f := w) (Q := Q)) $$ H24; iintro H24
  iapply (wp_chk (F := F) d L (Q := Q) (chk4_ixv B (grp (bpl w) 48)))
  iapply (wp_st18 (F := F) d L (Q := Q) (fcBuf (bpl w) B 4) (store_fc B (grp (bpl w) 48) (bpl w) 3 (by decide) (fun _ => rfl) _)) $$ H18; iintro H18
  iapply (wp_st16 (F := F) d L (Q := Q) (mtBuf f0 (bpl w) B 49) (store_mt f0 B (grp (bpl w) 48) (bpl w) 48 (by decide) (fun _ => rfl) 0 _)) $$ H16; iintro H16
  iapply (wp_st16 (F := F) d L (Q := Q) (mtBuf f0 (bpl w) B 50) (store_mt f0 B (grp (bpl w) 48) (bpl w) 48 (by decide) (fun _ => rfl) 1 _)) $$ H16; iintro H16
  iapply (wp_done d L)
  iapply HQ
  isplitl [H16]; · iexact H16
  isplitl [H18]; · iexact H18
  iexact H24

end Cert.Proof

end
-- ==== Proof.Match1.lean ====
/-
  The matching step of a tile, part by part of its program: 11 and 12 and 13 and 14 and 15 and 16.
  Each part advances the matches and the forced priors through its ground truths.
-/
module

public import proofs.«01_k».proof.Proof.MatchBase

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

variable (d : Dev nD) (L : grid1.Coords)

/-- Part 11: ground truths 50 to 61. -/
theorem part11_wp (f0 : IVec S5008 32) (w : IVec S112 32) (B : BitVec 32) (Q : (IVec S16 32) → Pr F) :
    iprop(pt (F := F) d L a16 (mtBuf f0 (bpl w) B 50) ∗ ((pt (F := F) d L a16 (mtBuf f0 (bpl w) B 62)) -∗ Q (k1_pay89)))
      ⊢ wpT d L (k1_part11_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 lanes (k1_pay70 lanes) (k1_pay72 (F := F) B lanes (grp (bpl w) 48)) ((k1_pay73 (F := F) B (grp (bpl w) 48))) ((chk4_ixv B (grp (bpl w) 48))) (k1_pay76)) Q := by
  unfold k1_part11_skel
  iintro ⟨H16, HQ⟩
  iapply (wp_st16 (F := F) d L (Q := Q) (mtBuf f0 (bpl w) B 51) (store_mt f0 B (grp (bpl w) 48) (bpl w) 48 (by decide) (fun _ => rfl) 2 _)) $$ H16; iintro H16
  iapply (wp_st16 (F := F) d L (Q := Q) (mtBuf f0 (bpl w) B 52) (store_mt f0 B (grp (bpl w) 48) (bpl w) 48 (by decide) (fun _ => rfl) 3 _)) $$ H16; iintro H16
  iapply (wp_st16 (F := F) d L (Q := Q) (mtBuf f0 (bpl w) B 53) (store_mt f0 B (grp (bpl w) 48) (bpl w) 48 (by decide) (fun _ => rfl) 4 _)) $$ H16; iintro H16
  iapply (wp_st16 (F := F) d L (Q := Q) (mtBuf f0 (bpl w) B 54) (store_mt f0 B (grp (bpl w) 48) (bpl w) 48 (by decide) (fun _ => rfl) 5 _)) $$ H16; iintro H16
  iapply (wp_st16 (F := F) d L (Q := Q) (mtBuf f0 (bpl w) B 55) (store_mt f0 B (grp (bpl w) 48) (bpl w) 48 (by decide) (fun _ => rfl) 6 _)) $$ H16; iintro H16
  iapply (wp_st16 (F := F) d L (Q := Q) (mtBuf f0 (bpl w) B 56) (store_mt f0 B (grp (bpl w) 48) (bpl w) 48 (by decide) (fun _ => rfl) 7 _)) $$ H16; iintro H16
  iapply (wp_st16 (F := F) d L (Q := Q) (mtBuf f0 (bpl w) B 57) (store_mt f0 B (grp (bpl w) 48) (bpl w) 48 (by decide) (fun _ => rfl) 8 _)) $$ H16; iintro H16
  iapply (wp_st16 (F := F) d L (Q := Q) (mtBuf f0 (bpl w) B 58) (store_mt f0 B (grp (bpl w) 48) (bpl w) 48 (by decide) (fun _ => rfl) 9 _)) $$ H16; iintro H16
  iapply (wp_st16 (F := F) d L (Q := Q) (mtBuf f0 (bpl w) B 59) (store_mt f0 B (grp (bpl w) 48) (bpl w) 48 (by decide) (fun _ => rfl) 10 _)) $$ H16; iintro H16
  iapply (wp_st16 (F := F) d L (Q := Q) (mtBuf f0 (bpl w) B 60) (store_mt f0 B (grp (bpl w) 48) (bpl w) 48 (by decide) (fun _ => rfl) 11 _)) $$ H16; iintro H16
  iapply (wp_st16 (F := F) d L (Q := Q) (mtBuf f0 (bpl w) B 61) (store_mt f0 B (grp (bpl w) 48) (bpl w) 48 (by decide) (fun _ => rfl) 12 _)) $$ H16; iintro H16
  iapply (wp_st16 (F := F) d L (Q := Q) (mtBuf f0 (bpl w) B 62) (store_mt f0 B (grp (bpl w) 48) (bpl w) 48 (by decide) (fun _ => rfl) 13 _)) $$ H16; iintro H16
  iapply (wp_done d L)
  iapply HQ
  iexact H16

/-- Part 12: ground truths 62 to 68. -/
theorem part12_wp (f0 : IVec S5008 32) (w : IVec S112 32) (B : BitVec 32) (Q : (Σ' (v299 : IVec S16 32) (v309 : IVec S16 1) (v313 : IVec S16 32) (k1_hw5 : k1_chk5 v313), BitVec 32) → Pr F) :
    iprop(pt (F := F) d L a16 (mtBuf f0 (bpl w) B 62) ∗ pt (F := F) d L a18 (fcBuf (bpl w) B 4) ∗ pt (F := F) d L a24 w ∗ ((pt (F := F) d L a16 (mtBuf f0 (bpl w) B 69) ∗ pt (F := F) d L a18 (fcBuf (bpl w) B 5) ∗ pt (F := F) d L a24 w) -∗ Q ⟨(k1_pay92 lanes), (k1_pay94 (F := F) B lanes (grp (bpl w) 64)), ((k1_pay95 (F := F) B (grp (bpl w) 64))), ((chk5_ixv B (grp (bpl w) 64))), (5#32)⟩))
      ⊢ wpT d L (k1_part12_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes (k1_pay7) (k1_pay70 lanes) (k1_pay72 (F := F) B lanes (grp (bpl w) 48)) ((k1_pay73 (F := F) B (grp (bpl w) 48))) ((chk4_ixv B (grp (bpl w) 48))) (k1_pay89)) Q := by
  unfold k1_part12_skel
  iintro ⟨H16, H18, H24, HQ⟩
  iapply (wp_st16 (F := F) d L (Q := Q) (mtBuf f0 (bpl w) B 63) (store_mt f0 B (grp (bpl w) 48) (bpl w) 48 (by decide) (fun _ => rfl) 14 _)) $$ H16; iintro H16
  iapply (wp_st16 (F := F) d L (Q := Q) (mtBuf f0 (bpl w) B 64) (store_mt f0 B (grp (bpl w) 48) (bpl w) 48 (by decide) (fun _ => rfl) 15 _)) $$ H16; iintro H16
  iapply (wp_ld24 (F := F) d L 64 (f := w) (Q := Q)) $$ H24; iintro H24
  iapply (wp_chk (F := F) d L (Q := Q) (chk5_ixv B (grp (bpl w) 64)))
  iapply (wp_st18 (F := F) d L (Q := Q) (fcBuf (bpl w) B 5) (store_fc B (grp (bpl w) 64) (bpl w) 4 (by decide) (fun _ => rfl) _)) $$ H18; iintro H18
  iapply (wp_st16 (F := F) d L (Q := Q) (mtBuf f0 (bpl w) B 65) (store_mt f0 B (grp (bpl w) 64) (bpl w) 64 (by decide) (fun _ => rfl) 0 _)) $$ H16; iintro H16
  iapply (wp_st16 (F := F) d L (Q := Q) (mtBuf f0 (bpl w) B 66) (store_mt f0 B (grp (bpl w) 64) (bpl w) 64 (by decide) (fun _ => rfl) 1 _)) $$ H16; iintro H16
  iapply (wp_st16 (F := F) d L (Q := Q) (mtBuf f0 (bpl w) B 67) (store_mt f0 B (grp (bpl w) 64) (bpl w) 64 (by decide) (fun _ => rfl) 2 _)) $$ H16; iintro H16
  iapply (wp_st16 (F := F) d L (Q := Q) (mtBuf f0 (bpl w) B 68) (store_mt f0 B (grp (bpl w) 64) (bpl w) 64 (by decide) (fun _ => rfl) 3 _)) $$ H16; iintro H16
  iapply (wp_st16 (F := F) d L (Q := Q) (mtBuf f0 (bpl w) B 69) (store_mt f0 B (grp (bpl w) 64) (bpl w) 64 (by decide) (fun _ => rfl) 4 _)) $$ H16; iintro H16
  iapply (wp_done d L)
  iapply HQ
  isplitl [H16]; · iexact H16
  isplitl [H18]; · iexact H18
  iexact H24

/-- Part 13: ground truths 69 to 79. -/
theorem part13_wp (f0 : IVec S5008 32) (w : IVec S112 32) (B : BitVec 32) (Q : (Σ' (v362 : Vec F S16 .i32) (v364 : IVec S16 32), IVec S16 32) → Pr F) :
    iprop(pt (F := F) d L a16 (mtBuf f0 (bpl w) B 69) ∗ pt (F := F) d L a24 w ∗ ((pt (F := F) d L a16 (mtBuf f0 (bpl w) B 80) ∗ pt (F := F) d L a24 w) -∗ Q ⟨((grp (bpl w) 80)), (k1_pay112 lanes), (k1_pay113 B)⟩))
      ⊢ wpT d L (k1_part13_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes (k1_pay92 lanes) (k1_pay94 (F := F) B lanes (grp (bpl w) 64)) ((k1_pay95 (F := F) B (grp (bpl w) 64))) ((chk5_ixv B (grp (bpl w) 64))) (5#32)) Q := by
  unfold k1_part13_skel
  iintro ⟨H16, H24, HQ⟩
  iapply (wp_st16 (F := F) d L (Q := Q) (mtBuf f0 (bpl w) B 70) (store_mt f0 B (grp (bpl w) 64) (bpl w) 64 (by decide) (fun _ => rfl) 5 _)) $$ H16; iintro H16
  iapply (wp_st16 (F := F) d L (Q := Q) (mtBuf f0 (bpl w) B 71) (store_mt f0 B (grp (bpl w) 64) (bpl w) 64 (by decide) (fun _ => rfl) 6 _)) $$ H16; iintro H16
  iapply (wp_st16 (F := F) d L (Q := Q) (mtBuf f0 (bpl w) B 72) (store_mt f0 B (grp (bpl w) 64) (bpl w) 64 (by decide) (fun _ => rfl) 7 _)) $$ H16; iintro H16
  iapply (wp_st16 (F := F) d L (Q := Q) (mtBuf f0 (bpl w) B 73) (store_mt f0 B (grp (bpl w) 64) (bpl w) 64 (by decide) (fun _ => rfl) 8 _)) $$ H16; iintro H16
  iapply (wp_st16 (F := F) d L (Q := Q) (mtBuf f0 (bpl w) B 74) (store_mt f0 B (grp (bpl w) 64) (bpl w) 64 (by decide) (fun _ => rfl) 9 _)) $$ H16; iintro H16
  iapply (wp_st16 (F := F) d L (Q := Q) (mtBuf f0 (bpl w) B 75) (store_mt f0 B (grp (bpl w) 64) (bpl w) 64 (by decide) (fun _ => rfl) 10 _)) $$ H16; iintro H16
  iapply (wp_st16 (F := F) d L (Q := Q) (mtBuf f0 (bpl w) B 76) (store_mt f0 B (grp (bpl w) 64) (bpl w) 64 (by decide) (fun _ => rfl) 11 _)) $$ H16; iintro H16
  iapply (wp_st16 (F := F) d L (Q := Q) (mtBuf f0 (bpl w) B 77) (store_mt f0 B (grp (bpl w) 64) (bpl w) 64 (by decide) (fun _ => rfl) 12 _)) $$ H16; iintro H16
  iapply (wp_st16 (F := F) d L (Q := Q) (mtBuf f0 (bpl w) B 78) (store_mt f0 B (grp (bpl w) 64) (bpl w) 64 (by decide) (fun _ => rfl) 13 _)) $$ H16; iintro H16
  iapply (wp_st16 (F := F) d L (Q := Q) (mtBuf f0 (bpl w) B 79) (store_mt f0 B (grp (bpl w) 64) (bpl w) 64 (by decide) (fun _ => rfl) 14 _)) $$ H16; iintro H16
  iapply (wp_st16 (F := F) d L (Q := Q) (mtBuf f0 (bpl w) B 80) (store_mt f0 B (grp (bpl w) 64) (bpl w) 64 (by decide) (fun _ => rfl) 15 _)) $$ H16; iintro H16
  iapply (wp_ld24 (F := F) d L 80 (f := w) (Q := Q)) $$ H24; iintro H24
  iapply (wp_done d L)
  iapply HQ
  isplitl [H16]; · iexact H16
  iexact H24

/-- Part 14: ground truths 80 to 87. -/
theorem part14_wp (f0 : IVec S5008 32) (w : IVec S112 32) (B : BitVec 32) (Q : (Σ' (v374 : IVec S16 1) (v378 : IVec S16 32), k1_chk6 v378) → Pr F) :
    iprop(pt (F := F) d L a16 (mtBuf f0 (bpl w) B 80) ∗ pt (F := F) d L a18 (fcBuf (bpl w) B 5) ∗ ((pt (F := F) d L a16 (mtBuf f0 (bpl w) B 88) ∗ pt (F := F) d L a18 (fcBuf (bpl w) B 6)) -∗ Q ⟨(k1_pay115 (F := F) ((grp (bpl w) 80)) (k1_pay112 lanes) (k1_pay113 B)), ((k1_pay116 (F := F) ((grp (bpl w) 80)) (k1_pay113 B))), ((chk6_ixv B (grp (bpl w) 80)))⟩))
      ⊢ wpT d L (k1_part14_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 lanes (k1_pay7) ((grp (bpl w) 80)) (k1_pay112 lanes) (k1_pay113 B)) Q := by
  unfold k1_part14_skel
  iintro ⟨H16, H18, HQ⟩
  iapply (wp_chk (F := F) d L (Q := Q) (chk6_ixv B (grp (bpl w) 80)))
  iapply (wp_st18 (F := F) d L (Q := Q) (fcBuf (bpl w) B 6) (store_fc B (grp (bpl w) 80) (bpl w) 5 (by decide) (fun _ => rfl) _)) $$ H18; iintro H18
  iapply (wp_st16 (F := F) d L (Q := Q) (mtBuf f0 (bpl w) B 81) (store_mt f0 B (grp (bpl w) 80) (bpl w) 80 (by decide) (fun _ => rfl) 0 _)) $$ H16; iintro H16
  iapply (wp_st16 (F := F) d L (Q := Q) (mtBuf f0 (bpl w) B 82) (store_mt f0 B (grp (bpl w) 80) (bpl w) 80 (by decide) (fun _ => rfl) 1 _)) $$ H16; iintro H16
  iapply (wp_st16 (F := F) d L (Q := Q) (mtBuf f0 (bpl w) B 83) (store_mt f0 B (grp (bpl w) 80) (bpl w) 80 (by decide) (fun _ => rfl) 2 _)) $$ H16; iintro H16
  iapply (wp_st16 (F := F) d L (Q := Q) (mtBuf f0 (bpl w) B 84) (store_mt f0 B (grp (bpl w) 80) (bpl w) 80 (by decide) (fun _ => rfl) 3 _)) $$ H16; iintro H16
  iapply (wp_st16 (F := F) d L (Q := Q) (mtBuf f0 (bpl w) B 85) (store_mt f0 B (grp (bpl w) 80) (bpl w) 80 (by decide) (fun _ => rfl) 4 _)) $$ H16; iintro H16
  iapply (wp_st16 (F := F) d L (Q := Q) (mtBuf f0 (bpl w) B 86) (store_mt f0 B (grp (bpl w) 80) (bpl w) 80 (by decide) (fun _ => rfl) 5 _)) $$ H16; iintro H16
  iapply (wp_st16 (F := F) d L (Q := Q) (mtBuf f0 (bpl w) B 87) (store_mt f0 B (grp (bpl w) 80) (bpl w) 80 (by decide) (fun _ => rfl) 6 _)) $$ H16; iintro H16
  iapply (wp_st16 (F := F) d L (Q := Q) (mtBuf f0 (bpl w) B 88) (store_mt f0 B (grp (bpl w) 80) (bpl w) 80 (by decide) (fun _ => rfl) 7 _)) $$ H16; iintro H16
  iapply (wp_done d L)
  iapply HQ
  isplitl [H16]; · iexact H16
  iexact H18

/-- Part 15: ground truths 88 to 95. -/
theorem part15_wp (f0 : IVec S5008 32) (w : IVec S112 32) (B : BitVec 32) (Q : (Σ' (v429 : IVec S16 32) (v431 : IVec S16 32) (v439 : IVec S16 1) (c0_i32_132 : BitVec 32), BitVec 32) → Pr F) :
    iprop(pt (F := F) d L a16 (mtBuf f0 (bpl w) B 88) ∗ pt (F := F) d L a24 w ∗ ((pt (F := F) d L a16 (mtBuf f0 (bpl w) B 96) ∗ pt (F := F) d L a24 w) -∗ Q ⟨(k1_pay133 lanes), (k1_pay134 (F := F) B (grp (bpl w) 96)), (k1_pay135 (F := F) B lanes (grp (bpl w) 96)), (0#32), (4999#32)⟩))
      ⊢ wpT d L (k1_part15_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 B lanes (k1_pay112 lanes) (k1_pay115 (F := F) ((grp (bpl w) 80)) (k1_pay112 lanes) (k1_pay113 B)) ((k1_pay116 (F := F) ((grp (bpl w) 80)) (k1_pay113 B))) ((chk6_ixv B (grp (bpl w) 80)))) Q := by
  unfold k1_part15_skel
  iintro ⟨H16, H24, HQ⟩
  iapply (wp_st16 (F := F) d L (Q := Q) (mtBuf f0 (bpl w) B 89) (store_mt f0 B (grp (bpl w) 80) (bpl w) 80 (by decide) (fun _ => rfl) 8 _)) $$ H16; iintro H16
  iapply (wp_st16 (F := F) d L (Q := Q) (mtBuf f0 (bpl w) B 90) (store_mt f0 B (grp (bpl w) 80) (bpl w) 80 (by decide) (fun _ => rfl) 9 _)) $$ H16; iintro H16
  iapply (wp_st16 (F := F) d L (Q := Q) (mtBuf f0 (bpl w) B 91) (store_mt f0 B (grp (bpl w) 80) (bpl w) 80 (by decide) (fun _ => rfl) 10 _)) $$ H16; iintro H16
  iapply (wp_st16 (F := F) d L (Q := Q) (mtBuf f0 (bpl w) B 92) (store_mt f0 B (grp (bpl w) 80) (bpl w) 80 (by decide) (fun _ => rfl) 11 _)) $$ H16; iintro H16
  iapply (wp_st16 (F := F) d L (Q := Q) (mtBuf f0 (bpl w) B 93) (store_mt f0 B (grp (bpl w) 80) (bpl w) 80 (by decide) (fun _ => rfl) 12 _)) $$ H16; iintro H16
  iapply (wp_st16 (F := F) d L (Q := Q) (mtBuf f0 (bpl w) B 94) (store_mt f0 B (grp (bpl w) 80) (bpl w) 80 (by decide) (fun _ => rfl) 13 _)) $$ H16; iintro H16
  iapply (wp_st16 (F := F) d L (Q := Q) (mtBuf f0 (bpl w) B 95) (store_mt f0 B (grp (bpl w) 80) (bpl w) 80 (by decide) (fun _ => rfl) 14 _)) $$ H16; iintro H16
  iapply (wp_st16 (F := F) d L (Q := Q) (mtBuf f0 (bpl w) B 96) (store_mt f0 B (grp (bpl w) 80) (bpl w) 80 (by decide) (fun _ => rfl) 15 _)) $$ H16; iintro H16
  iapply (wp_ld24 (F := F) d L 96 (f := w) (Q := Q)) $$ H24; iintro H24
  iapply (wp_done d L)
  iapply HQ
  isplitl [H16]; · iexact H16
  iexact H24

/-- Part 16: ground truths 96 to 105. -/
theorem part16_wp (f0 : IVec S5008 32) (w : IVec S112 32) (B : BitVec 32) (Q : (Σ' (v443 : IVec S16 32) (k1_hw7 : k1_chk7 v443), IVec S16 1) → Pr F) :
    iprop(pt (F := F) d L a16 (mtBuf f0 (bpl w) B 96) ∗ pt (F := F) d L a18 (fcBuf (bpl w) B 6) ∗ ((pt (F := F) d L a16 (mtBuf f0 (bpl w) B 106) ∗ pt (F := F) d L a18 (fcBuf (bpl w) B 7)) -∗ Q ⟨((k1_pay136 (k1_pay134 (F := F) B (grp (bpl w) 96)) (0#32) (4999#32))), ((chk7_ixv B (grp (bpl w) 96))), (k1_pay147 lanes (k1_pay135 (F := F) B lanes (grp (bpl w) 96)))⟩))
      ⊢ wpT d L (k1_part16_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 lanes (k1_pay7) (k1_pay133 lanes) (k1_pay134 (F := F) B (grp (bpl w) 96)) (k1_pay135 (F := F) B lanes (grp (bpl w) 96)) (0#32) (4999#32)) Q := by
  unfold k1_part16_skel
  iintro ⟨H16, H18, HQ⟩
  iapply (wp_chk (F := F) d L (Q := Q) (chk7_ixv B (grp (bpl w) 96)))
  iapply (wp_st18 (F := F) d L (Q := Q) (fcBuf (bpl w) B 7) (store_fc B (grp (bpl w) 96) (bpl w) 6 (by decide) (fun _ => rfl) _)) $$ H18; iintro H18
  iapply (wp_st16 (F := F) d L (Q := Q) (mtBuf f0 (bpl w) B 97) (store_mt f0 B (grp (bpl w) 96) (bpl w) 96 (by decide) (fun _ => rfl) 0 _)) $$ H16; iintro H16
  iapply (wp_st16 (F := F) d L (Q := Q) (mtBuf f0 (bpl w) B 98) (store_mt f0 B (grp (bpl w) 96) (bpl w) 96 (by decide) (fun _ => rfl) 1 _)) $$ H16; iintro H16
  iapply (wp_st16 (F := F) d L (Q := Q) (mtBuf f0 (bpl w) B 99) (store_mt f0 B (grp (bpl w) 96) (bpl w) 96 (by decide) (fun _ => rfl) 2 _)) $$ H16; iintro H16
  iapply (wp_st16 (F := F) d L (Q := Q) (mtBuf f0 (bpl w) B 100) (store_mt f0 B (grp (bpl w) 96) (bpl w) 96 (by decide) (fun _ => rfl) 3 _)) $$ H16; iintro H16
  iapply (wp_st16 (F := F) d L (Q := Q) (mtBuf f0 (bpl w) B 101) (store_mt f0 B (grp (bpl w) 96) (bpl w) 96 (by decide) (fun _ => rfl) 4 _)) $$ H16; iintro H16
  iapply (wp_st16 (F := F) d L (Q := Q) (mtBuf f0 (bpl w) B 102) (store_mt f0 B (grp (bpl w) 96) (bpl w) 96 (by decide) (fun _ => rfl) 5 _)) $$ H16; iintro H16
  iapply (wp_st16 (F := F) d L (Q := Q) (mtBuf f0 (bpl w) B 103) (store_mt f0 B (grp (bpl w) 96) (bpl w) 96 (by decide) (fun _ => rfl) 6 _)) $$ H16; iintro H16
  iapply (wp_st16 (F := F) d L (Q := Q) (mtBuf f0 (bpl w) B 104) (store_mt f0 B (grp (bpl w) 96) (bpl w) 96 (by decide) (fun _ => rfl) 7 _)) $$ H16; iintro H16
  iapply (wp_st16 (F := F) d L (Q := Q) (mtBuf f0 (bpl w) B 105) (store_mt f0 B (grp (bpl w) 96) (bpl w) 96 (by decide) (fun _ => rfl) 8 _)) $$ H16; iintro H16
  iapply (wp_st16 (F := F) d L (Q := Q) (mtBuf f0 (bpl w) B 106) (store_mt f0 B (grp (bpl w) 96) (bpl w) 96 (by decide) (fun _ => rfl) 9 _)) $$ H16; iintro H16
  iapply (wp_done d L)
  iapply HQ
  isplitl [H16]; · iexact H16
  iexact H18

end Cert.Proof

end
-- ==== Proof.Tile.lean ====
/-
  A tile's whole task: it fetches, matches, encodes and writes its two rows out, leaving them at the call's two results
  as functions of its operands.
-/
module

public import proofs.«01_k».proof.Proof.Fetch
public import proofs.«01_k».proof.Proof.Match0
public import proofs.«01_k».proof.Proof.Match1
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx)

variable {F : FTy → Type} [FloatOps F] [Named F]

variable (d : Dev nD) (L : grid1.Coords)

/-! ## The two rows written out -/

/-- The encoded boxes' copy: its source and its destination. -/
abbrev src12 : Memref sig .scVector .vmem S20000 .f32 := (a30).slice (Rect.unit (s := S20032) ![0] S20000.size inb_S20032_S20000_0) (fun _ => rfl)
abbrev dst12 : Memref sig .scVector .hbm S20000 .f32 := (a14).slice (Rect.unit (s := S640000) (k1_off7 L) S20000.size (k1_off7_inb L)) (fun _ => rfl)
/-- The labels' copy: its source and its destination. -/
abbrev src13 : Memref sig .scVector .vmem S5000 .i32 := (a19).slice (Rect.unit (s := S5008) ![0] S5000.size inb_S5008_S5000_0) (fun _ => rfl)
abbrev dst13 : Memref sig .scVector .hbm S5000 .i32 := (a15).slice (Rect.unit (s := S160000) (k1_off8 L) S5000.size (k1_off8_inb L)) (fun _ => rfl)

/-- The tile's row of encoded boxes. -/
abbrev out12 (f : Vec F S640000 .f32) : Pr F := (dst12 L).view.loc (thr d L) ↦[(dst12 L).view.set]{fullShare} f
/-- The tile's row of labels. -/
abbrev out13 (f : IVec S160000 32) : Pr F := (dst13 L).view.loc (thr d L) ↦[(dst13 L).view.set]{fullShare} f

variable {L} in
theorem put12 {I : TileIn F} {f16 : IVec S5008 32} {f24 : IVec S112 32} {E : EncIn F} (H : Fetched I L f16 f24 E) {fl : IVec S5008 32} {f30 : Vec F S20032 .f32}
    (HE : EncOut E 313 fl f30) (f : Vec F S640000 .f32) :
    out12 (F := F) d L ((dst12 L).view.write (Elt F) f ((src12).view.read (Elt F) f30) Finset.univ) = out12 d L (LOC I) := by
  refine pointsTo_congr fun i hi => ?_
  obtain ⟨x, -, rfl⟩ := Finset.mem_map.mp hi
  refine ((dst12 L).view.write_emb_of_mem _ _ (Finset.mem_univ _)).trans ?_
  have hx : (x 0).val < 20000 := (x 0).isLt
  have hw := wid_lt L
  have e1 : (src12).view.emb x = (at1 (4 * ((x 0).val / 4) + (x 0).val % 4) (by omega) : S20032.Idx) := by
    funext a
    obtain rfl := Fin.eq_zero a
    exact Fin.ext (by show 0 + 1 * (x 0).val = 4 * ((x 0).val / 4) + (x 0).val % 4; omega)
  have e2 : (((dst12 L).view.emb x) 0).val = wid L * 20000 + (x 0).val := by
    show k1_off7 L 0 + 1 * (x 0).val = _
    rw [off7_eq]
    omega
  show f30 ((src12).view.emb x) = locG I ((((dst12 L).view.emb x) 0).val / 80000) ((((dst12 L).view.emb x) 0).val % 80000 / 4) ((((dst12 L).view.emb x) 0).val % 4)
  rw [e1, e2, HE.loc ((x 0).val / 4) ((x 0).val % 4) (by omega) (by omega) (by omega), H.locE _ _ (by omega)]
  have hB : wB L = wid L % 4 * 5000 := rfl
  congr 1 <;> omega

variable {L} in
theorem put13 {I : TileIn F} {f16 : IVec S5008 32} {f24 : IVec S112 32} {E : EncIn F} (H : Fetched I L f16 f24 E) {fl : IVec S5008 32} {f30 : Vec F S20032 .f32}
    (HE : EncOut E 313 fl f30) (f : IVec S160000 32) :
    out13 (F := F) d L ((dst13 L).view.write (Elt F) f ((src13).view.read (Elt F) fl) Finset.univ) = out13 d L (LAB I) := by
  refine pointsTo_congr fun i hi => ?_
  obtain ⟨x, -, rfl⟩ := Finset.mem_map.mp hi
  refine ((dst13 L).view.write_emb_of_mem _ _ (Finset.mem_univ _)).trans ?_
  have hx : (x 0).val < 5000 := (x 0).isLt
  have hw := wid_lt L
  have e1 : (src13).view.emb x = (at1 (x 0).val (by omega) : S5008.Idx) := by
    funext a
    obtain rfl := Fin.eq_zero a
    exact Fin.ext (by show 0 + 1 * (x 0).val = (x 0).val; omega)
  have e2 : (((dst13 L).view.emb x) 0).val = wid L * 5000 + (x 0).val := by
    show k1_off8 L 0 + 1 * (x 0).val = _
    rw [off8_eq]
    omega
  show fl ((src13).view.emb x) = labG I ((((dst13 L).view.emb x) 0).val / 20000) ((((dst13 L).view.emb x) 0).val % 20000)
  rw [e1, e2, HE.lab (x 0).val (by omega) (by omega), H.labE _ (by omega)]
  have hB : wB L = wid L % 4 * 5000 := rfl
  congr 1 <;> omega

/-! ## The last part: the last stores, the encoding loop, the write-outs -/

set_option maxHeartbeats 1000000 in
/-- The last part. -/
theorem part17_wp (E : EncIn F) (f16 : IVec S5008 32) (w : IVec S112 32) (B v31 : BitVec 32) (hmt : E.mt = mtBuf f16 (bpl w) B 112)
    (O : CellTallies nD τ sig (HIx 1)) (W : Waits sig (HIx 1)) (hO : ∀ g, O g none = 0) (g14 : Vec F S640000 .f32) (g15 : IVec S160000 32) (Q : PUnit → Pr F) :
    iprop(levAts (K (F := F)).L (K (F := F)).lev ∗ owX d L O W ∗ pt (F := F) d L a16 (mtBuf f16 (bpl w) B 106) ∗ (pt (F := F) d L a16 E.mt -∗ rd d L E)
        ∗ (∃ fl, pt (F := F) d L a19 fl) ∗ (∃ f30, pt (F := F) d L a30 f30) ∗ out12 d L g14 ∗ out13 d L g15 ∗ semVal (thr d L, .dma cc1_scoped12.sem) 0 ∗ semVal (thr d L, .dma cc1_scoped13.sem) 0
        ∗ (∀ fl f30, (⌜EncOut E 313 fl f30⌝ ∗ owX d L O W ∗ rd d L E ∗ pt (F := F) d L a30 f30
            ∗ out12 d L ((dst12 L).view.write (Elt F) g14 ((src12).view.read (Elt F) f30) Finset.univ) ∗ semVal (thr d L, .dma cc1_scoped12.sem) 0
            ∗ Fly d L src13 (dst13 L) cc1_scoped13.sem fullShare fl (dst13 L).view.set ((dst13 L).view.write (Elt F) g15 ((src13).view.read (Elt F) fl) Finset.univ)) -∗ Q ⟨⟩))
      ⊢ wpT d L (k1_part17_skel (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 v31 lanes (k1_pay133 lanes) (k1_pay135 (F := F) B lanes (grp (bpl w) 96))
          (k1_pay136 (k1_pay134 (F := F) B (grp (bpl w) 96)) 0#32 4999#32) (chk7_ixv B (grp (bpl w) 96)) (k1_pay147 lanes (k1_pay135 (F := F) B lanes (grp (bpl w) 96)))) Q := by
  unfold k1_part17_skel
  iintro ⟨#Hlv, HO, H16, Hrd, H19, H30, Hg14, Hg15, Hv12, Hv13, HQ⟩
  iapply (wp_st16 (F := F) d L (Q := Q) (mtBuf f16 (bpl w) B 107) (store_mt f16 B (grp (bpl w) 96) (bpl w) 96 (by decide) (fun _ => rfl) 10 _)) $$ H16; iintro H16
  iapply (wp_st16 (F := F) d L (Q := Q) (mtBuf f16 (bpl w) B 108) (store_mt f16 B (grp (bpl w) 96) (bpl w) 96 (by decide) (fun _ => rfl) 11 _)) $$ H16; iintro H16
  iapply (wp_st16 (F := F) d L (Q := Q) (mtBuf f16 (bpl w) B 109) (store_mt f16 B (grp (bpl w) 96) (bpl w) 96 (by decide) (fun _ => rfl) 12 _)) $$ H16; iintro H16
  iapply (wp_st16 (F := F) d L (Q := Q) (mtBuf f16 (bpl w) B 110) (store_mt f16 B (grp (bpl w) 96) (bpl w) 96 (by decide) (fun _ => rfl) 13 _)) $$ H16; iintro H16
  iapply (wp_st16 (F := F) d L (Q := Q) (mtBuf f16 (bpl w) B 111) (store_mt f16 B (grp (bpl w) 96) (bpl w) 96 (by decide) (fun _ => rfl) 14 _)) $$ H16; iintro H16
  iapply (wp_st16 (F := F) d L (Q := Q) (mtBuf f16 (bpl w) B 112) (store_mt f16 B (grp (bpl w) 96) (bpl w) 96 (by decide) (fun _ => rfl) 15 _)) $$ H16; iintro H16
  rw [← hmt]
  ihave HR := Hrd $$ H16
  iapply (wp_encode (F := F) d L E v31 (k1_pay133 lanes) (k1_pay135 (F := F) B lanes (grp (bpl w) 96))
          (k1_pay136 (k1_pay134 (F := F) B (grp (bpl w) 96)) 0#32 4999#32) (chk7_ixv B (grp (bpl w) 96)) (k1_pay147 lanes (k1_pay135 (F := F) B lanes (grp (bpl w) 96)))) $$ [HR H19 H30]
  · isplitl [HR]; · iexact HR
    isplitl [H19]; · iexact H19
    iexact H30
  iintro %fl %f30 ⟨%HE, HR, H19, H30⟩
  iapply (wp_enq (F := F) d L (src := src12) (dst := dst12 L) (q := fullShare) (fs := f30) (fd := g14) (Sd := (dst12 L).view.set) (by decide) (Finset.Subset.refl _)) $$ [H30 Hg14 Hv12]
  · isplitl [H30]; · iexact H30
    isplitl [Hg14]; · iexact Hg14
    iexact Hv12
  iintro Hf
  iapply (wp_wt (F := F) d L (src := src12) (dst := dst12 L) (q := fullShare) (W := W) hO) $$ [Hf HO]
  · isplitl [Hf]; · iexact Hf
    isplitl [HO]; · iexact HO
    iexact Hlv
  iintro ⟨Hg14, H30, Hv12, HO⟩
  iapply (wp_enq (F := F) d L (src := src13) (dst := dst13 L) (q := fullShare) (fs := fl) (fd := g15) (Sd := (dst13 L).view.set) (by decide) (Finset.Subset.refl _)) $$ [H19 Hg15 Hv13]
  · isplitl [H19]; · iexact H19
    isplitl [Hg15]; · iexact Hg15
    iexact Hv13
  iintro Hf
  iapply (wp_done d L)
  iapply HQ $$ %fl %f30
  isplitr; · ipureintro; exact HE
  isplitl [HO]; · iexact HO
  isplitl [HR]; · iexact HR
  isplitl [H30]; · iexact H30
  isplitl [Hg14]; · iexact Hg14
  isplitl [Hv12]; · iexact Hv12
  iexact Hf

/-! ## The task -/

/-- The operands, each at a share. -/
abbrev insT (q : PosShare TreeShare) (I : TileIn F) : Pr F := iprop(((a2).view.loc (thr d L) ↦{q} I.mt) ∗ ((a3).view.loc (thr d L) ↦{q} I.ng) ∗ ((a4).view.loc (thr d L) ↦{q} I.bp) ∗ ((a5).view.loc (thr d L) ↦{q} I.x1) ∗ ((a6).view.loc (thr d L) ↦{q} I.y1) ∗ ((a7).view.loc (thr d L) ↦{q} I.x2) ∗ ((a8).view.loc (thr d L) ↦{q} I.y2) ∗ ((a9).view.loc (thr d L) ↦{q} I.lab) ∗ ((a10).view.loc (thr d L) ↦{q} I.px) ∗ ((a11).view.loc (thr d L) ↦{q} I.py) ∗ ((a12).view.loc (thr d L) ↦{q} I.pw) ∗ ((a13).view.loc (thr d L) ↦{q} I.ph))
/-- The tile's buffers, at some contents. -/
abbrev scr : Pr F := iprop((∃ f, pt (F := F) d L a16 f) ∗ (∃ f, pt (F := F) d L a17 f) ∗ (∃ f, pt (F := F) d L a18 f) ∗ (∃ f, pt (F := F) d L a19 f) ∗ (∃ f, pt (F := F) d L a20 f) ∗ (∃ f, pt (F := F) d L a21 f) ∗ (∃ f, pt (F := F) d L a22 f) ∗ (∃ f, pt (F := F) d L a23 f) ∗ (∃ f, pt (F := F) d L a24 f) ∗ (∃ f, pt (F := F) d L a25 f) ∗ (∃ f, pt (F := F) d L a26 f) ∗ (∃ f, pt (F := F) d L a27 f) ∗ (∃ f, pt (F := F) d L a28 f) ∗ (∃ f, pt (F := F) d L a29 f) ∗ (∃ f, pt (F := F) d L a30 f))
/-- The tile's transfer cells, at zero. -/
abbrev sems : Pr F := iprop(semVal (thr d L, .dma cc1_scoped0.sem) 0 ∗ semVal (thr d L, .dma cc1_scoped1.sem) 0 ∗ semVal (thr d L, .dma cc1_scoped2.sem) 0 ∗ semVal (thr d L, .dma cc1_scoped3.sem) 0 ∗ semVal (thr d L, .dma cc1_scoped4.sem) 0 ∗ semVal (thr d L, .dma cc1_scoped5.sem) 0 ∗ semVal (thr d L, .dma cc1_scoped6.sem) 0 ∗ semVal (thr d L, .dma cc1_scoped7.sem) 0 ∗ semVal (thr d L, .dma cc1_scoped8.sem) 0 ∗ semVal (thr d L, .dma cc1_scoped9.sem) 0 ∗ semVal (thr d L, .dma cc1_scoped10.sem) 0 ∗ semVal (thr d L, .dma cc1_scoped11.sem) 0 ∗ semVal (thr d L, .dma cc1_scoped12.sem) 0 ∗ semVal (thr d L, .dma cc1_scoped13.sem) 0)

set_option maxHeartbeats 2000000 in
/-- The tile's task. -/
theorem tile_core (q : PosShare TreeShare) (I : TileIn F) (g14 : Vec F S640000 .f32) (g15 : IVec S160000 32)
    (O : CellTallies nD τ sig (HIx 1)) (W : Waits sig (HIx 1)) (hO : ∀ g, O g none = 0) :
    iprop(levAts (K (F := F)).L (K (F := F)).lev ∗ (insT d L q I ∗ out12 d L g14 ∗ out13 d L g15) ∗ scr d L ∗ sems d L ∗ owX d L O W)
      ⊢ wpT d L (cc1__sc_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13) (fun _ => iprop((insT d L q I ∗ out12 d L (LOC I) ∗ out13 d L (LAB I)) ∗ scr d L ∗ sems d L ∗ owX d L O W)) := by
  rw [cc1__sc_body_eq_skeleton]
  unfold cc1__sc_body_skel
  iintro ⟨#Hlv, ⟨⟨H2, H3, H4, H5, H6, H7, H8, H9, H10, H11, H12, H13⟩, Hg14, Hg15⟩, ⟨⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩⟩, ⟨Hv0, Hv1, Hv2, Hv3, Hv4, Hv5, Hv6, Hv7, Hv8, Hv9, Hv10, Hv11, Hv12, Hv13⟩, HO⟩
  iapply (wpT_bind (F := F) d L)
  iapply (part2_wp (F := F) d L I q f16)
  isplitl [H2]; · iexact H2
  isplitl [H16]; · iexact H16
  isplitl [Hv0]; · iexact Hv0
  iintro %v18 %v29 %v31 %hB Hf
  subst hB
  iapply (wpT_bind (F := F) d L)
  iapply (part3_wp (F := F) d L I q O W hO f16 f17 f20 f21 f22)
  isplitr; · iexact Hlv
  isplitl [HO]; · iexact HO
  isplitl [Hf]; · iexact Hf
  isplitl [H3]; · iexact H3
  isplitl [H17]; · iexact H17
  isplitl [Hv1]; · iexact Hv1
  isplitl [H10]; · iexact H10
  isplitl [H20]; · iexact H20
  isplitl [Hv2]; · iexact Hv2
  isplitl [H11]; · iexact H11
  isplitl [H21]; · iexact H21
  isplitl [Hv3]; · iexact Hv3
  isplitl [H12]; · iexact H12
  isplitl [H22]; · iexact H22
  isplitl [Hv4]; · iexact Hv4
  iintro ⟨HO, H16, H2, Hv0, H17, H3, Hv1, H20, H10, Hv2, H21, H11, Hv3, H22, H12, Hv4⟩
  iapply (wpT_bind (F := F) d L)
  iapply (part4_wp (F := F) d L I q O W hO v18 f23 f24 f25 f26 f27 f28 f29)
  isplitr; · iexact Hlv
  isplitl [HO]; · iexact HO
  isplitl [H13]; · iexact H13
  isplitl [H23]; · iexact H23
  isplitl [Hv5]; · iexact Hv5
  isplitl [H4]; · iexact H4
  isplitl [H24]; · iexact H24
  isplitl [Hv6]; · iexact Hv6
  isplitl [H5]; · iexact H5
  isplitl [H25]; · iexact H25
  isplitl [Hv7]; · iexact Hv7
  isplitl [H6]; · iexact H6
  isplitl [H26]; · iexact H26
  isplitl [Hv8]; · iexact Hv8
  isplitl [H7]; · iexact H7
  isplitl [H27]; · iexact H27
  isplitl [Hv9]; · iexact Hv9
  isplitl [H8]; · iexact H8
  isplitl [H28]; · iexact H28
  isplitl [Hv10]; · iexact Hv10
  isplitl [H9]; · iexact H9
  isplitl [H29]; · iexact H29
  isplitl [Hv11]; · iexact Hv11
  iintro ⟨HO, H23, H13, Hv5, H24, H4, Hv6, H25, H5, Hv7, H26, H6, Hv8, H27, H7, Hv9, H28, H8, Hv10, H29, H9, Hv11⟩
  iapply (wpT_bind (F := F) d L)
  iapply (part5_wp (F := F) d L (got0 (F := F) L f16 I.mt) (got6 (F := F) L f24 I.bp) (BitVec.ofNat 32 (wB L)))
  isplitl [H16]; · iexact H16
  isplitl [H18]; · iexists f18; iexact H18
  isplitl [H24]; · iexact H24
  iintro ⟨H16, H18, H24⟩
  iapply (wpT_bind (F := F) d L)
  iapply (part6_wp (F := F) d L (got0 (F := F) L f16 I.mt) (got6 (F := F) L f24 I.bp) (BitVec.ofNat 32 (wB L)))
  isplitl [H16]; · iexact H16
  isplitl [H24]; · iexact H24
  iintro ⟨H16, H24⟩
  iapply (wpT_bind (F := F) d L)
  iapply (part7_wp (F := F) d L (got0 (F := F) L f16 I.mt) (got6 (F := F) L f24 I.bp) (BitVec.ofNat 32 (wB L)))
  isplitl [H16]; · iexact H16
  isplitl [H18]; · iexact H18
  iintro ⟨H16, H18⟩
  iapply (wpT_bind (F := F) d L)
  iapply (part8_wp (F := F) d L (got0 (F := F) L f16 I.mt) (got6 (F := F) L f24 I.bp) (BitVec.ofNat 32 (wB L)))
  isplitl [H16]; · iexact H16
  isplitl [H24]; · iexact H24
  iintro ⟨H16, H24⟩
  iapply (wpT_bind (F := F) d L)
  iapply (part9_wp (F := F) d L (got0 (F := F) L f16 I.mt) (got6 (F := F) L f24 I.bp) (BitVec.ofNat 32 (wB L)))
  isplitl [H16]; · iexact H16
  isplitl [H18]; · iexact H18
  iintro ⟨H16, H18⟩
  iapply (wpT_bind (F := F) d L)
  iapply (part10_wp (F := F) d L (got0 (F := F) L f16 I.mt) (got6 (F := F) L f24 I.bp) (BitVec.ofNat 32 (wB L)))
  isplitl [H16]; · iexact H16
  isplitl [H18]; · iexact H18
  isplitl [H24]; · iexact H24
  iintro ⟨H16, H18, H24⟩
  iapply (wpT_bind (F := F) d L)
  iapply (part11_wp (F := F) d L (got0 (F := F) L f16 I.mt) (got6 (F := F) L f24 I.bp) (BitVec.ofNat 32 (wB L)))
  isplitl [H16]; · iexact H16
  iintro H16
  iapply (wpT_bind (F := F) d L)
  iapply (part12_wp (F := F) d L (got0 (F := F) L f16 I.mt) (got6 (F := F) L f24 I.bp) (BitVec.ofNat 32 (wB L)))
  isplitl [H16]; · iexact H16
  isplitl [H18]; · iexact H18
  isplitl [H24]; · iexact H24
  iintro ⟨H16, H18, H24⟩
  iapply (wpT_bind (F := F) d L)
  iapply (part13_wp (F := F) d L (got0 (F := F) L f16 I.mt) (got6 (F := F) L f24 I.bp) (BitVec.ofNat 32 (wB L)))
  isplitl [H16]; · iexact H16
  isplitl [H24]; · iexact H24
  iintro ⟨H16, H24⟩
  iapply (wpT_bind (F := F) d L)
  iapply (part14_wp (F := F) d L (got0 (F := F) L f16 I.mt) (got6 (F := F) L f24 I.bp) (BitVec.ofNat 32 (wB L)))
  isplitl [H16]; · iexact H16
  isplitl [H18]; · iexact H18
  iintro ⟨H16, H18⟩
  iapply (wpT_bind (F := F) d L)
  iapply (part15_wp (F := F) d L (got0 (F := F) L f16 I.mt) (got6 (F := F) L f24 I.bp) (BitVec.ofNat 32 (wB L)))
  isplitl [H16]; · iexact H16
  isplitl [H24]; · iexact H24
  iintro ⟨H16, H24⟩
  iapply (wpT_bind (F := F) d L)
  iapply (part16_wp (F := F) d L (got0 (F := F) L f16 I.mt) (got6 (F := F) L f24 I.bp) (BitVec.ofNat 32 (wB L)))
  isplitl [H16]; · iexact H16
  isplitl [H18]; · iexact H18
  iintro ⟨H16, H18⟩
  let E : EncIn F := { mt := mtBuf (got0 (F := F) L f16 I.mt) (bpl (got6 (F := F) L f24 I.bp)) (BitVec.ofNat 32 (wB L)) 112, ng := got1 (F := F) L f17 I.ng, fc := fcBuf (bpl (got6 (F := F) L f24 I.bp)) (BitVec.ofNat 32 (wB L)) 7, px := got2 (F := F) L f20 I.px, py := got3 (F := F) L f21 I.py, pw := got4 (F := F) L f22 I.pw, ph := got5 (F := F) L f23 I.ph, x1 := got7 (F := F) L f25 I.x1, y1 := got8 (F := F) L f26 I.y1, x2 := got9 (F := F) L f27 I.x2, y2 := got10 (F := F) L f28 I.y2, lab := got11 (F := F) L f29 I.lab }
  have HF : Fetched I L (got0 (F := F) L f16 I.mt) (got6 (F := F) L f24 I.bp) E :=
    { mt := got0_at (F := F) L f16 I.mt, ng := got1_at (F := F) L f17 I.ng, px := got2_at (F := F) L f20 I.px, py := got3_at (F := F) L f21 I.py,
      pw := got4_at (F := F) L f22 I.pw, ph := got5_at (F := F) L f23 I.ph, bp := got6_at (F := F) L f24 I.bp, x1 := got7_at (F := F) L f25 I.x1,
      y1 := got8_at (F := F) L f26 I.y1, x2 := got9_at (F := F) L f27 I.x2, y2 := got10_at (F := F) L f28 I.y2, lab := got11_at (F := F) L f29 I.lab,
      emt := rfl, efc := rfl }
  iapply (wpT_bind (F := F) d L)
  iapply (part17_wp (F := F) d L E (got0 (F := F) L f16 I.mt) (got6 (F := F) L f24 I.bp) (BitVec.ofNat 32 (wB L)) v31 rfl O W hO g14 g15)
  isplitr; · iexact Hlv
  isplitl [HO]; · iexact HO
  isplitl [H16]; · iexact H16
  isplitl [H17 H18 H20 H21 H22 H23 H25 H26 H27 H28 H29]
  · iintro H16
    isplitl [H16]; · iexact H16
    isplitl [H17]; · iexact H17
    isplitl [H18]; · iexact H18
    isplitl [H20]; · iexact H20
    isplitl [H21]; · iexact H21
    isplitl [H22]; · iexact H22
    isplitl [H23]; · iexact H23
    isplitl [H25]; · iexact H25
    isplitl [H26]; · iexact H26
    isplitl [H27]; · iexact H27
    isplitl [H28]; · iexact H28
    iexact H29
  isplitl [H19]; · iexists f19; iexact H19
  isplitl [H30]; · iexists f30; iexact H30
  isplitl [Hg14]; · iexact Hg14
  isplitl [Hg15]; · iexact Hg15
  isplitl [Hv12]; · iexact Hv12
  isplitl [Hv13]; · iexact Hv13
  iintro %fl %fo ⟨%HE, HO, ⟨H16, H17, H18, H20, H21, H22, H23, H25, H26, H27, H28, H29⟩, H30, Hg14, Hv12, Hf⟩
  iapply (wp_wt (F := F) d L (src := src13) (dst := dst13 L) (q := fullShare) (W := W) hO) $$ [Hf HO]
  · isplitl [Hf]; · iexact Hf
    isplitl [HO]; · iexact HO
    iexact Hlv
  iintro ⟨Hg15, H19, Hv13, HO⟩
  iapply (wp_done d L)
  ihave Hg14' := (Entails.of_eq (put12 (F := F) d HF HE g14)) $$ Hg14
  ihave Hg15' := (Entails.of_eq (put13 (F := F) d HF HE g15)) $$ Hg15
  isplitl [H2 H3 H4 H5 H6 H7 H8 H9 H10 H11 H12 H13 Hg14' Hg15']
  · isplitl [H2 H3 H4 H5 H6 H7 H8 H9 H10 H11 H12 H13]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [Hg14']; · iexact Hg14'
    iexact Hg15'
  isplitl [H16 H17 H18 H19 H20 H21 H22 H23 H24 H25 H26 H27 H28 H29 H30]
  · isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    iexists _; iexact H30
  isplitl [Hv0 Hv1 Hv2 Hv3 Hv4 Hv5 Hv6 Hv7 Hv8 Hv9 Hv10 Hv11 Hv12 Hv13]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    iexact Hv13
  iexact HO

end Cert.Proof

end
-- ==== Proof.TileObl.lean ====
/-
  The SparseCore call as the launch theorem takes it: what goes to each tile and comes back, the tile's obligation, and
  how the call's operands split over the thirty-two tiles and join again.
-/
module

public import proofs.«01_k».proof.Proof.Tile
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx Pay tileRest ownBufs ownSems0 ownCells ownRefs mem_ownCells mem_ownRefs)

variable {F : FTy → Type} [FloatOps F] [Named F]

/-! ## A tile's own cells and buffers -/

/-- Listed members of a set taken out of it. -/
theorem bigSep_take {α β : Type} [DecidableEq α] {M : Type} [URA M] (Φ : α → sProp M) (f : β → α) (hf : Function.Injective f) :
    ∀ (l : List β) (S : Finset α), l.Nodup → (∀ b ∈ l, f b ∈ S) →
      ∃ R : sProp M, bigSep S Φ = l.foldr (fun b P => iprop(Φ (f b) ∗ P)) R
  | [], S, _, _ => ⟨_, rfl⟩
  | b :: l, S, hn, hm => by
    obtain ⟨hb, hn⟩ := List.nodup_cons.mp hn
    obtain ⟨R, hR⟩ := bigSep_take Φ f hf l (S.erase (f b)) hn fun c hc =>
      Finset.mem_erase.mpr ⟨fun e => hb (hf e ▸ hc), hm c (List.mem_cons_of_mem _ hc)⟩
    exact ⟨R, (SparseCore.bigSep_erase' (hm b (List.mem_cons_self ..))).trans (congrArg (fun P => iprop(Φ (f b) ∗ P)) hR)⟩

/-- The tile's fourteen transfer cells. -/
def cellList : List (SemLoc sig) := [.dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem]
/-- The tile's fifteen buffers. -/
def refList : List (Ref sig .scVector) := [cc1_scratch0, cc1_scratch1, cc1_scratch2, cc1_scratch3, cc1_scratch4, cc1_scratch5, cc1_scratch6, cc1_scratch7, cc1_scratch8, cc1_scratch9, cc1_scratch10, cc1_scratch11, cc1_scratch12, cc1_scratch13, cc1_scratch14]

variable (d : Dev nD) (L : grid1.Coords)

omit [FloatOps F] [Named F] in
theorem ownSems_take : ∃ R : Pr F, ownSems0 (thr d L) = cellList.foldr (fun s P => iprop(semVal (thr d L, s) 0 ∗ P)) R := by
  unfold SparseCore.Cfg.ownSems0
  refine bigSep_take _ (fun s : SemLoc sig => ((thr d L, s) : GSem nD τ sig)) (fun _ _ e => (Prod.mk.inj e).2) cellList _ (by decide) fun s hs => ?_
  refine mem_ownCells.mpr ⟨rfl, ?_⟩
  exact (show ∀ s ∈ cellList, s.isScoped .scVector = true by decide) s hs

omit [FloatOps F] [Named F] in
theorem ownBufs_take : ∃ R : Pr F, ownBufs (thr d L)
    = refList.foldr (fun b P => iprop((∃ f, ((d, (thr d L).2.devRef b) : Loc nD τ sig) ↦{fullShare} f) ∗ P)) R := by
  unfold SparseCore.Cfg.ownBufs
  refine bigSep_take _ (fun b : Ref sig .scVector => (thr d L).2.devRef b) (fun _ _ e => Proc.devRef_injective (thr d L).2 e) refList _ (by decide) fun b hb => ?_
  refine SparseCore.Cfg.mem_ownRefs_of_owner ?_
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  rcases List.mem_cons.mp hb with rfl | hb
  · rfl
  nomatch hb

/-- A run's post-condition replaced by one it gives, with what is kept aside. -/
theorem wpT_wand {A B : PUnit → Pr F} {e : Prog (TpuEff nD τ sig (Elt F) Λ₀ (thr d L).2) PUnit} :
    iprop(wpT d L e A ∗ (A ⟨⟩ -∗ B ⟨⟩)) ⊢ wp frame (wpE (defs₀ (F := F)) 𝒱₀ (thr d L) none) Set.univ e B := by
  iintro ⟨H1, H2⟩
  iapply (wp_wand_r (Q := A) frame _ _)
  isplitl [H1]; · iexact H1
  iintro %u
  iexact H2

set_option maxHeartbeats 1000000 in
/-- The tile's task, as the handshake hands it over. -/
theorem tile_body (hF : (K (F := F)).Facts) (q : PosShare TreeShare) (I : TileIn F) (g14 : Vec F S640000 .f32) (g15 : IVec S160000 32)
    (O : CellTallies nD τ sig (HIx 1)) (W : Waits sig (HIx 1)) (hO : ∀ g, O g none = 0) :
    iprop(levAts (K (F := F)).L (K (F := F)).lev ∗ emp ∗ (insT d L q I ∗ out12 d L g14 ∗ out13 d L g15)
        ∗ scopedBufs (thr d L) ∗ scopedSems0 (thr d L) ∗ owes (thr d L) O W)
      ⊢ wp frame (wpE (defs₀ (F := F)) 𝒱₀ (thr d L) none) Set.univ (cc1__sc_body (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13)
          fun _ => iprop((insT d L q I ∗ out12 d L (LOC I) ∗ out13 d L (LAB I)) ∗ scopedBufs (thr d L) ∗ scopedSems0 (thr d L)
            ∗ ∃ W', ⌜∀ p ∈ W', p ∈ W ∨ p.2 = none⌝ ∗ owes (thr d L) O W') := by
  obtain ⟨RB, hB⟩ := ownBufs_take (F := F) d L
  obtain ⟨RS, hS⟩ := ownSems_take (F := F) d L
  rw [(K (F := F)).scopedBufs_V hF d (cV L) (jV L), SparseCore.Cfg.scopedSems0_V (Val := Elt F) d (cV L) (jV L), hS, hB]
  simp only [cellList, refList, List.foldr_cons, List.foldr_nil]
  iintro ⟨Hlv, -, Hio, ⟨H16, H17, H18, H19, H20, H21, H22, H23, H24, H25, H26, H27, H28, H29, H30, HB⟩, ⟨Hv0, Hv1, Hv2, Hv3, Hv4, Hv5, Hv6, Hv7, Hv8, Hv9, Hv10, Hv11, Hv12, Hv13, HS⟩, HO⟩
  iapply (wpT_wand (F := F) d L)
  isplitl [Hlv Hio H16 H17 H18 H19 H20 H21 H22 H23 H24 H25 H26 H27 H28 H29 H30 Hv0 Hv1 Hv2 Hv3 Hv4 Hv5 Hv6 Hv7 Hv8 Hv9 Hv10 Hv11 Hv12 Hv13 HO]
  · iapply (tile_core (F := F) d L q I g14 g15 O W hO)
    isplitl [Hlv]; · iexact Hlv
    isplitl [Hio]; · iexact Hio
    isplitl [H16 H17 H18 H19 H20 H21 H22 H23 H24 H25 H26 H27 H28 H29 H30]
    · isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      iexact H30
    isplitl [Hv0 Hv1 Hv2 Hv3 Hv4 Hv5 Hv6 Hv7 Hv8 Hv9 Hv10 Hv11 Hv12 Hv13]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      isplitl [Hv7]; · iexact Hv7
      isplitl [Hv8]; · iexact Hv8
      isplitl [Hv9]; · iexact Hv9
      isplitl [Hv10]; · iexact Hv10
      isplitl [Hv11]; · iexact Hv11
      isplitl [Hv12]; · iexact Hv12
      iexact Hv13
    iexists W
    isplitr; · ipureintro; exact fun p hp => Or.inl hp
    iexact HO
  iintro ⟨Hio, ⟨H16, H17, H18, H19, H20, H21, H22, H23, H24, H25, H26, H27, H28, H29, H30⟩, ⟨Hv0, Hv1, Hv2, Hv3, Hv4, Hv5, Hv6, Hv7, Hv8, Hv9, Hv10, Hv11, Hv12, Hv13⟩, HO⟩
  isplitl [Hio]; · iexact Hio
  isplitl [H16 H17 H18 H19 H20 H21 H22 H23 H24 H25 H26 H27 H28 H29 H30 HB]
  · isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact HB
  isplitl [Hv0 Hv1 Hv2 Hv3 Hv4 Hv5 Hv6 Hv7 Hv8 Hv9 Hv10 Hv11 Hv12 Hv13 HS]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    isplitl [Hv11]; · iexact Hv11
    isplitl [Hv12]; · iexact Hv12
    isplitl [Hv13]; · iexact Hv13
    iexact HS
  iexact HO

end Cert.Proof

end
-- ==== Proof.Deal.lean ====
/-
  What the SparseCore call's handshakes carry, its tiles' obligation, and its operands dealt to the tiles and gathered.
-/
module

public import proofs.«01_k».proof.Proof.TileObl
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx Pay tileRest ownBufs ownSems0 ownCells ownRefs mem_ownCells mem_ownRefs)

variable {F : FTy → Type} [FloatOps F] [Named F]

/-- The grid point of tile `s` of core `c`. -/
def coordsV (c : Fin 2) (s : Fin 16) : grid1.Coords :=
  fun | 0 => c | 1 => s | ⟨_ + 2, h⟩ => absurd h (Nat.not_lt.2 (Nat.le_add_left _ _))

omit [Named F] in
theorem wid_inj {c c' : Fin 2} {s s' : Fin 16} (e : wid (coordsV c s) = wid (coordsV c' s')) : (c, s) = (c', s') := by
  have e' : s.val * 2 + c.val = s'.val * 2 + c'.val := e
  obtain ⟨c, hc⟩ := c
  obtain ⟨c', hc'⟩ := c'
  obtain ⟨s, hs⟩ := s
  obtain ⟨s', hs'⟩ := s'
  dsimp only at e'
  obtain rfl : c = c' := by omega
  obtain rfl : s = s' := by omega
  rfl

omit [Named F] in
theorem coordsV_wid (c : Fin 2) (s : Fin 16) : wid (coordsV c s) = s.val * 2 + c.val := rfl

/-- The share of the operands dealt to tile `s` of core `c`. -/
def shr (c : Fin 2) (s : Fin 16) : PosShare TreeShare :=
  Transfers.dealOf (Transfers.dealOf fullShare (Finset.univ : Finset (Fin 2)) c) (Finset.univ : Finset (Fin 16)) s

omit [FloatOps F] [Named F] in
theorem deal_all {ℓ : Loc nD τ sig} (f : Buf (Elt F) ℓ) :
    (ℓ ↦{fullShare} f : Pr F) = bigSep Finset.univ fun c : Fin 2 => bigSep Finset.univ fun s : Fin 16 => ℓ ↦{shr c s} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

/-! ## The rows of the two results -/

variable (d : Dev nD)

omit [FloatOps F] [Named F] in
theorem mem_dst12 (L : grid1.Coords) (i : S640000.Idx) : i ∈ (dst12 L).view.set ↔ (i 0).val / 20000 = wid L := by
  have e : ∀ x : S20000.Idx, (((dst12 L).view.emb x) 0).val = wid L * 20000 + (x 0).val := fun x => by
    show k1_off7 L 0 + 1 * (x 0).val = _
    rw [off7_eq]
    omega
  constructor
  · intro h
    obtain ⟨x, -, rfl⟩ := Finset.mem_map.mp h
    have hx : (x 0).val < 20000 := (x 0).isLt
    have := e x
    omega
  · intro h
    refine Finset.mem_map.mpr ⟨at1 ((i 0).val % 20000) (Nat.mod_lt _ (by decide)), Finset.mem_univ _, ?_⟩
    funext a
    obtain rfl := Fin.eq_zero a
    refine Fin.ext ((e _).trans ?_)
    show wid L * 20000 + (i 0).val % 20000 = (i 0).val
    omega

omit [FloatOps F] [Named F] in
theorem mem_dst13 (L : grid1.Coords) (i : S160000.Idx) : i ∈ (dst13 L).view.set ↔ (i 0).val / 5000 = wid L := by
  have e : ∀ x : S5000.Idx, (((dst13 L).view.emb x) 0).val = wid L * 5000 + (x 0).val := fun x => by
    show k1_off8 L 0 + 1 * (x 0).val = _
    rw [off8_eq]
    omega
  constructor
  · intro h
    obtain ⟨x, -, rfl⟩ := Finset.mem_map.mp h
    have hx : (x 0).val < 5000 := (x 0).isLt
    have := e x
    omega
  · intro h
    refine Finset.mem_map.mpr ⟨at1 ((i 0).val % 5000) (Nat.mod_lt _ (by decide)), Finset.mem_univ _, ?_⟩
    funext a
    obtain rfl := Fin.eq_zero a
    refine Fin.ext ((e _).trans ?_)
    show wid L * 5000 + (i 0).val % 5000 = (i 0).val
    omega

omit [FloatOps F] [Named F] in
theorem cov12 (i : S640000.Idx) : ∃ c : Fin 2, ∃ s : Fin 16, (i 0).val / 20000 = wid (coordsV c s) := by
  have hi : (i 0).val < 640000 := (i 0).isLt
  generalize (i 0).val = n at hi
  exact ⟨⟨n / 20000 % 2, Nat.mod_lt _ (by decide)⟩, ⟨n / 20000 / 2, by omega⟩, by
    show n / 20000 = n / 20000 / 2 * 2 + n / 20000 % 2
    omega⟩

omit [FloatOps F] [Named F] in
theorem rows12 (f : Vec F S640000 .f32) : ((SparseCore.T d).loc main_v26_0 ↦{fullShare} f : Pr F)
    = bigSep Finset.univ fun c : Fin 2 => bigSep Finset.univ fun s : Fin 16 => out12 d (coordsV c s) f := by
  rw [← bigSep_univ_prod (Φ := fun p : Fin 2 × Fin 16 => out12 (F := F) d (coordsV p.1 p.2) f)]
  refine Eq.trans ?_ (pointsTo_biUnion (Finset.univ : Finset (Fin 2 × Fin 16)) (ℓ := (SparseCore.T d).loc main_v26_0)
    (fun p => ((dst12 (coordsV p.1 p.2)).view.set : Finset S640000.Idx)) ?_)
  · refine congrArg (fun S => ((SparseCore.T d).loc main_v26_0 ↦[S]{fullShare} f : Pr F)) (Eq.symm ?_)
    refine Finset.eq_univ_iff_forall.mpr fun (i : S640000.Idx) => Finset.mem_biUnion.mpr ?_
    obtain ⟨c, s, h⟩ := cov12 i
    exact ⟨(c, s), Finset.mem_univ _, (mem_dst12 _ i).mpr h⟩
  · rintro ⟨c, s⟩ - ⟨c', s'⟩ - hne
    refine Finset.disjoint_left.mpr fun (i : S640000.Idx) h h' => hne ?_
    exact wid_inj (((mem_dst12 _ i).mp h).symm.trans ((mem_dst12 _ i).mp h'))

omit [FloatOps F] [Named F] in
theorem cov13 (i : S160000.Idx) : ∃ c : Fin 2, ∃ s : Fin 16, (i 0).val / 5000 = wid (coordsV c s) := by
  have hi : (i 0).val < 160000 := (i 0).isLt
  generalize (i 0).val = n at hi
  exact ⟨⟨n / 5000 % 2, Nat.mod_lt _ (by decide)⟩, ⟨n / 5000 / 2, by omega⟩, by
    show n / 5000 = n / 5000 / 2 * 2 + n / 5000 % 2
    omega⟩

omit [FloatOps F] [Named F] in
theorem rows13 (f : IVec S160000 32) : ((SparseCore.T d).loc main_v26_1 ↦{fullShare} f : Pr F)
    = bigSep Finset.univ fun c : Fin 2 => bigSep Finset.univ fun s : Fin 16 => out13 (F := F) d (coordsV c s) f := by
  rw [← bigSep_univ_prod (Φ := fun p : Fin 2 × Fin 16 => out13 (F := F) d (coordsV p.1 p.2) f)]
  refine Eq.trans ?_ (pointsTo_biUnion (Finset.univ : Finset (Fin 2 × Fin 16)) (ℓ := (SparseCore.T d).loc main_v26_1)
    (fun p => ((dst13 (coordsV p.1 p.2)).view.set : Finset S160000.Idx)) ?_)
  · refine congrArg (fun S => ((SparseCore.T d).loc main_v26_1 ↦[S]{fullShare} f : Pr F)) (Eq.symm ?_)
    refine Finset.eq_univ_iff_forall.mpr fun (i : S160000.Idx) => Finset.mem_biUnion.mpr ?_
    obtain ⟨c, s, h⟩ := cov13 i
    exact ⟨(c, s), Finset.mem_univ _, (mem_dst13 _ i).mpr h⟩
  · rintro ⟨c, s⟩ - ⟨c', s'⟩ - hne
    refine Finset.disjoint_left.mpr fun (i : S160000.Idx) h h' => hne ?_
    exact wid_inj (((mem_dst13 _ i).mp h).symm.trans ((mem_dst13 _ i).mp h'))

/-! ## What the handshakes carry -/

omit [FloatOps F] [Named F] in
theorem sep_regroup (a0 a1 a2 a3 a4 a5 a6 a7 a8 a9 a10 a11 a12 a13 : Pr F) :
    iprop(a0 ∗ a1 ∗ a2 ∗ a3 ∗ a4 ∗ a5 ∗ a6 ∗ a7 ∗ a8 ∗ a9 ∗ a10 ∗ a11 ∗ a12 ∗ a13) = iprop((a0 ∗ a1 ∗ a2 ∗ a3 ∗ a4 ∗ a5 ∗ a6 ∗ a7 ∗ a8 ∗ a9 ∗ a10 ∗ a11) ∗ a12 ∗ a13) := by
  have h1 : iprop(a0 ∗ a1 ∗ a2 ∗ a3 ∗ a4 ∗ a5 ∗ a6 ∗ a7 ∗ a8 ∗ a9 ∗ a10 ∗ a11 ∗ a12 ∗ a13) ⊢ (iprop((a0 ∗ a1 ∗ a2 ∗ a3 ∗ a4 ∗ a5 ∗ a6 ∗ a7 ∗ a8 ∗ a9 ∗ a10 ∗ a11) ∗ a12 ∗ a13) : Pr F) := by
    iintro ⟨H0, H1, H2, H3, H4, H5, H6, H7, H8, H9, H10, H11, H12, H13⟩
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    iexact H13
  have h2 : iprop((a0 ∗ a1 ∗ a2 ∗ a3 ∗ a4 ∗ a5 ∗ a6 ∗ a7 ∗ a8 ∗ a9 ∗ a10 ∗ a11) ∗ a12 ∗ a13) ⊢ (iprop(a0 ∗ a1 ∗ a2 ∗ a3 ∗ a4 ∗ a5 ∗ a6 ∗ a7 ∗ a8 ∗ a9 ∗ a10 ∗ a11 ∗ a12 ∗ a13) : Pr F) := by
    iintro ⟨⟨H0, H1, H2, H3, H4, H5, H6, H7, H8, H9, H10, H11⟩, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  exact BI.Entails.antisymm h1 h2

/-- A tile's piece of the call's operands, with the results' rows at `g14` and `g15`. -/
def piece (I : TileIn F) (g14 : Vec F S640000 .f32) (g15 : IVec S160000 32) (c : Fin 2) (s : Fin 16) : Pr F :=
  iprop(insT d (coordsV c s) (shr c s) I ∗ out12 d (coordsV c s) g14 ∗ out13 d (coordsV c s) g15)

/-- The call's operands, whole. -/
def wholeT (I : TileIn F) (g14 : Vec F S640000 .f32) (g15 : IVec S160000 32) : Pr F :=
  iprop(((SparseCore.T d).loc main_v6 ↦{fullShare} I.mt) ∗ ((SparseCore.T d).loc main_v7 ↦{fullShare} I.ng) ∗ ((SparseCore.T d).loc main_v8 ↦{fullShare} I.bp) ∗ ((SparseCore.T d).loc main_v10 ↦{fullShare} I.x1) ∗ ((SparseCore.T d).loc main_v12 ↦{fullShare} I.y1) ∗ ((SparseCore.T d).loc main_v14 ↦{fullShare} I.x2) ∗ ((SparseCore.T d).loc main_v16 ↦{fullShare} I.y2) ∗ ((SparseCore.T d).loc main_v17 ↦{fullShare} I.lab) ∗ ((SparseCore.T d).loc main_v19 ↦{fullShare} I.px) ∗ ((SparseCore.T d).loc main_v21 ↦{fullShare} I.py) ∗ ((SparseCore.T d).loc main_v23 ↦{fullShare} I.pw) ∗ ((SparseCore.T d).loc main_v25 ↦{fullShare} I.ph)
    ∗ ((SparseCore.T d).loc main_v26_0 ↦{fullShare} g14) ∗ ((SparseCore.T d).loc main_v26_1 ↦{fullShare} g15))

omit [FloatOps F] [Named F] in
theorem whole_pieces (I : TileIn F) (g14 : Vec F S640000 .f32) (g15 : IVec S160000 32) :
    wholeT d I g14 g15 = bigSep Finset.univ fun c : Fin 2 => bigSep Finset.univ fun s : Fin 16 => piece d I g14 g15 c s := by
  unfold wholeT
  rw [deal_all (ℓ := (SparseCore.T d).loc main_v6) I.mt, deal_all (ℓ := (SparseCore.T d).loc main_v7) I.ng, deal_all (ℓ := (SparseCore.T d).loc main_v8) I.bp, deal_all (ℓ := (SparseCore.T d).loc main_v10) I.x1, deal_all (ℓ := (SparseCore.T d).loc main_v12) I.y1, deal_all (ℓ := (SparseCore.T d).loc main_v14) I.x2, deal_all (ℓ := (SparseCore.T d).loc main_v16) I.y2, deal_all (ℓ := (SparseCore.T d).loc main_v17) I.lab, deal_all (ℓ := (SparseCore.T d).loc main_v19) I.px, deal_all (ℓ := (SparseCore.T d).loc main_v21) I.py, deal_all (ℓ := (SparseCore.T d).loc main_v23) I.pw, deal_all (ℓ := (SparseCore.T d).loc main_v25) I.ph,
    rows12 d g14, rows13 d g15]
  simp only [← bigSep_sep']
  refine bigSep_congr fun c _ => bigSep_congr fun s _ => ?_
  unfold piece insT
  exact sep_regroup _ _ _ _ _ _ _ _ _ _ _ _ _ _

variable (X : Dev nD → TileIn F) (m : (ℓ : Loc nD τ sig) → Buf (Elt F) ℓ)

omit [FloatOps F] [Named F] in
theorem nCore_all : ∀ q : Fin 1, (K (F := F)).nCore q = 2 := fun q => match q with | 0 => rfl
omit [FloatOps F] [Named F] in
theorem nSub_all : ∀ q : Fin 1, (K (F := F)).nSub q = 16 := fun q => match q with | 0 => rfl
/-- What the call's two results hold at the launch. -/
def old0 (d : Dev nD) : Vec F S640000 .f32 := m ((SparseCore.T d).loc main_v26_0)
def old1 (d : Dev nD) : IVec S160000 32 := m ((SparseCore.T d).loc main_v26_1)

/-- What goes to core `c`'s tiles, the results' rows at `g14` and `g15`. -/
def rowP (I : TileIn F) (g14 : Vec F S640000 .f32) (g15 : IVec S160000 32) (c : Fin 2) : Pr F :=
  bigSep Finset.univ fun i : Fin 16 => piece d I g14 g15 c i

/-- The call takes each tile's piece, and brings it back with the tile's rows written. -/
def P : (K (F := F)).Pay (nD := nD) (Val := Elt F) (Name := ℕ) (U := UU) where
  st := fun q d c => rowP d (X d) (old0 m d) (old1 m d) (Fin.cast (nCore_all q) c)
  dn := fun q d c => rowP d (X d) (LOC (X d)) (LAB (X d)) (Fin.cast (nCore_all q) c)
  go := fun q d c i => piece d (X d) (old0 m d) (old1 m d) (Fin.cast (nCore_all q) c) (Fin.cast (nSub_all q) i)
  td := fun q d c i => piece d (X d) (LOC (X d)) (LAB (X d)) (Fin.cast (nCore_all q) c) (Fin.cast (nSub_all q) i)
  x := fun _ _ => iprop(emp)

omit [FloatOps F] [Named F] in
theorem piece_storable (I : TileIn F) (g14 : Vec F S640000 .f32) (g15 : IVec S160000 32) (c : Fin 2) (s : Fin 16) :
    BI.Storable (upEmb : UEmb _ (MM F)) (piece d I g14 g15 c s) :=
  (inferInstance : BI.Storable (upEmb : UEmb _ (MM F)) iprop(insT d (coordsV c s) (shr c s) I ∗ out12 d (coordsV c s) g14 ∗ out13 d (coordsV c s) g15))

omit [FloatOps F] [Named F] in
theorem rowP_storable (I : TileIn F) (g14 : Vec F S640000 .f32) (g15 : IVec S160000 32) (c : Fin 2) :
    BI.Storable (upEmb : UEmb _ (MM F)) (rowP d I g14 g15 c) :=
  haveI := fun i : Fin 16 => piece_storable (F := F) d I g14 g15 c i
  (inferInstance : BI.Storable (upEmb : UEmb _ (MM F)) (bigSep Finset.univ fun i : Fin 16 => piece d I g14 g15 c i))

instance P_storable : (P (F := F) X m).IsStorable where
  st q d c := rowP_storable d _ _ _ _
  dn q d c := rowP_storable d _ _ _ _
  go q d c i := piece_storable d _ _ _ _ _
  td q d c i := piece_storable d _ _ _ _ _

/-! ## The tiles' obligation and the operands' split -/

theorem defs₀_vector (c : Fin τ.nSC) (s : Fin τ.nSub) :
    defs₀ (F := F) (.scVector c s) 1 ()
      = SparseCore.onTile hcore1 hsub1 (fun c s => cc1__sc_body (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) a14 (Memref.isWhole_whole _) a15 (Memref.isWhole_whole _) a16 (Memref.isWhole_whole _) a17 (Memref.isWhole_whole _) a18 (Memref.isWhole_whole _) a19 (Memref.isWhole_whole _) a20 (Memref.isWhole_whole _) a21 (Memref.isWhole_whole _) a22 (Memref.isWhole_whole _) a23 (Memref.isWhole_whole _) a24 (Memref.isWhole_whole _) a25 (Memref.isWhole_whole _) a26 (Memref.isWhole_whole _) a27 (Memref.isWhole_whole _) a28 (Memref.isWhole_whole _) a29 (Memref.isWhole_whole _) a30 (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13) ⟨⟩ c s := rfl

omit [FloatOps F] [Named F] in
theorem obl_post {thr : Thread nD τ} {A B C : Pr F} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P X m) v₀ 0 := by
  intro d c i O W hO _ _
  simp only [show (P X m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (shr (Fin.cast nCore_zero c) (Fin.cast nSub_zero i)) (X d) _ _ O W hO).trans (wp_mono frame _ _ fun _ => obl_post)

omit [FloatOps F] [Named F] in
theorem cast_all {n k : ℕ} (h : n = k) (Φ : Fin k → Pr F) : (bigSep Finset.univ fun i : Fin n => Φ (Fin.cast h i)) = bigSep Finset.univ Φ :=
  (bigSep_univ_equiv (finCongr h) Φ).symm

theorem P_st (q : Fin 1) (c : Fin ((K (F := F)).nCore q)) : (P X m).st q d c = rowP d (X d) (old0 m d) (old1 m d) (Fin.cast (nCore_all q) c) := rfl
theorem P_dn (q : Fin 1) (c : Fin ((K (F := F)).nCore q)) : (P X m).dn q d c = rowP d (X d) (LOC (X d)) (LAB (X d)) (Fin.cast (nCore_all q) c) := rfl
theorem P_go (q : Fin 1) (c : Fin ((K (F := F)).nCore q)) : (bigSep Finset.univ fun i => (P X m).go q d c i) = (P X m).st q d c :=
  cast_all (nSub_all q) fun i => piece d (X d) (old0 m d) (old1 m d) (Fin.cast (nCore_all q) c) i
theorem P_td (q : Fin 1) (c : Fin ((K (F := F)).nCore q)) : (bigSep Finset.univ fun i => (P X m).td q d c i) = (P X m).dn q d c :=
  cast_all (nSub_all q) fun i => piece d (X d) (LOC (X d)) (LAB (X d)) (Fin.cast (nCore_all q) c) i

theorem vecSplit : (K (F := F)).VecSplit' (P X m) 0 := by
  intro d c
  rw [P_go, P_td]
  iintro H; imodintro
  isplitl [H]; · iexact H
  iintro H; iexact H

theorem st0_eq : (bigSep Finset.univ fun c : Fin ((K (F := F)).nCore 0) => (P X m).st 0 d c) = wholeT d (X d) (old0 m d) (old1 m d) :=
  (cast_all (nCore_all 0) fun c => rowP d (X d) (old0 m d) (old1 m d) c).trans (whole_pieces d (X d) _ _).symm
theorem dn0_eq : (bigSep Finset.univ fun c : Fin ((K (F := F)).nCore 0) => (P X m).dn 0 d c) = wholeT d (X d) (LOC (X d)) (LAB (X d)) :=
  (cast_all (nCore_all 0) fun c => rowP d (X d) (LOC (X d)) (LAB (X d)) c).trans (whole_pieces d (X d) _ _).symm

end Cert.Proof

end
-- ==== Proof.TcBody.lean ====
/-
  The TensorCore pallas_call's body: what it leaves in its three result blocks, as functions of the two blocks it reads.
-/
module

public import proofs.«01_k».proof.Proof.Setup
public import proofs.«01_k».proof.Proof.Gen.KernelIdeal.Points
public import Idealize.ShloMosaic.Lib.Pipeline.Regions
public import Idealize.ShloMosaic.Lib.Pipeline.FrameBody
public import Idealize.ShloMosaic.Lib.Pipeline.Value
public import Idealize.ShloMosaic.Lib.Transfers

@[expose] public section

set_option maxRecDepth 16384

noncomputable section

namespace Cert.Proof

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx Pay tileRest ownBufs ownSems0 ownCells ownRefs mem_ownCells mem_ownRefs)

variable {F : FTy → Type} [FloatOps F] [Named F]

/-- The matched index's block, of the anchors' rows and one image's boxes. -/
def mtB (P : Vec F S4x20000 .f32) (G : Vec F S1x100x4 .f32) : IVec S1x1x20000 32 :=
  k0_pay20 (k0_pay7 (View.ld P (Rect.unit (s := S4x20000) ![1, 0] S1x20000.size inb_S4x20000_S1x20000_1_0)) (View.ld P (Rect.unit (s := S4x20000) ![3, 0] S1x20000.size inb_S4x20000_S1x20000_3_0))) (k0_pay8 (View.ld P (Rect.unit (s := S4x20000) ![0, 0] S1x20000.size inb_S4x20000_S1x20000_0_0)) (View.ld P (Rect.unit (s := S4x20000) ![2, 0] S1x20000.size inb_S4x20000_S1x20000_2_0))) (k0_pay9 (View.ld P (Rect.unit (s := S4x20000) ![1, 0] S1x20000.size inb_S4x20000_S1x20000_1_0)) (View.ld P (Rect.unit (s := S4x20000) ![3, 0] S1x20000.size inb_S4x20000_S1x20000_3_0))) (k0_pay10 (View.ld P (Rect.unit (s := S4x20000) ![2, 0] S1x20000.size inb_S4x20000_S1x20000_2_0)) (View.ld P (Rect.unit (s := S4x20000) ![3, 0] S1x20000.size inb_S4x20000_S1x20000_3_0))) (k0_pay12 (View.ld G (Rect.unit (s := S1x100x4) ![0, 0, 1] S1x100x1.size inb_S1x100x4_S1x100x1_0_0_1))) (k0_pay13 (View.ld G (Rect.unit (s := S1x100x4) ![0, 0, 2] S1x100x1.size inb_S1x100x4_S1x100x1_0_0_2))) (k0_pay14 (View.ld G (Rect.unit (s := S1x100x4) ![0, 0, 3] S1x100x1.size inb_S1x100x4_S1x100x1_0_0_3))) (k0_pay15 (View.ld G (Rect.unit (s := S1x100x4) ![0, 0, 0] S1x100x1.size inb_S1x100x4_S1x100x1_0_0_0)) (View.ld G (Rect.unit (s := S1x100x4) ![0, 0, 1] S1x100x1.size inb_S1x100x4_S1x100x1_0_0_1)) (View.ld G (Rect.unit (s := S1x100x4) ![0, 0, 2] S1x100x1.size inb_S1x100x4_S1x100x1_0_0_2)) (View.ld G (Rect.unit (s := S1x100x4) ![0, 0, 3] S1x100x1.size inb_S1x100x4_S1x100x1_0_0_3))) (k0_pay16 (View.ld P (Rect.unit (s := S4x20000) ![0, 0] S1x20000.size inb_S4x20000_S1x20000_0_0)) (View.ld P (Rect.unit (s := S4x20000) ![2, 0] S1x20000.size inb_S4x20000_S1x20000_2_0)) (View.ld G (Rect.unit (s := S1x100x4) ![0, 0, 0] S1x100x1.size inb_S1x100x4_S1x100x1_0_0_0)))
/-- The below-threshold flags' block. -/
def ngB (P : Vec F S4x20000 .f32) (G : Vec F S1x100x4 .f32) : IVec S1x1x20000 32 :=
  k0_pay1 (k0_pay21 (k0_pay7 (View.ld P (Rect.unit (s := S4x20000) ![1, 0] S1x20000.size inb_S4x20000_S1x20000_1_0)) (View.ld P (Rect.unit (s := S4x20000) ![3, 0] S1x20000.size inb_S4x20000_S1x20000_3_0))) (k0_pay8 (View.ld P (Rect.unit (s := S4x20000) ![0, 0] S1x20000.size inb_S4x20000_S1x20000_0_0)) (View.ld P (Rect.unit (s := S4x20000) ![2, 0] S1x20000.size inb_S4x20000_S1x20000_2_0))) (k0_pay9 (View.ld P (Rect.unit (s := S4x20000) ![1, 0] S1x20000.size inb_S4x20000_S1x20000_1_0)) (View.ld P (Rect.unit (s := S4x20000) ![3, 0] S1x20000.size inb_S4x20000_S1x20000_3_0))) (k0_pay10 (View.ld P (Rect.unit (s := S4x20000) ![2, 0] S1x20000.size inb_S4x20000_S1x20000_2_0)) (View.ld P (Rect.unit (s := S4x20000) ![3, 0] S1x20000.size inb_S4x20000_S1x20000_3_0))) (k0_pay12 (View.ld G (Rect.unit (s := S1x100x4) ![0, 0, 1] S1x100x1.size inb_S1x100x4_S1x100x1_0_0_1))) (k0_pay13 (View.ld G (Rect.unit (s := S1x100x4) ![0, 0, 2] S1x100x1.size inb_S1x100x4_S1x100x1_0_0_2))) (k0_pay14 (View.ld G (Rect.unit (s := S1x100x4) ![0, 0, 3] S1x100x1.size inb_S1x100x4_S1x100x1_0_0_3))) (k0_pay15 (View.ld G (Rect.unit (s := S1x100x4) ![0, 0, 0] S1x100x1.size inb_S1x100x4_S1x100x1_0_0_0)) (View.ld G (Rect.unit (s := S1x100x4) ![0, 0, 1] S1x100x1.size inb_S1x100x4_S1x100x1_0_0_1)) (View.ld G (Rect.unit (s := S1x100x4) ![0, 0, 2] S1x100x1.size inb_S1x100x4_S1x100x1_0_0_2)) (View.ld G (Rect.unit (s := S1x100x4) ![0, 0, 3] S1x100x1.size inb_S1x100x4_S1x100x1_0_0_3))) (k0_pay16 (View.ld P (Rect.unit (s := S4x20000) ![0, 0] S1x20000.size inb_S4x20000_S1x20000_0_0)) (View.ld P (Rect.unit (s := S4x20000) ![2, 0] S1x20000.size inb_S4x20000_S1x20000_2_0)) (View.ld G (Rect.unit (s := S1x100x4) ![0, 0, 0] S1x100x1.size inb_S1x100x4_S1x100x1_0_0_0))))
/-- The best anchors' block. -/
def bpB (P : Vec F S4x20000 .f32) (G : Vec F S1x100x4 .f32) : IVec S1x112x1 32 :=
  k0_pay2 (k0_pay19 (k0_pay7 (View.ld P (Rect.unit (s := S4x20000) ![1, 0] S1x20000.size inb_S4x20000_S1x20000_1_0)) (View.ld P (Rect.unit (s := S4x20000) ![3, 0] S1x20000.size inb_S4x20000_S1x20000_3_0))) (k0_pay8 (View.ld P (Rect.unit (s := S4x20000) ![0, 0] S1x20000.size inb_S4x20000_S1x20000_0_0)) (View.ld P (Rect.unit (s := S4x20000) ![2, 0] S1x20000.size inb_S4x20000_S1x20000_2_0))) (k0_pay9 (View.ld P (Rect.unit (s := S4x20000) ![1, 0] S1x20000.size inb_S4x20000_S1x20000_1_0)) (View.ld P (Rect.unit (s := S4x20000) ![3, 0] S1x20000.size inb_S4x20000_S1x20000_3_0))) (k0_pay10 (View.ld P (Rect.unit (s := S4x20000) ![2, 0] S1x20000.size inb_S4x20000_S1x20000_2_0)) (View.ld P (Rect.unit (s := S4x20000) ![3, 0] S1x20000.size inb_S4x20000_S1x20000_3_0))) (k0_pay12 (View.ld G (Rect.unit (s := S1x100x4) ![0, 0, 1] S1x100x1.size inb_S1x100x4_S1x100x1_0_0_1))) (k0_pay13 (View.ld G (Rect.unit (s := S1x100x4) ![0, 0, 2] S1x100x1.size inb_S1x100x4_S1x100x1_0_0_2))) (k0_pay14 (View.ld G (Rect.unit (s := S1x100x4) ![0, 0, 3] S1x100x1.size inb_S1x100x4_S1x100x1_0_0_3))) (k0_pay15 (View.ld G (Rect.unit (s := S1x100x4) ![0, 0, 0] S1x100x1.size inb_S1x100x4_S1x100x1_0_0_0)) (View.ld G (Rect.unit (s := S1x100x4) ![0, 0, 1] S1x100x1.size inb_S1x100x4_S1x100x1_0_0_1)) (View.ld G (Rect.unit (s := S1x100x4) ![0, 0, 2] S1x100x1.size inb_S1x100x4_S1x100x1_0_0_2)) (View.ld G (Rect.unit (s := S1x100x4) ![0, 0, 3] S1x100x1.size inb_S1x100x4_S1x100x1_0_0_3))) (k0_pay16 (View.ld P (Rect.unit (s := S4x20000) ![0, 0] S1x20000.size inb_S4x20000_S1x20000_0_0)) (View.ld P (Rect.unit (s := S4x20000) ![2, 0] S1x20000.size inb_S4x20000_S1x20000_2_0)) (View.ld G (Rect.unit (s := S1x100x4) ![0, 0, 0] S1x100x1.size inb_S1x100x4_S1x100x1_0_0_0))))

variable [∀ e, Nonempty (Elt F e)]

/-- A whole buffer of the TensorCore's, held outright. -/
abbrev ptc (d : Dev nD) {sp : Space} {S : Shape} {e : EltTy} (M : Memref sig .tc sp S e) (f : Buf (Elt F) (M.view.loc (SparseCore.T d : Thread nD τ))) : Pr F :=
  M.view.loc (SparseCore.T d : Thread nD τ) ↦{fullShare} f

omit [FloatOps F] [Named F] in
theorem read_full {sp : Space} {S : Shape} {e : EltTy} (v : View sig .tc sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h inb y⟩).trans (View.canon_unit_zero h inb w)

theorem zero3 : (![0, 0, 0] : Fin 3 → ℕ) = fun _ => 0 := by
  funext a
  match a with
  | 0 => rfl
  | 1 => rfl
  | 2 => rfl

set_option maxHeartbeats 2000000 in
theorem tc_body (d : Dev nD) (i : grid0.Coords)
    (M0 : Memref sig .tc .vmem S4x20000 .f32) (h0 : M0.IsWhole) (M1 : Memref sig .tc .vmem S1x100x4 .f32) (h1 : M1.IsWhole)
    (M2 : Memref sig .tc .vmem S1x1x20000 .i32) (h2 : M2.IsWhole) (M3 : Memref sig .tc .vmem S1x1x20000 .i32) (h3 : M3.IsWhole)
    (M4 : Memref sig .tc .vmem S1x112x1 .i32) (h4 : M4.IsWhole)
    (f0 : Buf (Elt F) (M0.view.loc (SparseCore.T d : Thread nD τ))) (f1 : Buf (Elt F) (M1.view.loc (SparseCore.T d : Thread nD τ)))
    (f2 : Buf (Elt F) (M2.view.loc (SparseCore.T d : Thread nD τ))) (f3 : Buf (Elt F) (M3.view.loc (SparseCore.T d : Thread nD τ)))
    (f4 : Buf (Elt F) (M4.view.loc (SparseCore.T d : Thread nD τ))) (Q : PUnit → Pr F) :
    iprop(ptc d M0 f0 ∗ ptc d M1 f1 ∗ ptc d M2 f2 ∗ ptc d M3 f3 ∗ ptc d M4 f4
        ∗ (iprop(ptc d M0 f0 ∗ ptc d M1 f1
            ∗ (∃ g, ⌜M2.view.read (Elt F) g = mtB (M0.view.read (Elt F) f0) (M1.view.read (Elt F) f1)⌝ ∗ ptc d M2 g)
            ∗ (∃ g, ⌜M3.view.read (Elt F) g = ngB (M0.view.read (Elt F) f0) (M1.view.read (Elt F) f1)⌝ ∗ ptc d M3 g)
            ∗ (∃ g, ⌜M4.view.read (Elt F) g = bpB (M0.view.read (Elt F) f0) (M1.view.read (Elt F) f1)⌝ ∗ ptc d M4 g)) -∗ Q ⟨⟩))
      ⊢ wp frame (wpE (defs₀ (F := F)) 𝒱₀ (SparseCore.T d) none) Set.univ (cc0__tc_body i M0 h0 M1 h1 M2 h2 M3 h3 M4 h4) Q := by
  rw [cc0__tc_body_eq_skeleton]
  unfold cc0__tc_body_skel
  simp only [k0_part1_eq_skeleton, k0_part2_eq_skeleton]
  unfold k0_part1_skel k0_part2_skel
  iintro ⟨H0, H1, H2, H3, H4, Hk⟩
  sl_exec!
  sl_step
  iapply Hk
  isplitl [H0]; · iexact H0
  isplitl [H1]; · iexact H1
  isplitl [H2]
  · iexists _
    isplitr; swap; (· iexact H2)
    ipureintro
    exact read_full _ _ zero3 _ _
  isplitl [H3]
  · iexists _
    isplitr; swap; (· iexact H3)
    ipureintro
    exact read_full _ _ zero3 _ _
  iexists _
  isplitr; swap; (· iexact H4)
  ipureintro
  refine (read_full _ _ zero3 _ _).trans ?_
  unfold bpB
  dsimp only
  rfl

end Cert.Proof

end
-- ==== Proof.Tc.lean ====
/-
  The TensorCore's region of the kernel: what each of the eight points leaves in its three result blocks, and the region as a
  whole, run while the TensorCore still owes the SparseCores their start.
-/
module

public import Idealize.ShloMosaic.Lib.SparseCore.Threads
public import Idealize.ShloMosaic.Lib.Pipeline.RegionArrays
public import Idealize.ShloMosaic.Lib.Pipeline.FrameBody
public import proofs.«01_k».proof.Proof.TcBody

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)
open Idealize.ShloMosaic.SparseCore.Cfg (HIx)

variable {F : FTy → Type} [FloatOps F] [Named F] [∀ e, Nonempty (Elt F e)]

/-- What the TensorCore owes while its region runs: the SparseCores' start. -/
abbrev due (d : Dev nD) : CellTallies nD τ sig (HIx 1) := (K (F := F)).Otc d 0

omit [FloatOps F] [Named F] [∀ e, Nonempty (Elt F e)] in
/-- None of it is at the index of the region's own waits. -/
theorem due_none (d : Dev nD) (g : GSem nD τ sig) : due (F := F) d g none = 0 := by
  by_contra h
  have h1 := (K (F := F)).lev_of_Otc_pos (Nat.pos_of_ne_zero h)
  rw [(K (F := F)).lev_none] at h1
  omega

omit [FloatOps F] [Named F] [∀ e, Nonempty (Elt F e)] in
/-- A whole memref held at a reading is its buffer held at some contents that read so. -/
theorem owns_isWhole {c : Thread nD τ} {sp : Space} {S : Shape} {e : EltTy} {M : Memref sig c.2.kind sp S e} (hM : M.IsWhole)
    (X : S.Idx → Elt F e) :
    owns (Ix := HIx 1) (Name := ℕ) (U := UU) (Lvl := ℕ) c M fullShare X
      = iprop(∃ f : Buf (Elt F) (M.view.loc c), ⌜M.view.read (Elt F) f = X⌝ ∗ (M.view.loc c ↦{fullShare} f)) := by
  obtain ⟨b, hsp, hsh, he, h⟩ := hM
  subst hsp hsh he
  cases h
  exact owns_whole_eq c b fullShare X

variable (W : Dev nD → Valuation τ sig (Elt F))

/-- The anchors' rows as the point finds them. -/
def stgP (d : Dev nD) (t : Fin cfg0.N) : Vec F S4x20000 .f32 := ((cfg0.win 0).blk t).view.read (Elt F) (W d (Proc.devRef .tc main_v0))
/-- The point's image's boxes. -/
def stgG (d : Dev nD) (t : Fin cfg0.N) : Vec F S1x100x4 .f32 := ((cfg0.win 1).blk t).view.read (Elt F) (W d (Proc.devRef .tc main_arg1))

/-- The region's contents from an entry valuation: the two inputs kept, each result block what the body computes. -/
def dat (d : Dev nD) : Dat τ (Elt F) (HIx 1) ℕ UU ℕ cfg0 d where
  A w := W d (Proc.devRef .tc (Pipeline.arrRef spec0 w))
  after w t := match w with
    | 0 => stgP W d t
    | 1 => stgG W d t
    | 2 => mtB (stgP W d t) (stgG W d t)
    | 3 => ngB (stgP W d t) (stgG W d t)
    | 4 => bpB (stgP W d t) (stgG W d t)
  Φ _ := Pipeline.scopedRest spec0 d
  q _ := fullShare
  owed _ := due (F := F) d
  recorded _ := {p | p.2 = none}

theorem before0 (d : Dev nD) (t : Fin cfg0.N) (x : (cfg0.win 0).block.Idx → Elt F (cfg0.win 0).elt) : (dat W d).before 0 t x = stgP W d t :=
  ((dat W d).before_in_eq_fetched 0 rfl (fun _ => rfl) (fun _ _ _ => rfl) (fun _ => rfl) t x).trans rfl

theorem before1 (d : Dev nD) (t : Fin cfg0.N) (x : (cfg0.win 1).block.Idx → Elt F (cfg0.win 1).elt) : (dat W d).before 1 t x = stgG W d t :=
  ((dat W d).before_in_eq_fetched 1 rfl (fun _ => rfl) (fun _ _ _ => rfl) (fun _ => rfl) t x).trans rfl

set_option maxHeartbeats 1000000 in
/-- One point's body, over its staging memrefs. -/
theorem point_run (d : Dev nD) (t : Fin cfg0.N) :
    iprop((dat W d).Φ t.castSucc ∗ (dat W d).owesAt (none : HIx 1) t.castSucc
        ∗ (∃ x, owns (Ix := HIx 1) (Name := ℕ) (U := UU) (Lvl := ℕ) (d : Thread nD τ) (st0_0 t) fullShare ((dat W d).before 0 t x))
        ∗ (∃ x, owns (Ix := HIx 1) (Name := ℕ) (U := UU) (Lvl := ℕ) (d : Thread nD τ) (st0_1 t) fullShare ((dat W d).before 1 t x))
        ∗ (∃ x, owns (Ix := HIx 1) (Name := ℕ) (U := UU) (Lvl := ℕ) (d : Thread nD τ) (st0_2 t) fullShare ((dat W d).before 2 t x))
        ∗ (∃ x, owns (Ix := HIx 1) (Name := ℕ) (U := UU) (Lvl := ℕ) (d : Thread nD τ) (st0_3 t) fullShare ((dat W d).before 3 t x))
        ∗ (∃ x, owns (Ix := HIx 1) (Name := ℕ) (U := UU) (Lvl := ℕ) (d : Thread nD τ) (st0_4 t) fullShare ((dat W d).before 4 t x)))
      ⊢ wp frame (wpE (defs₀ (F := F)) 𝒱₀ (d : Thread nD τ) none) Set.univ (bodyAt0 t) fun _ =>
        iprop((dat W d).Φ t.castSucc ∗ (dat W d).owesAt (none : HIx 1) t.castSucc
          ∗ owns (Ix := HIx 1) (Name := ℕ) (U := UU) (Lvl := ℕ) (d : Thread nD τ) (st0_0 t) fullShare (stgP W d t)
          ∗ owns (Ix := HIx 1) (Name := ℕ) (U := UU) (Lvl := ℕ) (d : Thread nD τ) (st0_1 t) fullShare (stgG W d t)
          ∗ owns (Ix := HIx 1) (Name := ℕ) (U := UU) (Lvl := ℕ) (d : Thread nD τ) (st0_2 t) fullShare (mtB (stgP W d t) (stgG W d t))
          ∗ owns (Ix := HIx 1) (Name := ℕ) (U := UU) (Lvl := ℕ) (d : Thread nD τ) (st0_3 t) fullShare (ngB (stgP W d t) (stgG W d t))
          ∗ owns (Ix := HIx 1) (Name := ℕ) (U := UU) (Lvl := ℕ) (d : Thread nD τ) (st0_4 t) fullShare (bpB (stgP W d t) (stgG W d t))) := by
  have e0 : ∀ X, owns (Ix := HIx 1) (Name := ℕ) (U := UU) (Lvl := ℕ) (d : Thread nD τ) (st0_0 t) fullShare X = iprop(∃ f : Buf (Elt F) ((st0_0 t).view.loc (d : Thread nD τ)), ⌜(st0_0 t).view.read (Elt F) f = X⌝ ∗ ((st0_0 t).view.loc (d : Thread nD τ) ↦{fullShare} f)) := fun X => owns_isWhole (F := F) (c := (d : Thread nD τ)) (hstage0_0 ((cfg0.slots t 0).cast nbuf0_0)) X
  have e1 : ∀ X, owns (Ix := HIx 1) (Name := ℕ) (U := UU) (Lvl := ℕ) (d : Thread nD τ) (st0_1 t) fullShare X = iprop(∃ f : Buf (Elt F) ((st0_1 t).view.loc (d : Thread nD τ)), ⌜(st0_1 t).view.read (Elt F) f = X⌝ ∗ ((st0_1 t).view.loc (d : Thread nD τ) ↦{fullShare} f)) := fun X => owns_isWhole (F := F) (c := (d : Thread nD τ)) (hstage0_1 ((cfg0.slots t 1).cast nbuf0_1)) X
  have e2 : ∀ X, owns (Ix := HIx 1) (Name := ℕ) (U := UU) (Lvl := ℕ) (d : Thread nD τ) (st0_2 t) fullShare X = iprop(∃ f : Buf (Elt F) ((st0_2 t).view.loc (d : Thread nD τ)), ⌜(st0_2 t).view.read (Elt F) f = X⌝ ∗ ((st0_2 t).view.loc (d : Thread nD τ) ↦{fullShare} f)) := fun X => owns_isWhole (F := F) (c := (d : Thread nD τ)) (hstage0_2 ((cfg0.slots t 2).cast nbuf0_2)) X
  have e3 : ∀ X, owns (Ix := HIx 1) (Name := ℕ) (U := UU) (Lvl := ℕ) (d : Thread nD τ) (st0_3 t) fullShare X = iprop(∃ f : Buf (Elt F) ((st0_3 t).view.loc (d : Thread nD τ)), ⌜(st0_3 t).view.read (Elt F) f = X⌝ ∗ ((st0_3 t).view.loc (d : Thread nD τ) ↦{fullShare} f)) := fun X => owns_isWhole (F := F) (c := (d : Thread nD τ)) (hstage0_3 ((cfg0.slots t 3).cast nbuf0_3)) X
  have e4 : ∀ X, owns (Ix := HIx 1) (Name := ℕ) (U := UU) (Lvl := ℕ) (d : Thread nD τ) (st0_4 t) fullShare X = iprop(∃ f : Buf (Elt F) ((st0_4 t).view.loc (d : Thread nD τ)), ⌜(st0_4 t).view.read (Elt F) f = X⌝ ∗ ((st0_4 t).view.loc (d : Thread nD τ) ↦{fullShare} f)) := fun X => owns_isWhole (F := F) (c := (d : Thread nD τ)) (hstage0_4 ((cfg0.slots t 4).cast nbuf0_4)) X
  simp only [before0, before1, e0, e1, e2, e3, e4]
  generalize stgP W d t = P
  generalize stgG W d t = G
  iintro ⟨HΦ, Howes, ⟨%x0, %f0, %hf0, H0⟩, ⟨%x1, %f1, %hf1, H1⟩, ⟨%x2, %f2, -, H2⟩, ⟨%x3, %f3, -, H3⟩, ⟨%x4, %f4, -, H4⟩⟩
  iapply (tc_body d (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) f0 f1 f2 f3 f4 _)
  isplitl [H0]; · iexact H0
  isplitl [H1]; · iexact H1
  isplitl [H2]; · iexact H2
  isplitl [H3]; · iexact H3
  isplitl [H4]; · iexact H4
  iintro ⟨H0, H1, ⟨%g2, %h2, H2⟩, ⟨%g3, %h3, H3⟩, ⟨%g4, %h4, H4⟩⟩
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  isplitl [H2]; · iexists g2; isplitr; · ipureintro; exact h2.trans (congrArg₂ mtB hf0 hf1)
                  iexact H2
  isplitl [H3]; · iexists g3; isplitr; · ipureintro; exact h3.trans (congrArg₂ ngB hf0 hf1)
                  iexact H3
  iexists g4; isplitr; · ipureintro; exact h4.trans (congrArg₂ bpB hf0 hf1)
  iexact H4

theorem after0 (d : Dev nD) (t : Fin cfg0.N) : (dat W d).after 0 t = stgP W d t := rfl
theorem after1 (d : Dev nD) (t : Fin cfg0.N) : (dat W d).after 1 t = stgG W d t := rfl
theorem after2 (d : Dev nD) (t : Fin cfg0.N) : (dat W d).after 2 t = mtB (stgP W d t) (stgG W d t) := by dsimp only [dat]
theorem after3 (d : Dev nD) (t : Fin cfg0.N) : (dat W d).after 3 t = ngB (stgP W d t) (stgG W d t) := by dsimp only [dat]
theorem after4 (d : Dev nD) (t : Fin cfg0.N) : (dat W d).after 4 t = bpB (stgP W d t) (stgG W d t) := by dsimp only [dat]
theorem bodyAt0_eq (t : Fin cfg0.N) : (defs₀ (F := F)) .tc cfg0.body (cfg0.bodyArgs t (cfg0.slots t)) = bodyAt0 t := rfl

/-- Every point's body computes what `dat` says. -/
theorem body_obligation (d : Dev nD) : BodyObligation (dat W d) (defs₀ (F := F)) 𝒱₀ (none : HIx 1) Set.univ := fun t => by
  rw [bigSep_W0, bigSep_W0]
  rw [show (dat W d).Φ t.succ = (dat W d).Φ t.castSucc from rfl, show (dat W d).owesAt none t.succ = (dat W d).owesAt none t.castSucc from rfl]
  dsimp only
  rw [after0, after1, after2, after3, after4, bodyAt0_eq]
  exact point_run W d t

end Cert.Proof

end
-- ==== Proof.Region.lean ====
/-
  The TensorCore's region as one call of the host program: entered with every unscoped buffer at a valuation, left with the
  three results at what the points wrote back and everything else as it was.
-/
module

public import Idealize.ShloMosaic.Lib.SparseCore.Threads
public import Idealize.ShloMosaic.Lib.SparseCore.Launch
public import Idealize.ShloMosaic.Lib.Pipeline.Kit
public import Idealize.ShloMosaic.Lib.Pipeline.RegionsLoop
public import proofs.«01_k».proof.Proof.Tc

@[expose] public section

set_option maxRecDepth 16384

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat BodyObligation)
open Idealize.ShloMosaic.SparseCore.Cfg (HIx)

variable {F : FTy → Type} [FloatOps F] [Named F] [∀ e, Nonempty (Elt F e)]

/-- The handshakes' share of the ghost state. -/
abbrev EH : Emb UH (MM F) := embL
/-- The pipeline's share of it. -/
def EP : Emb UP (MM F) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP (MM F)).LandsIn (upEmb : UEmb _ (MM F)) := by unfold EP; infer_instance

/-- The region prefetches no table. -/
abbrev adm : (p : Fin 1) → (pcfgs (F := F) p).Adm := fun p => (cfgs p).toPCfg_adm

variable (W : Dev nD → Valuation τ sig (Elt F))

/-- The one region's proof data. -/
def pdats : (p : Fin 1) → (c : Dev nD) → Dat τ (Elt F) (HIx 1) ℕ UU ℕ (Pipeline.pin (pcfgs (F := F)) adm p) c := fun _ c => dat W c

/-- What the TensorCore owes beside its buffers, and where it has waited: nowhere above the launch. -/
abbrev owing (d : Dev nD) : Pr F :=
  iprop(∃ Wd, ⌜(K (F := F)).WBelow (d : Thread nD τ) Wd 0⌝ ∗ owes (d : Thread nD τ) (due (F := F) d) Wd)

omit [FloatOps F] [Named F] [∀ e, Nonempty (Elt F e)] in
theorem below_iff (d : Dev nD) (Wd : Waits sig (HIx 1)) : (K (F := F)).WBelow (d : Thread nD τ) Wd 0 ↔ ∀ p ∈ Wd, p.2 = none := by
  constructor
  · intro h p hp
    have h1 := h p hp
    match hq : p.2 with
    | none => rfl
    | some q =>
      rw [hq] at h1
      have := (K (F := F)).lev_some_pos ((d : Thread nD τ), p.1) q
      omega
  · intro h p hp
    rw [h p hp, (K (F := F)).lev_none]

variable (W' : Dev nD → Valuation τ sig (Elt F))

set_option backward.isDefEq.respectTransparency.types false in
/-- The region, from any valuation `W` to any `W'` that has the three results at what was written back and agrees with `W`
    elsewhere. -/
def reg (h2 : ∀ c, W' c (Proc.devRef .tc main_v1_0) = (dat W c).arrAt 2 cfg0.N) (h3 : ∀ c, W' c (Proc.devRef .tc main_v1_1) = (dat W c).arrAt 3 cfg0.N)
    (h4 : ∀ c, W' c (Proc.devRef .tc main_v1_2) = (dat W c).arrAt 4 cfg0.N)
    (hne : ∀ c (b : Ref sig .tc), b ≠ main_v1_0 → b ≠ main_v1_1 → b ≠ main_v1_2 → W' c (Proc.devRef .tc b) = W c (Proc.devRef .tc b)) :
    Pipeline.RegionSeg (pcfgs (F := F)) adm (pdats W) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation W c).loose
  hwaits c := Pipeline.cellsWaits_intro (Pipeline.pin (pcfgs (F := F)) adm) (pdats W) none 0 c fun w s t =>
    (K (F := F)).mayWait_none _ (due_none c)
  pre c := iprop(unscopedBufs c (fun b => W c (Proc.devRef .tc b)) ∗ owing c)
  post c := iprop(unscopedBufs c (fun b => W' c (Proc.devRef .tc b)) ∗ owing c)
  X _ := BI.emp
  Y _ := BI.emp
  Z c := Pipeline.unscopedRest (Ix := HIx 1) (Name := ℕ) (U := UU) (Lvl := ℕ) spec0 c (fun b => W c (Proc.devRef .tc b))
  hentry c := by
    rw [Pipeline.ownSems0_none]
    have hsplit := Pipeline.arrays_of_unscopedBufs (p := 0) (pcfgs (F := F)) adm (pdats W) (launch0).win (launch0).arr_whole c
      ((pdats W 0 c).share_full fun _ => rfl) (fun b => W c (Proc.devRef .tc b)) fun _ => rfl
    iintro ⟨⟨Hub, ⟨%Wd, %hWd, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists Wd; isplitr; · ipureintro; exact fun p hp => Or.inl ((below_iff c Wd).mp hWd p hp)
      iexact HO
    isplitr; · iempintro
    iexact Hrest
  hin c := by
    rw [show (pdats W 0 c).Φ 0 = Pipeline.scopedRest spec0 c from rfl]
    iintro ⟨-, -, Hr⟩; iexact Hr
  hout c := by
    rw [Pipeline.ownSems0_none, show (pdats W 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats W) ((pdats W 0 c).share_full fun _ => rfl) (fun b => W c (Proc.devRef .tc b)) (fun b => W' c (Proc.devRef .tc b)) ((pdats W 0 c).arrAt · cfg0.N)
      (fun w => match w with
        | 0 => ((pdats W 0 c).arrAt_in 0 rfl _).trans (hne c main_v0 (by decide) (by decide) (by decide)).symm
        | 1 => ((pdats W 0 c).arrAt_in 1 rfl _).trans (hne c main_arg1 (by decide) (by decide) (by decide)).symm
        | 2 => (h2 c).symm
        | 3 => (h3 c).symm
        | 4 => (h4 c).symm)
      (fun b hb => hne c b (fun h => hb (h ▸ Finset.mem_image.mpr ⟨2, Finset.mem_univ _, rfl⟩))
        (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%Wd, %hWd, HO⟩; iexists Wd
    isplitr
    · ipureintro
      refine (below_iff c Wd).mpr fun p hp => ?_
      rcases hWd hp with h | ⟨w, s, rfl⟩
      · exact h
      · rfl
    iexact HO

variable (h2 : ∀ c, W' c (Proc.devRef .tc main_v1_0) = (dat W c).arrAt 2 cfg0.N) (h3 : ∀ c, W' c (Proc.devRef .tc main_v1_1) = (dat W c).arrAt 3 cfg0.N)
    (h4 : ∀ c, W' c (Proc.devRef .tc main_v1_2) = (dat W c).arrAt 4 cfg0.N)
    (hne : ∀ c (b : Ref sig .tc), b ≠ main_v1_0 → b ≠ main_v1_1 → b ≠ main_v1_2 → W' c (Proc.devRef .tc b) = W c (Proc.devRef .tc b))

/-- The ghost state the region is entered with, dealt at the launch. -/
abbrev regGhost (d : Dev nD) : Pr F :=
  iprop(Pipeline.cellsGhost (Pipeline.pin (pcfgs (F := F)) adm) EP 0 d ∗ Pipeline.toksInit (Pipeline.pin (pcfgs (F := F)) adm) EP 0 d)

set_option backward.isDefEq.respectTransparency.types false in
include h2 h3 h4 hne in
/-- The host program's call of the region. -/
theorem region_run (d : Dev nD) (Q : PUnit → Pr F) :
    iprop((iprop(boundary (d : Thread nD τ) ∗ unscopedBufs d (fun b => W' d (Proc.devRef .tc b)) ∗ owing (F := F) d) -∗ Q ⟨⟩)
        ∗ boundary (d : Thread nD τ) ∗ (unscopedBufs d (fun b => W d (Proc.devRef .tc b)) ∗ owing (F := F) d)
        ∗ levAts (K (F := F)).L (K (F := F)).lev ∗ regGhost (F := F) d)
      ⊢ wp frame (wpE ((K (F := F)).defs (D (F := F))) 𝒱 (d : Thread nD τ) none) Set.univ
        (Prog.lift (.customCall (SparseCore.inner (Pipeline.entry 0)) ())) Q := by
  have h := Pipeline.RegionSeg.wp (pcfgs (F := F)) adm (pdats W) (none : HIx 1) cellOf_inj EP defs₀ 𝒱₀ (K (F := F)).L (K (F := F)).lev
    (reg W W' h2 h3 h4 hne) d none (fun _ hu => nomatch hu) .ret Q
  have h' := (K (F := F)).wp_liftProg (D (F := F)) 𝒱 (d : Thread nD τ) Set.univ none (.op (.customCall (Pipeline.entry 0) ()) .ret) Q
  have hk : iprop((iprop(boundary (d : Thread nD τ) ∗ unscopedBufs d (fun b => W' d (Proc.devRef .tc b)) ∗ owing (F := F) d) -∗ Q ⟨⟩)
        ∗ boundary (d : Thread nD τ) ∗ (unscopedBufs d (fun b => W d (Proc.devRef .tc b)) ∗ owing (F := F) d)
        ∗ levAts (K (F := F)).L (K (F := F)).lev ∗ regGhost (F := F) d)
      ⊢ iprop((iprop(boundary (d : Thread nD τ) ∗ (reg W W' h2 h3 h4 hne).post d) -∗ wp frame (wpE (D (F := F)) 𝒱 (d : Thread nD τ) none) Set.univ (.ret ⟨⟩) Q)
        ∗ boundary (d : Thread nD τ) ∗ (reg W W' h2 h3 h4 hne).pre d ∗ levAts (K (F := F)).L (K (F := F)).lev
        ∗ Pipeline.cellsGhost (Pipeline.pin (pcfgs (F := F)) adm) EP 0 d ∗ Pipeline.toksInit (Pipeline.pin (pcfgs (F := F)) adm) EP 0 d) := by
    rw [show (reg W W' h2 h3 h4 hne).post d = iprop(unscopedBufs d (fun b => W' d (Proc.devRef .tc b)) ∗ owing (F := F) d) from rfl,
      show (reg W W' h2 h3 h4 hne).pre d = iprop(unscopedBufs d (fun b => W d (Proc.devRef .tc b)) ∗ owing (F := F) d) from rfl]
    iintro ⟨Hk, Hb, Hpre, Hlev, Hg, Ht⟩
    isplitl [Hk]
    · iintro ⟨Hb, Hpost⟩
      rw [wp_ret]
      imodintro
      iapply Hk
      isplitl [Hb]; · iexact Hb
      iexact Hpost
    isplitl [Hb]; · iexact Hb
    isplitl [Hpre]; · iexact Hpre
    isplitl [Hlev]; · iexact Hlev
    isplitl [Hg]; · iexact Hg
    iexact Ht
  exact hk.trans (h.trans h')

end Cert.Proof

end
-- ==== Proof.Vals.lean ====
/-
  The whole program's run: the host operations around the TensorCore's region and the SparseCore call, each unscoped
  buffer's contents at the end.
-/
module

public import Idealize.ShloMosaic.Lib.SparseCore.Quiescent
public import Idealize.ShloMosaic.Lib.StableHlo.Run
public import proofs.«01_k».proof.Proof.Deal
public import proofs.«01_k».proof.Proof.Region

@[expose] public section

set_option maxRecDepth 2000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx Pay)

variable {F : FTy → Type} [FloatOps F] [Named F] [∀ e, Nonempty (Elt F e)]

/-! ## The host operations -/

/-- Before the region. -/
def opsA : List (HloOp τ sig (Elt F)) := [
    (StableHlo.unary main_arg0 main_v0 ((transpose S4x20000 [1, 0] · transposes_S20000x4_S4x20000_1_0) : (⟨S20000x4, .f32⟩ : BufTy).Contents (Elt F) → (⟨S4x20000, .f32⟩ : BufTy).Contents (Elt F)))]
/-- Between the region and the SparseCore call. -/
def opsB : List (HloOp τ sig (Elt F)) := [
    (StableHlo.nullary main_c (constantI S_ 32 0#32)),
    (StableHlo.unary main_c main_call0_v0 ((sitofp .f32) : (⟨S_, .i32⟩ : BufTy).Contents (Elt F) → (⟨S_, .f32⟩ : BufTy).Contents (Elt F))),
    (StableHlo.binary main_arg1 main_call0_v0 main_v2 ((fun x v => pad S8x112x4 ![0, 0, 0] ![0, 12, 0] ![0, 0, 0] x v pads_S8x100x4_S8x112x4_000_0120_000 h_S_) : (⟨S8x100x4, .f32⟩ : BufTy).Contents (Elt F) → (⟨S_, .f32⟩ : BufTy).Contents (Elt F) → (⟨S8x112x4, .f32⟩ : BufTy).Contents (Elt F))),
    (StableHlo.unary main_v2 main_v3 ((transpose S4x8x112 [2, 0, 1] · transposes_S8x112x4_S4x8x112_2_0_1) : (⟨S8x112x4, .f32⟩ : BufTy).Contents (Elt F) → (⟨S4x8x112, .f32⟩ : BufTy).Contents (Elt F))),
    (StableHlo.reshape main_v3 main_v4 (rfl : (.f32 : EltTy) = .f32) shapeCasts_S4x8x112_S4x896),
    (StableHlo.nullary main_c_0 (constantI S_ 32 0#32)),
    (StableHlo.unary main_c_0 main_call1_v0 (id : (⟨S_, .i32⟩ : BufTy).Contents (Elt F) → (⟨S_, .i32⟩ : BufTy).Contents (Elt F))),
    (StableHlo.binary main_arg2 main_call1_v0 main_v5 ((fun x v => pad S8x112 ![0, 0] ![0, 12] ![0, 0] x v pads_S8x100_S8x112_000_0120 h_S_) : (⟨S8x100, .i32⟩ : BufTy).Contents (Elt F) → (⟨S_, .i32⟩ : BufTy).Contents (Elt F) → (⟨S8x112, .i32⟩ : BufTy).Contents (Elt F))),
    (StableHlo.reshape main_v1_0 main_v6 (rfl : (.i32 : EltTy) = .i32) shapeCasts_S8x1x20000_S160000),
    (StableHlo.reshape main_v1_1 main_v7 (rfl : (.i32 : EltTy) = .i32) shapeCasts_S8x1x20000_S160000),
    (StableHlo.reshape main_v1_2 main_v8 (rfl : (.i32 : EltTy) = .i32) shapeCasts_S8x112x1_S896),
    (StableHlo.unary main_v4 main_v9 ((extractStridedSlice S1x896 ![0, 0] · slices_S4x896_S1x896_0_0) : (⟨S4x896, .f32⟩ : BufTy).Contents (Elt F) → (⟨S1x896, .f32⟩ : BufTy).Contents (Elt F))),
    (StableHlo.reshape main_v9 main_v10 (rfl : (.f32 : EltTy) = .f32) shapeCasts_S1x896_S896),
    (StableHlo.unary main_v4 main_v11 ((extractStridedSlice S1x896 ![1, 0] · slices_S4x896_S1x896_1_0) : (⟨S4x896, .f32⟩ : BufTy).Contents (Elt F) → (⟨S1x896, .f32⟩ : BufTy).Contents (Elt F))),
    (StableHlo.reshape main_v11 main_v12 (rfl : (.f32 : EltTy) = .f32) shapeCasts_S1x896_S896),
    (StableHlo.unary main_v4 main_v13 ((extractStridedSlice S1x896 ![2, 0] · slices_S4x896_S1x896_2_0) : (⟨S4x896, .f32⟩ : BufTy).Contents (Elt F) → (⟨S1x896, .f32⟩ : BufTy).Contents (Elt F))),
    (StableHlo.reshape main_v13 main_v14 (rfl : (.f32 : EltTy) = .f32) shapeCasts_S1x896_S896),
    (StableHlo.unary main_v4 main_v15 ((extractStridedSlice S1x896 ![3, 0] · slices_S4x896_S1x896_3_0) : (⟨S4x896, .f32⟩ : BufTy).Contents (Elt F) → (⟨S1x896, .f32⟩ : BufTy).Contents (Elt F))),
    (StableHlo.reshape main_v15 main_v16 (rfl : (.f32 : EltTy) = .f32) shapeCasts_S1x896_S896),
    (StableHlo.reshape main_v5 main_v17 (rfl : (.i32 : EltTy) = .i32) shapeCasts_S8x112_S896),
    (StableHlo.unary main_v0 main_v18 ((extractStridedSlice S1x20000 ![0, 0] · slices_S4x20000_S1x20000_0_0) : (⟨S4x20000, .f32⟩ : BufTy).Contents (Elt F) → (⟨S1x20000, .f32⟩ : BufTy).Contents (Elt F))),
    (StableHlo.reshape main_v18 main_v19 (rfl : (.f32 : EltTy) = .f32) shapeCasts_S1x20000_S20000),
    (StableHlo.unary main_v0 main_v20 ((extractStridedSlice S1x20000 ![1, 0] · slices_S4x20000_S1x20000_1_0) : (⟨S4x20000, .f32⟩ : BufTy).Contents (Elt F) → (⟨S1x20000, .f32⟩ : BufTy).Contents (Elt F))),
    (StableHlo.reshape main_v20 main_v21 (rfl : (.f32 : EltTy) = .f32) shapeCasts_S1x20000_S20000),
    (StableHlo.unary main_v0 main_v22 ((extractStridedSlice S1x20000 ![2, 0] · slices_S4x20000_S1x20000_2_0) : (⟨S4x20000, .f32⟩ : BufTy).Contents (Elt F) → (⟨S1x20000, .f32⟩ : BufTy).Contents (Elt F))),
    (StableHlo.reshape main_v22 main_v23 (rfl : (.f32 : EltTy) = .f32) shapeCasts_S1x20000_S20000),
    (StableHlo.unary main_v0 main_v24 ((extractStridedSlice S1x20000 ![3, 0] · slices_S4x20000_S1x20000_3_0) : (⟨S4x20000, .f32⟩ : BufTy).Contents (Elt F) → (⟨S1x20000, .f32⟩ : BufTy).Contents (Elt F))),
    (StableHlo.reshape main_v24 main_v25 (rfl : (.f32 : EltTy) = .f32) shapeCasts_S1x20000_S20000)]
/-- After the call. -/
def opsC : List (HloOp τ sig (Elt F)) := [
    (StableHlo.reshape main_v26_0 main_v27 (rfl : (.f32 : EltTy) = .f32) shapeCasts_S640000_S8x20000x4),
    (StableHlo.reshape main_v26_1 main_v28 (rfl : (.i32 : EltTy) = .i32) shapeCasts_S160000_S8x20000)]

omit [∀ e, Nonempty (Elt F e)] in
set_option maxHeartbeats 1000000 in
theorem main_eq (d : Dev nD) : main (F := F) d = (StableHlo.seq opsA >>= fun _ => Prog.lift (.customCall (SparseCore.inner (Pipeline.entry 0)) ()) >>= fun _ =>
    StableHlo.seq opsB >>= fun _ => sc.run d 0 >>= fun _ => StableHlo.seq opsC >>= fun _ => .ret ⟨⟩) := by
  rfl

omit [∀ e, Nonempty (Elt F e)] in
theorem subA : ∀ op ∈ opsA (F := F), op.bufs ⊆ Pipeline.ucRefs τ sig := by
  unfold opsA
  simp only [List.forall_mem_cons, List.not_mem_nil, false_imp_iff, implies_true, and_true]
  first | refine ⟨?_⟩ | skip
  all_goals exact Pipeline.sub_ucRefs _ (by simp)
omit [∀ e, Nonempty (Elt F e)] in
theorem subB : ∀ op ∈ opsB (F := F), op.bufs ⊆ Pipeline.ucRefs τ sig := by
  unfold opsB
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_⟩
  all_goals exact Pipeline.sub_ucRefs _ (by simp)
omit [∀ e, Nonempty (Elt F e)] in
theorem subC : ∀ op ∈ opsC (F := F), op.bufs ⊆ Pipeline.ucRefs τ sig := by
  unfold opsC
  simp only [List.forall_mem_cons, List.not_mem_nil, false_imp_iff, implies_true, and_true]
  refine ⟨?_, ?_⟩
  all_goals exact Pipeline.sub_ucRefs _ (by simp)
omit [∀ e, Nonempty (Elt F e)] in
theorem freshA : ∀ op ∈ opsA (F := F), op.fresh = ∅ := by
  unfold opsA; simp only [List.forall_mem_cons, List.not_mem_nil, false_imp_iff, implies_true, and_true]
  rfl
omit [∀ e, Nonempty (Elt F e)] in
theorem freshB : ∀ op ∈ opsB (F := F), op.fresh = ∅ := by
  unfold opsB; simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;> rfl
omit [∀ e, Nonempty (Elt F e)] in
theorem freshC : ∀ op ∈ opsC (F := F), op.fresh = ∅ := by
  unfold opsC; simp only [List.forall_mem_cons, List.not_mem_nil, false_imp_iff, implies_true, and_true]
  refine ⟨?_, ?_⟩ <;> rfl

omit [∀ e, Nonempty (Elt F e)] in
theorem writesA : (opsA (F := F)).Forall fun op => op.writes ⊆ (([main_v0] : List (Ref sig .tc)).map (Proc.devRef (τ := τ) .tc)).toFinset :=
  StableHlo.forall_writes_sub_of_map rfl
omit [∀ e, Nonempty (Elt F e)] in
theorem writesB : (opsB (F := F)).Forall fun op => op.writes ⊆ (([main_c, main_call0_v0, main_v2, main_v3, main_v4, main_c_0, main_call1_v0, main_v5, main_v6, main_v7, main_v8, main_v9, main_v10, main_v11, main_v12, main_v13, main_v14, main_v15, main_v16, main_v17, main_v18, main_v19, main_v20, main_v21, main_v22, main_v23, main_v24, main_v25] : List (Ref sig .tc)).map (Proc.devRef (τ := τ) .tc)).toFinset :=
  StableHlo.forall_writes_sub_of_map rfl
omit [∀ e, Nonempty (Elt F e)] in
theorem writesC : (opsC (F := F)).Forall fun op => op.writes ⊆ (([main_v27, main_v28] : List (Ref sig .tc)).map (Proc.devRef (τ := τ) .tc)).toFinset :=
  StableHlo.forall_writes_sub_of_map rfl

/-! ## The contents, stage by stage -/

variable (m : (ℓ : Loc nD τ sig) → Buf (Elt F) ℓ) (ρ : Dev nD → PrngReg)

/-- At launch. -/
def V0 (d : Dev nD) : Valuation τ sig (Elt F) := fun b => m (d, b)
/-- Before the region. -/
def V1 (d : Dev nD) : Valuation τ sig (Elt F) := StableHlo.after opsA (V0 m d)
/-- After the region. -/
def V2 (d : Dev nD) : Valuation τ sig (Elt F) :=
  Function.update (Function.update (Function.update (V1 m d)
    (Proc.devRef .tc main_v1_0) ((dat (V1 m) d).arrAt 2 cfg0.N))
    (Proc.devRef .tc main_v1_1) ((dat (V1 m) d).arrAt 3 cfg0.N))
    (Proc.devRef .tc main_v1_2) ((dat (V1 m) d).arrAt 4 cfg0.N)
/-- Before the SparseCore call. -/
def V3 (d : Dev nD) : Valuation τ sig (Elt F) := StableHlo.after opsB (V2 m d)
/-- The call's operands in a valuation. -/
def tin (V : Valuation τ sig (Elt F)) : TileIn F where
  mt := V (Proc.devRef .tc main_v6)
  ng := V (Proc.devRef .tc main_v7)
  bp := V (Proc.devRef .tc main_v8)
  x1 := V (Proc.devRef .tc main_v10)
  y1 := V (Proc.devRef .tc main_v12)
  x2 := V (Proc.devRef .tc main_v14)
  y2 := V (Proc.devRef .tc main_v16)
  lab := V (Proc.devRef .tc main_v17)
  px := V (Proc.devRef .tc main_v19)
  py := V (Proc.devRef .tc main_v21)
  pw := V (Proc.devRef .tc main_v23)
  ph := V (Proc.devRef .tc main_v25)
/-- The call's operands. -/
def XX (d : Dev nD) : TileIn F := tin (V3 m d)
/-- After the call. -/
def V4 (d : Dev nD) : Valuation τ sig (Elt F) :=
  Function.update (Function.update (V3 m d) (Proc.devRef .tc main_v26_0) (LOC (XX m d))) (Proc.devRef .tc main_v26_1) (LAB (XX m d))
/-- At the end. -/
def V5 (d : Dev nD) : Valuation τ sig (Elt F) := StableHlo.after opsC (V4 m d)

omit [FloatOps F] [Named F] [∀ e, Nonempty (Elt F e)] in
theorem upd_ne (V : Valuation τ sig (Elt F)) {b r : Ref sig .tc} (h : b ≠ r) (v) :
    Function.update V (Proc.devRef .tc r) v (Proc.devRef .tc b) = V (Proc.devRef .tc b) :=
  Function.update_of_ne (fun e => h (Proc.devRef_injective _ e)) v V

theorem V2_0 (d : Dev nD) : V2 m d (Proc.devRef .tc main_v1_0) = (dat (V1 m) d).arrAt 2 cfg0.N := by
  unfold V2; rw [upd_ne _ (by decide), upd_ne _ (by decide), Function.update_self]
theorem V2_1 (d : Dev nD) : V2 m d (Proc.devRef .tc main_v1_1) = (dat (V1 m) d).arrAt 3 cfg0.N := by
  unfold V2; rw [upd_ne _ (by decide), Function.update_self]
theorem V2_2 (d : Dev nD) : V2 m d (Proc.devRef .tc main_v1_2) = (dat (V1 m) d).arrAt 4 cfg0.N := by
  unfold V2; rw [Function.update_self]
theorem V2_ne (d : Dev nD) (b : Ref sig .tc) (h0 : b ≠ main_v1_0) (h1 : b ≠ main_v1_1) (h2 : b ≠ main_v1_2) :
    V2 m d (Proc.devRef .tc b) = V1 m d (Proc.devRef .tc b) := by
  unfold V2; rw [upd_ne _ h2, upd_ne _ h1, upd_ne _ h0]
theorem V4_0 (d : Dev nD) : V4 m d (Proc.devRef .tc main_v26_0) = LOC (XX m d) := by
  unfold V4; rw [upd_ne _ (by decide), Function.update_self]
theorem V4_1 (d : Dev nD) : V4 m d (Proc.devRef .tc main_v26_1) = LAB (XX m d) := by
  unfold V4; rw [Function.update_self]
theorem V4_ne (d : Dev nD) (b : Ref sig .tc) (h0 : b ≠ main_v26_0) (h1 : b ≠ main_v26_1) : V4 m d (Proc.devRef .tc b) = V3 m d (Proc.devRef .tc b) := by
  unfold V4; rw [upd_ne _ h1, upd_ne _ h0]

/-- A buffer neither the region nor a host operation before the call writes is as at launch. -/
theorem V3_keep (d : Dev nD) (b : Ref sig .tc) (hA : b ∉ ([main_v0] : List (Ref sig .tc)))
    (h : b ∉ ([main_v1_0, main_v1_1, main_v1_2] : List (Ref sig .tc))) (hB : b ∉ ([main_c, main_call0_v0, main_v2, main_v3, main_v4, main_c_0, main_call1_v0, main_v5, main_v6, main_v7, main_v8, main_v9, main_v10, main_v11, main_v12, main_v13, main_v14, main_v15, main_v16, main_v17, main_v18, main_v19, main_v20, main_v21, main_v22, main_v23, main_v24, main_v25] : List (Ref sig .tc))) :
    V3 m d (Proc.devRef .tc b) = m (d, Proc.devRef .tc b) := by
  simp only [List.mem_cons, List.not_mem_nil, or_false, not_or] at h
  unfold V3
  rw [StableHlo.after_of_writes_sub opsB _ writesB hB, V2_ne m d b h.1 h.2.1 h.2.2]
  unfold V1
  exact StableHlo.after_of_writes_sub opsA _ writesA hA

theorem V5_keep (d : Dev nD) (b : Ref sig .tc) (hA : b ∉ ([main_v0] : List (Ref sig .tc)))
    (h : b ∉ ([main_v1_0, main_v1_1, main_v1_2] : List (Ref sig .tc))) (hB : b ∉ ([main_c, main_call0_v0, main_v2, main_v3, main_v4, main_c_0, main_call1_v0, main_v5, main_v6, main_v7, main_v8, main_v9, main_v10, main_v11, main_v12, main_v13, main_v14, main_v15, main_v16, main_v17, main_v18, main_v19, main_v20, main_v21, main_v22, main_v23, main_v24, main_v25] : List (Ref sig .tc)))
    (hS : b ∉ ([main_v26_0, main_v26_1] : List (Ref sig .tc))) (hC : b ∉ ([main_v27, main_v28] : List (Ref sig .tc))) :
    V5 m d (Proc.devRef .tc b) = m (d, Proc.devRef .tc b) := by
  simp only [List.mem_cons, List.not_mem_nil, or_false, not_or] at hS
  unfold V5
  rw [StableHlo.after_of_writes_sub opsC _ writesC hC, V4_ne m d b hS.1 hS.2, V3_keep m d b hA h hB]

/-! ## The call's operands, out of the buffers held -/

/-- The call's operands and results. -/
def refsS : Finset (DevRef τ sig) :=
  (([main_v6, main_v7, main_v8, main_v10, main_v12, main_v14, main_v16, main_v17, main_v19, main_v21, main_v23, main_v25, main_v26_0, main_v26_1] : List (Ref sig .tc)).toFinset).map ⟨Proc.devRef (sig := sig) .tc, Proc.devRef_injective _⟩

omit [FloatOps F] [Named F] [∀ e, Nonempty (Elt F e)] in
theorem refsS_sub : refsS ⊆ Pipeline.ucRefs τ sig := fun b hb => by
  obtain ⟨r, hr, rfl⟩ := Finset.mem_map.mp hb
  refine Finset.mem_filter.mpr ⟨StableHlo.devRef_mem_tcRefs _, ?_⟩
  have h : ∀ r ∈ ([main_v6, main_v7, main_v8, main_v10, main_v12, main_v14, main_v16, main_v17, main_v19, main_v21, main_v23, main_v25, main_v26_0, main_v26_1] : List (Ref sig .tc)), r.isScoped = false := by decide
  have h' := h r (List.mem_toFinset.mp hr)
  exact fun hs => Bool.false_ne_true (h'.symm.trans hs)

omit [FloatOps F] [Named F] [∀ e, Nonempty (Elt F e)] in
theorem held_whole (d : Dev nD) (V : Valuation τ sig (Elt F)) :
    (StableHlo.held (d : Thread nD τ) refsS V : Pr F) = wholeT d (tin V) (V (Proc.devRef .tc main_v26_0)) (V (Proc.devRef .tc main_v26_1)) := by
  unfold StableHlo.held refsS
  rw [bigSep_map, bigSep_eq_bigSepL _ (by decide)]
  rfl

/-- The buffers of the call and the rest, before it. -/
theorem held_before (d : Dev nD) : (StableHlo.held (d : Thread nD τ) (Pipeline.ucRefs τ sig) (V3 m d) : Pr F)
    = iprop(wholeT d (XX m d) (old0 m d) (old1 m d) ∗ StableHlo.held (d : Thread nD τ) (Pipeline.ucRefs τ sig \ refsS) (V3 m d)) := by
  rw [StableHlo.held_sub_split _ refsS_sub, held_whole, V3_keep m d main_v26_0 (by decide) (by decide) (by decide),
    V3_keep m d main_v26_1 (by decide) (by decide) (by decide)]
  rfl

omit [FloatOps F] [Named F] [∀ e, Nonempty (Elt F e)] in
theorem TileIn.same : ∀ {I J : TileIn F} (_ : I.mt = J.mt) (_ : I.ng = J.ng) (_ : I.bp = J.bp) (_ : I.x1 = J.x1) (_ : I.y1 = J.y1) (_ : I.x2 = J.x2) (_ : I.y2 = J.y2) (_ : I.lab = J.lab) (_ : I.px = J.px) (_ : I.py = J.py) (_ : I.pw = J.pw) (_ : I.ph = J.ph), I = J
  | ⟨_, _, _, _, _, _, _, _, _, _, _, _⟩, ⟨_, _, _, _, _, _, _, _, _, _, _, _⟩, rfl, rfl, rfl, rfl, rfl, rfl, rfl, rfl, rfl, rfl, rfl, rfl => rfl

omit [FloatOps F] [Named F] [∀ e, Nonempty (Elt F e)] in
theorem tin_congr {V V' : Valuation τ sig (Elt F)} (h : ∀ r ∈ ([main_v6, main_v7, main_v8, main_v10, main_v12, main_v14, main_v16, main_v17, main_v19, main_v21, main_v23, main_v25] : List (Ref sig .tc)), V (Proc.devRef .tc r) = V' (Proc.devRef .tc r)) :
    tin V = tin V' := TileIn.same
  (h main_v6 (by decide))
  (h main_v7 (by decide))
  (h main_v8 (by decide))
  (h main_v10 (by decide))
  (h main_v12 (by decide))
  (h main_v14 (by decide))
  (h main_v16 (by decide))
  (h main_v17 (by decide))
  (h main_v19 (by decide))
  (h main_v21 (by decide))
  (h main_v23 (by decide))
  (h main_v25 (by decide))

theorem tin_V4 (d : Dev nD) : tin (V4 m d) = XX m d :=
  tin_congr fun r hr => by
    have h : ∀ r ∈ ([main_v6, main_v7, main_v8, main_v10, main_v12, main_v14, main_v16, main_v17, main_v19, main_v21, main_v23, main_v25] : List (Ref sig .tc)), r ≠ main_v26_0 ∧ r ≠ main_v26_1 := by decide
    exact V4_ne m d r (h r hr).1 (h r hr).2

omit [FloatOps F] [Named F] [∀ e, Nonempty (Elt F e)] in
theorem whole_congr (d : Dev nD) {I J : TileIn F} {g g' : Vec F S640000 .f32} {l l' : IVec S160000 32} (hI : I = J) (hg : g = g') (hl : l = l') :
    wholeT d I g l = wholeT d J g' l' := by subst hI hg hl; rfl

/-- And after it. -/
theorem held_after_call (d : Dev nD) : (StableHlo.held (d : Thread nD τ) (Pipeline.ucRefs τ sig) (V4 m d) : Pr F)
    = iprop(wholeT d (XX m d) (LOC (XX m d)) (LAB (XX m d)) ∗ StableHlo.held (d : Thread nD τ) (Pipeline.ucRefs τ sig \ refsS) (V3 m d)) := by
  refine (StableHlo.held_sub_split _ refsS_sub _).trans (congrArg₂ _ ((held_whole d _).trans (whole_congr d (tin_V4 m d) (V4_0 m d) (V4_1 m d)))
    (StableHlo.held_congr _ fun b hb => ?_))
  have hb' := (Finset.mem_sdiff.mp hb).2
  have hmem : ∀ r ∈ ([main_v6, main_v7, main_v8, main_v10, main_v12, main_v14, main_v16, main_v17, main_v19, main_v21, main_v23, main_v25, main_v26_0, main_v26_1] : List (Ref sig .tc)), b ≠ Proc.devRef .tc r := fun r hr e =>
    hb' (Finset.mem_map.mpr ⟨r, List.mem_toFinset.mpr hr, e.symm⟩)
  unfold V4
  rw [Function.update_of_ne (hmem _ (by decide)), Function.update_of_ne (hmem _ (by decide))]

end Cert.Proof

end
-- ==== Proof.Main.lean ====
/-
  The whole program's run: the host operations around the TensorCore's region and the SparseCore call; at the end every
  unscoped buffer holds what the stages give.
-/
module

public import proofs.«01_k».proof.Proof.Vals

@[expose] public section

set_option maxRecDepth 2000

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (HIx Pay)

variable {F : FTy → Type} [FloatOps F] [Named F] [∀ e, Nonempty (Elt F e)]

variable (m : (ℓ : Loc nD τ sig) → Buf (Elt F) ℓ) (ρ : Dev nD → PrngReg)

/-- All unscoped buffers of `d`, holding `V`. -/
abbrev all (d : Dev nD) (V : Valuation τ sig (Elt F)) : Pr F := StableHlo.held (d : Thread nD τ) (Pipeline.ucRefs τ sig) V

/-- The weakest precondition of @main's code on `d`. -/
abbrev wpM (d : Dev nD) (p : Prog (TpuEff nD τ sig (Elt F) (SparseCore.Sig (Pipeline.Sig Λ₀ (Fin 1) fun p => (pcfgs (F := F) p).Adm) 1) .tc) PUnit)
    (Φ : PUnit → Pr F) : Pr F :=
  wp frame (wpE ((K (F := F)).defs (D (F := F))) 𝒱 (SparseCore.T d) none) Set.univ p Φ

theorem run_ops (d : Dev nD) (ops : List (HloOp τ sig (Elt F))) (hs : ∀ op ∈ ops, op.bufs ⊆ Pipeline.ucRefs τ sig) (hf : ∀ op ∈ ops, op.fresh = ∅)
    (V : Valuation τ sig (Elt F)) (k) (Φ : PUnit → Pr F) (A : Pr F)
    (h : iprop(boundary (d : Thread nD τ) ∗ all d (StableHlo.after ops V) ∗ A) ⊢ wpM d k Φ) :
    iprop(boundary (d : Thread nD τ) ∗ all d V ∗ A) ⊢ wpM d (StableHlo.seq ops >>= fun _ => k) Φ := by
  have h0 := StableHlo.wp_seq (defs := (K (F := F)).defs (D (F := F))) 𝒱 none Set.univ d (Pipeline.ucRefs τ sig) (fun _ => k) (K := Φ) ops hs hf V
  have h1 : iprop(boundary (d : Thread nD τ) ∗ all d V ∗ A) ⊢ wp frame (wpE ((K (F := F)).defs (D (F := F))) 𝒱 (d : Thread nD τ) none) Set.univ
      (StableHlo.seq ops >>= fun _ => k) Φ := by
    iintro ⟨Hb, Hh, HA⟩
    iapply h0 $$ [Hb Hh]
    · isplitl [Hb]; · iexact Hb
      iexact Hh
    iintro ⟨Hb, Hh⟩
    iapply h $$ [Hb Hh HA]
    isplitl [Hb]; · iexact Hb
    isplitl [Hh]; · iexact Hh
    iexact HA
  exact h1

/-- The call's start out of the TensorCore's state: what it owes, and the rest. -/
theorem tcSt_split (d : Dev nD) : ∃ R : Pr F, (K (F := F)).tcSt EH d 0 = iprop(owing (F := F) d ∗ R) :=
  ⟨_, by unfold SparseCore.Cfg.tcSt; rfl⟩

theorem all_region (d : Dev nD) (V : Dev nD → Valuation τ sig (Elt F)) :
    (unscopedBufs d (fun b => V d (Proc.devRef .tc b)) : Pr F) = all d (V d) := Pipeline.unscopedBufs_held d (V d)

/-- What each TensorCore leaves. -/
def FIN (d : Dev nD) : Pr F := all d (V5 m d)

/-- The SparseCore call. -/
theorem run_call (κ : GSem nD τ sig → ℕ) (d : Dev nD) (Φ : PUnit → Pr F) (A : Pr F)
    (h : iprop(all d (V4 m d) ∗ (K (F := F)).tcSt EH d 1 ∗ A) ⊢ Φ ⟨⟩) :
    iprop((K (F := F)).ctx EH (P (XX m) m) κ ∗ (K (F := F)).tcSt EH d 0 ∗ all d (V3 m d) ∗ A)
      ⊢ wpM d (sc.run d 0) Φ := by
  rw [show all d (V3 m d) = _ from held_before m d]
  iintro ⟨#Hctx, Hst, ⟨Hin, Hrest⟩, HA⟩
  iapply ((K (F := F)).wp_run (D (F := F)) 𝒱 (EH := EH) (P := P (XX m) m) κ d 0) $$ [Hst Hin Hrest HA]
  isplitr; · iexact Hctx
  isplitl [Hst]; · iexact Hst
  isplitl [Hin]
  · rw [st0_eq]; iexact Hin
  iintro ⟨Hst, Hdn⟩
  ihave Hdn' := (Entails.of_eq (dn0_eq d (XX m) m)) $$ Hdn
  iapply h $$ [Hst Hdn' Hrest HA]
  isplitl [Hdn' Hrest]
  · rw [show all d (V4 m d) = _ from held_after_call m d]
    isplitl [Hdn']; · iexact Hdn'
    iexact Hrest
  isplitl [Hst]; · iexact Hst
  iexact HA

theorem run_region (κ : GSem nD τ sig → ℕ) (d : Dev nD) (Φ : PUnit → Pr F) (A : Pr F)
    (h : iprop(boundary (d : Thread nD τ) ∗ all d (V2 m d) ∗ (K (F := F)).tcSt EH d 0 ∗ A) ⊢ Φ ⟨⟩) :
    iprop((K (F := F)).ctx EH (P (XX m) m) κ ∗ boundary (d : Thread nD τ) ∗ all d (V1 m d) ∗ (K (F := F)).tcSt EH d 0 ∗ regGhost (F := F) d ∗ A)
      ⊢ wpM d (Prog.lift (.customCall (SparseCore.inner (Pipeline.entry 0)) ())) Φ := by
  obtain ⟨R, hR⟩ := tcSt_split (F := F) d
  have h0 := region_run (V1 m) (V2 m) (fun c => V2_0 m c) (fun c => V2_1 m c) (fun c => V2_2 m c) (fun c b => V2_ne m c b) d Φ
  rw [all_region, all_region] at h0
  have h1 : iprop((K (F := F)).ctx EH (P (XX m) m) κ ∗ boundary (d : Thread nD τ) ∗ all d (V1 m d) ∗ (K (F := F)).tcSt EH d 0 ∗ regGhost (F := F) d ∗ A)
      ⊢ iprop((iprop(boundary (d : Thread nD τ) ∗ all d (V2 m d) ∗ owing (F := F) d) -∗ Φ ⟨⟩)
        ∗ boundary (d : Thread nD τ) ∗ (all d (V1 m d) ∗ owing (F := F) d)
        ∗ levAts (K (F := F)).L (K (F := F)).lev ∗ regGhost (F := F) d) := by
    rw [hR]
    iintro ⟨#Hctx, Hb, Hh, ⟨Ho, HR⟩, HG, HA⟩
    ihave Hlev := (SparseCore.Cfg.ctx_levAts κ) $$ Hctx
    isplitl [HR HA]
    · iintro ⟨Hb, Hh, Ho⟩
      iapply h $$ [Hb Hh Ho HR HA]
      isplitl [Hb]; · iexact Hb
      isplitl [Hh]; · iexact Hh
      isplitr [HA]
      · rw [hR]
        isplitl [Ho]; · iexact Ho
        iexact HR
      iexact HA
    isplitl [Hb]; · iexact Hb
    isplitl [Hh Ho]
    · isplitl [Hh]; · iexact Hh
      iexact Ho
    isplitl [Hlev]; · iexact Hlev
    iexact HG
  exact h1.trans h0

theorem run_last (d : Dev nD) :
    iprop(boundary (d : Thread nD τ) ∗ all d (V4 m d) ∗ (K (F := F)).tcSt EH d 1 ∗ (K (F := F)).tcSems0 d)
      ⊢ wpM d (StableHlo.seq opsC >>= fun _ => .ret ⟨⟩) fun _ => iprop((K (F := F)).tcSt EH d 1 ∗ FIN m d ∗ (K (F := F)).tcEnd d) := by
  refine run_ops d opsC subC freshC (V4 m d) _ _ _ ?_
  have h : iprop(boundary (d : Thread nD τ) ∗ all d (StableHlo.after opsC (V4 m d)) ∗ (K (F := F)).tcSt EH d 1 ∗ (K (F := F)).tcSems0 d)
      ⊢ iprop((K (F := F)).tcSt EH d 1 ∗ FIN m d ∗ (K (F := F)).tcEnd d) := by
    unfold SparseCore.Cfg.tcEnd FIN V5
    iintro ⟨Hb, Hh, Hst, Hts⟩
    isplitl [Hst]; · iexact Hst
    isplitl [Hh]; · iexact Hh
    isplitl [Hb]; · iexact Hb
    iexact Hts
  refine h.trans ?_
  unfold wpM
  rw [wp_ret]
  exact fupd_intro

theorem run_mid (κ : GSem nD τ sig → ℕ) (d : Dev nD) :
    iprop(boundary (d : Thread nD τ) ∗ all d (V2 m d) ∗ (K (F := F)).ctx EH (P (XX m) m) κ ∗ (K (F := F)).tcSt EH d 0 ∗ (K (F := F)).tcSems0 d)
      ⊢ wpM d (StableHlo.seq opsB >>= fun _ => sc.run d 0 >>= fun _ => StableHlo.seq opsC >>= fun _ => .ret ⟨⟩)
          fun _ => iprop((K (F := F)).tcSt EH d 1 ∗ FIN m d ∗ (K (F := F)).tcEnd d) := by
  refine run_ops d opsB subB freshB (V2 m d) _ _ _ ?_
  unfold wpM
  rw [wp_bind]
  have h := run_call m κ d (fun _ => wpM d (StableHlo.seq opsC >>= fun _ => .ret ⟨⟩) fun _ => iprop((K (F := F)).tcSt EH d 1 ∗ FIN m d ∗ (K (F := F)).tcEnd d))
    iprop(boundary (d : Thread nD τ) ∗ (K (F := F)).tcSems0 d) (by
      refine BI.Entails.trans ?_ (run_last m d)
      have h' : iprop(all d (V4 m d) ∗ (K (F := F)).tcSt EH d 1 ∗ boundary (d : Thread nD τ) ∗ (K (F := F)).tcSems0 d)
          ⊢ iprop(boundary (d : Thread nD τ) ∗ all d (V4 m d) ∗ (K (F := F)).tcSt EH d 1 ∗ (K (F := F)).tcSems0 d) := by
        iintro ⟨Hh, Hst, Hb, Hts⟩
        isplitl [Hb]; · iexact Hb
        isplitl [Hh]; · iexact Hh
        isplitl [Hst]; · iexact Hst
        iexact Hts
      exact h')
  have h'' : iprop(boundary (d : Thread nD τ) ∗ all d (V3 m d) ∗ (K (F := F)).ctx EH (P (XX m) m) κ ∗ (K (F := F)).tcSt EH d 0 ∗ (K (F := F)).tcSems0 d)
      ⊢ iprop((K (F := F)).ctx EH (P (XX m) m) κ ∗ (K (F := F)).tcSt EH d 0 ∗ all d (V3 m d) ∗ boundary (d : Thread nD τ) ∗ (K (F := F)).tcSems0 d) := by
    iintro ⟨Hb, Hh, Hctx, Hst, Hts⟩
    isplitl [Hctx]; · iexact Hctx
    isplitl [Hst]; · iexact Hst
    isplitl [Hh]; · iexact Hh
    isplitl [Hb]; · iexact Hb
    iexact Hts
  exact h''.trans h

set_option maxRecDepth 16384 in
theorem hmain (κ : GSem nD τ sig → ℕ) (d : Dev nD) :
    iprop((K (F := F)).ctx EH (P (XX m) m) κ ∗ (K (F := F)).tcSt EH d 0 ∗ (K (F := F)).tcRes m ρ d ∗ regGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hu : (unscopedBufs d (fun b => m ((d : Thread nD τ).loc b)) : Pr F) = all d (V0 m d) := Pipeline.unscopedBufs_held d (V0 m d)
  have h1 : iprop(boundary (d : Thread nD τ) ∗ all d (V0 m d) ∗ (K (F := F)).ctx EH (P (XX m) m) κ ∗ (K (F := F)).tcSt EH d 0 ∗ regGhost (F := F) d ∗ (K (F := F)).tcSems0 d)
      ⊢ wpM d (main d) fun _ => iprop((K (F := F)).tcSt EH d 1 ∗ FIN m d ∗ (K (F := F)).tcEnd d) := by
    rw [main_eq]
    refine run_ops d opsA subA freshA (V0 m d) _ _ _ ?_
    unfold wpM
    rw [wp_bind]
    have hdup : iprop(boundary (d : Thread nD τ) ∗ all d (V1 m d) ∗ (K (F := F)).ctx EH (P (XX m) m) κ ∗ (K (F := F)).tcSt EH d 0 ∗ regGhost (F := F) d ∗ (K (F := F)).tcSems0 d)
        ⊢ iprop((K (F := F)).ctx EH (P (XX m) m) κ ∗ boundary (d : Thread nD τ) ∗ all d (V1 m d) ∗ (K (F := F)).tcSt EH d 0 ∗ regGhost (F := F) d
          ∗ (K (F := F)).ctx EH (P (XX m) m) κ ∗ (K (F := F)).tcSems0 d) := by
      iintro ⟨Hb, Hh, #Hctx, Hst, HG, Hts⟩
      isplitr; · iexact Hctx
      isplitl [Hb]; · iexact Hb
      isplitl [Hh]; · iexact Hh
      isplitl [Hst]; · iexact Hst
      isplitl [HG]; · iexact HG
      isplitr; · iexact Hctx
      iexact Hts
    refine hdup.trans (run_region m κ d _ _ ?_)
    have h' : iprop(boundary (d : Thread nD τ) ∗ all d (V2 m d) ∗ (K (F := F)).tcSt EH d 0 ∗ (K (F := F)).ctx EH (P (XX m) m) κ ∗ (K (F := F)).tcSems0 d)
        ⊢ iprop(boundary (d : Thread nD τ) ∗ all d (V2 m d) ∗ (K (F := F)).ctx EH (P (XX m) m) κ ∗ (K (F := F)).tcSt EH d 0 ∗ (K (F := F)).tcSems0 d) := by
      iintro ⟨Hb, Hh, Hst, Hctx, Hts⟩
      isplitl [Hb]; · iexact Hb
      isplitl [Hh]; · iexact Hh
      isplitl [Hctx]; · iexact Hctx
      isplitl [Hst]; · iexact Hst
      iexact Hts
    exact h'.trans (run_mid m κ d)
  have h2 : iprop((K (F := F)).ctx EH (P (XX m) m) κ ∗ (K (F := F)).tcSt EH d 0 ∗ (K (F := F)).tcRes m ρ d ∗ regGhost (F := F) d)
      ⊢ iprop(boundary (d : Thread nD τ) ∗ all d (V0 m d) ∗ (K (F := F)).ctx EH (P (XX m) m) κ ∗ (K (F := F)).tcSt EH d 0 ∗ regGhost (F := F) d ∗ (K (F := F)).tcSems0 d) := by
    unfold SparseCore.Cfg.tcRes
    rw [hu]
    iintro ⟨Hctx, Hst, ⟨Hb, Hh, Hts, -⟩, HG⟩
    isplitl [Hb]; · iexact Hb
    isplitl [Hh]; · iexact Hh
    isplitl [Hctx]; · iexact Hctx
    isplitl [Hst]; · iexact Hst
    isplitl [HG]; · iexact HG
    iexact Hts
  exact h2.trans h1

/-! ## The launch -/

/-- The region's cells at launch. -/
abbrev uReg : UP := initOf (Pipeline.cells (Pipeline.pin (pcfgs (F := F)) adm) cellOf_inj) (Pipeline.launchToks (Pipeline.pin (pcfgs (F := F)) adm) cellOf_inj)

/-- The ghost state the launch starts from. -/
def u₀ : UU := (initOf (K (F := F)).hsCells (K (F := F)).hsToks, (uReg (F := F), 1))

theorem own_split (a : UH) (b : UP) : (ownU ((a, (b, 1)) : UU) : Pr F) ⊢ iprop(BI.own (EH a) ∗ BI.own (EP b)) :=
  BI.own_op_elim ((uEmb (nD := nD) (τ := τ) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : Pr F)
    ⊢ |={Set.univ}=> iprop(BI.own (EH (initOf (K (F := F)).hsCells (K (F := F)).hsToks)) ∗ (bigSep Finset.univ fun d : Dev nD => regGhost (F := F) d)
        ∗ bigSep Finset.univ fun thr : Thread nD τ => bigSep Finset.univ fun q : Fin 1 => (P (XX m) m).x q thr) := by
  have hg := Pipeline.fund_ghost (Pipeline.pin (pcfgs (F := F)) adm) (EP (F := F)) cellOf_inj
  have hreg : (bigSep Finset.univ fun d : Dev nD => regGhost (F := F) d)
      = iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : Pr F))) := by
    rw [← bigSep_sep']
    refine bigSep_congr fun c _ => ?_
    rw [bigSep_univ_of_subsingleton (0 : Fin 1), bigSep_univ_of_subsingleton (0 : Fin 1)]
  have hx : (bigSep Finset.univ fun thr : Thread nD τ => bigSep Finset.univ fun q : Fin 1 => (P (XX m) m).x q thr) = (iprop(emp) : Pr F) :=
    (bigSep_congr fun _ _ => bigSep_univ_of_subsingleton (0 : Fin 1)).trans (bigSep_emp_const _)
  rw [hreg, hx]
  unfold u₀
  iintro Hu
  ihave H := (own_split (initOf (K (F := F)).hsCells (K (F := F)).hsToks) (uReg (F := F))) $$ Hu
  icases H with ⟨HH, HP⟩
  imod hg $$ HP with H
  imodintro
  isplitl [HH]; · iexact HH
  isplitl [H]; · iexact H
  iempintro

/-! ## The run -/

/-- What the final memory holds on `d`. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : Pr F) := by
  have h := pointsTo_read_all (Ix := HIx 1) (Name := ℕ) (U := UU) (Lvl := ℕ) (Pipeline.ucRefs τ sig) (fun b => ((d, b) : Loc nD τ sig)) (V5 m d) s'
  have h' : iprop(FIN m d ∗ SI s') ⊢ (iprop(⌜fq m d s'⌝ ∗ SI s') : Pr F) := h
  exact h'.trans sep_elim_left

/-- The program's result: every unscoped buffer at its final contents, every semaphore at 0. -/
def QC : PUnit × MemSt nD τ sig (Elt F) → Prop := fun r => (∀ d : Dev nD, ∀ b ∈ Pipeline.ucRefs τ sig, r.2.mem (d, b) = V5 m d b) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (XX m) m) (A := ∅) facts v₀
    (fun q hq => match q with | 0 => nomatch hq)
    (fun q _ => match q with | 0 => tileObl (XX m) m facts)
    (fun q _ => match q with | 0 => SparseCore.Cfg.VecSplit.of_plain (vecSplit (XX m) m))
    m ρ main (fun d => regGhost (F := F) d) (FIN m) (u₀ (F := F)) (sep_elim_left.trans (hu₀ m)) (hmain m ρ) (fq m) (hfin m) (QC m)
    (fun _ h hz => ⟨h, hz⟩)

end Cert.Proof

end
-- ==== Proof.Frames.lean ====
/-
  The kernel's frames, over the machine's bits and over the extended reals, and its named constants.
-/
module

public import proofs.«01_k».proof.Proof.Main
public import proofs.«01_k».proof.Proof.Gen.Kernel
public import proofs.«01_k».proof.Defs

@[expose] public section

set_option maxRecDepth 16384

noncomputable section

namespace Cert.Proof

open Idealize.ShloMosaic
open Idealize.ShloMosaic.TcCoe
open Idealize.SL Idealize.SL.Sem

/-- A buffer of the TensorCore that is not scoped is among those the run reads. -/
theorem mem_uc (b : Ref Cert.KernelIdeal.sig .tc) (h : b.isScoped = false) : (Proc.devRef .tc b : DevRef Cert.KernelIdeal.τ Cert.KernelIdeal.sig) ∈ Pipeline.ucRefs Cert.KernelIdeal.τ Cert.KernelIdeal.sig :=
  Finset.mem_filter.mpr ⟨StableHlo.devRef_mem_tcRefs _, fun hs => Bool.false_ne_true (h.symm.trans hs)⟩

section Any

open Cert.KernelIdeal Cert.KernelIdeal.Gen

variable {F : FTy → Type} [FloatOps F] [Named F] [∀ e, Nonempty (Elt F e)]
variable (m : (ℓ : Loc nD τ sig) → Buf (Elt F) ℓ)

theorem keeps (r : PUnit × MemSt nD τ sig (Elt F)) (h : QC m r) (c : Dev nD) (b : Ref sig .tc) (hb : b ∈ ([main_arg0, main_arg1, main_arg2] : List (Ref sig .tc))) :
    r.2.mem ((c : Thread nD τ).loc b) = m ((c : Thread nD τ).loc b) := by
  have hs : ∀ b ∈ ([main_arg0, main_arg1, main_arg2] : List (Ref sig .tc)), b.isScoped = false := by decide
  refine (h.1 c _ (mem_uc b (hs b hb))).trans (V5_keep m c b ?_ ?_ ?_ ?_ ?_)
  all_goals
    revert b
    decide

end Any

/-- The constants' own bits, at the machine's floats. -/
@[reducible] def namedBits : Named Bits := ⟨fun _ _ φ b => FloatOps.ofBits φ b⟩

section Same

local instance : Named Bits := namedBits

/-- The two programs' bodies are the same at the machine's floats. -/
theorem bodies_eq : Cert.Kernel.defs₀ (F := Bits) = Cert.KernelIdeal.defs₀ (F := Bits) := by
  funext p ℓ a
  match p, ℓ, a with
  | .tc, 0, (t, s) => rfl
  | .tc, 1, a => rfl
  | .scScalar _, 0, a => rfl
  | .scScalar _, 1, a => rfl
  | .scVector _ _, 0, a => rfl
  | .scVector _ _, 1, a => rfl

theorem defs_eq : Cert.Kernel.defs (F := Bits) = Cert.KernelIdeal.defs (F := Bits) :=
  congrArg (fun d => Cert.KernelIdeal.sc.defs (Pipeline.defs Cert.KernelIdeal.pcfgs d)) bodies_eq

end Same

theorem frame_kernel : Cert.quiescent_Kernel := fun m ρ _ => by
  letI := namedBits
  have h := (θ_run (Cert.KernelIdeal.defs (F := Bits)) (Cert.KernelIdeal.threads (F := Bits)) ⟨m, fun _ => 0, ρ⟩).mono
    (fun (r : PUnit × MemSt Cert.KernelIdeal.nD Cert.KernelIdeal.τ Cert.KernelIdeal.sig (Elt Bits)) (h : QC m r) =>
      (⟨fun c => ⟨keeps m r h c _ (by decide), keeps m r h c _ (by decide), keeps m r h c _ (by decide)⟩, h.2⟩ :
        (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0))
    (run_main (F := Bits) m ρ)
  exact Eq.mpr (congrArg (fun D => θ_run D (Cert.Kernel.threads (F := Bits)) ⟨m, fun _ => 0, ρ⟩ _) defs_eq) h

theorem frame_ideal : Cert.quiescent_KernelIdeal := fun m ρ _ =>
  (θ_run Cert.KernelIdeal.defs _ _).mono (fun r h => ⟨fun c => ⟨keeps m r h c _ (by decide), keeps m r h c _ (by decide), keeps m r h c _ (by decide)⟩, h.2⟩)
    (run_main (F := Ideal) m ρ)

theorem preserves : Cert.preserves_Kernel_KernelIdeal :=
  ⟨IdealRules.named_const.statement Cert.KernelIdeal.κ "inv_v0" .f32 0x41200000#32 _ rfl,
    IdealRules.named_const.statement Cert.KernelIdeal.κ "inv_v1" .f32 0x40A00000#32 _ rfl⟩

end Cert.Proof

end
-- ==== Proof.Ref.lean ====
/-
  The reference's run: a line of host operations, every buffer written once.
-/
module

public import Idealize.ShloMosaic.Lib.StableHlo.Run
public import Idealize.ShloMosaic.Lib.Quiescent
public import proofs.«01_k».proof.Proof.Gen.ReferenceIdeal
public import proofs.«01_k».proof.Defs

@[expose] public section

set_option maxRecDepth 16384

noncomputable section

namespace Cert.Proof.Ref

open Cert.ReferenceIdeal Cert.ReferenceIdeal.Gen

open Idealize.ShloMosaic
open Idealize.ShloMosaic.TcCoe
open Idealize.SL.Sem

variable {F : FTy → Type} [FloatOps F]

def ops0 : List (HloOp τ sig (Elt F)) := [
    (StableHlo.nullary main_v0 (iotaInDim S8 32 0)),
    (StableHlo.unary main_v0 main_v1 (broadcastInDim S8x1 ![0] bcast_S8_S8x1_0 : (⟨S8, .i32⟩ : BufTy).Contents (Elt F) → (⟨S8x1, .i32⟩ : BufTy).Contents (Elt F))),
    (StableHlo.unary main_arg0 main_v2 ((extractStridedSlice S20000x2 ![0, 0] · slices_S20000x4_S20000x2_0_0) : (⟨S20000x4, .f32⟩ : BufTy).Contents (Elt F) → (⟨S20000x2, .f32⟩ : BufTy).Contents (Elt F))),
    (StableHlo.unary main_arg0 main_v3 ((extractStridedSlice S20000x2 ![0, 2] · slices_S20000x4_S20000x2_0_2) : (⟨S20000x4, .f32⟩ : BufTy).Contents (Elt F) → (⟨S20000x2, .f32⟩ : BufTy).Contents (Elt F))),
    (StableHlo.nullary main_cst (constant S_ .f32 0x40000000#32)),
    (StableHlo.unary main_cst main_v4 (broadcastInDim S20000x2 ![] bcast_S_S20000x2 : (⟨S_, .f32⟩ : BufTy).Contents (Elt F) → (⟨S20000x2, .f32⟩ : BufTy).Contents (Elt F))),
    (StableHlo.binary main_v3 main_v4 main_v5 (Host.divf : (⟨S20000x2, .f32⟩ : BufTy).Contents (Elt F) → (⟨S20000x2, .f32⟩ : BufTy).Contents (Elt F) → (⟨S20000x2, .f32⟩ : BufTy).Contents (Elt F))),
    (StableHlo.binary main_v2 main_v5 main_v6 (subf : (⟨S20000x2, .f32⟩ : BufTy).Contents (Elt F) → (⟨S20000x2, .f32⟩ : BufTy).Contents (Elt F) → (⟨S20000x2, .f32⟩ : BufTy).Contents (Elt F))),
    (StableHlo.unary main_arg0 main_v7 ((extractStridedSlice S20000x2 ![0, 0] · slices_S20000x4_S20000x2_0_0) : (⟨S20000x4, .f32⟩ : BufTy).Contents (Elt F) → (⟨S20000x2, .f32⟩ : BufTy).Contents (Elt F))),
    (StableHlo.unary main_arg0 main_v8 ((extractStridedSlice S20000x2 ![0, 2] · slices_S20000x4_S20000x2_0_2) : (⟨S20000x4, .f32⟩ : BufTy).Contents (Elt F) → (⟨S20000x2, .f32⟩ : BufTy).Contents (Elt F))),
    (StableHlo.nullary main_cst_0 (constant S_ .f32 0x40000000#32)),
    (StableHlo.unary main_cst_0 main_v9 (broadcastInDim S20000x2 ![] bcast_S_S20000x2 : (⟨S_, .f32⟩ : BufTy).Contents (Elt F) → (⟨S20000x2, .f32⟩ : BufTy).Contents (Elt F))),
    (StableHlo.binary main_v8 main_v9 main_v10 (Host.divf : (⟨S20000x2, .f32⟩ : BufTy).Contents (Elt F) → (⟨S20000x2, .f32⟩ : BufTy).Contents (Elt F) → (⟨S20000x2, .f32⟩ : BufTy).Contents (Elt F))),
    (StableHlo.binary main_v7 main_v10 main_v11 (addf : (⟨S20000x2, .f32⟩ : BufTy).Contents (Elt F) → (⟨S20000x2, .f32⟩ : BufTy).Contents (Elt F) → (⟨S20000x2, .f32⟩ : BufTy).Contents (Elt F))),
    (StableHlo.binary main_v6 main_v11 main_v12 ((fun a b => concatenate S20000x4 1 [⟨S20000x2, a⟩, ⟨S20000x2, b⟩] concatenates_S20000x2_S20000x2_S20000x4_d1) : (⟨S20000x2, .f32⟩ : BufTy).Contents (Elt F) → (⟨S20000x2, .f32⟩ : BufTy).Contents (Elt F) → (⟨S20000x4, .f32⟩ : BufTy).Contents (Elt F))),
    (StableHlo.unary main_arg1 main_v13 ((extractStridedSlice S8x100x2 ![0, 0, 0] · slices_S8x100x4_S8x100x2_0_0_0) : (⟨S8x100x4, .f32⟩ : BufTy).Contents (Elt F) → (⟨S8x100x2, .f32⟩ : BufTy).Contents (Elt F))),
    (StableHlo.unary main_v13 main_v14 (broadcastInDim S8x100x1x2 ![0, 1, 3] bcast_S8x100x2_S8x100x1x2_0_1_3 : (⟨S8x100x2, .f32⟩ : BufTy).Contents (Elt F) → (⟨S8x100x1x2, .f32⟩ : BufTy).Contents (Elt F))),
    (StableHlo.unary main_v12 main_v15 ((extractStridedSlice S20000x2 ![0, 0] · slices_S20000x4_S20000x2_0_0) : (⟨S20000x4, .f32⟩ : BufTy).Contents (Elt F) → (⟨S20000x2, .f32⟩ : BufTy).Contents (Elt F))),
    (StableHlo.unary main_v15 main_v16 (broadcastInDim S1x20000x2 ![1, 2] bcast_S20000x2_S1x20000x2_1_2 : (⟨S20000x2, .f32⟩ : BufTy).Contents (Elt F) → (⟨S1x20000x2, .f32⟩ : BufTy).Contents (Elt F))),
    (StableHlo.unary main_v16 main_v17 (broadcastInDim S1x1x20000x2 ![1, 2, 3] bcast_S1x20000x2_S1x1x20000x2_1_2_3 : (⟨S1x20000x2, .f32⟩ : BufTy).Contents (Elt F) → (⟨S1x1x20000x2, .f32⟩ : BufTy).Contents (Elt F))),
    (StableHlo.unary main_v14 main_v18 (broadcastInDim S8x100x20000x2 ![0, 1, 2, 3] bcast_S8x100x1x2_S8x100x20000x2_0_1_2_3 : (⟨S8x100x1x2, .f32⟩ : BufTy).Contents (Elt F) → (⟨S8x100x20000x2, .f32⟩ : BufTy).Contents (Elt F))),
    (StableHlo.unary main_v17 main_v19 (broadcastInDim S8x100x20000x2 ![0, 1, 2, 3] bcast_S1x1x20000x2_S8x100x20000x2_0_1_2_3 : (⟨S1x1x20000x2, .f32⟩ : BufTy).Contents (Elt F) → (⟨S8x100x20000x2, .f32⟩ : BufTy).Contents (Elt F))),
    (StableHlo.binary main_v18 main_v19 main_v20 (maximumf : (⟨S8x100x20000x2, .f32⟩ : BufTy).Contents (Elt F) → (⟨S8x100x20000x2, .f32⟩ : BufTy).Contents (Elt F) → (⟨S8x100x20000x2, .f32⟩ : BufTy).Contents (Elt F))),
    (StableHlo.unary main_arg1 main_v21 ((extractStridedSlice S8x100x2 ![0, 0, 2] · slices_S8x100x4_S8x100x2_0_0_2) : (⟨S8x100x4, .f32⟩ : BufTy).Contents (Elt F) → (⟨S8x100x2, .f32⟩ : BufTy).Contents (Elt F))),
    (StableHlo.unary main_v21 main_v22 (broadcastInDim S8x100x1x2 ![0, 1, 3] bcast_S8x100x2_S8x100x1x2_0_1_3 : (⟨S8x100x2, .f32⟩ : BufTy).Contents (Elt F) → (⟨S8x100x1x2, .f32⟩ : BufTy).Contents (Elt F))),
    (StableHlo.unary main_v12 main_v23 ((extractStridedSlice S20000x2 ![0, 2] · slices_S20000x4_S20000x2_0_2) : (⟨S20000x4, .f32⟩ : BufTy).Contents (Elt F) → (⟨S20000x2, .f32⟩ : BufTy).Contents (Elt F))),
    (StableHlo.unary main_v23 main_v24 (broadcastInDim S1x20000x2 ![1, 2] bcast_S20000x2_S1x20000x2_1_2 : (⟨S20000x2, .f32⟩ : BufTy).Contents (Elt F) → (⟨S1x20000x2, .f32⟩ : BufTy).Contents (Elt F))),
    (StableHlo.unary main_v24 main_v25 (broadcastInDim S1x1x20000x2 ![1, 2, 3] bcast_S1x20000x2_S1x1x20000x2_1_2_3 : (⟨S1x20000x2, .f32⟩ : BufTy).Contents (Elt F) → (⟨S1x1x20000x2, .f32⟩ : BufTy).Contents (Elt F))),
    (StableHlo.unary main_v22 main_v26 (broadcastInDim S8x100x20000x2 ![0, 1, 2, 3] bcast_S8x100x1x2_S8x100x20000x2_0_1_2_3 : (⟨S8x100x1x2, .f32⟩ : BufTy).Contents (Elt F) → (⟨S8x100x20000x2, .f32⟩ : BufTy).Contents (Elt F))),
    (StableHlo.unary main_v25 main_v27 (broadcastInDim S8x100x20000x2 ![0, 1, 2, 3] bcast_S1x1x20000x2_S8x100x20000x2_0_1_2_3 : (⟨S1x1x20000x2, .f32⟩ : BufTy).Contents (Elt F) → (⟨S8x100x20000x2, .f32⟩ : BufTy).Contents (Elt F))),
    (StableHlo.binary main_v26 main_v27 main_v28 (minimumf : (⟨S8x100x20000x2, .f32⟩ : BufTy).Contents (Elt F) → (⟨S8x100x20000x2, .f32⟩ : BufTy).Contents (Elt F) → (⟨S8x100x20000x2, .f32⟩ : BufTy).Contents (Elt F))),
    (StableHlo.binary main_v28 main_v20 main_v29 (subf : (⟨S8x100x20000x2, .f32⟩ : BufTy).Contents (Elt F) → (⟨S8x100x20000x2, .f32⟩ : BufTy).Contents (Elt F) → (⟨S8x100x20000x2, .f32⟩ : BufTy).Contents (Elt F))),
    (StableHlo.nullary main_cst_1 (constant S_ .f32 0x00000000#32)),
    (StableHlo.unary main_cst_1 main_v30 (broadcastInDim S8x100x20000x2 ![] bcast_S_S8x100x20000x2 : (⟨S_, .f32⟩ : BufTy).Contents (Elt F) → (⟨S8x100x20000x2, .f32⟩ : BufTy).Contents (Elt F))),
    (StableHlo.binary main_v29 main_v30 main_v31 (maximumf : (⟨S8x100x20000x2, .f32⟩ : BufTy).Contents (Elt F) → (⟨S8x100x20000x2, .f32⟩ : BufTy).Contents (Elt F) → (⟨S8x100x20000x2, .f32⟩ : BufTy).Contents (Elt F))),
    (StableHlo.unary main_v31 main_v32 ((extractStridedSlice S8x100x20000x1 ![0, 0, 0, 0] · slices_S8x100x20000x2_S8x100x20000x1_0_0_0_0) : (⟨S8x100x20000x2, .f32⟩ : BufTy).Contents (Elt F) → (⟨S8x100x20000x1, .f32⟩ : BufTy).Contents (Elt F))),
    (StableHlo.reshape main_v32 main_v33 (rfl : (.f32 : EltTy) = .f32) shapeCasts_S8x100x20000x1_S8x100x20000),
    (StableHlo.unary main_v31 main_v34 ((extractStridedSlice S8x100x20000x1 ![0, 0, 0, 1] · slices_S8x100x20000x2_S8x100x20000x1_0_0_0_1) : (⟨S8x100x20000x2, .f32⟩ : BufTy).Contents (Elt F) → (⟨S8x100x20000x1, .f32⟩ : BufTy).Contents (Elt F))),
    (StableHlo.reshape main_v34 main_v35 (rfl : (.f32 : EltTy) = .f32) shapeCasts_S8x100x20000x1_S8x100x20000),
    (StableHlo.binary main_v33 main_v35 main_v36 (mulf : (⟨S8x100x20000, .f32⟩ : BufTy).Contents (Elt F) → (⟨S8x100x20000, .f32⟩ : BufTy).Contents (Elt F) → (⟨S8x100x20000, .f32⟩ : BufTy).Contents (Elt F))),
    (StableHlo.unary main_arg1 main_v37 ((extractStridedSlice S8x100x1 ![0, 0, 2] · slices_S8x100x4_S8x100x1_0_0_2) : (⟨S8x100x4, .f32⟩ : BufTy).Contents (Elt F) → (⟨S8x100x1, .f32⟩ : BufTy).Contents (Elt F))),
    (StableHlo.reshape main_v37 main_v38 (rfl : (.f32 : EltTy) = .f32) shapeCasts_S8x100x1_S8x100),
    (StableHlo.unary main_arg1 main_v39 ((extractStridedSlice S8x100x1 ![0, 0, 0] · slices_S8x100x4_S8x100x1_0_0_0) : (⟨S8x100x4, .f32⟩ : BufTy).Contents (Elt F) → (⟨S8x100x1, .f32⟩ : BufTy).Contents (Elt F))),
    (StableHlo.reshape main_v39 main_v40 (rfl : (.f32 : EltTy) = .f32) shapeCasts_S8x100x1_S8x100),
    (StableHlo.binary main_v38 main_v40 main_v41 (subf : (⟨S8x100, .f32⟩ : BufTy).Contents (Elt F) → (⟨S8x100, .f32⟩ : BufTy).Contents (Elt F) → (⟨S8x100, .f32⟩ : BufTy).Contents (Elt F))),
    (StableHlo.unary main_arg1 main_v42 ((extractStridedSlice S8x100x1 ![0, 0, 3] · slices_S8x100x4_S8x100x1_0_0_3) : (⟨S8x100x4, .f32⟩ : BufTy).Contents (Elt F) → (⟨S8x100x1, .f32⟩ : BufTy).Contents (Elt F))),
    (StableHlo.reshape main_v42 main_v43 (rfl : (.f32 : EltTy) = .f32) shapeCasts_S8x100x1_S8x100),
    (StableHlo.unary main_arg1 main_v44 ((extractStridedSlice S8x100x1 ![0, 0, 1] · slices_S8x100x4_S8x100x1_0_0_1) : (⟨S8x100x4, .f32⟩ : BufTy).Contents (Elt F) → (⟨S8x100x1, .f32⟩ : BufTy).Contents (Elt F))),
    (StableHlo.reshape main_v44 main_v45 (rfl : (.f32 : EltTy) = .f32) shapeCasts_S8x100x1_S8x100),
    (StableHlo.binary main_v43 main_v45 main_v46 (subf : (⟨S8x100, .f32⟩ : BufTy).Contents (Elt F) → (⟨S8x100, .f32⟩ : BufTy).Contents (Elt F) → (⟨S8x100, .f32⟩ : BufTy).Contents (Elt F))),
    (StableHlo.binary main_v41 main_v46 main_v47 (mulf : (⟨S8x100, .f32⟩ : BufTy).Contents (Elt F) → (⟨S8x100, .f32⟩ : BufTy).Contents (Elt F) → (⟨S8x100, .f32⟩ : BufTy).Contents (Elt F))),
    (StableHlo.unary main_v12 main_v48 ((extractStridedSlice S20000x1 ![0, 2] · slices_S20000x4_S20000x1_0_2) : (⟨S20000x4, .f32⟩ : BufTy).Contents (Elt F) → (⟨S20000x1, .f32⟩ : BufTy).Contents (Elt F))),
    (StableHlo.reshape main_v48 main_v49 (rfl : (.f32 : EltTy) = .f32) shapeCasts_S20000x1_S20000),
    (StableHlo.unary main_v12 main_v50 ((extractStridedSlice S20000x1 ![0, 0] · slices_S20000x4_S20000x1_0_0) : (⟨S20000x4, .f32⟩ : BufTy).Contents (Elt F) → (⟨S20000x1, .f32⟩ : BufTy).Contents (Elt F))),
    (StableHlo.reshape main_v50 main_v51 (rfl : (.f32 : EltTy) = .f32) shapeCasts_S20000x1_S20000),
    (StableHlo.binary main_v49 main_v51 main_v52 (subf : (⟨S20000, .f32⟩ : BufTy).Contents (Elt F) → (⟨S20000, .f32⟩ : BufTy).Contents (Elt F) → (⟨S20000, .f32⟩ : BufTy).Contents (Elt F))),
    (StableHlo.unary main_v12 main_v53 ((extractStridedSlice S20000x1 ![0, 3] · slices_S20000x4_S20000x1_0_3) : (⟨S20000x4, .f32⟩ : BufTy).Contents (Elt F) → (⟨S20000x1, .f32⟩ : BufTy).Contents (Elt F))),
    (StableHlo.reshape main_v53 main_v54 (rfl : (.f32 : EltTy) = .f32) shapeCasts_S20000x1_S20000),
    (StableHlo.unary main_v12 main_v55 ((extractStridedSlice S20000x1 ![0, 1] · slices_S20000x4_S20000x1_0_1) : (⟨S20000x4, .f32⟩ : BufTy).Contents (Elt F) → (⟨S20000x1, .f32⟩ : BufTy).Contents (Elt F))),
    (StableHlo.reshape main_v55 main_v56 (rfl : (.f32 : EltTy) = .f32) shapeCasts_S20000x1_S20000)]

theorem part0_eq (d : Dev nD) : main_part0 (F := F) d = StableHlo.seq ops0 := rfl

def ops1 : List (HloOp τ sig (Elt F)) := [
    (StableHlo.binary main_v54 main_v56 main_v57 (subf : (⟨S20000, .f32⟩ : BufTy).Contents (Elt F) → (⟨S20000, .f32⟩ : BufTy).Contents (Elt F) → (⟨S20000, .f32⟩ : BufTy).Contents (Elt F))),
    (StableHlo.binary main_v52 main_v57 main_v58 (mulf : (⟨S20000, .f32⟩ : BufTy).Contents (Elt F) → (⟨S20000, .f32⟩ : BufTy).Contents (Elt F) → (⟨S20000, .f32⟩ : BufTy).Contents (Elt F))),
    (StableHlo.unary main_v47 main_v59 (broadcastInDim S8x100x1 ![0, 1] bcast_S8x100_S8x100x1_0_1 : (⟨S8x100, .f32⟩ : BufTy).Contents (Elt F) → (⟨S8x100x1, .f32⟩ : BufTy).Contents (Elt F))),
    (StableHlo.unary main_v58 main_v60 (broadcastInDim S1x20000 ![1] bcast_S20000_S1x20000_1 : (⟨S20000, .f32⟩ : BufTy).Contents (Elt F) → (⟨S1x20000, .f32⟩ : BufTy).Contents (Elt F))),
    (StableHlo.unary main_v60 main_v61 (broadcastInDim S1x1x20000 ![1, 2] bcast_S1x20000_S1x1x20000_1_2 : (⟨S1x20000, .f32⟩ : BufTy).Contents (Elt F) → (⟨S1x1x20000, .f32⟩ : BufTy).Contents (Elt F))),
    (StableHlo.unary main_v59 main_v62 (broadcastInDim S8x100x20000 ![0, 1, 2] bcast_S8x100x1_S8x100x20000_0_1_2 : (⟨S8x100x1, .f32⟩ : BufTy).Contents (Elt F) → (⟨S8x100x20000, .f32⟩ : BufTy).Contents (Elt F))),
    (StableHlo.unary main_v61 main_v63 (broadcastInDim S8x100x20000 ![0, 1, 2] bcast_S1x1x20000_S8x100x20000_0_1_2 : (⟨S1x1x20000, .f32⟩ : BufTy).Contents (Elt F) → (⟨S8x100x20000, .f32⟩ : BufTy).Contents (Elt F))),
    (StableHlo.binary main_v62 main_v63 main_v64 (addf : (⟨S8x100x20000, .f32⟩ : BufTy).Contents (Elt F) → (⟨S8x100x20000, .f32⟩ : BufTy).Contents (Elt F) → (⟨S8x100x20000, .f32⟩ : BufTy).Contents (Elt F))),
    (StableHlo.binary main_v64 main_v36 main_v65 (subf : (⟨S8x100x20000, .f32⟩ : BufTy).Contents (Elt F) → (⟨S8x100x20000, .f32⟩ : BufTy).Contents (Elt F) → (⟨S8x100x20000, .f32⟩ : BufTy).Contents (Elt F))),
    (StableHlo.binary main_v36 main_v65 main_v66 (Host.divf : (⟨S8x100x20000, .f32⟩ : BufTy).Contents (Elt F) → (⟨S8x100x20000, .f32⟩ : BufTy).Contents (Elt F) → (⟨S8x100x20000, .f32⟩ : BufTy).Contents (Elt F))),
    (StableHlo.nullary main_cst_2 (constant S_ .f32 0xFF800000#32)),
    (StableHlo.binary main_v66 main_cst_2 main_v67 ((fun x v => Host.reduce FloatOps.maximumf x v reducesTo_S8x100x20000_S8x20000_d1 h_S_) : (⟨S8x100x20000, .f32⟩ : BufTy).Contents (Elt F) → (⟨S_, .f32⟩ : BufTy).Contents (Elt F) → (⟨S8x20000, .f32⟩ : BufTy).Contents (Elt F))),
    (StableHlo.nullary main_call0_v0 (iotaInDim S8x100x20000 32 1)),
    (StableHlo.nullary main_call0_cst (constant S_ .f32 0xFF800000#32)),
    (StableHlo.nullary main_call0_c (constantI S_ 32 0#32)),
    (StableHlo.quaternary main_v66 main_call0_v0 main_call0_cst main_call0_c main_call0_v1_0 ((fun x y u v j => (Host.argReduce reducer_argmax_f32_i32 x y u v reducesTo_S8x100x20000_S8x20000_d1 h_S_ j).1) : (⟨S8x100x20000, .f32⟩ : BufTy).Contents (Elt F) → (⟨S8x100x20000, .i32⟩ : BufTy).Contents (Elt F) → (⟨S_, .f32⟩ : BufTy).Contents (Elt F) → (⟨S_, .i32⟩ : BufTy).Contents (Elt F) → (⟨S8x20000, .f32⟩ : BufTy).Contents (Elt F))),
    (StableHlo.quaternary main_v66 main_call0_v0 main_call0_cst main_call0_c main_v68 ((fun x y u v j => (Host.argReduce reducer_argmax_f32_i32 x y u v reducesTo_S8x100x20000_S8x20000_d1 h_S_ j).2) : (⟨S8x100x20000, .f32⟩ : BufTy).Contents (Elt F) → (⟨S8x100x20000, .i32⟩ : BufTy).Contents (Elt F) → (⟨S_, .f32⟩ : BufTy).Contents (Elt F) → (⟨S_, .i32⟩ : BufTy).Contents (Elt F) → (⟨S8x20000, .i32⟩ : BufTy).Contents (Elt F))),
    (StableHlo.nullary main_call1_v0 (iotaInDim S8x100x20000 32 2)),
    (StableHlo.nullary main_call1_cst (constant S_ .f32 0xFF800000#32)),
    (StableHlo.nullary main_call1_c (constantI S_ 32 0#32)),
    (StableHlo.quaternary main_v66 main_call1_v0 main_call1_cst main_call1_c main_call1_v1_0 ((fun x y u v j => (Host.argReduce reducer_argmax_f32_i32 x y u v reducesTo_S8x100x20000_S8x100_d2 h_S_ j).1) : (⟨S8x100x20000, .f32⟩ : BufTy).Contents (Elt F) → (⟨S8x100x20000, .i32⟩ : BufTy).Contents (Elt F) → (⟨S_, .f32⟩ : BufTy).Contents (Elt F) → (⟨S_, .i32⟩ : BufTy).Contents (Elt F) → (⟨S8x100, .f32⟩ : BufTy).Contents (Elt F))),
    (StableHlo.quaternary main_v66 main_call1_v0 main_call1_cst main_call1_c main_v69 ((fun x y u v j => (Host.argReduce reducer_argmax_f32_i32 x y u v reducesTo_S8x100x20000_S8x100_d2 h_S_ j).2) : (⟨S8x100x20000, .f32⟩ : BufTy).Contents (Elt F) → (⟨S8x100x20000, .i32⟩ : BufTy).Contents (Elt F) → (⟨S_, .f32⟩ : BufTy).Contents (Elt F) → (⟨S_, .i32⟩ : BufTy).Contents (Elt F) → (⟨S8x100, .i32⟩ : BufTy).Contents (Elt F))),
    (StableHlo.nullary main_v70 (iotaInDim S100 32 0)),
    (StableHlo.unary main_v70 main_v71 (broadcastInDim S8x100 ![1] bcast_S100_S8x100_1 : (⟨S100, .i32⟩ : BufTy).Contents (Elt F) → (⟨S8x100, .i32⟩ : BufTy).Contents (Elt F))),
    (StableHlo.nullary main_c (constantI S_ 32 0#32)),
    (StableHlo.unary main_c main_v72 (broadcastInDim S8x1 ![] bcast_S_S8x1 : (⟨S_, .i32⟩ : BufTy).Contents (Elt F) → (⟨S8x1, .i32⟩ : BufTy).Contents (Elt F))),
    (StableHlo.binary main_v1 main_v72 main_v73 (cmpi .slt : (⟨S8x1, .i32⟩ : BufTy).Contents (Elt F) → (⟨S8x1, .i32⟩ : BufTy).Contents (Elt F) → (⟨S8x1, .i1⟩ : BufTy).Contents (Elt F))),
    (StableHlo.nullary main_c_3 (constantI S_ 32 8#32)),
    (StableHlo.unary main_c_3 main_v74 (broadcastInDim S8x1 ![] bcast_S_S8x1 : (⟨S_, .i32⟩ : BufTy).Contents (Elt F) → (⟨S8x1, .i32⟩ : BufTy).Contents (Elt F))),
    (StableHlo.binary main_v1 main_v74 main_v75 (addi : (⟨S8x1, .i32⟩ : BufTy).Contents (Elt F) → (⟨S8x1, .i32⟩ : BufTy).Contents (Elt F) → (⟨S8x1, .i32⟩ : BufTy).Contents (Elt F))),
    (StableHlo.ternary main_v73 main_v75 main_v1 main_v76 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))),
    (StableHlo.nullary main_c_4 (constantI S_ 32 0#32)),
    (StableHlo.unary main_c_4 main_v77 (broadcastInDim S8x100 ![] bcast_S_S8x100 : (⟨S_, .i32⟩ : BufTy).Contents (Elt F) → (⟨S8x100, .i32⟩ : BufTy).Contents (Elt F))),
    (StableHlo.binary main_v69 main_v77 main_v78 (cmpi .slt : (⟨S8x100, .i32⟩ : BufTy).Contents (Elt F) → (⟨S8x100, .i32⟩ : BufTy).Contents (Elt F) → (⟨S8x100, .i1⟩ : BufTy).Contents (Elt F))),
    (StableHlo.nullary main_c_5 (constantI S_ 32 20000#32)),
    (StableHlo.unary main_c_5 main_v79 (broadcastInDim S8x100 ![] bcast_S_S8x100 : (⟨S_, .i32⟩ : BufTy).Contents (Elt F) → (⟨S8x100, .i32⟩ : BufTy).Contents (Elt F))),
    (StableHlo.binary main_v69 main_v79 main_v80 (addi : (⟨S8x100, .i32⟩ : BufTy).Contents (Elt F) → (⟨S8x100, .i32⟩ : BufTy).Contents (Elt F) → (⟨S8x100, .i32⟩ : BufTy).Contents (Elt F))),
    (StableHlo.ternary main_v78 main_v80 main_v69 main_v81 (select : (⟨S8x100, .i1⟩ : BufTy).Contents (Elt F) → (⟨S8x100, .i32⟩ : BufTy).Contents (Elt F) → (⟨S8x100, .i32⟩ : BufTy).Contents (Elt F) → (⟨S8x100, .i32⟩ : BufTy).Contents (Elt F))),
    (StableHlo.unary main_v76 main_v82 (broadcastInDim S8x100 ![0, 1] bcast_S8x1_S8x100_0_1 : (⟨S8x1, .i32⟩ : BufTy).Contents (Elt F) → (⟨S8x100, .i32⟩ : BufTy).Contents (Elt F))),
    (StableHlo.unary main_v82 main_v83 (broadcastInDim S8x100x1 ![0, 1] bcast_S8x100_S8x100x1_0_1 : (⟨S8x100, .i32⟩ : BufTy).Contents (Elt F) → (⟨S8x100x1, .i32⟩ : BufTy).Contents (Elt F))),
    (StableHlo.unary main_v81 main_v84 (broadcastInDim S8x100x1 ![0, 1] bcast_S8x100_S8x100x1_0_1 : (⟨S8x100, .i32⟩ : BufTy).Contents (Elt F) → (⟨S8x100x1, .i32⟩ : BufTy).Contents (Elt F))),
    (StableHlo.binary main_v83 main_v84 main_v85 ((fun a b => concatenate S8x100x2 2 [⟨S8x100x1, a⟩, ⟨S8x100x1, b⟩] concatenates_S8x100x1_S8x100x1_S8x100x2_d2) : (⟨S8x100x1, .i32⟩ : BufTy).Contents (Elt F) → (⟨S8x100x1, .i32⟩ : BufTy).Contents (Elt F) → (⟨S8x100x2, .i32⟩ : BufTy).Contents (Elt F))),
    (StableHlo.ternary main_v68 main_v85 main_v71 main_v86 ((fun x i u => Host.scatter scatter_S8x20000_S8x100x2_S8x100_n_01_01_2 (fun _ b => b) x i u) : (⟨S8x20000, .i32⟩ : BufTy).Contents (Elt F) → (⟨S8x100x2, .i32⟩ : BufTy).Contents (Elt F) → (⟨S8x100, .i32⟩ : BufTy).Contents (Elt F) → (⟨S8x20000, .i32⟩ : BufTy).Contents (Elt F))),
    (StableHlo.nullary main_c_6 (constantI S_ 32 0#32)),
    (StableHlo.unary main_c_6 main_v87 (broadcastInDim S8x1 ![] bcast_S_S8x1 : (⟨S_, .i32⟩ : BufTy).Contents (Elt F) → (⟨S8x1, .i32⟩ : BufTy).Contents (Elt F))),
    (StableHlo.binary main_v1 main_v87 main_v88 (cmpi .slt : (⟨S8x1, .i32⟩ : BufTy).Contents (Elt F) → (⟨S8x1, .i32⟩ : BufTy).Contents (Elt F) → (⟨S8x1, .i1⟩ : BufTy).Contents (Elt F))),
    (StableHlo.nullary main_c_7 (constantI S_ 32 8#32)),
    (StableHlo.unary main_c_7 main_v89 (broadcastInDim S8x1 ![] bcast_S_S8x1 : (⟨S_, .i32⟩ : BufTy).Contents (Elt F) → (⟨S8x1, .i32⟩ : BufTy).Contents (Elt F))),
    (StableHlo.binary main_v1 main_v89 main_v90 (addi : (⟨S8x1, .i32⟩ : BufTy).Contents (Elt F) → (⟨S8x1, .i32⟩ : BufTy).Contents (Elt F) → (⟨S8x1, .i32⟩ : BufTy).Contents (Elt F))),
    (StableHlo.ternary main_v88 main_v90 main_v1 main_v91 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))),
    (StableHlo.nullary main_c_8 (constantI S_ 32 0#32)),
    (StableHlo.unary main_c_8 main_v92 (broadcastInDim S8x100 ![] bcast_S_S8x100 : (⟨S_, .i32⟩ : BufTy).Contents (Elt F) → (⟨S8x100, .i32⟩ : BufTy).Contents (Elt F))),
    (StableHlo.binary main_v69 main_v92 main_v93 (cmpi .slt : (⟨S8x100, .i32⟩ : BufTy).Contents (Elt F) → (⟨S8x100, .i32⟩ : BufTy).Contents (Elt F) → (⟨S8x100, .i1⟩ : BufTy).Contents (Elt F))),
    (StableHlo.nullary main_c_9 (constantI S_ 32 20000#32)),
    (StableHlo.unary main_c_9 main_v94 (broadcastInDim S8x100 ![] bcast_S_S8x100 : (⟨S_, .i32⟩ : BufTy).Contents (Elt F) → (⟨S8x100, .i32⟩ : BufTy).Contents (Elt F))),
    (StableHlo.binary main_v69 main_v94 main_v95 (addi : (⟨S8x100, .i32⟩ : BufTy).Contents (Elt F) → (⟨S8x100, .i32⟩ : BufTy).Contents (Elt F) → (⟨S8x100, .i32⟩ : BufTy).Contents (Elt F))),
    (StableHlo.ternary main_v93 main_v95 main_v69 main_v96 (select : (⟨S8x100, .i1⟩ : BufTy).Contents (Elt F) → (⟨S8x100, .i32⟩ : BufTy).Contents (Elt F) → (⟨S8x100, .i32⟩ : BufTy).Contents (Elt F) → (⟨S8x100, .i32⟩ : BufTy).Contents (Elt F))),
    (StableHlo.unary main_v91 main_v97 (broadcastInDim S8x100 ![0, 1] bcast_S8x1_S8x100_0_1 : (⟨S8x1, .i32⟩ : BufTy).Contents (Elt F) → (⟨S8x100, .i32⟩ : BufTy).Contents (Elt F))),
    (StableHlo.unary main_v97 main_v98 (broadcastInDim S8x100x1 ![0, 1] bcast_S8x100_S8x100x1_0_1 : (⟨S8x100, .i32⟩ : BufTy).Contents (Elt F) → (⟨S8x100x1, .i32⟩ : BufTy).Contents (Elt F))),
    (StableHlo.unary main_v96 main_v99 (broadcastInDim S8x100x1 ![0, 1] bcast_S8x100_S8x100x1_0_1 : (⟨S8x100, .i32⟩ : BufTy).Contents (Elt F) → (⟨S8x100x1, .i32⟩ : BufTy).Contents (Elt F))),
    (StableHlo.binary main_v98 main_v99 main_v100 ((fun a b => concatenate S8x100x2 2 [⟨S8x100x1, a⟩, ⟨S8x100x1, b⟩] concatenates_S8x100x1_S8x100x1_S8x100x2_d2) : (⟨S8x100x1, .i32⟩ : BufTy).Contents (Elt F) → (⟨S8x100x1, .i32⟩ : BufTy).Contents (Elt F) → (⟨S8x100x2, .i32⟩ : BufTy).Contents (Elt F))),
    (StableHlo.nullary main_cst_10 (constant S_ .f32 0x40000000#32)),
    (StableHlo.unary main_cst_10 main_v101 (broadcastInDim S8x100 ![] bcast_S_S8x100 : (⟨S_, .f32⟩ : BufTy).Contents (Elt F) → (⟨S8x100, .f32⟩ : BufTy).Contents (Elt F))),
    (StableHlo.ternary main_v67 main_v100 main_v101 main_v102 ((fun x i u => Host.scatter scatter_S8x20000_S8x100x2_S8x100_n_01_01_2 (fun _ b => b) x i u) : (⟨S8x20000, .f32⟩ : BufTy).Contents (Elt F) → (⟨S8x100x2, .i32⟩ : BufTy).Contents (Elt F) → (⟨S8x100, .f32⟩ : BufTy).Contents (Elt F) → (⟨S8x20000, .f32⟩ : BufTy).Contents (Elt F))),
    (StableHlo.nullary main_c_11 (constantI S_ 32 0#32)),
    (StableHlo.unary main_c_11 main_v103 (broadcastInDim S8x1 ![] bcast_S_S8x1 : (⟨S_, .i32⟩ : BufTy).Contents (Elt F) → (⟨S8x1, .i32⟩ : BufTy).Contents (Elt F))),
    (StableHlo.binary main_v1 main_v103 main_v104 (cmpi .slt : (⟨S8x1, .i32⟩ : BufTy).Contents (Elt F) → (⟨S8x1, .i32⟩ : BufTy).Contents (Elt F) → (⟨S8x1, .i1⟩ : BufTy).Contents (Elt F))),
    (StableHlo.nullary main_c_12 (constantI S_ 32 8#32))]

theorem part1_eq (d : Dev nD) : main_part1 (F := F) d = StableHlo.seq ops1 := rfl

def ops2 : List (HloOp τ sig (Elt F)) := [
    (StableHlo.unary main_c_12 main_v105 (broadcastInDim S8x1 ![] bcast_S_S8x1 : (⟨S_, .i32⟩ : BufTy).Contents (Elt F) → (⟨S8x1, .i32⟩ : BufTy).Contents (Elt F))),
    (StableHlo.binary main_v1 main_v105 main_v106 (addi : (⟨S8x1, .i32⟩ : BufTy).Contents (Elt F) → (⟨S8x1, .i32⟩ : BufTy).Contents (Elt F) → (⟨S8x1, .i32⟩ : BufTy).Contents (Elt F))),
    (StableHlo.ternary main_v104 main_v106 main_v1 main_v107 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))),
    (StableHlo.nullary main_c_13 (constantI S_ 32 0#32)),
    (StableHlo.unary main_c_13 main_v108 (broadcastInDim S8x20000 ![] bcast_S_S8x20000 : (⟨S_, .i32⟩ : BufTy).Contents (Elt F) → (⟨S8x20000, .i32⟩ : BufTy).Contents (Elt F))),
    (StableHlo.binary main_v86 main_v108 main_v109 (cmpi .slt : (⟨S8x20000, .i32⟩ : BufTy).Contents (Elt F) → (⟨S8x20000, .i32⟩ : BufTy).Contents (Elt F) → (⟨S8x20000, .i1⟩ : BufTy).Contents (Elt F))),
    (StableHlo.nullary main_c_14 (constantI S_ 32 100#32)),
    (StableHlo.unary main_c_14 main_v110 (broadcastInDim S8x20000 ![] bcast_S_S8x20000 : (⟨S_, .i32⟩ : BufTy).Contents (Elt F) → (⟨S8x20000, .i32⟩ : BufTy).Contents (Elt F))),
    (StableHlo.binary main_v86 main_v110 main_v111 (addi : (⟨S8x20000, .i32⟩ : BufTy).Contents (Elt F) → (⟨S8x20000, .i32⟩ : BufTy).Contents (Elt F) → (⟨S8x20000, .i32⟩ : BufTy).Contents (Elt F))),
    (StableHlo.ternary main_v109 main_v111 main_v86 main_v112 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F))),
    (StableHlo.unary main_v107 main_v113 (broadcastInDim S8x20000 ![0, 1] bcast_S8x1_S8x20000_0_1 : (⟨S8x1, .i32⟩ : BufTy).Contents (Elt F) → (⟨S8x20000, .i32⟩ : BufTy).Contents (Elt F))),
    (StableHlo.unary main_v113 main_v114 (broadcastInDim S8x20000x1 ![0, 1] bcast_S8x20000_S8x20000x1_0_1 : (⟨S8x20000, .i32⟩ : BufTy).Contents (Elt F) → (⟨S8x20000x1, .i32⟩ : BufTy).Contents (Elt F))),
    (StableHlo.unary main_v112 main_v115 (broadcastInDim S8x20000x1 ![0, 1] bcast_S8x20000_S8x20000x1_0_1 : (⟨S8x20000, .i32⟩ : BufTy).Contents (Elt F) → (⟨S8x20000x1, .i32⟩ : BufTy).Contents (Elt F))),
    (StableHlo.binary main_v114 main_v115 main_v116 ((fun a b => concatenate S8x20000x2 2 [⟨S8x20000x1, a⟩, ⟨S8x20000x1, b⟩] concatenates_S8x20000x1_S8x20000x1_S8x20000x2_d2) : (⟨S8x20000x1, .i32⟩ : BufTy).Contents (Elt F) → (⟨S8x20000x1, .i32⟩ : BufTy).Contents (Elt F) → (⟨S8x20000x2, .i32⟩ : BufTy).Contents (Elt F))),
    (StableHlo.binary main_arg2 main_v116 main_v117 ((fun x i => Host.gather gather_S8x100_S8x20000x2_S8x20000_n_01_n_n_01_2_11 x i) : (⟨S8x100, .i32⟩ : BufTy).Contents (Elt F) → (⟨S8x20000x2, .i32⟩ : BufTy).Contents (Elt F) → (⟨S8x20000, .i32⟩ : BufTy).Contents (Elt F))),
    (StableHlo.nullary main_cst_15 (constant S_ .f32 0x3F000000#32)),
    (StableHlo.unary main_cst_15 main_v118 (broadcastInDim S8x20000 ![] bcast_S_S8x20000 : (⟨S_, .f32⟩ : BufTy).Contents (Elt F) → (⟨S8x20000, .f32⟩ : BufTy).Contents (Elt F))),
    (StableHlo.binary main_v102 main_v118 main_v119 (cmpf .olt : (⟨S8x20000, .f32⟩ : BufTy).Contents (Elt F) → (⟨S8x20000, .f32⟩ : BufTy).Contents (Elt F) → (⟨S8x20000, .i1⟩ : BufTy).Contents (Elt F))),
    (StableHlo.nullary main_c_16 (constantI S_ 32 0#32)),
    (StableHlo.unary main_c_16 main_call2_v0 (id : (⟨S_, .i32⟩ : BufTy).Contents (Elt F) → (⟨S_, .i32⟩ : BufTy).Contents (Elt F))),
    (StableHlo.unary main_call2_v0 main_call2_v1 ((broadcastInDim S8x20000 ![] bcast_S_S8x20000) : (⟨S_, .i32⟩ : BufTy).Contents (Elt F) → (⟨S8x20000, .i32⟩ : BufTy).Contents (Elt F))),
    (StableHlo.ternary main_v119 main_call2_v1 main_v117 main_v120 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F))),
    (StableHlo.nullary main_c_17 (constantI S_ 32 0#32)),
    (StableHlo.unary main_c_17 main_v121 (broadcastInDim S8x1 ![] bcast_S_S8x1 : (⟨S_, .i32⟩ : BufTy).Contents (Elt F) → (⟨S8x1, .i32⟩ : BufTy).Contents (Elt F))),
    (StableHlo.binary main_v1 main_v121 main_v122 (cmpi .slt : (⟨S8x1, .i32⟩ : BufTy).Contents (Elt F) → (⟨S8x1, .i32⟩ : BufTy).Contents (Elt F) → (⟨S8x1, .i1⟩ : BufTy).Contents (Elt F))),
    (StableHlo.nullary main_c_18 (constantI S_ 32 8#32)),
    (StableHlo.unary main_c_18 main_v123 (broadcastInDim S8x1 ![] bcast_S_S8x1 : (⟨S_, .i32⟩ : BufTy).Contents (Elt F) → (⟨S8x1, .i32⟩ : BufTy).Contents (Elt F))),
    (StableHlo.binary main_v1 main_v123 main_v124 (addi : (⟨S8x1, .i32⟩ : BufTy).Contents (Elt F) → (⟨S8x1, .i32⟩ : BufTy).Contents (Elt F) → (⟨S8x1, .i32⟩ : BufTy).Contents (Elt F))),
    (StableHlo.ternary main_v122 main_v124 main_v1 main_v125 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F))),
    (StableHlo.nullary main_c_19 (constantI S_ 32 0#32)),
    (StableHlo.unary main_c_19 main_v126 (broadcastInDim S8x20000 ![] bcast_S_S8x20000 : (⟨S_, .i32⟩ : BufTy).Contents (Elt F) → (⟨S8x20000, .i32⟩ : BufTy).Contents (Elt F))),
    (StableHlo.binary main_v86 main_v126 main_v127 (cmpi .slt : (⟨S8x20000, .i32⟩ : BufTy).Contents (Elt F) → (⟨S8x20000, .i32⟩ : BufTy).Contents (Elt F) → (⟨S8x20000, .i1⟩ : BufTy).Contents (Elt F))),
    (StableHlo.nullary main_c_20 (constantI S_ 32 100#32)),
    (StableHlo.unary main_c_20 main_v128 (broadcastInDim S8x20000 ![] bcast_S_S8x20000 : (⟨S_, .i32⟩ : BufTy).Contents (Elt F) → (⟨S8x20000, .i32⟩ : BufTy).Contents (Elt F))),
    (StableHlo.binary main_v86 main_v128 main_v129 (addi : (⟨S8x20000, .i32⟩ : BufTy).Contents (Elt F) → (⟨S8x20000, .i32⟩ : BufTy).Contents (Elt F) → (⟨S8x20000, .i32⟩ : BufTy).Contents (Elt F))),
    (StableHlo.ternary main_v127 main_v129 main_v86 main_v130 (select : (⟨S8x20000, .i1⟩ : BufTy).Contents (Elt F) → (⟨S8x20000, .i32⟩ : BufTy).Contents (Elt F) → (⟨S8x20000, .i32⟩ : BufTy).Contents (Elt F) → (⟨S8x20000, .i32⟩ : BufTy).Contents (Elt F))),
    (StableHlo.unary main_v125 main_v131 (broadcastInDim S8x20000 ![0, 1] bcast_S8x1_S8x20000_0_1 : (⟨S8x1, .i32⟩ : BufTy).Contents (Elt F) → (⟨S8x20000, .i32⟩ : BufTy).Contents (Elt F))),
    (StableHlo.unary main_v131 main_v132 (broadcastInDim S8x20000x1 ![0, 1] bcast_S8x20000_S8x20000x1_0_1 : (⟨S8x20000, .i32⟩ : BufTy).Contents (Elt F) → (⟨S8x20000x1, .i32⟩ : BufTy).Contents (Elt F))),
    (StableHlo.unary main_v130 main_v133 (broadcastInDim S8x20000x1 ![0, 1] bcast_S8x20000_S8x20000x1_0_1 : (⟨S8x20000, .i32⟩ : BufTy).Contents (Elt F) → (⟨S8x20000x1, .i32⟩ : BufTy).Contents (Elt F))),
    (StableHlo.binary main_v132 main_v133 main_v134 ((fun a b => concatenate S8x20000x2 2 [⟨S8x20000x1, a⟩, ⟨S8x20000x1, b⟩] concatenates_S8x20000x1_S8x20000x1_S8x20000x2_d2) : (⟨S8x20000x1, .i32⟩ : BufTy).Contents (Elt F) → (⟨S8x20000x1, .i32⟩ : BufTy).Contents (Elt F) → (⟨S8x20000x2, .i32⟩ : BufTy).Contents (Elt F))),
    (StableHlo.binary main_arg1 main_v134 main_v135 ((fun x i => Host.gather gather_S8x100x4_S8x20000x2_S8x20000x4_2_01_n_n_01_2_114 x i) : (⟨S8x100x4, .f32⟩ : BufTy).Contents (Elt F) → (⟨S8x20000x2, .i32⟩ : BufTy).Contents (Elt F) → (⟨S8x20000x4, .f32⟩ : BufTy).Contents (Elt F))),
    (StableHlo.unary main_v135 main_v136 ((extractStridedSlice S8x20000x2 ![0, 0, 0] · slices_S8x20000x4_S8x20000x2_0_0_0) : (⟨S8x20000x4, .f32⟩ : BufTy).Contents (Elt F) → (⟨S8x20000x2, .f32⟩ : BufTy).Contents (Elt F))),
    (StableHlo.unary main_v135 main_v137 ((extractStridedSlice S8x20000x2 ![0, 0, 2] · slices_S8x20000x4_S8x20000x2_0_0_2) : (⟨S8x20000x4, .f32⟩ : BufTy).Contents (Elt F) → (⟨S8x20000x2, .f32⟩ : BufTy).Contents (Elt F))),
    (StableHlo.binary main_v136 main_v137 main_v138 (addf : (⟨S8x20000x2, .f32⟩ : BufTy).Contents (Elt F) → (⟨S8x20000x2, .f32⟩ : BufTy).Contents (Elt F) → (⟨S8x20000x2, .f32⟩ : BufTy).Contents (Elt F))),
    (StableHlo.nullary main_cst_21 (constant S_ .f32 0x40000000#32)),
    (StableHlo.unary main_cst_21 main_v139 (broadcastInDim S8x20000x2 ![] bcast_S_S8x20000x2 : (⟨S_, .f32⟩ : BufTy).Contents (Elt F) → (⟨S8x20000x2, .f32⟩ : BufTy).Contents (Elt F))),
    (StableHlo.binary main_v138 main_v139 main_v140 (Host.divf : (⟨S8x20000x2, .f32⟩ : BufTy).Contents (Elt F) → (⟨S8x20000x2, .f32⟩ : BufTy).Contents (Elt F) → (⟨S8x20000x2, .f32⟩ : BufTy).Contents (Elt F))),
    (StableHlo.unary main_v135 main_v141 ((extractStridedSlice S8x20000x2 ![0, 0, 2] · slices_S8x20000x4_S8x20000x2_0_0_2) : (⟨S8x20000x4, .f32⟩ : BufTy).Contents (Elt F) → (⟨S8x20000x2, .f32⟩ : BufTy).Contents (Elt F))),
    (StableHlo.unary main_v135 main_v142 ((extractStridedSlice S8x20000x2 ![0, 0, 0] · slices_S8x20000x4_S8x20000x2_0_0_0) : (⟨S8x20000x4, .f32⟩ : BufTy).Contents (Elt F) → (⟨S8x20000x2, .f32⟩ : BufTy).Contents (Elt F))),
    (StableHlo.binary main_v141 main_v142 main_v143 (subf : (⟨S8x20000x2, .f32⟩ : BufTy).Contents (Elt F) → (⟨S8x20000x2, .f32⟩ : BufTy).Contents (Elt F) → (⟨S8x20000x2, .f32⟩ : BufTy).Contents (Elt F))),
    (StableHlo.binary main_v140 main_v143 main_v144 ((fun a b => concatenate S8x20000x4 2 [⟨S8x20000x2, a⟩, ⟨S8x20000x2, b⟩] concatenates_S8x20000x2_S8x20000x2_S8x20000x4_d2) : (⟨S8x20000x2, .f32⟩ : BufTy).Contents (Elt F) → (⟨S8x20000x2, .f32⟩ : BufTy).Contents (Elt F) → (⟨S8x20000x4, .f32⟩ : BufTy).Contents (Elt F))),
    (StableHlo.unary main_v144 main_v145 ((extractStridedSlice S8x20000x2 ![0, 0, 0] · slices_S8x20000x4_S8x20000x2_0_0_0) : (⟨S8x20000x4, .f32⟩ : BufTy).Contents (Elt F) → (⟨S8x20000x2, .f32⟩ : BufTy).Contents (Elt F))),
    (StableHlo.unary main_arg0 main_v146 ((extractStridedSlice S20000x2 ![0, 0] · slices_S20000x4_S20000x2_0_0) : (⟨S20000x4, .f32⟩ : BufTy).Contents (Elt F) → (⟨S20000x2, .f32⟩ : BufTy).Contents (Elt F))),
    (StableHlo.unary main_v146 main_v147 (broadcastInDim S1x20000x2 ![1, 2] bcast_S20000x2_S1x20000x2_1_2 : (⟨S20000x2, .f32⟩ : BufTy).Contents (Elt F) → (⟨S1x20000x2, .f32⟩ : BufTy).Contents (Elt F))),
    (StableHlo.unary main_v147 main_v148 (broadcastInDim S8x20000x2 ![0, 1, 2] bcast_S1x20000x2_S8x20000x2_0_1_2 : (⟨S1x20000x2, .f32⟩ : BufTy).Contents (Elt F) → (⟨S8x20000x2, .f32⟩ : BufTy).Contents (Elt F))),
    (StableHlo.binary main_v145 main_v148 main_v149 (subf : (⟨S8x20000x2, .f32⟩ : BufTy).Contents (Elt F) → (⟨S8x20000x2, .f32⟩ : BufTy).Contents (Elt F) → (⟨S8x20000x2, .f32⟩ : BufTy).Contents (Elt F))),
    (StableHlo.unary main_arg0 main_v150 ((extractStridedSlice S20000x2 ![0, 2] · slices_S20000x4_S20000x2_0_2) : (⟨S20000x4, .f32⟩ : BufTy).Contents (Elt F) → (⟨S20000x2, .f32⟩ : BufTy).Contents (Elt F))),
    (StableHlo.unary main_v150 main_v151 (broadcastInDim S1x20000x2 ![1, 2] bcast_S20000x2_S1x20000x2_1_2 : (⟨S20000x2, .f32⟩ : BufTy).Contents (Elt F) → (⟨S1x20000x2, .f32⟩ : BufTy).Contents (Elt F))),
    (StableHlo.unary main_v151 main_v152 (broadcastInDim S8x20000x2 ![0, 1, 2] bcast_S1x20000x2_S8x20000x2_0_1_2 : (⟨S1x20000x2, .f32⟩ : BufTy).Contents (Elt F) → (⟨S8x20000x2, .f32⟩ : BufTy).Contents (Elt F))),
    (StableHlo.binary main_v149 main_v152 main_v153 (Host.divf : (⟨S8x20000x2, .f32⟩ : BufTy).Contents (Elt F) → (⟨S8x20000x2, .f32⟩ : BufTy).Contents (Elt F) → (⟨S8x20000x2, .f32⟩ : BufTy).Contents (Elt F))),
    (StableHlo.nullary main_cst_22 (constant S_ .f32 0x3DCCCCCD#32)),
    (StableHlo.unary main_cst_22 main_v154 (broadcastInDim S8x20000x2 ![] bcast_S_S8x20000x2 : (⟨S_, .f32⟩ : BufTy).Contents (Elt F) → (⟨S8x20000x2, .f32⟩ : BufTy).Contents (Elt F)))]

theorem part2_eq (d : Dev nD) : main_part2 (F := F) d = StableHlo.seq ops2 := rfl

def ops3 : List (HloOp τ sig (Elt F)) := [
    (StableHlo.binary main_v153 main_v154 main_v155 (Host.divf : (⟨S8x20000x2, .f32⟩ : BufTy).Contents (Elt F) → (⟨S8x20000x2, .f32⟩ : BufTy).Contents (Elt F) → (⟨S8x20000x2, .f32⟩ : BufTy).Contents (Elt F))),
    (StableHlo.unary main_v144 main_v156 ((extractStridedSlice S8x20000x2 ![0, 0, 2] · slices_S8x20000x4_S8x20000x2_0_0_2) : (⟨S8x20000x4, .f32⟩ : BufTy).Contents (Elt F) → (⟨S8x20000x2, .f32⟩ : BufTy).Contents (Elt F))),
    (StableHlo.unary main_arg0 main_v157 ((extractStridedSlice S20000x2 ![0, 2] · slices_S20000x4_S20000x2_0_2) : (⟨S20000x4, .f32⟩ : BufTy).Contents (Elt F) → (⟨S20000x2, .f32⟩ : BufTy).Contents (Elt F))),
    (StableHlo.unary main_v157 main_v158 (broadcastInDim S1x20000x2 ![1, 2] bcast_S20000x2_S1x20000x2_1_2 : (⟨S20000x2, .f32⟩ : BufTy).Contents (Elt F) → (⟨S1x20000x2, .f32⟩ : BufTy).Contents (Elt F))),
    (StableHlo.unary main_v158 main_v159 (broadcastInDim S8x20000x2 ![0, 1, 2] bcast_S1x20000x2_S8x20000x2_0_1_2 : (⟨S1x20000x2, .f32⟩ : BufTy).Contents (Elt F) → (⟨S8x20000x2, .f32⟩ : BufTy).Contents (Elt F))),
    (StableHlo.binary main_v156 main_v159 main_v160 (Host.divf : (⟨S8x20000x2, .f32⟩ : BufTy).Contents (Elt F) → (⟨S8x20000x2, .f32⟩ : BufTy).Contents (Elt F) → (⟨S8x20000x2, .f32⟩ : BufTy).Contents (Elt F))),
    (StableHlo.unary main_v160 main_v161 (Host.log : (⟨S8x20000x2, .f32⟩ : BufTy).Contents (Elt F) → (⟨S8x20000x2, .f32⟩ : BufTy).Contents (Elt F))),
    (StableHlo.nullary main_cst_23 (constant S_ .f32 0x3E4CCCCD#32)),
    (StableHlo.unary main_cst_23 main_v162 (broadcastInDim S8x20000x2 ![] bcast_S_S8x20000x2 : (⟨S_, .f32⟩ : BufTy).Contents (Elt F) → (⟨S8x20000x2, .f32⟩ : BufTy).Contents (Elt F))),
    (StableHlo.binary main_v161 main_v162 main_v163 (Host.divf : (⟨S8x20000x2, .f32⟩ : BufTy).Contents (Elt F) → (⟨S8x20000x2, .f32⟩ : BufTy).Contents (Elt F) → (⟨S8x20000x2, .f32⟩ : BufTy).Contents (Elt F))),
    (StableHlo.binary main_v155 main_v163 main_v164 ((fun a b => concatenate S8x20000x4 2 [⟨S8x20000x2, a⟩, ⟨S8x20000x2, b⟩] concatenates_S8x20000x2_S8x20000x2_S8x20000x4_d2) : (⟨S8x20000x2, .f32⟩ : BufTy).Contents (Elt F) → (⟨S8x20000x2, .f32⟩ : BufTy).Contents (Elt F) → (⟨S8x20000x4, .f32⟩ : BufTy).Contents (Elt F)))]

theorem part3_eq (d : Dev nD) : main_part3 (F := F) d = StableHlo.seq ops3 := rfl

/-- All of it. -/
def ops : List (HloOp τ sig (Elt F)) := ops0 ++ (ops1 ++ (ops2 ++ ops3))

theorem main_eq (d : Dev nD) : main (F := F) d = StableHlo.seq ops := by
  unfold ops
  rw [StableHlo.seq_append, StableHlo.seq_append, StableHlo.seq_append, ← part0_eq d, ← part1_eq d, ← part2_eq d, ← part3_eq d]
  rfl

/-- What each operation writes, in order. -/
def wl : List (Ref sig .tc) := [main_v0, main_v1, main_v2, main_v3, main_cst, main_v4, main_v5, main_v6, main_v7, main_v8, main_cst_0, main_v9, main_v10, main_v11, main_v12, main_v13, main_v14, main_v15, main_v16, main_v17, main_v18, main_v19, main_v20, main_v21, main_v22, main_v23, main_v24, main_v25, main_v26, main_v27, main_v28, main_v29, main_cst_1, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_cst_2, main_v67, main_call0_v0, main_call0_cst, main_call0_c, main_call0_v1_0, main_v68, main_call1_v0, main_call1_cst, main_call1_c, main_call1_v1_0, main_v69, main_v70, main_v71, main_c, main_v72, main_v73, main_c_3, main_v74, main_v75, main_v76, main_c_4, main_v77, main_v78, main_c_5, main_v79, main_v80, main_v81, main_v82, main_v83, main_v84, main_v85, main_v86, main_c_6, main_v87, main_v88, main_c_7, main_v89, main_v90, main_v91, main_c_8, main_v92, main_v93, main_c_9, main_v94, main_v95, main_v96, main_v97, main_v98, main_v99, main_v100, main_cst_10, main_v101, main_v102, main_c_11, main_v103, main_v104, main_c_12, main_v105, main_v106, main_v107, main_c_13, main_v108, main_v109, main_c_14, main_v110, main_v111, main_v112, main_v113, main_v114, main_v115, main_v116, main_v117, main_cst_15, main_v118, main_v119, main_c_16, main_call2_v0, main_call2_v1, main_v120, main_c_17, main_v121, main_v122, main_c_18, main_v123, main_v124, main_v125, main_c_19, main_v126, main_v127, main_c_20, main_v128, main_v129, main_v130, main_v131, main_v132, main_v133, main_v134, main_v135, main_v136, main_v137, main_v138, main_cst_21, main_v139, main_v140, main_v141, main_v142, main_v143, main_v144, main_v145, main_v146, main_v147, main_v148, main_v149, main_v150, main_v151, main_v152, main_v153, main_cst_22, main_v154, main_v155, main_v156, main_v157, main_v158, main_v159, main_v160, main_v161, main_cst_23, main_v162, main_v163, main_v164]

theorem ops_writes : (ops (F := F)).map HloOp.writes = wl.map fun r => {Proc.devRef (τ := τ) .tc r} := rfl

theorem ops_fresh : ∀ op ∈ ops (F := F), op.fresh = ∅ :=
  List.forall_iff_forall_mem.mp (StableHlo.forall_fresh_of_map rfl)

theorem ops0_sub : (ops0 (F := F)).Forall fun op => op.bufs ⊆ StableHlo.tcRefs τ sig := by
  unfold ops0
  repeat' first
    | refine (List.forall_cons _ _ _).mpr ⟨by simp, ?_⟩
    | trivial

theorem ops1_sub : (ops1 (F := F)).Forall fun op => op.bufs ⊆ StableHlo.tcRefs τ sig := by
  unfold ops1
  repeat' first
    | refine (List.forall_cons _ _ _).mpr ⟨by simp, ?_⟩
    | trivial

theorem ops2_sub : (ops2 (F := F)).Forall fun op => op.bufs ⊆ StableHlo.tcRefs τ sig := by
  unfold ops2
  repeat' first
    | refine (List.forall_cons _ _ _).mpr ⟨by simp, ?_⟩
    | trivial

theorem ops3_sub : (ops3 (F := F)).Forall fun op => op.bufs ⊆ StableHlo.tcRefs τ sig := by
  unfold ops3
  repeat' first
    | refine (List.forall_cons _ _ _).mpr ⟨by simp, ?_⟩
    | trivial

theorem ops_sub : (ops (F := F)).Forall fun op => op.bufs ⊆ StableHlo.tcRefs τ sig := by
  unfold ops
  simp only [List.forall_append]
  exact ⟨ops0_sub, ops1_sub, ops2_sub, ops3_sub⟩

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq (by decide +kernel) (by decide +kernel) defs main (fun _ => ops) main_eq (fun _ => ops_sub) m ρ (fun _ => ops_fresh)

theorem keeps (V : Valuation τ sig (Elt F)) (b : Ref sig .tc) (h : b ∉ wl) : StableHlo.after ops V (Proc.devRef .tc b) = V (Proc.devRef .tc b) :=
  StableHlo.after_of_writes_sub ops V (StableHlo.forall_writes_sub_of_map ops_writes) h

theorem frame_reference : Cert.quiescent_ReferenceIdeal := fun m ρ _ =>
  (θ_run Cert.ReferenceIdeal.defs _ _).mono (fun r h => ⟨fun c => ⟨(h c main_arg0).trans (keeps _ _ (by decide)), (h c main_arg1).trans (keeps _ _ (by decide)),
    (h c main_arg2).trans (keeps _ _ (by decide))⟩, sem_eq_zero_of_no_sems (by decide) r.2⟩) (run (F := Ideal) m ρ)

end Cert.Proof.Ref

end
-- ==== Proof.Pre.lean ====
/-
  The frames under the precondition that every prior's centre is finite.
-/
module

public import proofs.«01_k».proof.Proof.Frames
public import proofs.«01_k».proof.Proof.Ref

@[expose] public section

set_option maxRecDepth 16384

noncomputable section

namespace Cert.Proof

open Idealize.ShloMosaic
open Idealize.ShloMosaic.TcCoe
open Idealize.SL Idealize.SL.Sem

instance preFacts : Cert.Pre_finite_centres.Facts where
  slices_S20000x4_S20000x2_0_0 := by decide
  bcast_S_S20000x2 := by decide

theorem frame_ideal_pre : Cert.quiescent_KernelIdeal_pre_finite_centres := fun m ρ _ =>
  (θ_run Cert.KernelIdeal.defs _ _).mono (fun r h => ⟨fun c => ⟨keeps m r h c _ (by decide), keeps m r h c _ (by decide), keeps m r h c _ (by decide)⟩, h.2⟩)
    (run_main (F := Ideal) m ρ)

theorem frame_reference_pre : Cert.quiescent_ReferenceIdeal_pre_finite_centres := fun m ρ _ => Ref.frame_reference m ρ trivial

end Cert.Proof

end
-- ==== Proof.Arg.lean ====
/-
  First maximum of a finite family of extended reals, and the two ways of computing it: a running pair
  (value, index), and the least index at which the family meets its maximum.  A scatter whose last update wins.
-/
module

public import Idealize.ShloMosaic.Lib.Pointwise
public import Idealize.ShloMosaic.PureOps.Reduce
public import Idealize.ShloMosaic.Lib.Routing.OpsPair
public import proofs.«01_k».proof.Proof.Gen.ReferenceIdeal

@[expose] public section

noncomputable section

namespace Cert.Proof.Arg

open Idealize.ShloMosaic

/-- `k` is the first index at which `f` is greatest. -/
def IsFirst {n : Nat} (f : Fin n → EReal) (k : Fin n) : Prop := (∀ j, f j ≤ f k) ∧ ∀ j, f j = f k → k ≤ j

theorem IsFirst.unique {n : Nat} {f : Fin n → EReal} {k k' : Fin n} (h : IsFirst f k) (h' : IsFirst f k') : k = k' := by
  have e : f k = f k' := le_antisymm (h'.1 k) (h.1 k')
  exact le_antisymm (h.2 k' e.symm) (h'.2 k e)

theorem exists_first {n : Nat} [NeZero n] (f : Fin n → EReal) : ∃ k, IsFirst f k := by
  obtain ⟨m, hm⟩ := Finite.exists_max f
  have hne : (Finset.univ.filter fun j => f j = f m).Nonempty := ⟨m, by simp⟩
  refine ⟨(Finset.univ.filter fun j => f j = f m).min' hne, ?_, ?_⟩
  · have := Finset.min'_mem _ hne
    rw [Finset.mem_filter] at this
    intro j; rw [this.2]; exact hm j
  · have := Finset.min'_mem _ hne
    rw [Finset.mem_filter] at this
    intro j hj
    exact Finset.min'_le _ _ (by rw [Finset.mem_filter]; exact ⟨Finset.mem_univ _, hj.trans this.2⟩)

/-- The first index of the greatest value. -/
def first {n : Nat} [NeZero n] (f : Fin n → EReal) : Fin n := Classical.choose (exists_first f)

theorem first_spec {n : Nat} [NeZero n] (f : Fin n → EReal) : IsFirst f (first f) := Classical.choose_spec (exists_first f)

/-- The running maximum from the least value. -/
theorem fold_max {n : Nat} [NeZero n] (f : Fin n → EReal) : (Finset.univ.fold max ⊥ f : EReal) = f (first f) := by
  exact le_antisymm ((Finset.fold_max_le _).2 ⟨bot_le, fun j _ => (first_spec f).1 j⟩) ((Finset.le_fold_max _).2 (Or.inr ⟨first f, Finset.mem_univ _, le_refl _⟩))

/-! ## The running pair -/

/-- `p` loses to `q`: a smaller value, or an equal one at a later index. -/
def Below (p q : EReal × BitVec 32) : Prop := p.1 < q.1 ∨ (p.1 = q.1 ∧ q.2.toInt ≤ p.2.toInt)

theorem Below.refl (p : EReal × BitVec 32) : Below p p := Or.inr ⟨rfl, le_refl _⟩

theorem Below.trans {p q r : EReal × BitVec 32} (h : Below p q) (h' : Below q r) : Below p r := by
  rcases h with h | ⟨h, i⟩ <;> rcases h' with h' | ⟨h', i'⟩
  · exact Or.inl (h.trans h')
  · exact Or.inl (h' ▸ h)
  · exact Or.inl (h ▸ h')
  · exact Or.inr ⟨h.trans h', i'.trans i⟩

/-- The body of the arg-max. -/
abbrev red : EReal × BitVec 32 → EReal × BitVec 32 → EReal × BitVec 32 := Cert.ReferenceIdeal.reducer_argmax_f32_i32 (F := Ideal)

theorem red_eq (a b : EReal × BitVec 32) : red a b = if b.1 < a.1 ∨ (a.1 = b.1 ∧ a.2.toInt < b.2.toInt) then a else b := by
  obtain ⟨a1, a2⟩ := a
  obtain ⟨b1, b2⟩ := b
  unfold red Cert.ReferenceIdeal.reducer_argmax_f32_i32
  simp only [Ideal.cmpf_def, Ideal.cmp, IntOp.ori, IntOp.andi, IntOp.cmpi, Scalar.select, BitVec.slt]
  rcases lt_trichotomy b1 a1 with h | h | h
  · simp [h, h.ne']
  · subst h
    by_cases hc : a2.toInt < b2.toInt <;> simp [hc]
  · simp [h.ne, h.not_gt, h.le]

theorem red_spec (a b : EReal × BitVec 32) : (red a b = a ∨ red a b = b) ∧ Below a (red a b) ∧ Below b (red a b) := by
  rw [red_eq]
  split_ifs with h
  · refine ⟨Or.inl rfl, Below.refl _, ?_⟩
    rcases h with h | ⟨h, i⟩
    · exact Or.inl h
    · exact Or.inr ⟨h.symm, i.le⟩
  · refine ⟨Or.inr rfl, ?_, Below.refl _⟩
    rw [not_or, not_and, not_lt, not_lt] at h
    rcases lt_or_eq_of_le h.1 with h1 | h1
    · exact Or.inl h1
    · exact Or.inr ⟨h1, h.2 h1⟩

theorem foldl_red (l : List (EReal × BitVec 32)) (a : EReal × BitVec 32) :
    (l.foldl red a = a ∨ l.foldl red a ∈ l) ∧ Below a (l.foldl red a) ∧ ∀ p ∈ l, Below p (l.foldl red a) := by
  induction l generalizing a with
  | nil => exact ⟨Or.inl rfl, Below.refl _, fun p hp => absurd hp List.not_mem_nil⟩
  | cons q l ih =>
    obtain ⟨h1, h2, h3⟩ := ih (red a q)
    obtain ⟨k1, k2, k3⟩ := red_spec a q
    rw [List.foldl_cons]
    refine ⟨?_, k2.trans h2, fun p hp => ?_⟩
    · rcases h1 with h1 | h1
      · rw [h1]
        rcases k1 with k1 | k1
        · exact Or.inl k1
        · exact Or.inr (by rw [k1]; exact List.mem_cons_self)
      · exact Or.inr (List.mem_cons_of_mem _ h1)
    · rcases List.mem_cons.1 hp with rfl | hp
      · exact k3.trans h2
      · exact h3 p hp

theorem toInt_small (k : Nat) (h : k < 2 ^ 31) : (BitVec.ofNat 32 k).toInt = k := by
  rw [BitVec.toInt_eq_toNat_cond, BitVec.toNat_ofNat, Nat.mod_eq_of_lt (by omega), if_pos (by omega)]

/-- The arg-max over a fiber listed by `e`, each index word its place: the first greatest place. -/
theorem argReduce_first {s t u : Shape} {axes : List (Fin s.rank)} {n : Nat} [NeZero n] (hn : n < 2 ^ 31) (h : s.ReducesTo axes t) (hu : 0 < u.numel) (j : t.Idx)
    (e : Fin n → s.Idx) (he : ∀ i, h.drop i = j ↔ ∃ k, i = e k) (x : FVec Ideal s .f32) (y : s.Idx → BitVec 32) (hy : ∀ k, y (e k) = BitVec.ofNat 32 k.val)
    (ix : u.Idx → Ideal .f32) (iy : u.Idx → BitVec 32) (hx0 : ix (Shape.Idx.first hu) = (⊥ : EReal)) (hy0 : iy (Shape.Idx.first hu) = 0#32) :
    (Host.argReduce Cert.ReferenceIdeal.reducer_argmax_f32_i32 x y ix iy h hu j).2 = BitVec.ofNat 32 (first (n := n) fun k => (x (e k) : EReal)).val := by
  rw [Ideal.argReduce_eq_reduce2, Host.reduce2_eq_foldl_fiber]
  have hmem : ∀ p : EReal × BitVec 32, p ∈ Host.argReduceFiber (α := Ideal .f32) x y h j ↔ ∃ k : Fin n, p = (x (e k), BitVec.ofNat 32 k.val) := by
    intro p
    simp only [Host.argReduceFiber, List.mem_map, List.mem_filter, List.mem_finRange, true_and, decide_eq_true_eq]
    constructor
    · rintro ⟨m, hm, rfl⟩
      obtain ⟨k, hk⟩ := (he _).1 hm
      exact ⟨k, by rw [hk, hy]⟩
    · rintro ⟨k, rfl⟩
      refine ⟨s.rowMajor (e k), ?_, ?_⟩
      · rw [Equiv.symm_apply_apply]; exact (he _).2 ⟨k, rfl⟩
      · rw [Equiv.symm_apply_apply, hy]
  obtain ⟨h1, h2, h3⟩ := foldl_red (Host.argReduceFiber (α := Ideal .f32) x y h j) (ix (Shape.Idx.first hu), iy (Shape.Idx.first hu))
  show ((Host.argReduceFiber (α := Ideal .f32) x y h j).foldl red (ix (Shape.Idx.first hu), iy (Shape.Idx.first hu))).2 = _
  generalize (Host.argReduceFiber (α := Ideal .f32) x y h j).foldl red (ix (Shape.Idx.first hu), iy (Shape.Idx.first hu)) = r at h1 h2 h3 ⊢
  have hr : ∃ k : Fin n, r = (x (e k), BitVec.ofNat 32 k.val) := by
    rcases h1 with h1 | h1
    · refine ⟨0, ?_⟩
      have := h3 _ ((hmem _).2 ⟨0, rfl⟩)
      rw [h1, hx0, hy0] at this ⊢
      rcases this with this | this
      · exact absurd this not_lt_bot
      · exact Prod.ext this.1.symm rfl
    · exact (hmem _).1 h1
  obtain ⟨k, rfl⟩ := hr
  have hk : IsFirst (fun k => (x (e k) : EReal)) k := by
    refine ⟨fun i => ?_, fun i hi => ?_⟩
    · rcases h3 _ ((hmem _).2 ⟨i, rfl⟩) with q | q
      · exact le_of_lt q
      · exact le_of_eq q.1
    · rcases h3 _ ((hmem _).2 ⟨i, rfl⟩) with q | q
      · exact absurd hi (ne_of_lt q)
      · have := q.2
        rw [toInt_small _ (by omega), toInt_small _ (by omega)] at this
        exact Fin.le_def.2 (by omega)
  rw [hk.unique (first_spec _)]

/-! ## The least index at which the maximum is met -/

theorem minsi_toInt (x y : BitVec 32) : (IntOp.minsi x y = x ∨ IntOp.minsi x y = y) ∧ (IntOp.minsi x y).toInt ≤ x.toInt ∧ (IntOp.minsi x y).toInt ≤ y.toInt := by
  unfold IntOp.minsi
  simp only [BitVec.slt, decide_eq_true_eq]
  split_ifs with h
  · exact ⟨Or.inl rfl, le_refl _, h.le⟩
  · exact ⟨Or.inr rfl, not_lt.1 h, le_refl _⟩

theorem fold_minsi {ι : Type} [DecidableEq ι] (S : Finset ι) (b : BitVec 32) (g : ι → BitVec 32) :
    (S.fold IntOp.minsi b g = b ∨ ∃ i ∈ S, S.fold IntOp.minsi b g = g i) ∧ (S.fold IntOp.minsi b g).toInt ≤ b.toInt ∧ ∀ i ∈ S, (S.fold IntOp.minsi b g).toInt ≤ (g i).toInt := by
  induction S using Finset.induction_on with
  | empty => simp
  | insert a S ha ih =>
    rw [Finset.fold_insert ha]
    obtain ⟨m1, m2, m3⟩ := minsi_toInt (g a) (S.fold IntOp.minsi b g)
    obtain ⟨i1, i2, i3⟩ := ih
    refine ⟨?_, m3.trans i2, fun i hi => ?_⟩
    · rcases m1 with m1 | m1
      · exact Or.inr ⟨a, Finset.mem_insert_self _ _, m1⟩
      · rcases i1 with i1 | ⟨i, hi, i1⟩
        · exact Or.inl (m1.trans i1)
        · exact Or.inr ⟨i, Finset.mem_insert_of_mem hi, m1.trans i1⟩
    · rcases Finset.mem_insert.1 hi with rfl | hi
      · exact m2
      · exact m3.trans (i3 i hi)

theorem fold_min_first {n : Nat} [NeZero n] (hn : n < 2 ^ 31) (f : Fin n → EReal) (c b : BitVec 32) (g : Fin n → BitVec 32)
    (hg : ∀ k, g k = if f k = f (first f) then BitVec.ofNat 32 k.val else c) (hc : (n : Int) ≤ c.toInt) (hb : (n : Int) ≤ b.toInt) :
    Finset.univ.fold IntOp.minsi b g = BitVec.ofNat 32 (first f).val := by
  obtain ⟨h1, h2, h3⟩ := fold_minsi Finset.univ b g
  have h0 := h3 (first f) (Finset.mem_univ _)
  rw [hg, if_pos rfl, toInt_small _ (by omega)] at h0
  have hlt := (first f).isLt
  rcases h1 with h1 | ⟨i, -, h1⟩
  · rw [h1] at h0; omega
  · rw [h1, hg] at h0 ⊢
    split_ifs at h0 ⊢ with q
    · rw [toInt_small _ (by omega)] at h0
      have := (first_spec f).2 i q
      have : i = first f := le_antisymm (Fin.le_def.2 (by omega)) this
      rw [this]
    · omega

/-! ## A scatter whose last update wins -/

theorem foldl_last {n : Nat} {α : Type} (P : Fin n → Prop) [DecidablePred P] (v : Fin n → α) (k : Fin n) (hk : P k) (hl : ∀ i, P i → i ≤ k) (x : α) :
    (List.finRange n).foldl (fun a i => if P i then v i else a) x = v k := by
  obtain ⟨l₁, l₂, e⟩ := List.append_of_mem (List.mem_finRange k)
  have hs : (List.finRange n).Pairwise (· < ·) := List.pairwise_lt_finRange n
  rw [e] at hs ⊢
  rw [List.foldl_append, List.foldl_cons, if_pos hk]
  have h2 : ∀ i ∈ l₂, ¬ P i := fun i hi hp =>
    absurd (hl i hp) (not_le.2 ((List.pairwise_cons.1 (List.pairwise_append.1 hs).2.1).1 i hi))
  clear hs e
  generalize v k = y
  induction l₂ generalizing y with
  | nil => rfl
  | cons q l ih =>
    rw [List.foldl_cons, if_neg (h2 q List.mem_cons_self)]
    exact ih (fun i hi => h2 i (List.mem_cons_of_mem _ hi)) y

theorem scatter_last {α : Type} {s si u : Shape} {w : Nat} (d : ScatterDims s si u) (x0 : s.Idx → α) (idx : IVec si w) (upd : u.Idx → α) (ι : s.Idx) (k : u.Idx)
    (hk : d.resultIdx? k idx = some ι) (hl : ∀ k', d.resultIdx? k' idx = some ι → u.rowMajor k' ≤ u.rowMajor k) :
    Host.scatter d (fun _ b => b) x0 idx upd ι = upd k := by
  rw [Routing.scatter_at]
  refine (foldl_last (fun n => d.resultIdx? (u.rowMajor.symm n) idx = some ι) (fun n => upd (u.rowMajor.symm n)) (u.rowMajor k) ?_ ?_ (x0 ι)).trans ?_
  · rw [Equiv.symm_apply_apply]; exact hk
  · intro n hn
    have := hl _ hn
    rwa [Equiv.apply_symm_apply] at this
  · rw [Equiv.symm_apply_apply]

end Cert.Proof.Arg

end
-- ==== Proof.Spec.lean ====
/-
  What both programs compute, in extended reals: the overlap ratio of a box and a prior, the match the forced
  ones override, and the words of the constants.
-/
module

public import proofs.«01_k».proof.Proof.Arg

@[expose] public section

noncomputable section

namespace Cert.Proof.Spec

open Idealize.ShloMosaic

/-! ## Words -/

theorem two_f32 : Ideal.ofBits .f32 0x40000000#32 = ((2 : ℝ) : EReal) := by
  simp [Ideal.ofBits, Ideal.ieee]
  rw [← EReal.coe_mul]
  norm_num

theorem half_f32 : Ideal.ofBits .f32 0x3F000000#32 = ((1 / 2 : ℝ) : EReal) := by
  simp [Ideal.ofBits, Ideal.ieee]
  rw [← EReal.coe_mul]
  norm_num

theorem ninf_f32 : Ideal.ofBits .f32 0xFF800000#32 = (⊥ : EReal) := by
  simp [Ideal.ofBits, Ideal.ieee]

theorem tenth_f32 : Ideal.ofBits .f32 0x3DCCCCCD#32 = ((13421773 / 134217728 : ℝ) : EReal) := by
  simp [Ideal.ofBits, Ideal.ieee]
  rw [← EReal.coe_mul]
  norm_num

theorem fifth_f32 : Ideal.ofBits .f32 0x3E4CCCCD#32 = ((13421773 / 67108864 : ℝ) : EReal) := by
  simp [Ideal.ofBits, Ideal.ieee]
  rw [← EReal.coe_mul]
  norm_num

/-! ## Overlap -/

/-- The area a prior (centre `x y`, extent `w h`) shares with a box of corners `g0 g1` and `g2 g3`. -/
def inter (x y w h g0 g1 g2 g3 : EReal) : EReal :=
  max (min (x + w * ((1 / 2 : ℝ) : EReal)) g2 - max (x - w * ((1 / 2 : ℝ) : EReal)) g0) 0
    * max (min (y + h * ((1 / 2 : ℝ) : EReal)) g3 - max (y - h * ((1 / 2 : ℝ) : EReal)) g1) 0

/-- The shared area over the area of the union. -/
def iou (x y w h g0 g1 g2 g3 : EReal) : EReal :=
  Ideal.div (inter x y w h g0 g1 g2 g3) (w * h + (g2 - g0) * (g3 - g1) - inter x y w h g0 g1 g2 g3)

/-- Over a real that is not zero, a quotient is a product. -/
theorem div_real (x : EReal) (r : ℝ) (h : r ≠ 0) : Ideal.div x (r : EReal) = x * ((r⁻¹ : ℝ) : EReal) := by
  unfold Ideal.div
  rw [if_neg (by exact_mod_cast h), EReal.coe_inv]

theorem div_two (x : EReal) : Ideal.div x ((2 : ℝ) : EReal) = x * ((1 / 2 : ℝ) : EReal) := by
  rw [div_real _ _ (by norm_num)]
  norm_num

/-- A prior's two sides, of a finite centre, are its extent apart. -/
theorem span (x w : EReal) (ht : x ≠ ⊤) (hb : x ≠ ⊥) : (x + w * ((1 / 2 : ℝ) : EReal)) - (x - w * ((1 / 2 : ℝ) : EReal)) = w := by
  lift x to ℝ using ⟨ht, hb⟩
  have hp : (0 : ℝ) < 1 / 2 := by norm_num
  induction w with
  | bot => rw [EReal.bot_mul_coe_of_pos hp]; rfl
  | top => rw [EReal.top_mul_coe_of_pos hp]; rfl
  | coe w =>
    rw [← EReal.coe_mul, ← EReal.coe_add, ← EReal.coe_sub, ← EReal.coe_sub]
    congr 1
    ring

/-! ## Matches -/

/-- The last ground truth whose best prior is `n`, else `a`. -/
def pick (B : Fin 100 → Fin 20000) (n : Fin 20000) (a : Fin 100) : Fin 100 :=
  if h : (Finset.univ.filter fun t => B t = n).Nonempty then (Finset.univ.filter fun t => B t = n).max' h else a

end Cert.Proof.Spec

end
-- ==== Proof.KerTc.lean ====
/-
  The TensorCore body's three result blocks, read at an index.
-/
module

public import proofs.«01_k».proof.Proof.TcBody
public import proofs.«01_k».proof.Proof.Spec
public import Idealize.ShloMosaic.Lib.Pointwise

@[expose] public section

set_option maxRecDepth 16384

noncomputable section

namespace Cert.Proof.Tcv

open Cert.KernelIdeal Cert.KernelIdeal.Gen Cert.Proof.Spec
open Idealize.ShloMosaic

variable (x y w h : FVec Ideal S1x20000 .f32) (c0 c1 c2 c3 : FVec Ideal S1x100x1 .f32)

/-- The overlap ratios of rows and columns. -/
def pov : FVec Ideal S100x20000 .f32 :=
  k0_pay17 (k0_pay7 y h) (k0_pay8 x w) (k0_pay9 y h) (k0_pay10 w h) (k0_pay12 c1) (k0_pay13 c2) (k0_pay14 c3) (k0_pay15 c0 c1 c2 c3) (k0_pay16 x w c0)

theorem pov_at (t : Fin 100) (n : Fin 20000) : pov x y w h c0 c1 c2 c3 (ix2 t n)
    = iou (x (ix2 0 n)) (y (ix2 0 n)) (w (ix2 0 n)) (h (ix2 0 n)) (c0 (ix3 0 t 0)) (c1 (ix3 0 t 0)) (c2 (ix3 0 t 0)) (c3 (ix3 0 t 0)) := by
  unfold iou inter
  rw [← half_f32]
  pointwise [pov, k0_pay17, k0_pay7, k0_pay8, k0_pay9, k0_pay10, k0_pay12, k0_pay13, k0_pay14, k0_pay15, k0_pay16, k0_pay3, k0_pay4, k0_pay5, k0_pay6, k0_pay11]

/-- The first prior of the largest ratio, for each box. -/
theorem p19 (v13 v16 v19 v20 : FVec Ideal S1x20000 .f32) (v24 v26 v28 v31 : FVec Ideal S100x1 .f32) (v34 : FVec Ideal S100x20000 .f32) (t : Fin 100) :
    k0_pay19 v13 v16 v19 v20 v24 v26 v28 v31 v34 (ix2 t 0) = BitVec.ofNat 32 (Arg.first fun n : Fin 20000 => (k0_pay17 v13 v16 v19 v20 v24 v26 v28 v31 v34 (ix2 t n) : EReal)).val := by
  pointwise [k0_pay19]
  rw [ninf_f32]
  refine Arg.fold_min_first (n := 20000) (by norm_num) (fun n => (k0_pay17 v13 v16 v19 v20 v24 v26 v28 v31 v34 (ix2 t n) : EReal)) 20000#32 2147483647#32 _ ?_ (by decide) (by decide)
  intro k
  rw [Arg.fold_max]

/-- The first box of the largest ratio, for each prior. -/
theorem p18 (v13 v16 v19 v20 : FVec Ideal S1x20000 .f32) (v24 v26 v28 v31 : FVec Ideal S100x1 .f32) (v34 : FVec Ideal S100x20000 .f32) (n : Fin 20000) :
    k0_pay18 v13 v16 v19 v20 v24 v26 v28 v31 v34 (ix2 0 n)
      = (fun t : Fin 100 => (k0_pay17 v13 v16 v19 v20 v24 v26 v28 v31 v34 (ix2 t n) : EReal)) (Arg.first fun t : Fin 100 => (k0_pay17 v13 v16 v19 v20 v24 v26 v28 v31 v34 (ix2 t n) : EReal)) := by
  pointwise [k0_pay18]
  rw [ninf_f32]
  exact Arg.fold_max fun t : Fin 100 => (k0_pay17 v13 v16 v19 v20 v24 v26 v28 v31 v34 (ix2 t n) : EReal)

theorem p20 (v13 v16 v19 v20 : FVec Ideal S1x20000 .f32) (v24 v26 v28 v31 : FVec Ideal S100x1 .f32) (v34 : FVec Ideal S100x20000 .f32) (n : Fin 20000) :
    k0_pay20 v13 v16 v19 v20 v24 v26 v28 v31 v34 (ix3 0 0 n) = BitVec.ofNat 32 (Arg.first fun t : Fin 100 => (k0_pay17 v13 v16 v19 v20 v24 v26 v28 v31 v34 (ix2 t n) : EReal)).val := by
  pointwise [k0_pay20]
  refine Arg.fold_min_first (n := 100) (by norm_num) (fun t => (k0_pay17 v13 v16 v19 v20 v24 v26 v28 v31 v34 (ix2 t n) : EReal)) 100#32 2147483647#32 _ ?_ (by decide) (by decide)
  intro k
  rw [p18]

theorem p21_fun (v13 v16 v19 v20 : FVec Ideal S1x20000 .f32) (v24 v26 v28 v31 : FVec Ideal S100x1 .f32) (v34 : FVec Ideal S100x20000 .f32) :
    k0_pay21 v13 v16 v19 v20 v24 v26 v28 v31 v34
      = extui 32 (cmpf .olt (k0_pay18 v13 v16 v19 v20 v24 v26 v28 v31 v34) (broadcast S1x20000 (Scalar.ofBits .f32 0x3F000000#32 : Ideal .f32))) natLt_1_32 := rfl

theorem flag_at (u : FVec Ideal S1x20000 .f32) (i : S1x20000.Idx) :
    extui 32 (cmpf .olt u (broadcast S1x20000 (Scalar.ofBits .f32 0x3F000000#32 : Ideal .f32))) natLt_1_32 i = (Ideal.cmp .olt (u i) (Ideal.ofBits .f32 0x3F000000#32)).setWidth 32 := rfl

theorem p21 (v13 v16 v19 v20 : FVec Ideal S1x20000 .f32) (v24 v26 v28 v31 : FVec Ideal S100x1 .f32) (v34 : FVec Ideal S100x20000 .f32) (n : Fin 20000) :
    k0_pay21 v13 v16 v19 v20 v24 v26 v28 v31 v34 (ix2 0 n)
      = (Ideal.cmp .olt (k0_pay18 v13 v16 v19 v20 v24 v26 v28 v31 v34 (ix2 0 n)) ((1 / 2 : ℝ) : EReal)).setWidth 32 := by
  rw [p21_fun, flag_at, half_f32]

theorem p1 (u : IVec S1x20000 32) (n : Fin 20000) : k0_pay1 u (ix3 0 0 n) = u (ix2 0 n) := by
  pointwise [k0_pay1]

theorem p2 (u : IVec S100x1 32) (t : Fin 112) : k0_pay2 u (ix3 0 t 0) = if h : t.val < 100 then u (ix2 ⟨t.val, h⟩ 0) else 20000#32 := by
  pointwise [k0_pay2]

/-- The overlap ratio of box `t` of a block and prior `n`. -/
def kov (P : Vec Ideal S4x20000 .f32) (G : Vec Ideal S1x100x4 .f32) (t : Fin 100) (n : Fin 20000) : EReal :=
  iou (P (ix2 0 n)) (P (ix2 1 n)) (P (ix2 2 n)) (P (ix2 3 n)) (G (ix3 0 t 0)) (G (ix3 0 t 1)) (G (ix3 0 t 2)) (G (ix3 0 t 3))

theorem row_at (P : Vec Ideal S4x20000 .f32) (k : Fin 4) (hk : ∀ a, (![k.val, 0] : Fin 2 → Nat) a + S1x20000.size a ≤ S4x20000.size a) (n : Fin 20000) :
    View.ld P (Rect.unit (s := S4x20000) ![k.val, 0] S1x20000.size hk) (ix2 0 n) = P (ix2 k n) := by
  refine congrArg P (funext fun a => Fin.ext ?_)
  match a with
  | 0 => show k.val + 1 * 0 = k.val; omega
  | 1 => show 0 + 1 * n.val = n.val; omega

theorem col_at (G : Vec Ideal S1x100x4 .f32) (k : Fin 4) (hk : ∀ a, (![0, 0, k.val] : Fin 3 → Nat) a + S1x100x1.size a ≤ S1x100x4.size a) (t : Fin 100) :
    View.ld G (Rect.unit (s := S1x100x4) ![0, 0, k.val] S1x100x1.size hk) (ix3 0 t 0) = G (ix3 0 t k) := by
  refine congrArg G (funext fun a => Fin.ext ?_)
  match a with
  | 0 => rfl
  | 1 => show 0 + 1 * t.val = t.val; omega
  | 2 => show k.val + 1 * 0 = k.val; omega

/-- The ratios as the body builds them from its two blocks. -/
def PV (P : Vec Ideal S4x20000 .f32) (G : Vec Ideal S1x100x4 .f32) : FVec Ideal S100x20000 .f32 :=
  pov (View.ld P (Rect.unit (s := S4x20000) ![0, 0] S1x20000.size inb_S4x20000_S1x20000_0_0)) (View.ld P (Rect.unit (s := S4x20000) ![1, 0] S1x20000.size inb_S4x20000_S1x20000_1_0))
    (View.ld P (Rect.unit (s := S4x20000) ![2, 0] S1x20000.size inb_S4x20000_S1x20000_2_0)) (View.ld P (Rect.unit (s := S4x20000) ![3, 0] S1x20000.size inb_S4x20000_S1x20000_3_0))
    (View.ld G (Rect.unit (s := S1x100x4) ![0, 0, 0] S1x100x1.size inb_S1x100x4_S1x100x1_0_0_0)) (View.ld G (Rect.unit (s := S1x100x4) ![0, 0, 1] S1x100x1.size inb_S1x100x4_S1x100x1_0_0_1))
    (View.ld G (Rect.unit (s := S1x100x4) ![0, 0, 2] S1x100x1.size inb_S1x100x4_S1x100x1_0_0_2)) (View.ld G (Rect.unit (s := S1x100x4) ![0, 0, 3] S1x100x1.size inb_S1x100x4_S1x100x1_0_0_3))

theorem PV_at (P : Vec Ideal S4x20000 .f32) (G : Vec Ideal S1x100x4 .f32) (t : Fin 100) (n : Fin 20000) : PV P G (ix2 t n) = kov P G t n := by
  unfold PV kov
  rw [pov_at]
  exact congr (congr (congr (congr (congr (congr (congr (congrArg iou (row_at P 0 _ n)) (row_at P 1 _ n)) (row_at P 2 _ n)) (row_at P 3 _ n)) (col_at G 0 _ t)) (col_at G 1 _ t)) (col_at G 2 _ t)) (col_at G 3 _ t)

theorem mtB_at (P : Vec Ideal S4x20000 .f32) (G : Vec Ideal S1x100x4 .f32) (n : Fin 20000) :
    mtB P G (ix3 0 0 n) = BitVec.ofNat 32 (Arg.first fun t : Fin 100 => kov P G t n).val := by
  refine (p20 _ _ _ _ _ _ _ _ _ n).trans ?_
  exact congrArg (fun f : Fin 100 → EReal => BitVec.ofNat 32 (Arg.first f).val) (funext fun t => PV_at P G t n)

theorem ngB_at (P : Vec Ideal S4x20000 .f32) (G : Vec Ideal S1x100x4 .f32) (n : Fin 20000) :
    ngB P G (ix3 0 0 n) = (Ideal.cmp .olt (kov P G (Arg.first fun t : Fin 100 => kov P G t n) n) ((1 / 2 : ℝ) : EReal)).setWidth 32 := by
  refine (p1 _ n).trans ((p21 _ _ _ _ _ _ _ _ _ n).trans ?_)
  rw [p18]
  exact congrArg (fun f : Fin 100 → EReal => (Ideal.cmp .olt (f (Arg.first f)) ((1 / 2 : ℝ) : EReal)).setWidth 32) (funext fun t => PV_at P G t n)

theorem bpB_at (P : Vec Ideal S4x20000 .f32) (G : Vec Ideal S1x100x4 .f32) (t : Fin 112) :
    bpB P G (ix3 0 t 0) = if h : t.val < 100 then BitVec.ofNat 32 (Arg.first fun n : Fin 20000 => kov P G ⟨t.val, h⟩ n).val else 20000#32 := by
  refine (p2 _ t).trans ?_
  split_ifs with h
  · refine (p19 _ _ _ _ _ _ _ _ _ ⟨t.val, h⟩).trans ?_
    exact congrArg (fun f : Fin 20000 → EReal => BitVec.ofNat 32 (Arg.first f).val) (funext fun n => PV_at P G ⟨t.val, h⟩ n)
  · rfl

end Cert.Proof.Tcv

end
-- ==== Proof.KerHost.lean ====
/-
  The kernel's host operations read at coordinates: what the SparseCore call is handed, in terms of the arguments and of the
  TensorCore's three results, and the two results out of what the call leaves.
-/
module

public import Idealize.ShloMosaic.Lib.KernelVsHost
public import proofs.«01_k».proof.Proof.KerTc
public import proofs.«01_k».proof.Proof.Vals

@[expose] public section

set_option maxRecDepth 16384

noncomputable section

namespace Cert.Proof

open Cert.KernelIdeal Cert.KernelIdeal.Gen

open Idealize.ShloMosaic
open Idealize.ShloMosaic.TcCoe

variable {F : FTy → Type} [FloatOps F] [Named F] [∀ e, Nonempty (Elt F e)]

/-! ## One operation at a time -/

/-- What each operation between the region and the call writes. -/
def wlB : List (Ref sig .tc) := [main_c, main_call0_v0, main_v2, main_v3, main_v4, main_c_0, main_call1_v0, main_v5, main_v6, main_v7,
  main_v8, main_v9, main_v10, main_v11, main_v12, main_v13, main_v14, main_v15, main_v16, main_v17, main_v18, main_v19, main_v20,
  main_v21, main_v22, main_v23, main_v24, main_v25]

/-- The contents once they have run. -/
abbrev finB (V : Valuation τ sig (Elt F)) (r : Ref sig .tc) : r.ty.Contents (Elt F) := StableHlo.after opsB V (Proc.devRef .tc r)

theorem opsB_writes : (opsB (F := F)).map HloOp.writes = wlB.map fun r => {Proc.devRef (τ := τ) .tc r} := rfl

theorem afterB_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

theorem dropB_writes (k : ℕ) : ((opsB (F := F)).drop k).map HloOp.writes = (wlB.drop k).map fun r => {Proc.devRef (τ := τ) .tc r} := by
  rw [List.map_drop, opsB_writes, ← List.map_drop]

/-- A buffer no operation from the `k`-th on writes holds its final contents before that one. -/
theorem priorB (V : Valuation τ sig (Elt F)) (k : ℕ) (a : Ref sig .tc) (h : a ∉ wlB.drop k) :
    StableHlo.after (opsB.take k) V (Proc.devRef .tc a) = finB V a := by
  unfold finB
  conv_rhs => rw [← List.take_append_drop k (opsB (F := F)), afterB_append]
  exact (StableHlo.after_of_writes_sub _ _ (StableHlo.forall_writes_sub_of_map (dropB_writes k)) h).symm

/-- A buffer none of them writes is kept. -/
theorem keptB (V : Valuation τ sig (Elt F)) (a : Ref sig .tc) (h : a ∉ wlB) : finB V a = V (Proc.devRef .tc a) :=
  (priorB V 0 a h).symm

theorem stepB (V : Valuation τ sig (Elt F)) (k : ℕ) (op : HloOp τ sig (Elt F)) (hk : opsB[k]? = some op) (y : Ref sig .tc)
    (h : y ∉ wlB.drop (k + 1)) :
    finB V y = op.result (StableHlo.after (opsB.take k) V) (Proc.devRef .tc y) := by
  rw [← priorB V (k + 1) y h]
  have : (opsB (F := F)).take (k + 1) = opsB.take k ++ [op] := by
    rw [List.take_add_one, hk]; rfl
  rw [this, afterB_append]
  rfl

theorem oneB (V : Valuation τ sig (Elt F)) (k : ℕ) (a y : Ref sig .tc) (f : a.ty.Contents (Elt F) → y.ty.Contents (Elt F))
    {ha : a.space ≠ .host ∧ (a : DevRef τ sig).isScoped = false} {hy : y.space ≠ .host ∧ (y : DevRef τ sig).isScoped = false}
    (hk : (opsB (F := F))[k]? = some (StableHlo.unary a y f ha hy)) (ny : y ∉ wlB.drop (k + 1) := by decide +kernel)
    (na : a ∉ wlB.drop k := by decide +kernel) : finB V y = f (finB V a) := by
  rw [stepB V k _ hk y ny, ← priorB V k a na]
  exact StableHlo.unary_result a y f ha hy _

theorem twoB (V : Valuation τ sig (Elt F)) (k : ℕ) (a b y : Ref sig .tc)
    (f : a.ty.Contents (Elt F) → b.ty.Contents (Elt F) → y.ty.Contents (Elt F))
    {ha : a.space ≠ .host ∧ (a : DevRef τ sig).isScoped = false} {hb : b.space ≠ .host ∧ (b : DevRef τ sig).isScoped = false}
    {hy : y.space ≠ .host ∧ (y : DevRef τ sig).isScoped = false}
    (hk : (opsB (F := F))[k]? = some (StableHlo.binary a b y f ha hb hy)) (ny : y ∉ wlB.drop (k + 1) := by decide +kernel)
    (na : a ∉ wlB.drop k := by decide +kernel) (nb : b ∉ wlB.drop k := by decide +kernel) :
    finB V y = f (finB V a) (finB V b) := by
  rw [stepB V k _ hk y ny, ← priorB V k a na, ← priorB V k b nb]
  exact StableHlo.binary_result a b y f ha hb hy _

theorem castB (V : Valuation τ sig (Elt F)) (k : ℕ) (a y : Ref sig .tc) (he : a.ty.elt = y.ty.elt)
    (hn : a.ty.shape.ShapeCasts y.ty.shape)
    {ha : a.space ≠ .host ∧ (a : DevRef τ sig).isScoped = false} {hy : y.space ≠ .host ∧ (y : DevRef τ sig).isScoped = false}
    (hk : (opsB (F := F))[k]? = some (StableHlo.reshape a y he hn ha hy)) (ny : y ∉ wlB.drop (k + 1) := by decide +kernel)
    (na : a ∉ wlB.drop k := by decide +kernel) :
    finB V y = fun i => he ▸ shapeCast y.ty.shape (finB V a) hn i := by
  rw [stepB V k _ hk y ny, ← priorB V k a na]
  exact StableHlo.reshape_result a y he hn ha hy _

variable (V : Valuation τ sig (Elt F))

/-! ## The reads of the values' shapes -/

/-- A flat array of the images' rows, out of a three-axis one with a unit middle axis. -/
theorem flatMid {α : Type} (x : S8x1x20000.Idx → α) (b : Fin 8) (p : Fin 20000) (h : b.val * 20000 + p.val < 160000) :
    shapeCast S160000 x shapeCasts_S8x1x20000_S160000 (at1 (b.val * 20000 + p.val) h) = x (ix3 b 0 p) := by
  refine shapeCast_apply x _ _ _ ?_
  rw [Shape.rowMajor_val_three, Shape.rowMajor_val_one]
  show (b.val * 1 + 0) * 20000 + p.val = b.val * 20000 + p.val
  omega

theorem flatEnd {α : Type} (x : S8x112x1.Idx → α) (b : Fin 8) (t : Fin 112) (h : b.val * 112 + t.val < 896) :
    shapeCast S896 x shapeCasts_S8x112x1_S896 (at1 (b.val * 112 + t.val) h) = x (ix3 b t 0) := by
  refine shapeCast_apply x _ _ _ ?_
  rw [Shape.rowMajor_val_three, Shape.rowMajor_val_one]
  show (b.val * 112 + t.val) * 1 + 0 = b.val * 112 + t.val
  omega

theorem flatTwo {α : Type} (x : S8x112.Idx → α) (b : Fin 8) (t : Fin 112) (h : b.val * 112 + t.val < 896) :
    shapeCast S896 x shapeCasts_S8x112_S896 (at1 (b.val * 112 + t.val) h) = x (ix2 b t) := by
  refine shapeCast_apply x _ _ _ ?_
  rw [Shape.rowMajor_val_two, Shape.rowMajor_val_one]
  rfl

theorem flatCol {α : Type} (x : S1x896.Idx → α) (j : ℕ) (h : j < 896) :
    shapeCast S896 x shapeCasts_S1x896_S896 (at1 j h) = x (ix2 0 ⟨j, h⟩) := by
  refine shapeCast_apply x _ _ _ ?_
  rw [Shape.rowMajor_val_two, Shape.rowMajor_val_one]
  show 0 * 896 + j = j
  omega

theorem flatRow {α : Type} (x : S1x20000.Idx → α) (j : ℕ) (h : j < 20000) :
    shapeCast S20000 x shapeCasts_S1x20000_S20000 (at1 j h) = x (ix2 0 ⟨j, h⟩) := by
  refine shapeCast_apply x _ _ _ ?_
  rw [Shape.rowMajor_val_two, Shape.rowMajor_val_one]
  show 0 * 20000 + j = j
  omega

theorem flatBox {α : Type} (x : S4x8x112.Idx → α) (k : Fin 4) (b : Fin 8) (t : Fin 112) (h : b.val * 112 + t.val < 896) :
    shapeCast S4x896 x shapeCasts_S4x8x112_S4x896 (ix2 k ⟨b.val * 112 + t.val, h⟩) = x (ix3 k b t) := by
  refine shapeCast_apply x _ _ _ ?_
  rw [Shape.rowMajor_val_three, Shape.rowMajor_val_two]
  show (k.val * 8 + b.val) * 112 + t.val = k.val * 896 + (b.val * 112 + t.val)
  omega

theorem unflatLoc {α : Type} (x : S640000.Idx → α) (b : Fin 8) (p : Fin 20000) (k : Fin 4) (h : b.val * 80000 + p.val * 4 + k.val < 640000) :
    shapeCast S8x20000x4 x shapeCasts_S640000_S8x20000x4 (ix3 b p k) = x (at1 (b.val * 80000 + p.val * 4 + k.val) h) := by
  refine shapeCast_apply x _ _ _ ?_
  rw [Shape.rowMajor_val_three, Shape.rowMajor_val_one]
  show b.val * 80000 + p.val * 4 + k.val = (b.val * 20000 + p.val) * 4 + k.val
  omega

theorem unflatLab {α : Type} (x : S160000.Idx → α) (b : Fin 8) (p : Fin 20000) (h : b.val * 20000 + p.val < 160000) :
    shapeCast S8x20000 x shapeCasts_S160000_S8x20000 (ix2 b p) = x (at1 (b.val * 20000 + p.val) h) := by
  refine shapeCast_apply x _ _ _ ?_
  rw [Shape.rowMajor_val_two, Shape.rowMajor_val_one]
  rfl

/-! ## What the call is handed -/

theorem h_v6 (b : Fin 8) (p : Fin 20000) (h : b.val * 20000 + p.val < 160000) :
    finB V main_v6 (at1 (b.val * 20000 + p.val) h) = V (Proc.devRef .tc main_v1_0) (ix3 b 0 p) := by
  rw [castB V 8 main_v1_0 main_v6 _ _ rfl, keptB V main_v1_0 (by decide +kernel)]
  exact flatMid _ b p h

theorem h_v7 (b : Fin 8) (p : Fin 20000) (h : b.val * 20000 + p.val < 160000) :
    finB V main_v7 (at1 (b.val * 20000 + p.val) h) = V (Proc.devRef .tc main_v1_1) (ix3 b 0 p) := by
  rw [castB V 9 main_v1_1 main_v7 _ _ rfl, keptB V main_v1_1 (by decide +kernel)]
  exact flatMid _ b p h

theorem h_v8 (b : Fin 8) (t : Fin 112) (h : b.val * 112 + t.val < 896) :
    finB V main_v8 (at1 (b.val * 112 + t.val) h) = V (Proc.devRef .tc main_v1_2) (ix3 b t 0) := by
  rw [castB V 10 main_v1_2 main_v8 _ _ rfl, keptB V main_v1_2 (by decide +kernel)]
  exact flatEnd _ b t h

theorem h_v17 (b : Fin 8) (t : Fin 100) (h : b.val * 112 + t.val < 896) :
    finB V main_v17 (at1 (b.val * 112 + t.val) h) = V (Proc.devRef .tc main_arg2) (ix2 b t) := by
  rw [castB V 19 main_v5 main_v17 _ _ rfl, twoB V 7 main_arg2 main_call1_v0 main_v5 _ rfl, keptB V main_arg2 (by decide +kernel)]
  refine (flatTwo _ b ⟨t.val, by have := t.isLt; omega⟩ h).trans ?_
  refine pad_apply_of_inside _ _ _ _ _ _ _ _ (ix2 b t) fun a => ?_
  match a with
  | 0 => show b.val = 0 + b.val * 1; omega
  | 1 => show t.val = 0 + t.val * 1; omega

theorem h_v4 (k : Fin 4) (b : Fin 8) (t : Fin 100) (h : b.val * 112 + t.val < 896) :
    finB V main_v4 (ix2 k ⟨b.val * 112 + t.val, h⟩) = V (Proc.devRef .tc main_arg1) (ix3 b t k) := by
  rw [castB V 4 main_v3 main_v4 _ _ rfl, oneB V 3 main_v2 main_v3 _ rfl, twoB V 2 main_arg1 main_call0_v0 main_v2 _ rfl,
    keptB V main_arg1 (by decide +kernel)]
  refine (flatBox _ k b ⟨t.val, by have := t.isLt; omega⟩ h).trans ?_
  refine (transpose_apply _ _ _ _ (ix3 b ⟨t.val, by have := t.isLt; omega⟩ k) ?_).trans ?_
  · intro a
    match a with
    | 0 => rfl
    | 1 => rfl
    | 2 => rfl
  refine pad_apply_of_inside _ _ _ _ _ _ _ _ (ix3 b t k) fun a => ?_
  match a with
  | 0 => show b.val = 0 + b.val * 1; omega
  | 1 => show t.val = 0 + t.val * 1; omega
  | 2 => show k.val = 0 + k.val * 1; omega

/-- One row of the boxes, flat. -/
theorem cutBox {α : Type} (x : S4x896.Idx → α) (k : Fin 4) (hs : S4x896.Slices ![k.val, 0] S1x896) (j : Fin 896) :
    extractStridedSlice S1x896 ![k.val, 0] x hs (ix2 0 j) = x (ix2 k j) := by
  refine congrArg x (funext fun a => Fin.ext ?_)
  match a with
  | 0 => show k.val + 0 = k.val; omega
  | 1 => show 0 + j.val = j.val; omega

/-- One row of the anchors, flat. -/
theorem cutRow {α : Type} (x : S4x20000.Idx → α) (k : Fin 4) (hs : S4x20000.Slices ![k.val, 0] S1x20000) (j : Fin 20000) :
    extractStridedSlice S1x20000 ![k.val, 0] x hs (ix2 0 j) = x (ix2 k j) := by
  refine congrArg x (funext fun a => Fin.ext ?_)
  match a with
  | 0 => show k.val + 0 = k.val; omega
  | 1 => show 0 + j.val = j.val; omega

theorem h_v10 (b : Fin 8) (t : Fin 100) (h : b.val * 112 + t.val < 896) :
    finB V main_v10 (at1 (b.val * 112 + t.val) h) = V (Proc.devRef .tc main_arg1) (ix3 b t 0) := by
  rw [castB V 12 main_v9 main_v10 _ _ rfl, oneB V 11 main_v4 main_v9 _ rfl]
  exact (flatCol _ _ h).trans ((cutBox _ 0 _ _).trans (h_v4 V 0 b t h))

theorem h_v12 (b : Fin 8) (t : Fin 100) (h : b.val * 112 + t.val < 896) :
    finB V main_v12 (at1 (b.val * 112 + t.val) h) = V (Proc.devRef .tc main_arg1) (ix3 b t 1) := by
  rw [castB V 14 main_v11 main_v12 _ _ rfl, oneB V 13 main_v4 main_v11 _ rfl]
  exact (flatCol _ _ h).trans ((cutBox _ 1 _ _).trans (h_v4 V 1 b t h))

theorem h_v14 (b : Fin 8) (t : Fin 100) (h : b.val * 112 + t.val < 896) :
    finB V main_v14 (at1 (b.val * 112 + t.val) h) = V (Proc.devRef .tc main_arg1) (ix3 b t 2) := by
  rw [castB V 16 main_v13 main_v14 _ _ rfl, oneB V 15 main_v4 main_v13 _ rfl]
  exact (flatCol _ _ h).trans ((cutBox _ 2 _ _).trans (h_v4 V 2 b t h))

theorem h_v16 (b : Fin 8) (t : Fin 100) (h : b.val * 112 + t.val < 896) :
    finB V main_v16 (at1 (b.val * 112 + t.val) h) = V (Proc.devRef .tc main_arg1) (ix3 b t 3) := by
  rw [castB V 18 main_v15 main_v16 _ _ rfl, oneB V 17 main_v4 main_v15 _ rfl]
  exact (flatCol _ _ h).trans ((cutBox _ 3 _ _).trans (h_v4 V 3 b t h))

theorem h_v19 (p : Fin 20000) : finB V main_v19 (at1 p.val p.isLt) = V (Proc.devRef .tc main_v0) (ix2 0 p) := by
  rw [castB V 21 main_v18 main_v19 _ _ rfl, oneB V 20 main_v0 main_v18 _ rfl, keptB V main_v0 (by decide +kernel)]
  exact (flatRow _ _ p.isLt).trans (cutRow _ 0 _ _)

theorem h_v21 (p : Fin 20000) : finB V main_v21 (at1 p.val p.isLt) = V (Proc.devRef .tc main_v0) (ix2 1 p) := by
  rw [castB V 23 main_v20 main_v21 _ _ rfl, oneB V 22 main_v0 main_v20 _ rfl, keptB V main_v0 (by decide +kernel)]
  exact (flatRow _ _ p.isLt).trans (cutRow _ 1 _ _)

theorem h_v23 (p : Fin 20000) : finB V main_v23 (at1 p.val p.isLt) = V (Proc.devRef .tc main_v0) (ix2 2 p) := by
  rw [castB V 25 main_v22 main_v23 _ _ rfl, oneB V 24 main_v0 main_v22 _ rfl, keptB V main_v0 (by decide +kernel)]
  exact (flatRow _ _ p.isLt).trans (cutRow _ 2 _ _)

theorem h_v25 (p : Fin 20000) : finB V main_v25 (at1 p.val p.isLt) = V (Proc.devRef .tc main_v0) (ix2 3 p) := by
  rw [castB V 27 main_v24 main_v25 _ _ rfl, oneB V 26 main_v0 main_v24 _ rfl, keptB V main_v0 (by decide +kernel)]
  exact (flatRow _ _ p.isLt).trans (cutRow _ 3 _ _)

/-! ## The first operation and the last two -/

theorem h_v0 (k : Fin 4) (p : Fin 20000) :
    StableHlo.after opsA V (Proc.devRef .tc main_v0) (ix2 k p) = V (Proc.devRef .tc main_arg0) (ix2 p k) := by
  unfold opsA
  rw [StableHlo.after_cons, StableHlo.after_nil, StableHlo.unary_result]
  refine transpose_apply _ _ _ _ (ix2 p k) ?_
  intro a
  match a with
  | 0 => rfl
  | 1 => rfl

theorem h_v27 (b : Fin 8) (p : Fin 20000) (k : Fin 4) (h : b.val * 80000 + p.val * 4 + k.val < 640000) :
    StableHlo.after opsC V (Proc.devRef .tc main_v27) (ix3 b p k)
      = V (Proc.devRef .tc main_v26_0) (at1 (b.val * 80000 + p.val * 4 + k.val) h) := by
  unfold opsC
  rw [StableHlo.after_cons, StableHlo.after_cons, StableHlo.after_nil]
  rw [HloOp.result_of_not_mem _ _ (show Proc.devRef (τ := τ) .tc main_v27 ∉ ({Proc.devRef .tc main_v28} : Finset _) by decide +kernel)]
  refine (congrFun (StableHlo.reshape_result main_v26_0 main_v27 _ _ _ _ V) (ix3 b p k)).trans ?_
  exact unflatLoc _ b p k h

theorem h_v28 (b : Fin 8) (p : Fin 20000) (h : b.val * 20000 + p.val < 160000) :
    StableHlo.after opsC V (Proc.devRef .tc main_v28) (ix2 b p)
      = V (Proc.devRef .tc main_v26_1) (at1 (b.val * 20000 + p.val) h) := by
  unfold opsC
  rw [StableHlo.after_cons, StableHlo.after_cons, StableHlo.after_nil]
  refine (congrFun (StableHlo.reshape_result main_v26_1 main_v28 _ _ _ _ _) (ix2 b p)).trans ?_
  refine (unflatLab _ b p h).trans ?_
  exact congrFun (HloOp.result_of_not_mem _ _ (show Proc.devRef (τ := τ) .tc main_v26_1 ∉ ({Proc.devRef .tc main_v27} : Finset _) by decide +kernel)) _

end Cert.Proof
-- ==== Proof.KerArr.lean ====
/-
  The TensorCore's region, read at coordinates: the blocks it loads and the three result arrays its eight points leave.
-/
module

public import Idealize.ShloMosaic.Lib.Pipeline.ValueKit.Geometry
public import proofs.«01_k».proof.Proof.KerTc
public import proofs.«01_k».proof.Proof.Vals

@[expose] public section

set_option maxRecDepth 16384

noncomputable section

namespace Cert.Proof

open Cert.KernelIdeal Cert.KernelIdeal.Gen

open Idealize.ShloMosaic
open Idealize.ShloMosaic.TcCoe

variable {F : FTy → Type} [FloatOps F] [Named F] [∀ e, Nonempty (Elt F e)]

/-- The region's point of an image. -/
def pnt (b : Fin 8) : Fin cfg0.N := ⟨b.val, by have := b.isLt; exact this⟩

theorem idx0 : ∀ t : Fin cfg0.N, win0_0.index t = ![0, 0] := by decide +kernel
theorem idx1 : ∀ t : Fin cfg0.N, win0_1.index t = ![t.val, 0, 0] := by decide +kernel
theorem idx2 : ∀ t : Fin cfg0.N, win0_2.index t = ![t.val, 0, 0] := by decide +kernel
theorem idx3 : ∀ t : Fin cfg0.N, win0_3.index t = ![t.val, 0, 0] := by decide +kernel
theorem idx4 : ∀ t : Fin cfg0.N, win0_4.index t = ![t.val, 0, 0] := by decide +kernel

variable (W : Dev nD → Valuation τ sig (Elt F)) (d : Dev nD)

theorem stgP_at (t : Fin cfg0.N) (k : Fin 4) (n : Fin 20000) :
    stgP W d t (ix2 k n) = W d (Proc.devRef .tc main_v0) (ix2 k n) := by
  refine congrArg (W d (Proc.devRef .tc main_v0)) ?_
  blk_ext [idx0]

theorem stgG_at (b : Fin 8) (t : Fin 100) (k : Fin 4) :
    stgG W d (pnt b) (ix3 0 t k) = W d (Proc.devRef .tc main_arg1) (ix3 b t k) := by
  refine congrArg (W d (Proc.devRef .tc main_arg1)) ?_
  blk_ext [idx1, pnt]

theorem arr2_of (D : Pipeline.Dat τ (Elt F) (Idealize.ShloMosaic.SparseCore.Cfg.HIx 1) ℕ UU ℕ cfg0 d) (X : Fin cfg0.N → IVec S1x1x20000 32)
    (hX : ∀ t, D.after 2 t = X t) :
    D.arrAt 2 cfg0.N = fun i : S8x1x20000.Idx => X (pnt (i 0)) (ix3 0 0 (i 2)) := by
  refine D.arrAt_eq_of_covers 2 _ (by decide +kernel) fun t hf y => ?_
  have h0 : pnt (((cfg0.win 2).blk t).view.emb y 0) = t := Fin.ext (by
    show (((cfg0.win 2).blk t).view.emb y 0).val = t.val
    idx_bounds y
    blk_simp [idx2])
  have h2 : (ix3 0 0 (((cfg0.win 2).blk t).view.emb y 2) : S1x1x20000.Idx) = y := by
    idx_bounds y
    blk_ext [idx2]
  refine .trans ?_ (congrArg₂ X h0 h2).symm
  exact congrFun (hX t) y

theorem arr2 : (dat W d).arrAt 2 cfg0.N
    = fun i : S8x1x20000.Idx => mtB (stgP W d (pnt (i 0))) (stgG W d (pnt (i 0))) (ix3 0 0 (i 2)) := by
  have h := arr2_of d (dat W d) (fun t => mtB (stgP W d t) (stgG W d t)) fun t => by
    dsimp only [dat]
  exact h

theorem arr3_of (D : Pipeline.Dat τ (Elt F) (Idealize.ShloMosaic.SparseCore.Cfg.HIx 1) ℕ UU ℕ cfg0 d) (X : Fin cfg0.N → IVec S1x1x20000 32)
    (hX : ∀ t, D.after 3 t = X t) :
    D.arrAt 3 cfg0.N = fun i : S8x1x20000.Idx => X (pnt (i 0)) (ix3 0 0 (i 2)) := by
  refine D.arrAt_eq_of_covers 3 _ (by decide +kernel) fun t hf y => ?_
  have h0 : pnt (((cfg0.win 3).blk t).view.emb y 0) = t := Fin.ext (by
    show (((cfg0.win 3).blk t).view.emb y 0).val = t.val
    idx_bounds y
    blk_simp [idx3])
  have h2 : (ix3 0 0 (((cfg0.win 3).blk t).view.emb y 2) : S1x1x20000.Idx) = y := by
    idx_bounds y
    blk_ext [idx3]
  refine .trans ?_ (congrArg₂ X h0 h2).symm
  exact congrFun (hX t) y

theorem arr3 : (dat W d).arrAt 3 cfg0.N
    = fun i : S8x1x20000.Idx => ngB (stgP W d (pnt (i 0))) (stgG W d (pnt (i 0))) (ix3 0 0 (i 2)) := by
  exact arr3_of d (dat W d) _ (after3 W d)

theorem arr4_of (D : Pipeline.Dat τ (Elt F) (Idealize.ShloMosaic.SparseCore.Cfg.HIx 1) ℕ UU ℕ cfg0 d) (X : Fin cfg0.N → IVec S1x112x1 32)
    (hX : ∀ t, D.after 4 t = X t) :
    D.arrAt 4 cfg0.N = fun i : S8x112x1.Idx => X (pnt (i 0)) (ix3 0 (i 1) 0) := by
  refine D.arrAt_eq_of_covers 4 _ (by decide +kernel) fun t hf y => ?_
  have h0 : pnt (((cfg0.win 4).blk t).view.emb y 0) = t := Fin.ext (by
    show (((cfg0.win 4).blk t).view.emb y 0).val = t.val
    idx_bounds y
    blk_simp [idx4])
  have h2 : (ix3 0 (((cfg0.win 4).blk t).view.emb y 1) 0 : S1x112x1.Idx) = y := by
    idx_bounds y
    blk_ext [idx4]
  refine .trans ?_ (congrArg₂ X h0 h2).symm
  exact congrFun (hX t) y

theorem arr4 : (dat W d).arrAt 4 cfg0.N
    = fun i : S8x112x1.Idx => bpB (stgP W d (pnt (i 0))) (stgG W d (pnt (i 0))) (ix3 0 (i 1) 0) := by
  exact arr4_of d (dat W d) _ (after4 W d)

theorem arr2_at_of (D : Pipeline.Dat τ (Elt F) (Idealize.ShloMosaic.SparseCore.Cfg.HIx 1) ℕ UU ℕ cfg0 d) (X : Fin cfg0.N → IVec S1x1x20000 32)
    (hX : ∀ t, D.after 2 t = X t) (b : Fin 8) (n : Fin 20000) : D.arrAt 2 cfg0.N (ix3 b 0 n) = X (pnt b) (ix3 0 0 n) :=
  congrFun (arr2_of d D X hX) (ix3 b 0 n)

theorem arr3_at_of (D : Pipeline.Dat τ (Elt F) (Idealize.ShloMosaic.SparseCore.Cfg.HIx 1) ℕ UU ℕ cfg0 d) (X : Fin cfg0.N → IVec S1x1x20000 32)
    (hX : ∀ t, D.after 3 t = X t) (b : Fin 8) (n : Fin 20000) : D.arrAt 3 cfg0.N (ix3 b 0 n) = X (pnt b) (ix3 0 0 n) :=
  congrFun (arr3_of d D X hX) (ix3 b 0 n)

theorem arr2_at (b : Fin 8) (n : Fin 20000) :
    (dat W d).arrAt 2 cfg0.N (ix3 b 0 n) = mtB (stgP W d (pnt b)) (stgG W d (pnt b)) (ix3 0 0 n) := by
  have h := arr2_at_of d (dat W d) (fun t => mtB (stgP W d t) (stgG W d t)) (fun t => by dsimp only [dat]) b n
  exact h

theorem arr3_at (b : Fin 8) (n : Fin 20000) :
    (dat W d).arrAt 3 cfg0.N (ix3 b 0 n) = ngB (stgP W d (pnt b)) (stgG W d (pnt b)) (ix3 0 0 n) := by
  have h := arr3_at_of d (dat W d) (fun t => ngB (stgP W d t) (stgG W d t)) (fun t => by dsimp only [dat]) b n
  exact h

end Cert.Proof
-- ==== Proof.KerVal.lean ====
/-
  What the kernel leaves, at coordinates: each prior's label and encoded box in terms of the argument arrays.
-/
module

public import proofs.«01_k».proof.Proof.KerHost
public import proofs.«01_k».proof.Proof.KerArr

@[expose] public section

set_option maxRecDepth 16384

noncomputable section

namespace Cert.Proof

open Cert.KernelIdeal Cert.KernelIdeal.Gen
open Cert.Proof.Spec

open Idealize.ShloMosaic
open Idealize.ShloMosaic.TcCoe

/-! ## Words -/

theorem ofNat_inj {a b : ℕ} (ha : a < 2 ^ 32) (hb : b < 2 ^ 32) (h : BitVec.ofNat 32 a = BitVec.ofNat 32 b) : a = b := by
  have h2 := congrArg BitVec.toNat h
  rw [BitVec.toNat_ofNat, BitVec.toNat_ofNat, Nat.mod_eq_of_lt ha, Nat.mod_eq_of_lt hb] at h2
  exact h2

theorem hitG_iff (w : ℕ → BitVec 32) (B : Fin 100 → Fin 20000) (hw : ∀ t : Fin 100, w t.val = BitVec.ofNat 32 (B t).val)
    (n : Fin 20000) (t : ℕ) : HitG w n.val t ↔ ∃ h : t < 100, B ⟨t, h⟩ = n := by
  unfold HitG
  constructor
  · rintro ⟨h, e⟩
    refine ⟨h, Fin.ext ?_⟩
    have e2 := hw ⟨t, h⟩
    have hn := n.isLt
    have hB := (B ⟨t, h⟩).isLt
    exact ofNat_inj (by omega) (by omega) (e2.symm.trans e)
  · rintro ⟨h, e⟩
    refine ⟨h, ?_⟩
    have e2 := hw ⟨t, h⟩
    rw [e] at e2
    exact e2

theorem mtR_none (w : ℕ → BitVec 32) (x : BitVec 32) (p : ℕ) (h : ∀ t, ¬ HitG w p t) (T : ℕ) : mtR w x p T = x := by
  induction T with
  | zero => rfl
  | succ T ih =>
    have e : mtR w x p (T + 1) = if HitG w p T then BitVec.ofNat 32 T else mtR w x p T := rfl
    rw [e, if_neg (h T), ih]

theorem mtR_last (w : ℕ → BitVec 32) (x : BitVec 32) (p M : ℕ) (hM : HitG w p M) (h : ∀ t, M < t → ¬ HitG w p t) (k : ℕ) :
    mtR w x p (M + 1 + k) = BitVec.ofNat 32 M := by
  induction k with
  | zero =>
    have e : mtR w x p (M + 1 + 0) = if HitG w p M then BitVec.ofNat 32 M else mtR w x p M := rfl
    rw [e, if_pos hM]
  | succ k ih =>
    have e : mtR w x p (M + 1 + (k + 1)) = if HitG w p (M + 1 + k) then BitVec.ofNat 32 (M + 1 + k) else mtR w x p (M + 1 + k) := rfl
    rw [e, if_neg (h _ (by omega)), ih]

/-- The last forced match, else the one it started from. -/
theorem mtR_pick (w : ℕ → BitVec 32) (B : Fin 100 → Fin 20000) (hw : ∀ t : Fin 100, w t.val = BitVec.ofNat 32 (B t).val)
    (a : Fin 100) (n : Fin 20000) : mtR w (BitVec.ofNat 32 a.val) n.val 112 = BitVec.ofNat 32 (pick B n a).val := by
  unfold pick
  by_cases hS : (Finset.univ.filter fun t => B t = n).Nonempty
  · rw [dif_pos hS]
    have hm := Finset.max'_mem _ hS
    have hmax : ∀ t ∈ Finset.univ.filter fun t => B t = n, t ≤ (Finset.univ.filter fun t => B t = n).max' hS :=
      fun t ht => Finset.le_max' _ t ht
    generalize (Finset.univ.filter fun t => B t = n).max' hS = M at hm hmax ⊢
    have hM : HitG w n.val M.val := (hitG_iff w B hw n M.val).2 ⟨M.isLt, (Finset.mem_filter.1 hm).2⟩
    have hL : ∀ t, M.val < t → ¬ HitG w n.val t := by
      intro t ht hh
      obtain ⟨h, e⟩ := (hitG_iff w B hw n t).1 hh
      have := hmax ⟨t, h⟩ (Finset.mem_filter.2 ⟨Finset.mem_univ _, e⟩)
      have h3 : t ≤ M.val := this
      omega
    have := mtR_last w (BitVec.ofNat 32 a.val) n.val M.val hM hL (111 - M.val)
    have hl := M.isLt
    rwa [show M.val + 1 + (111 - M.val) = 112 by omega] at this
  · rw [dif_neg hS]
    refine mtR_none w _ _ (fun t hh => hS ?_) _
    obtain ⟨h, e⟩ := (hitG_iff w B hw n t).1 hh
    exact ⟨⟨t, h⟩, Finset.mem_filter.2 ⟨Finset.mem_univ _, e⟩⟩

theorem frc_pick (w : ℕ → BitVec 32) (B : Fin 100 → Fin 20000) (hw : ∀ t : Fin 100, w t.val = BitVec.ofNat 32 (B t).val)
    (n : Fin 20000) : frc w n.val = if (Finset.univ.filter fun t => B t = n).Nonempty then 1 else 0 := by
  unfold frc
  refine if_congr ?_ rfl rfl
  constructor
  · rintro ⟨t, -, hh⟩
    obtain ⟨h, e⟩ := (hitG_iff w B hw n t).1 hh
    exact ⟨⟨t, h⟩, Finset.mem_filter.2 ⟨Finset.mem_univ _, e⟩⟩
  · rintro ⟨t, ht⟩
    have hl := t.isLt
    exact ⟨t.val, by omega, (hitG_iff w B hw n t.val).2 ⟨t.isLt, (Finset.mem_filter.1 ht).2⟩⟩

/-- A ground truth's number is its own clamp. -/
theorem gi_num : ∀ a : Fin 100, (gi (BitVec.ofNat 32 a.val)).toNat = a.val := by decide +kernel

theorem labS_forced (n : BitVec 1) (l : BitVec 32) : labS (n.setWidth 32) 1 l = l := by
  unfold labS
  have h : ∀ n : BitVec 1, IntOp.andi (IntOp.cmpi .ne (n.setWidth 32) 0#32) (IntOp.cmpi .eq (1 : BitVec 32) 0#32) = 0#1 := by decide
  rw [h n]
  rfl

theorem labS_low (l : BitVec 32) : labS ((BitVec.ofBool true).setWidth 32) 0 l = 0#32 := by
  unfold labS
  rw [show IntOp.andi (IntOp.cmpi .ne ((BitVec.ofBool true).setWidth 32) 0#32) (IntOp.cmpi .eq (0 : BitVec 32) 0#32) = 1#1 by decide]
  rfl

theorem labS_high (l : BitVec 32) : labS ((BitVec.ofBool false).setWidth 32) 0 l = l := by
  unfold labS
  rw [show IntOp.andi (IntOp.cmpi .ne ((BitVec.ofBool false).setWidth 32) 0#32) (IntOp.cmpi .eq (0 : BitVec 32) 0#32) = 0#1 by decide]
  rfl

theorem cmp_olt (a b : EReal) : Ideal.cmp .olt a b = BitVec.ofBool (decide (a < b)) := by
  rfl

theorem labS_eq (o : EReal) (p : Prop) [Decidable p] (l : BitVec 32) :
    labS ((Ideal.cmp .olt o ((1 / 2 : ℝ) : EReal)).setWidth 32) (if p then 1 else 0) l
      = if p ∨ ((1 / 2 : ℝ) : EReal) ≤ o then l else 0#32 := by
  rw [cmp_olt]
  by_cases hp : p
  · rw [if_pos hp, if_pos (Or.inl hp), labS_forced]
  · rw [if_neg hp]
    by_cases hq : ((1 / 2 : ℝ) : EReal) ≤ o
    · rw [if_pos (Or.inr hq), decide_eq_false (not_lt.2 hq), labS_high]
    · rw [if_neg (by rintro (q | q); exacts [hp q, hq q]), decide_eq_true (not_le.1 hq), labS_low]

/-! ## Encodings -/

theorem inv0 : (Named.named κ "inv_v0" (0x41200000#32 : BitVec (FTy.f32).bits) : Ideal .f32) = ((134217728 / 13421773 : ℝ) : EReal) := by
  rfl

theorem inv1 : (Named.named κ "inv_v1" (0x40A00000#32 : BitVec (FTy.f32).bits) : Ideal .f32) = ((67108864 / 13421773 : ℝ) : EReal) := by
  rfl

theorem encC_eq (a b p w : EReal) : encC (F := Ideal) a b p w
    = Ideal.div (Ideal.div (Ideal.div (a + b) ((2 : ℝ) : EReal) - p) w) ((13421773 / 134217728 : ℝ) : EReal) := by
  rw [div_real _ (13421773 / 134217728) (by norm_num), div_two, ← half_f32, show ((13421773 / 134217728 : ℝ))⁻¹ = 134217728 / 13421773 by norm_num, ← inv0]
  rfl

theorem encS_eq (a b w : EReal) : encS (F := Ideal) a b w
    = Ideal.div (Ideal.log (Ideal.div (b - a) w)) ((13421773 / 67108864 : ℝ) : EReal) := by
  rw [div_real _ (13421773 / 67108864) (by norm_num), show ((13421773 / 67108864 : ℝ))⁻¹ = 67108864 / 13421773 by norm_num, ← inv1]
  rfl

/-! ## The arguments -/

variable (m : (ℓ : Loc nD τ sig) → Buf (Elt Ideal) ℓ) (d : Dev nD)

/-- The anchors. -/
def A0 : Vec Ideal S20000x4 .f32 := m (d, Proc.devRef .tc main_arg0)
/-- The images' boxes. -/
def A1 : Vec Ideal S8x100x4 .f32 := m (d, Proc.devRef .tc main_arg1)
/-- The boxes' labels. -/
def A2 : IVec S8x100 32 := m (d, Proc.devRef .tc main_arg2)

/-- The overlap of a box of an image with a prior. -/
def kb (b : Fin 8) (t : Fin 100) (n : Fin 20000) : EReal :=
  iou (A0 m d (ix2 n 0)) (A0 m d (ix2 n 1)) (A0 m d (ix2 n 2)) (A0 m d (ix2 n 3))
    (A1 m d (ix3 b t 0)) (A1 m d (ix3 b t 1)) (A1 m d (ix3 b t 2)) (A1 m d (ix3 b t 3))
/-- A prior's best box. -/
def kT (b : Fin 8) (n : Fin 20000) : Fin 100 := Arg.first fun t => kb m d b t n
/-- A box's best prior. -/
def kN (b : Fin 8) (t : Fin 100) : Fin 20000 := Arg.first fun n => kb m d b t n
/-- A prior's match. -/
def kM (b : Fin 8) (n : Fin 20000) : Fin 100 := pick (kN m d b) n (kT m d b n)

theorem V1_v0 (k : Fin 4) (p : Fin 20000) : V1 m d (Proc.devRef .tc main_v0) (ix2 k p) = A0 m d (ix2 p k) :=
  h_v0 (V0 m d) k p

theorem V1_arg1 : V1 m d (Proc.devRef .tc main_arg1) = A1 m d :=
  StableHlo.after_of_writes_sub _ _ writesA (by decide)

theorem V1_arg2 : V1 m d (Proc.devRef .tc main_arg2) = A2 m d :=
  StableHlo.after_of_writes_sub _ _ writesA (by decide)

theorem V2_v0 (k : Fin 4) (p : Fin 20000) : V2 m d (Proc.devRef .tc main_v0) (ix2 k p) = A0 m d (ix2 p k) := by
  rw [V2_ne m d main_v0 (by decide) (by decide) (by decide)]
  exact V1_v0 m d k p

theorem V2_arg1 : V2 m d (Proc.devRef .tc main_arg1) = A1 m d := by
  rw [V2_ne m d main_arg1 (by decide) (by decide) (by decide)]
  exact V1_arg1 m d

theorem V2_arg2 : V2 m d (Proc.devRef .tc main_arg2) = A2 m d := by
  rw [V2_ne m d main_arg2 (by decide) (by decide) (by decide)]
  exact V1_arg2 m d

theorem kov_eq (b : Fin 8) (t : Fin 100) (n : Fin 20000) :
    Tcv.kov (stgP (V1 m) d (pnt b)) (stgG (V1 m) d (pnt b)) t n = kb m d b t n := by
  unfold Tcv.kov kb
  rw [stgP_at, stgP_at, stgP_at, stgP_at, stgG_at, stgG_at, stgG_at, stgG_at, V1_v0, V1_v0, V1_v0, V1_v0, V1_arg1]

/-! ## What the call is handed -/

theorem X_mt_at (b : Fin 8) (n : Fin 20000) (h : b.val * 20000 + n.val < 160000) :
    (XX m d).mt (at1 (b.val * 20000 + n.val) h) = V2 m d (Proc.devRef .tc main_v1_0) (ix3 b 0 n) := by
  unfold XX V3
  generalize V2 m d = V
  exact h_v6 V b n h

theorem X_ng_at (b : Fin 8) (n : Fin 20000) (h : b.val * 20000 + n.val < 160000) :
    (XX m d).ng (at1 (b.val * 20000 + n.val) h) = V2 m d (Proc.devRef .tc main_v1_1) (ix3 b 0 n) := by
  unfold XX V3
  generalize V2 m d = V
  exact h_v7 V b n h

theorem X_mt (b : Fin 8) (n : Fin 20000) : rdv (XX m d).mt (b.val * 20000 + n.val) = BitVec.ofNat 32 (kT m d b n).val := by
  have hb := b.isLt
  have hn := n.isLt
  rw [rdv_lt _ _ (show b.val * 20000 + n.val < 160000 by omega)]
  refine (X_mt_at m d b n _).trans ?_
  rw [V2_0, arr2_at]
  refine (Tcv.mtB_at (stgP (V1 m) d (pnt b)) (stgG (V1 m) d (pnt b)) n).trans ?_
  unfold kT
  exact congrArg (fun f : Fin 100 → EReal => BitVec.ofNat 32 (Arg.first f).val) (funext fun t => kov_eq m d b t n)

theorem kov_best (b : Fin 8) (n : Fin 20000) :
    Tcv.kov (stgP (V1 m) d (pnt b)) (stgG (V1 m) d (pnt b)) (Arg.first fun t => Tcv.kov (stgP (V1 m) d (pnt b)) (stgG (V1 m) d (pnt b)) t n) n
      = kb m d b (kT m d b n) n := by
  have e : (fun t => Tcv.kov (stgP (V1 m) d (pnt b)) (stgG (V1 m) d (pnt b)) t n) = fun t => kb m d b t n := funext fun t => kov_eq m d b t n
  rw [kov_eq, e]
  rfl

theorem ngB_best (b : Fin 8) (n : Fin 20000) : ngB (stgP (V1 m) d (pnt b)) (stgG (V1 m) d (pnt b)) (ix3 0 0 n)
    = (Ideal.cmp .olt (kb m d b (kT m d b n) n) ((1 / 2 : ℝ) : EReal)).setWidth 32 := by
  rw [Tcv.ngB_at, kov_best]

theorem X_ng (b : Fin 8) (n : Fin 20000) :
    rdv (XX m d).ng (b.val * 20000 + n.val) = (Ideal.cmp .olt (kb m d b (kT m d b n) n) ((1 / 2 : ℝ) : EReal)).setWidth 32 := by
  have hb := b.isLt
  have hn := n.isLt
  have h : b.val * 20000 + n.val < 160000 := by omega
  rw [rdv_lt _ _ h, X_ng_at m d b n h, V2_1, arr3_at, ngB_best]
theorem X_bp (b : Fin 8) (t : Fin 100) : bpG (XX m d) b.val t.val = BitVec.ofNat 32 (kN m d b t).val := by
  have hb := b.isLt
  have ht := t.isLt
  unfold bpG
  rw [rdv_lt _ _ (show b.val * 112 + t.val < 896 by omega)]
  refine (h_v8 (V2 m d) b ⟨t.val, by omega⟩ _).trans ?_
  rw [V2_2, arr4]
  refine (Tcv.bpB_at (stgP (V1 m) d (pnt b)) (stgG (V1 m) d (pnt b)) ⟨t.val, by omega⟩).trans ?_
  rw [dif_pos ht]
  unfold kN
  exact congrArg (fun f : Fin 20000 → EReal => BitVec.ofNat 32 (Arg.first f).val) (funext fun n => kov_eq m d b t n)

theorem X_lab (b : Fin 8) (t : Fin 100) : rdv (XX m d).lab (b.val * 112 + t.val) = A2 m d (ix2 b t) := by
  have hb := b.isLt
  have ht := t.isLt
  rw [rdv_lt _ _ (show b.val * 112 + t.val < 896 by omega)]
  refine (h_v17 (V2 m d) b t _).trans ?_
  rw [V2_arg2]

theorem X_x1 (b : Fin 8) (t : Fin 100) : rdv (α := EReal) (XX m d).x1 (b.val * 112 + t.val) = A1 m d (ix3 b t 0) := by
  have hb := b.isLt
  have ht := t.isLt
  rw [rdv_lt _ _ (show b.val * 112 + t.val < 896 by omega)]
  refine (h_v10 (V2 m d) b t _).trans ?_
  rw [V2_arg1]

theorem X_y1 (b : Fin 8) (t : Fin 100) : rdv (α := EReal) (XX m d).y1 (b.val * 112 + t.val) = A1 m d (ix3 b t 1) := by
  have hb := b.isLt
  have ht := t.isLt
  rw [rdv_lt _ _ (show b.val * 112 + t.val < 896 by omega)]
  refine (h_v12 (V2 m d) b t _).trans ?_
  rw [V2_arg1]

theorem X_x2 (b : Fin 8) (t : Fin 100) : rdv (α := EReal) (XX m d).x2 (b.val * 112 + t.val) = A1 m d (ix3 b t 2) := by
  have hb := b.isLt
  have ht := t.isLt
  rw [rdv_lt _ _ (show b.val * 112 + t.val < 896 by omega)]
  refine (h_v14 (V2 m d) b t _).trans ?_
  rw [V2_arg1]

theorem X_y2 (b : Fin 8) (t : Fin 100) : rdv (α := EReal) (XX m d).y2 (b.val * 112 + t.val) = A1 m d (ix3 b t 3) := by
  have hb := b.isLt
  have ht := t.isLt
  rw [rdv_lt _ _ (show b.val * 112 + t.val < 896 by omega)]
  refine (h_v16 (V2 m d) b t _).trans ?_
  rw [V2_arg1]

theorem X_px (n : Fin 20000) : rdv (α := EReal) (XX m d).px n.val = A0 m d (ix2 n 0) := by
  rw [rdv_lt _ _ n.isLt]
  exact (h_v19 (V2 m d) n).trans (V2_v0 m d 0 n)

theorem X_py (n : Fin 20000) : rdv (α := EReal) (XX m d).py n.val = A0 m d (ix2 n 1) := by
  rw [rdv_lt _ _ n.isLt]
  exact (h_v21 (V2 m d) n).trans (V2_v0 m d 1 n)

theorem X_pw (n : Fin 20000) : rdv (α := EReal) (XX m d).pw n.val = A0 m d (ix2 n 2) := by
  rw [rdv_lt _ _ n.isLt]
  exact (h_v23 (V2 m d) n).trans (V2_v0 m d 2 n)

theorem X_ph (n : Fin 20000) : rdv (α := EReal) (XX m d).ph n.val = A0 m d (ix2 n 3) := by
  rw [rdv_lt _ _ n.isLt]
  exact (h_v25 (V2 m d) n).trans (V2_v0 m d 3 n)

theorem X_mtG (b : Fin 8) (n : Fin 20000) : mtG (XX m d) b.val n.val = BitVec.ofNat 32 (kM m d b n).val := by
  unfold mtG
  rw [X_mt]
  exact mtR_pick _ (kN m d b) (X_bp m d b) (kT m d b n) n

theorem X_gG (b : Fin 8) (n : Fin 20000) : gG (XX m d) b.val n.val = b.val * 112 + (kM m d b n).val := by
  unfold gG
  rw [X_mtG, gi_num]

/-! ## The two results -/

theorem lab_eq (b : Fin 8) (n : Fin 20000) : V5 m d (Proc.devRef .tc main_v28) (ix2 b n)
    = if (Finset.univ.filter fun t => kN m d b t = n).Nonempty ∨ ((1 / 2 : ℝ) : EReal) ≤ kb m d b (kT m d b n) n then A2 m d (ix2 b (kM m d b n)) else 0#32 := by
  have hb := b.isLt
  have hn := n.isLt
  refine (h_v28 (V4 m d) b n (by omega)).trans ?_
  rw [V4_1]
  have e : LAB (XX m d) (at1 (b.val * 20000 + n.val) (by omega)) = labG (XX m d) b.val n.val := by
    show labG (XX m d) ((b.val * 20000 + n.val) / 20000) ((b.val * 20000 + n.val) % 20000) = _
    rw [show (b.val * 20000 + n.val) / 20000 = b.val by omega, show (b.val * 20000 + n.val) % 20000 = n.val by omega]
  refine e.trans ?_
  unfold labG
  rw [X_gG, X_lab, X_ng, frc_pick _ (kN m d b) (X_bp m d b) n]
  exact labS_eq _ _ _

theorem loc_eq (b : Fin 8) (n : Fin 20000) (k : Fin 4) : V5 m d (Proc.devRef .tc main_v27) (ix3 b n k)
    = encAt (F := Ideal) k.val (A1 m d (ix3 b (kM m d b n) 0)) (A1 m d (ix3 b (kM m d b n) 1)) (A1 m d (ix3 b (kM m d b n) 2)) (A1 m d (ix3 b (kM m d b n) 3))
      (A0 m d (ix2 n 0)) (A0 m d (ix2 n 1)) (A0 m d (ix2 n 2)) (A0 m d (ix2 n 3)) := by
  have hb := b.isLt
  have hn := n.isLt
  have hk := k.isLt
  refine (h_v27 (V4 m d) b n k (by omega)).trans ?_
  rw [V4_0]
  have e : LOC (XX m d) (at1 (b.val * 80000 + n.val * 4 + k.val) (by omega)) = locG (XX m d) b.val n.val k.val := by
    show locG (XX m d) ((b.val * 80000 + n.val * 4 + k.val) / 80000) ((b.val * 80000 + n.val * 4 + k.val) % 80000 / 4) ((b.val * 80000 + n.val * 4 + k.val) % 4) = _
    rw [show (b.val * 80000 + n.val * 4 + k.val) / 80000 = b.val by omega, show (b.val * 80000 + n.val * 4 + k.val) % 80000 / 4 = n.val by omega,
      show (b.val * 80000 + n.val * 4 + k.val) % 4 = k.val by omega]
  refine e.trans ?_
  unfold locG
  rw [X_gG]
  exact congr (congr (congr (congr (congr (congr (congr (congrArg (encAt (F := Ideal) k.val) (X_x1 m d b _)) (X_y1 m d b _)) (X_x2 m d b _)) (X_y2 m d b _))
    (X_px m d n)) (X_py m d n)) (X_pw m d n)) (X_ph m d n)

end Cert.Proof
-- ==== Proof.RefOnce.lean ====
/-
  The reference's values, one operation at a time: each buffer's final contents as a function of the arguments.
-/
module

public import proofs.«01_k».proof.Proof.Ref

@[expose] public section

set_option maxRecDepth 16384

noncomputable section

namespace Cert.Proof.Ref

open Cert.ReferenceIdeal Cert.ReferenceIdeal.Gen

open Idealize.ShloMosaic
open Idealize.ShloMosaic.TcCoe
open Idealize.SL.Sem

variable {F : FTy → Type} [FloatOps F]

/-- The contents once every operation has run. -/
abbrev fin (V : Valuation τ sig (Elt F)) (r : Ref sig .tc) : r.ty.Contents (Elt F) := StableHlo.after ops V (Proc.devRef .tc r)

section Once

variable (V : Valuation τ sig (Elt F)) (k : ℕ)

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => rw [List.cons_append, StableHlo.after_cons, StableHlo.after_cons, ih]

theorem writes_drop : ((ops (F := F)).drop k).map HloOp.writes = (wl.drop k).map fun r => {Proc.devRef (τ := τ) .tc r} := by
  rw [List.map_drop, ops_writes, ← List.map_drop]

/-- A buffer no operation from the `k`-th on writes: its contents before that one are the final ones. -/
theorem before_eq (a : Ref sig .tc) (h : a ∉ wl.drop k) :
    StableHlo.after (ops.take k) V (Proc.devRef .tc a) = fin V a := by
  unfold fin
  conv_rhs => rw [← List.take_append_drop k (ops (F := F)), after_append]
  exact (StableHlo.after_of_writes_sub _ _ (StableHlo.forall_writes_sub_of_map (writes_drop k)) h).symm

/-- The final contents of what the `k`-th operation writes. -/
theorem at_op (op : HloOp τ sig (Elt F)) (hk : ops[k]? = some op) (y : Ref sig .tc) (h : y ∉ wl.drop (k + 1)) :
    fin V y = op.result (StableHlo.after (ops.take k) V) (Proc.devRef .tc y) := by
  rw [← before_eq V (k + 1) y h]
  have : (ops (F := F)).take (k + 1) = ops.take k ++ [op] := by
    rw [List.take_add_one, hk]; rfl
  rw [this, after_append]
  rfl

theorem once0 (y : Ref sig .tc) (f : y.ty.Contents (Elt F)) {hy : y.space ≠ .host ∧ (y : DevRef τ sig).isScoped = false}
    (hk : (ops (F := F))[k]? = some (StableHlo.nullary  y f hy)) (ny : y ∉ wl.drop (k + 1) := by decide +kernel) :
    fin V y = f  := by
  rw [at_op V k _ hk y ny]
  exact StableHlo.nullary_result  y f hy _

theorem once1 (a : Ref sig .tc) (y : Ref sig .tc) (f : a.ty.Contents (Elt F) → y.ty.Contents (Elt F)) {ha : a.space ≠ .host ∧ (a : DevRef τ sig).isScoped = false} {hy : y.space ≠ .host ∧ (y : DevRef τ sig).isScoped = false}
    (hk : (ops (F := F))[k]? = some (StableHlo.unary a y f ha hy)) (ny : y ∉ wl.drop (k + 1) := by decide +kernel) (na : a ∉ wl.drop k := by decide +kernel) :
    fin V y = f (fin V a) := by
  rw [at_op V k _ hk y ny, ← before_eq V k a na]
  exact StableHlo.unary_result a y f ha hy _

theorem once2 (a : Ref sig .tc) (b : Ref sig .tc) (y : Ref sig .tc) (f : a.ty.Contents (Elt F) → b.ty.Contents (Elt F) → y.ty.Contents (Elt F)) {ha : a.space ≠ .host ∧ (a : DevRef τ sig).isScoped = false} {hb : b.space ≠ .host ∧ (b : DevRef τ sig).isScoped = false} {hy : y.space ≠ .host ∧ (y : DevRef τ sig).isScoped = false}
    (hk : (ops (F := F))[k]? = some (StableHlo.binary a b y f ha hb hy)) (ny : y ∉ wl.drop (k + 1) := by decide +kernel) (na : a ∉ wl.drop k := by decide +kernel) (nb : b ∉ wl.drop k := by decide +kernel) :
    fin V y = f (fin V a) (fin V b) := by
  rw [at_op V k _ hk y ny, ← before_eq V k a na, ← before_eq V k b nb]
  exact StableHlo.binary_result a b y f ha hb hy _

theorem once3 (c : Ref sig .tc) (a : Ref sig .tc) (b : Ref sig .tc) (y : Ref sig .tc) (f : c.ty.Contents (Elt F) → a.ty.Contents (Elt F) → b.ty.Contents (Elt F) → y.ty.Contents (Elt F)) {hc : c.space ≠ .host ∧ (c : DevRef τ sig).isScoped = false} {ha : a.space ≠ .host ∧ (a : DevRef τ sig).isScoped = false} {hb : b.space ≠ .host ∧ (b : DevRef τ sig).isScoped = false} {hy : y.space ≠ .host ∧ (y : DevRef τ sig).isScoped = false}
    (hk : (ops (F := F))[k]? = some (StableHlo.ternary c a b y f hc ha hb hy)) (ny : y ∉ wl.drop (k + 1) := by decide +kernel) (nc : c ∉ wl.drop k := by decide +kernel) (na : a ∉ wl.drop k := by decide +kernel) (nb : b ∉ wl.drop k := by decide +kernel) :
    fin V y = f (fin V c) (fin V a) (fin V b) := by
  rw [at_op V k _ hk y ny, ← before_eq V k c nc, ← before_eq V k a na, ← before_eq V k b nb]
  exact StableHlo.ternary_result c a b y f hc ha hb hy _

theorem once4 (a : Ref sig .tc) (b : Ref sig .tc) (c : Ref sig .tc) (e : Ref sig .tc) (y : Ref sig .tc) (f : a.ty.Contents (Elt F) → b.ty.Contents (Elt F) → c.ty.Contents (Elt F) → e.ty.Contents (Elt F) → y.ty.Contents (Elt F)) {ha : a.space ≠ .host ∧ (a : DevRef τ sig).isScoped = false} {hb : b.space ≠ .host ∧ (b : DevRef τ sig).isScoped = false} {hc : c.space ≠ .host ∧ (c : DevRef τ sig).isScoped = false} {he : e.space ≠ .host ∧ (e : DevRef τ sig).isScoped = false} {hy : y.space ≠ .host ∧ (y : DevRef τ sig).isScoped = false}
    (hk : (ops (F := F))[k]? = some (StableHlo.quaternary a b c e y f ha hb hc he hy)) (ny : y ∉ wl.drop (k + 1) := by decide +kernel) (na : a ∉ wl.drop k := by decide +kernel) (nb : b ∉ wl.drop k := by decide +kernel) (nc : c ∉ wl.drop k := by decide +kernel) (ne : e ∉ wl.drop k := by decide +kernel) :
    fin V y = f (fin V a) (fin V b) (fin V c) (fin V e) := by
  rw [at_op V k _ hk y ny, ← before_eq V k a na, ← before_eq V k b nb, ← before_eq V k c nc, ← before_eq V k e ne]
  exact StableHlo.quaternary_result a b c e y f ha hb hc he hy _

theorem onceR (a y : Ref sig .tc) (he : a.ty.elt = y.ty.elt) (hn : a.ty.shape.ShapeCasts y.ty.shape)
    {ha : a.space ≠ .host ∧ (a : DevRef τ sig).isScoped = false} {hy : y.space ≠ .host ∧ (y : DevRef τ sig).isScoped = false}
    (hk : (ops (F := F))[k]? = some (StableHlo.reshape a y he hn ha hy)) (ny : y ∉ wl.drop (k + 1) := by decide +kernel) (na : a ∉ wl.drop k := by decide +kernel) :
    fin V y = fun i => he ▸ shapeCast y.ty.shape (fin V a) hn i := by
  rw [at_op V k _ hk y ny, ← before_eq V k a na]
  exact StableHlo.reshape_result a y he hn ha hy _

end Once

/-- The reference's three arguments. -/
structure RIn (F : FTy → Type) where
  P : FVec F S20000x4 .f32
  G : FVec F S8x100x4 .f32
  L : IVec S8x100 32

variable (I : RIn F)

/-! ## The values -/

def t_v0 : IVec S8 32 := iotaInDim S8 32 0
def t_v1 : IVec S8x1 32 := broadcastInDim S8x1 ![0] bcast_S8_S8x1_0 t_v0
def t_v2 : FVec F S20000x2 .f32 := extractStridedSlice S20000x2 ![0, 0] I.P slices_S20000x4_S20000x2_0_0
def t_v3 : FVec F S20000x2 .f32 := extractStridedSlice S20000x2 ![0, 2] I.P slices_S20000x4_S20000x2_0_2
def t_cst : FVec F S_ .f32 := constant S_ .f32 0x40000000#32
def t_v4 : FVec F S20000x2 .f32 := broadcastInDim S20000x2 ![] bcast_S_S20000x2 (t_cst (F := F))
def t_v5 : FVec F S20000x2 .f32 := Host.divf (t_v3 I) (t_v4 (F := F))
def t_v6 : FVec F S20000x2 .f32 := subf (t_v2 I) (t_v5 I)
def t_v7 : FVec F S20000x2 .f32 := extractStridedSlice S20000x2 ![0, 0] I.P slices_S20000x4_S20000x2_0_0
def t_v8 : FVec F S20000x2 .f32 := extractStridedSlice S20000x2 ![0, 2] I.P slices_S20000x4_S20000x2_0_2
def t_cst_0 : FVec F S_ .f32 := constant S_ .f32 0x40000000#32
def t_v9 : FVec F S20000x2 .f32 := broadcastInDim S20000x2 ![] bcast_S_S20000x2 (t_cst_0 (F := F))
def t_v10 : FVec F S20000x2 .f32 := Host.divf (t_v8 I) (t_v9 (F := F))
def t_v11 : FVec F S20000x2 .f32 := addf (t_v7 I) (t_v10 I)
def t_v12 : FVec F S20000x4 .f32 := concatenate S20000x4 1 [⟨S20000x2, (t_v6 I)⟩, ⟨S20000x2, (t_v11 I)⟩] concatenates_S20000x2_S20000x2_S20000x4_d1
def t_v13 : FVec F S8x100x2 .f32 := extractStridedSlice S8x100x2 ![0, 0, 0] I.G slices_S8x100x4_S8x100x2_0_0_0
def t_v14 : FVec F S8x100x1x2 .f32 := broadcastInDim S8x100x1x2 ![0, 1, 3] bcast_S8x100x2_S8x100x1x2_0_1_3 (t_v13 I)
def t_v15 : FVec F S20000x2 .f32 := extractStridedSlice S20000x2 ![0, 0] (t_v12 I) slices_S20000x4_S20000x2_0_0
def t_v16 : FVec F S1x20000x2 .f32 := broadcastInDim S1x20000x2 ![1, 2] bcast_S20000x2_S1x20000x2_1_2 (t_v15 I)
def t_v17 : FVec F S1x1x20000x2 .f32 := broadcastInDim S1x1x20000x2 ![1, 2, 3] bcast_S1x20000x2_S1x1x20000x2_1_2_3 (t_v16 I)
def t_v18 : FVec F S8x100x20000x2 .f32 := broadcastInDim S8x100x20000x2 ![0, 1, 2, 3] bcast_S8x100x1x2_S8x100x20000x2_0_1_2_3 (t_v14 I)
def t_v19 : FVec F S8x100x20000x2 .f32 := broadcastInDim S8x100x20000x2 ![0, 1, 2, 3] bcast_S1x1x20000x2_S8x100x20000x2_0_1_2_3 (t_v17 I)
def t_v20 : FVec F S8x100x20000x2 .f32 := maximumf (t_v18 I) (t_v19 I)
def t_v21 : FVec F S8x100x2 .f32 := extractStridedSlice S8x100x2 ![0, 0, 2] I.G slices_S8x100x4_S8x100x2_0_0_2
def t_v22 : FVec F S8x100x1x2 .f32 := broadcastInDim S8x100x1x2 ![0, 1, 3] bcast_S8x100x2_S8x100x1x2_0_1_3 (t_v21 I)
def t_v23 : FVec F S20000x2 .f32 := extractStridedSlice S20000x2 ![0, 2] (t_v12 I) slices_S20000x4_S20000x2_0_2
def t_v24 : FVec F S1x20000x2 .f32 := broadcastInDim S1x20000x2 ![1, 2] bcast_S20000x2_S1x20000x2_1_2 (t_v23 I)
def t_v25 : FVec F S1x1x20000x2 .f32 := broadcastInDim S1x1x20000x2 ![1, 2, 3] bcast_S1x20000x2_S1x1x20000x2_1_2_3 (t_v24 I)
def t_v26 : FVec F S8x100x20000x2 .f32 := broadcastInDim S8x100x20000x2 ![0, 1, 2, 3] bcast_S8x100x1x2_S8x100x20000x2_0_1_2_3 (t_v22 I)
def t_v27 : FVec F S8x100x20000x2 .f32 := broadcastInDim S8x100x20000x2 ![0, 1, 2, 3] bcast_S1x1x20000x2_S8x100x20000x2_0_1_2_3 (t_v25 I)
def t_v28 : FVec F S8x100x20000x2 .f32 := minimumf (t_v26 I) (t_v27 I)
def t_v29 : FVec F S8x100x20000x2 .f32 := subf (t_v28 I) (t_v20 I)
def t_cst_1 : FVec F S_ .f32 := constant S_ .f32 0x00000000#32
def t_v30 : FVec F S8x100x20000x2 .f32 := broadcastInDim S8x100x20000x2 ![] bcast_S_S8x100x20000x2 (t_cst_1 (F := F))
def t_v31 : FVec F S8x100x20000x2 .f32 := maximumf (t_v29 I) (t_v30 (F := F))
def t_v32 : FVec F S8x100x20000x1 .f32 := extractStridedSlice S8x100x20000x1 ![0, 0, 0, 0] (t_v31 I) slices_S8x100x20000x2_S8x100x20000x1_0_0_0_0
def t_v33 : FVec F S8x100x20000 .f32 := shapeCast S8x100x20000 (t_v32 I) shapeCasts_S8x100x20000x1_S8x100x20000
def t_v34 : FVec F S8x100x20000x1 .f32 := extractStridedSlice S8x100x20000x1 ![0, 0, 0, 1] (t_v31 I) slices_S8x100x20000x2_S8x100x20000x1_0_0_0_1
def t_v35 : FVec F S8x100x20000 .f32 := shapeCast S8x100x20000 (t_v34 I) shapeCasts_S8x100x20000x1_S8x100x20000
def t_v36 : FVec F S8x100x20000 .f32 := mulf (t_v33 I) (t_v35 I)
def t_v37 : FVec F S8x100x1 .f32 := extractStridedSlice S8x100x1 ![0, 0, 2] I.G slices_S8x100x4_S8x100x1_0_0_2
def t_v38 : FVec F S8x100 .f32 := shapeCast S8x100 (t_v37 I) shapeCasts_S8x100x1_S8x100
def t_v39 : FVec F S8x100x1 .f32 := extractStridedSlice S8x100x1 ![0, 0, 0] I.G slices_S8x100x4_S8x100x1_0_0_0
def t_v40 : FVec F S8x100 .f32 := shapeCast S8x100 (t_v39 I) shapeCasts_S8x100x1_S8x100
def t_v41 : FVec F S8x100 .f32 := subf (t_v38 I) (t_v40 I)
def t_v42 : FVec F S8x100x1 .f32 := extractStridedSlice S8x100x1 ![0, 0, 3] I.G slices_S8x100x4_S8x100x1_0_0_3
def t_v43 : FVec F S8x100 .f32 := shapeCast S8x100 (t_v42 I) shapeCasts_S8x100x1_S8x100
def t_v44 : FVec F S8x100x1 .f32 := extractStridedSlice S8x100x1 ![0, 0, 1] I.G slices_S8x100x4_S8x100x1_0_0_1
def t_v45 : FVec F S8x100 .f32 := shapeCast S8x100 (t_v44 I) shapeCasts_S8x100x1_S8x100
def t_v46 : FVec F S8x100 .f32 := subf (t_v43 I) (t_v45 I)
def t_v47 : FVec F S8x100 .f32 := mulf (t_v41 I) (t_v46 I)
def t_v48 : FVec F S20000x1 .f32 := extractStridedSlice S20000x1 ![0, 2] (t_v12 I) slices_S20000x4_S20000x1_0_2
def t_v49 : FVec F S20000 .f32 := shapeCast S20000 (t_v48 I) shapeCasts_S20000x1_S20000
def t_v50 : FVec F S20000x1 .f32 := extractStridedSlice S20000x1 ![0, 0] (t_v12 I) slices_S20000x4_S20000x1_0_0
def t_v51 : FVec F S20000 .f32 := shapeCast S20000 (t_v50 I) shapeCasts_S20000x1_S20000
def t_v52 : FVec F S20000 .f32 := subf (t_v49 I) (t_v51 I)
def t_v53 : FVec F S20000x1 .f32 := extractStridedSlice S20000x1 ![0, 3] (t_v12 I) slices_S20000x4_S20000x1_0_3
def t_v54 : FVec F S20000 .f32 := shapeCast S20000 (t_v53 I) shapeCasts_S20000x1_S20000
def t_v55 : FVec F S20000x1 .f32 := extractStridedSlice S20000x1 ![0, 1] (t_v12 I) slices_S20000x4_S20000x1_0_1
def t_v56 : FVec F S20000 .f32 := shapeCast S20000 (t_v55 I) shapeCasts_S20000x1_S20000
def t_v57 : FVec F S20000 .f32 := subf (t_v54 I) (t_v56 I)
def t_v58 : FVec F S20000 .f32 := mulf (t_v52 I) (t_v57 I)
def t_v59 : FVec F S8x100x1 .f32 := broadcastInDim S8x100x1 ![0, 1] bcast_S8x100_S8x100x1_0_1 (t_v47 I)
def t_v60 : FVec F S1x20000 .f32 := broadcastInDim S1x20000 ![1] bcast_S20000_S1x20000_1 (t_v58 I)
def t_v61 : FVec F S1x1x20000 .f32 := broadcastInDim S1x1x20000 ![1, 2] bcast_S1x20000_S1x1x20000_1_2 (t_v60 I)
def t_v62 : FVec F S8x100x20000 .f32 := broadcastInDim S8x100x20000 ![0, 1, 2] bcast_S8x100x1_S8x100x20000_0_1_2 (t_v59 I)
def t_v63 : FVec F S8x100x20000 .f32 := broadcastInDim S8x100x20000 ![0, 1, 2] bcast_S1x1x20000_S8x100x20000_0_1_2 (t_v61 I)
def t_v64 : FVec F S8x100x20000 .f32 := addf (t_v62 I) (t_v63 I)
def t_v65 : FVec F S8x100x20000 .f32 := subf (t_v64 I) (t_v36 I)
def t_v66 : FVec F S8x100x20000 .f32 := Host.divf (t_v36 I) (t_v65 I)
def t_cst_2 : FVec F S_ .f32 := constant S_ .f32 0xFF800000#32
def t_v67 : FVec F S8x20000 .f32 := Host.reduce FloatOps.maximumf (t_v66 I) (t_cst_2 (F := F)) reducesTo_S8x100x20000_S8x20000_d1 h_S_
def t_call0_v0 : IVec S8x100x20000 32 := iotaInDim S8x100x20000 32 1
def t_call0_cst : FVec F S_ .f32 := constant S_ .f32 0xFF800000#32
def t_call0_c : IVec S_ 32 := constantI S_ 32 0#32
def t_call0_v1_0 : FVec F S8x20000 .f32 := fun j => (Host.argReduce reducer_argmax_f32_i32 (t_v66 I) t_call0_v0 (t_call0_cst (F := F)) t_call0_c reducesTo_S8x100x20000_S8x20000_d1 h_S_ j).1
def t_v68 : IVec S8x20000 32 := fun j => (Host.argReduce reducer_argmax_f32_i32 (t_v66 I) t_call0_v0 (t_call0_cst (F := F)) t_call0_c reducesTo_S8x100x20000_S8x20000_d1 h_S_ j).2
def t_call1_v0 : IVec S8x100x20000 32 := iotaInDim S8x100x20000 32 2
def t_call1_cst : FVec F S_ .f32 := constant S_ .f32 0xFF800000#32
def t_call1_c : IVec S_ 32 := constantI S_ 32 0#32
def t_call1_v1_0 : FVec F S8x100 .f32 := fun j => (Host.argReduce reducer_argmax_f32_i32 (t_v66 I) t_call1_v0 (t_call1_cst (F := F)) t_call1_c reducesTo_S8x100x20000_S8x100_d2 h_S_ j).1
def t_v69 : IVec S8x100 32 := fun j => (Host.argReduce reducer_argmax_f32_i32 (t_v66 I) t_call1_v0 (t_call1_cst (F := F)) t_call1_c reducesTo_S8x100x20000_S8x100_d2 h_S_ j).2
def t_v70 : IVec S100 32 := iotaInDim S100 32 0
def t_v71 : IVec S8x100 32 := broadcastInDim S8x100 ![1] bcast_S100_S8x100_1 t_v70
def t_c : IVec S_ 32 := constantI S_ 32 0#32
def t_v72 : IVec S8x1 32 := broadcastInDim S8x1 ![] bcast_S_S8x1 t_c
def t_v73 : IVec S8x1 1 := cmpi .slt t_v1 t_v72
def t_c_3 : IVec S_ 32 := constantI S_ 32 8#32
def t_v74 : IVec S8x1 32 := broadcastInDim S8x1 ![] bcast_S_S8x1 t_c_3
def t_v75 : IVec S8x1 32 := addi t_v1 t_v74
def t_v76 : IVec S8x1 32 := select t_v73 t_v75 t_v1
def t_c_4 : IVec S_ 32 := constantI S_ 32 0#32
def t_v77 : IVec S8x100 32 := broadcastInDim S8x100 ![] bcast_S_S8x100 t_c_4
def t_v78 : IVec S8x100 1 := cmpi .slt (t_v69 I) t_v77
def t_c_5 : IVec S_ 32 := constantI S_ 32 20000#32
def t_v79 : IVec S8x100 32 := broadcastInDim S8x100 ![] bcast_S_S8x100 t_c_5
def t_v80 : IVec S8x100 32 := addi (t_v69 I) t_v79
def t_v81 : IVec S8x100 32 := select (t_v78 I) (t_v80 I) (t_v69 I)
def t_v82 : IVec S8x100 32 := broadcastInDim S8x100 ![0, 1] bcast_S8x1_S8x100_0_1 t_v76
def t_v83 : IVec S8x100x1 32 := broadcastInDim S8x100x1 ![0, 1] bcast_S8x100_S8x100x1_0_1 t_v82
def t_v84 : IVec S8x100x1 32 := broadcastInDim S8x100x1 ![0, 1] bcast_S8x100_S8x100x1_0_1 (t_v81 I)
def t_v85 : IVec S8x100x2 32 := concatenate S8x100x2 2 [⟨S8x100x1, t_v83⟩, ⟨S8x100x1, (t_v84 I)⟩] concatenates_S8x100x1_S8x100x1_S8x100x2_d2
def t_v86 : IVec S8x20000 32 := Host.scatter scatter_S8x20000_S8x100x2_S8x100_n_01_01_2 (fun _ b => b) (t_v68 I) (t_v85 I) t_v71
def t_c_6 : IVec S_ 32 := constantI S_ 32 0#32
def t_v87 : IVec S8x1 32 := broadcastInDim S8x1 ![] bcast_S_S8x1 t_c_6
def t_v88 : IVec S8x1 1 := cmpi .slt t_v1 t_v87
def t_c_7 : IVec S_ 32 := constantI S_ 32 8#32
def t_v89 : IVec S8x1 32 := broadcastInDim S8x1 ![] bcast_S_S8x1 t_c_7
def t_v90 : IVec S8x1 32 := addi t_v1 t_v89
def t_v91 : IVec S8x1 32 := select t_v88 t_v90 t_v1
def t_c_8 : IVec S_ 32 := constantI S_ 32 0#32
def t_v92 : IVec S8x100 32 := broadcastInDim S8x100 ![] bcast_S_S8x100 t_c_8
def t_v93 : IVec S8x100 1 := cmpi .slt (t_v69 I) t_v92
def t_c_9 : IVec S_ 32 := constantI S_ 32 20000#32
def t_v94 : IVec S8x100 32 := broadcastInDim S8x100 ![] bcast_S_S8x100 t_c_9
def t_v95 : IVec S8x100 32 := addi (t_v69 I) t_v94
def t_v96 : IVec S8x100 32 := select (t_v93 I) (t_v95 I) (t_v69 I)
def t_v97 : IVec S8x100 32 := broadcastInDim S8x100 ![0, 1] bcast_S8x1_S8x100_0_1 t_v91
def t_v98 : IVec S8x100x1 32 := broadcastInDim S8x100x1 ![0, 1] bcast_S8x100_S8x100x1_0_1 t_v97
def t_v99 : IVec S8x100x1 32 := broadcastInDim S8x100x1 ![0, 1] bcast_S8x100_S8x100x1_0_1 (t_v96 I)
def t_v100 : IVec S8x100x2 32 := concatenate S8x100x2 2 [⟨S8x100x1, t_v98⟩, ⟨S8x100x1, (t_v99 I)⟩] concatenates_S8x100x1_S8x100x1_S8x100x2_d2
def t_cst_10 : FVec F S_ .f32 := constant S_ .f32 0x40000000#32
def t_v101 : FVec F S8x100 .f32 := broadcastInDim S8x100 ![] bcast_S_S8x100 (t_cst_10 (F := F))
def t_v102 : FVec F S8x20000 .f32 := Host.scatter scatter_S8x20000_S8x100x2_S8x100_n_01_01_2 (fun _ b => b) (t_v67 I) (t_v100 I) (t_v101 (F := F))
def t_c_11 : IVec S_ 32 := constantI S_ 32 0#32
def t_v103 : IVec S8x1 32 := broadcastInDim S8x1 ![] bcast_S_S8x1 t_c_11
def t_v104 : IVec S8x1 1 := cmpi .slt t_v1 t_v103
def t_c_12 : IVec S_ 32 := constantI S_ 32 8#32
def t_v105 : IVec S8x1 32 := broadcastInDim S8x1 ![] bcast_S_S8x1 t_c_12
def t_v106 : IVec S8x1 32 := addi t_v1 t_v105
def t_v107 : IVec S8x1 32 := select t_v104 t_v106 t_v1
def t_c_13 : IVec S_ 32 := constantI S_ 32 0#32
def t_v108 : IVec S8x20000 32 := broadcastInDim S8x20000 ![] bcast_S_S8x20000 t_c_13
def t_v109 : IVec S8x20000 1 := cmpi .slt (t_v86 I) t_v108
def t_c_14 : IVec S_ 32 := constantI S_ 32 100#32
def t_v110 : IVec S8x20000 32 := broadcastInDim S8x20000 ![] bcast_S_S8x20000 t_c_14
def t_v111 : IVec S8x20000 32 := addi (t_v86 I) t_v110
def t_v112 : IVec S8x20000 32 := select (t_v109 I) (t_v111 I) (t_v86 I)
def t_v113 : IVec S8x20000 32 := broadcastInDim S8x20000 ![0, 1] bcast_S8x1_S8x20000_0_1 t_v107
def t_v114 : IVec S8x20000x1 32 := broadcastInDim S8x20000x1 ![0, 1] bcast_S8x20000_S8x20000x1_0_1 t_v113
def t_v115 : IVec S8x20000x1 32 := broadcastInDim S8x20000x1 ![0, 1] bcast_S8x20000_S8x20000x1_0_1 (t_v112 I)
def t_v116 : IVec S8x20000x2 32 := concatenate S8x20000x2 2 [⟨S8x20000x1, t_v114⟩, ⟨S8x20000x1, (t_v115 I)⟩] concatenates_S8x20000x1_S8x20000x1_S8x20000x2_d2
def t_v117 : IVec S8x20000 32 := Host.gather gather_S8x100_S8x20000x2_S8x20000_n_01_n_n_01_2_11 I.L (t_v116 I)
def t_cst_15 : FVec F S_ .f32 := constant S_ .f32 0x3F000000#32
def t_v118 : FVec F S8x20000 .f32 := broadcastInDim S8x20000 ![] bcast_S_S8x20000 (t_cst_15 (F := F))
def t_v119 : IVec S8x20000 1 := cmpf .olt (t_v102 I) (t_v118 (F := F))
def t_c_16 : IVec S_ 32 := constantI S_ 32 0#32
def t_call2_v0 : IVec S_ 32 := t_c_16
def t_call2_v1 : IVec S8x20000 32 := broadcastInDim S8x20000 ![] bcast_S_S8x20000 t_call2_v0
def t_v120 : IVec S8x20000 32 := select (t_v119 I) t_call2_v1 (t_v117 I)
def t_c_17 : IVec S_ 32 := constantI S_ 32 0#32
def t_v121 : IVec S8x1 32 := broadcastInDim S8x1 ![] bcast_S_S8x1 t_c_17
def t_v122 : IVec S8x1 1 := cmpi .slt t_v1 t_v121
def t_c_18 : IVec S_ 32 := constantI S_ 32 8#32
def t_v123 : IVec S8x1 32 := broadcastInDim S8x1 ![] bcast_S_S8x1 t_c_18
def t_v124 : IVec S8x1 32 := addi t_v1 t_v123
def t_v125 : IVec S8x1 32 := select t_v122 t_v124 t_v1
def t_c_19 : IVec S_ 32 := constantI S_ 32 0#32
def t_v126 : IVec S8x20000 32 := broadcastInDim S8x20000 ![] bcast_S_S8x20000 t_c_19
def t_v127 : IVec S8x20000 1 := cmpi .slt (t_v86 I) t_v126
def t_c_20 : IVec S_ 32 := constantI S_ 32 100#32
def t_v128 : IVec S8x20000 32 := broadcastInDim S8x20000 ![] bcast_S_S8x20000 t_c_20
def t_v129 : IVec S8x20000 32 := addi (t_v86 I) t_v128
def t_v130 : IVec S8x20000 32 := select (t_v127 I) (t_v129 I) (t_v86 I)
def t_v131 : IVec S8x20000 32 := broadcastInDim S8x20000 ![0, 1] bcast_S8x1_S8x20000_0_1 t_v125
def t_v132 : IVec S8x20000x1 32 := broadcastInDim S8x20000x1 ![0, 1] bcast_S8x20000_S8x20000x1_0_1 t_v131
def t_v133 : IVec S8x20000x1 32 := broadcastInDim S8x20000x1 ![0, 1] bcast_S8x20000_S8x20000x1_0_1 (t_v130 I)
def t_v134 : IVec S8x20000x2 32 := concatenate S8x20000x2 2 [⟨S8x20000x1, t_v132⟩, ⟨S8x20000x1, (t_v133 I)⟩] concatenates_S8x20000x1_S8x20000x1_S8x20000x2_d2
def t_v135 : FVec F S8x20000x4 .f32 := Host.gather gather_S8x100x4_S8x20000x2_S8x20000x4_2_01_n_n_01_2_114 I.G (t_v134 I)
def t_v136 : FVec F S8x20000x2 .f32 := extractStridedSlice S8x20000x2 ![0, 0, 0] (t_v135 I) slices_S8x20000x4_S8x20000x2_0_0_0
def t_v137 : FVec F S8x20000x2 .f32 := extractStridedSlice S8x20000x2 ![0, 0, 2] (t_v135 I) slices_S8x20000x4_S8x20000x2_0_0_2
def t_v138 : FVec F S8x20000x2 .f32 := addf (t_v136 I) (t_v137 I)
def t_cst_21 : FVec F S_ .f32 := constant S_ .f32 0x40000000#32
def t_v139 : FVec F S8x20000x2 .f32 := broadcastInDim S8x20000x2 ![] bcast_S_S8x20000x2 (t_cst_21 (F := F))
def t_v140 : FVec F S8x20000x2 .f32 := Host.divf (t_v138 I) (t_v139 (F := F))
def t_v141 : FVec F S8x20000x2 .f32 := extractStridedSlice S8x20000x2 ![0, 0, 2] (t_v135 I) slices_S8x20000x4_S8x20000x2_0_0_2
def t_v142 : FVec F S8x20000x2 .f32 := extractStridedSlice S8x20000x2 ![0, 0, 0] (t_v135 I) slices_S8x20000x4_S8x20000x2_0_0_0
def t_v143 : FVec F S8x20000x2 .f32 := subf (t_v141 I) (t_v142 I)
def t_v144 : FVec F S8x20000x4 .f32 := concatenate S8x20000x4 2 [⟨S8x20000x2, (t_v140 I)⟩, ⟨S8x20000x2, (t_v143 I)⟩] concatenates_S8x20000x2_S8x20000x2_S8x20000x4_d2
def t_v145 : FVec F S8x20000x2 .f32 := extractStridedSlice S8x20000x2 ![0, 0, 0] (t_v144 I) slices_S8x20000x4_S8x20000x2_0_0_0
def t_v146 : FVec F S20000x2 .f32 := extractStridedSlice S20000x2 ![0, 0] I.P slices_S20000x4_S20000x2_0_0
def t_v147 : FVec F S1x20000x2 .f32 := broadcastInDim S1x20000x2 ![1, 2] bcast_S20000x2_S1x20000x2_1_2 (t_v146 I)
def t_v148 : FVec F S8x20000x2 .f32 := broadcastInDim S8x20000x2 ![0, 1, 2] bcast_S1x20000x2_S8x20000x2_0_1_2 (t_v147 I)
def t_v149 : FVec F S8x20000x2 .f32 := subf (t_v145 I) (t_v148 I)
def t_v150 : FVec F S20000x2 .f32 := extractStridedSlice S20000x2 ![0, 2] I.P slices_S20000x4_S20000x2_0_2
def t_v151 : FVec F S1x20000x2 .f32 := broadcastInDim S1x20000x2 ![1, 2] bcast_S20000x2_S1x20000x2_1_2 (t_v150 I)
def t_v152 : FVec F S8x20000x2 .f32 := broadcastInDim S8x20000x2 ![0, 1, 2] bcast_S1x20000x2_S8x20000x2_0_1_2 (t_v151 I)
def t_v153 : FVec F S8x20000x2 .f32 := Host.divf (t_v149 I) (t_v152 I)
def t_cst_22 : FVec F S_ .f32 := constant S_ .f32 0x3DCCCCCD#32
def t_v154 : FVec F S8x20000x2 .f32 := broadcastInDim S8x20000x2 ![] bcast_S_S8x20000x2 (t_cst_22 (F := F))
def t_v155 : FVec F S8x20000x2 .f32 := Host.divf (t_v153 I) (t_v154 (F := F))
def t_v156 : FVec F S8x20000x2 .f32 := extractStridedSlice S8x20000x2 ![0, 0, 2] (t_v144 I) slices_S8x20000x4_S8x20000x2_0_0_2
def t_v157 : FVec F S20000x2 .f32 := extractStridedSlice S20000x2 ![0, 2] I.P slices_S20000x4_S20000x2_0_2
def t_v158 : FVec F S1x20000x2 .f32 := broadcastInDim S1x20000x2 ![1, 2] bcast_S20000x2_S1x20000x2_1_2 (t_v157 I)
def t_v159 : FVec F S8x20000x2 .f32 := broadcastInDim S8x20000x2 ![0, 1, 2] bcast_S1x20000x2_S8x20000x2_0_1_2 (t_v158 I)
def t_v160 : FVec F S8x20000x2 .f32 := Host.divf (t_v156 I) (t_v159 I)
def t_v161 : FVec F S8x20000x2 .f32 := Host.log (t_v160 I)
def t_cst_23 : FVec F S_ .f32 := constant S_ .f32 0x3E4CCCCD#32
def t_v162 : FVec F S8x20000x2 .f32 := broadcastInDim S8x20000x2 ![] bcast_S_S8x20000x2 (t_cst_23 (F := F))
def t_v163 : FVec F S8x20000x2 .f32 := Host.divf (t_v161 I) (t_v162 (F := F))
def t_v164 : FVec F S8x20000x4 .f32 := concatenate S8x20000x4 2 [⟨S8x20000x2, (t_v155 I)⟩, ⟨S8x20000x2, (t_v163 I)⟩] concatenates_S8x20000x2_S8x20000x2_S8x20000x4_d2

/-! ## The run's buffers hold them -/

variable (V : Valuation τ sig (Elt F))

/-- The arguments as the run leaves them. -/
def rin : RIn F := ⟨fin V main_arg0, fin V main_arg1, fin V main_arg2⟩

theorem f_v0 : fin V main_v0 = (t_v0 : IVec S8 32) :=
  once0 V 0 main_v0 _ rfl
theorem f_v1 : fin V main_v1 = (t_v1 : IVec S8x1 32) := by
  refine (once1 V 1 main_v0 main_v1 _ rfl).trans ?_
  rw [f_v0]
  rfl
theorem f_v2 : fin V main_v2 = t_v2 (rin V) :=
  once1 V 2 main_arg0 main_v2 _ rfl
theorem f_v3 : fin V main_v3 = t_v3 (rin V) :=
  once1 V 3 main_arg0 main_v3 _ rfl
theorem f_cst : fin V main_cst = (t_cst (F := F) : FVec F S_ .f32) :=
  once0 V 4 main_cst _ rfl
theorem f_v4 : fin V main_v4 = (t_v4 (F := F) : FVec F S20000x2 .f32) := by
  refine (once1 V 5 main_cst main_v4 _ rfl).trans ?_
  rw [f_cst]
  rfl
theorem f_v5 : fin V main_v5 = t_v5 (rin V) := by
  refine (once2 V 6 main_v3 main_v4 main_v5 _ rfl).trans ?_
  rw [f_v3, f_v4]
  rfl
theorem f_v6 : fin V main_v6 = t_v6 (rin V) := by
  refine (once2 V 7 main_v2 main_v5 main_v6 _ rfl).trans ?_
  rw [f_v2, f_v5]
  rfl
theorem f_v7 : fin V main_v7 = t_v7 (rin V) :=
  once1 V 8 main_arg0 main_v7 _ rfl
theorem f_v8 : fin V main_v8 = t_v8 (rin V) :=
  once1 V 9 main_arg0 main_v8 _ rfl
theorem f_cst_0 : fin V main_cst_0 = (t_cst_0 (F := F) : FVec F S_ .f32) :=
  once0 V 10 main_cst_0 _ rfl
theorem f_v9 : fin V main_v9 = (t_v9 (F := F) : FVec F S20000x2 .f32) := by
  refine (once1 V 11 main_cst_0 main_v9 _ rfl).trans ?_
  rw [f_cst_0]
  rfl
theorem f_v10 : fin V main_v10 = t_v10 (rin V) := by
  refine (once2 V 12 main_v8 main_v9 main_v10 _ rfl).trans ?_
  rw [f_v8, f_v9]
  rfl
theorem f_v11 : fin V main_v11 = t_v11 (rin V) := by
  refine (once2 V 13 main_v7 main_v10 main_v11 _ rfl).trans ?_
  rw [f_v7, f_v10]
  rfl
theorem f_v12 : fin V main_v12 = t_v12 (rin V) := by
  refine (once2 V 14 main_v6 main_v11 main_v12 _ rfl).trans ?_
  rw [f_v6, f_v11]
  rfl
theorem f_v13 : fin V main_v13 = t_v13 (rin V) :=
  once1 V 15 main_arg1 main_v13 _ rfl
theorem f_v14 : fin V main_v14 = t_v14 (rin V) := by
  refine (once1 V 16 main_v13 main_v14 _ rfl).trans ?_
  rw [f_v13]
  rfl
theorem f_v15 : fin V main_v15 = t_v15 (rin V) := by
  refine (once1 V 17 main_v12 main_v15 _ rfl).trans ?_
  rw [f_v12]
  rfl
theorem f_v16 : fin V main_v16 = t_v16 (rin V) := by
  refine (once1 V 18 main_v15 main_v16 _ rfl).trans ?_
  rw [f_v15]
  rfl
theorem f_v17 : fin V main_v17 = t_v17 (rin V) := by
  refine (once1 V 19 main_v16 main_v17 _ rfl).trans ?_
  rw [f_v16]
  rfl
theorem f_v18 : fin V main_v18 = t_v18 (rin V) := by
  refine (once1 V 20 main_v14 main_v18 _ rfl).trans ?_
  rw [f_v14]
  rfl
theorem f_v19 : fin V main_v19 = t_v19 (rin V) := by
  refine (once1 V 21 main_v17 main_v19 _ rfl).trans ?_
  rw [f_v17]
  rfl
theorem f_v20 : fin V main_v20 = t_v20 (rin V) := by
  refine (once2 V 22 main_v18 main_v19 main_v20 _ rfl).trans ?_
  rw [f_v18, f_v19]
  rfl
theorem f_v21 : fin V main_v21 = t_v21 (rin V) :=
  once1 V 23 main_arg1 main_v21 _ rfl
theorem f_v22 : fin V main_v22 = t_v22 (rin V) := by
  refine (once1 V 24 main_v21 main_v22 _ rfl).trans ?_
  rw [f_v21]
  rfl
theorem f_v23 : fin V main_v23 = t_v23 (rin V) := by
  refine (once1 V 25 main_v12 main_v23 _ rfl).trans ?_
  rw [f_v12]
  rfl
theorem f_v24 : fin V main_v24 = t_v24 (rin V) := by
  refine (once1 V 26 main_v23 main_v24 _ rfl).trans ?_
  rw [f_v23]
  rfl
theorem f_v25 : fin V main_v25 = t_v25 (rin V) := by
  refine (once1 V 27 main_v24 main_v25 _ rfl).trans ?_
  rw [f_v24]
  rfl
theorem f_v26 : fin V main_v26 = t_v26 (rin V) := by
  refine (once1 V 28 main_v22 main_v26 _ rfl).trans ?_
  rw [f_v22]
  rfl
theorem f_v27 : fin V main_v27 = t_v27 (rin V) := by
  refine (once1 V 29 main_v25 main_v27 _ rfl).trans ?_
  rw [f_v25]
  rfl
theorem f_v28 : fin V main_v28 = t_v28 (rin V) := by
  refine (once2 V 30 main_v26 main_v27 main_v28 _ rfl).trans ?_
  rw [f_v26, f_v27]
  rfl
theorem f_v29 : fin V main_v29 = t_v29 (rin V) := by
  refine (once2 V 31 main_v28 main_v20 main_v29 _ rfl).trans ?_
  rw [f_v28, f_v20]
  rfl
theorem f_cst_1 : fin V main_cst_1 = (t_cst_1 (F := F) : FVec F S_ .f32) :=
  once0 V 32 main_cst_1 _ rfl
theorem f_v30 : fin V main_v30 = (t_v30 (F := F) : FVec F S8x100x20000x2 .f32) := by
  refine (once1 V 33 main_cst_1 main_v30 _ rfl).trans ?_
  rw [f_cst_1]
  rfl
theorem f_v31 : fin V main_v31 = t_v31 (rin V) := by
  refine (once2 V 34 main_v29 main_v30 main_v31 _ rfl).trans ?_
  rw [f_v29, f_v30]
  rfl
theorem f_v32 : fin V main_v32 = t_v32 (rin V) := by
  refine (once1 V 35 main_v31 main_v32 _ rfl).trans ?_
  rw [f_v31]
  rfl
theorem f_v33 : fin V main_v33 = t_v33 (rin V) := by
  refine (onceR V 36 main_v32 main_v33 rfl shapeCasts_S8x100x20000x1_S8x100x20000 rfl).trans ?_
  rw [f_v32]
  rfl
theorem f_v34 : fin V main_v34 = t_v34 (rin V) := by
  refine (once1 V 37 main_v31 main_v34 _ rfl).trans ?_
  rw [f_v31]
  rfl
theorem f_v35 : fin V main_v35 = t_v35 (rin V) := by
  refine (onceR V 38 main_v34 main_v35 rfl shapeCasts_S8x100x20000x1_S8x100x20000 rfl).trans ?_
  rw [f_v34]
  rfl
theorem f_v36 : fin V main_v36 = t_v36 (rin V) := by
  refine (once2 V 39 main_v33 main_v35 main_v36 _ rfl).trans ?_
  rw [f_v33, f_v35]
  rfl
theorem f_v37 : fin V main_v37 = t_v37 (rin V) :=
  once1 V 40 main_arg1 main_v37 _ rfl
theorem f_v38 : fin V main_v38 = t_v38 (rin V) := by
  refine (onceR V 41 main_v37 main_v38 rfl shapeCasts_S8x100x1_S8x100 rfl).trans ?_
  rw [f_v37]
  rfl
theorem f_v39 : fin V main_v39 = t_v39 (rin V) :=
  once1 V 42 main_arg1 main_v39 _ rfl
theorem f_v40 : fin V main_v40 = t_v40 (rin V) := by
  refine (onceR V 43 main_v39 main_v40 rfl shapeCasts_S8x100x1_S8x100 rfl).trans ?_
  rw [f_v39]
  rfl
theorem f_v41 : fin V main_v41 = t_v41 (rin V) := by
  refine (once2 V 44 main_v38 main_v40 main_v41 _ rfl).trans ?_
  rw [f_v38, f_v40]
  rfl
theorem f_v42 : fin V main_v42 = t_v42 (rin V) :=
  once1 V 45 main_arg1 main_v42 _ rfl
theorem f_v43 : fin V main_v43 = t_v43 (rin V) := by
  refine (onceR V 46 main_v42 main_v43 rfl shapeCasts_S8x100x1_S8x100 rfl).trans ?_
  rw [f_v42]
  rfl
theorem f_v44 : fin V main_v44 = t_v44 (rin V) :=
  once1 V 47 main_arg1 main_v44 _ rfl
theorem f_v45 : fin V main_v45 = t_v45 (rin V) := by
  refine (onceR V 48 main_v44 main_v45 rfl shapeCasts_S8x100x1_S8x100 rfl).trans ?_
  rw [f_v44]
  rfl
theorem f_v46 : fin V main_v46 = t_v46 (rin V) := by
  refine (once2 V 49 main_v43 main_v45 main_v46 _ rfl).trans ?_
  rw [f_v43, f_v45]
  rfl
theorem f_v47 : fin V main_v47 = t_v47 (rin V) := by
  refine (once2 V 50 main_v41 main_v46 main_v47 _ rfl).trans ?_
  rw [f_v41, f_v46]
  rfl
theorem f_v48 : fin V main_v48 = t_v48 (rin V) := by
  refine (once1 V 51 main_v12 main_v48 _ rfl).trans ?_
  rw [f_v12]
  rfl
theorem f_v49 : fin V main_v49 = t_v49 (rin V) := by
  refine (onceR V 52 main_v48 main_v49 rfl shapeCasts_S20000x1_S20000 rfl).trans ?_
  rw [f_v48]
  rfl
theorem f_v50 : fin V main_v50 = t_v50 (rin V) := by
  refine (once1 V 53 main_v12 main_v50 _ rfl).trans ?_
  rw [f_v12]
  rfl
theorem f_v51 : fin V main_v51 = t_v51 (rin V) := by
  refine (onceR V 54 main_v50 main_v51 rfl shapeCasts_S20000x1_S20000 rfl).trans ?_
  rw [f_v50]
  rfl
theorem f_v52 : fin V main_v52 = t_v52 (rin V) := by
  refine (once2 V 55 main_v49 main_v51 main_v52 _ rfl).trans ?_
  rw [f_v49, f_v51]
  rfl
theorem f_v53 : fin V main_v53 = t_v53 (rin V) := by
  refine (once1 V 56 main_v12 main_v53 _ rfl).trans ?_
  rw [f_v12]
  rfl
theorem f_v54 : fin V main_v54 = t_v54 (rin V) := by
  refine (onceR V 57 main_v53 main_v54 rfl shapeCasts_S20000x1_S20000 rfl).trans ?_
  rw [f_v53]
  rfl
theorem f_v55 : fin V main_v55 = t_v55 (rin V) := by
  refine (once1 V 58 main_v12 main_v55 _ rfl).trans ?_
  rw [f_v12]
  rfl
theorem f_v56 : fin V main_v56 = t_v56 (rin V) := by
  refine (onceR V 59 main_v55 main_v56 rfl shapeCasts_S20000x1_S20000 rfl).trans ?_
  rw [f_v55]
  rfl
theorem f_v57 : fin V main_v57 = t_v57 (rin V) := by
  refine (once2 V 60 main_v54 main_v56 main_v57 _ rfl).trans ?_
  rw [f_v54, f_v56]
  rfl
theorem f_v58 : fin V main_v58 = t_v58 (rin V) := by
  refine (once2 V 61 main_v52 main_v57 main_v58 _ rfl).trans ?_
  rw [f_v52, f_v57]
  rfl
theorem f_v59 : fin V main_v59 = t_v59 (rin V) := by
  refine (once1 V 62 main_v47 main_v59 _ rfl).trans ?_
  rw [f_v47]
  rfl
theorem f_v60 : fin V main_v60 = t_v60 (rin V) := by
  refine (once1 V 63 main_v58 main_v60 _ rfl).trans ?_
  rw [f_v58]
  rfl
theorem f_v61 : fin V main_v61 = t_v61 (rin V) := by
  refine (once1 V 64 main_v60 main_v61 _ rfl).trans ?_
  rw [f_v60]
  rfl
theorem f_v62 : fin V main_v62 = t_v62 (rin V) := by
  refine (once1 V 65 main_v59 main_v62 _ rfl).trans ?_
  rw [f_v59]
  rfl
theorem f_v63 : fin V main_v63 = t_v63 (rin V) := by
  refine (once1 V 66 main_v61 main_v63 _ rfl).trans ?_
  rw [f_v61]
  rfl
theorem f_v64 : fin V main_v64 = t_v64 (rin V) := by
  refine (once2 V 67 main_v62 main_v63 main_v64 _ rfl).trans ?_
  rw [f_v62, f_v63]
  rfl
theorem f_v65 : fin V main_v65 = t_v65 (rin V) := by
  refine (once2 V 68 main_v64 main_v36 main_v65 _ rfl).trans ?_
  rw [f_v64, f_v36]
  rfl
theorem f_v66 : fin V main_v66 = t_v66 (rin V) := by
  refine (once2 V 69 main_v36 main_v65 main_v66 _ rfl).trans ?_
  rw [f_v36, f_v65]
  rfl
theorem f_cst_2 : fin V main_cst_2 = (t_cst_2 (F := F) : FVec F S_ .f32) :=
  once0 V 70 main_cst_2 _ rfl
theorem f_v67 : fin V main_v67 = t_v67 (rin V) := by
  refine (once2 V 71 main_v66 main_cst_2 main_v67 _ rfl).trans ?_
  rw [f_v66, f_cst_2]
  rfl
theorem f_call0_v0 : fin V main_call0_v0 = (t_call0_v0 : IVec S8x100x20000 32) :=
  once0 V 72 main_call0_v0 _ rfl
theorem f_call0_cst : fin V main_call0_cst = (t_call0_cst (F := F) : FVec F S_ .f32) :=
  once0 V 73 main_call0_cst _ rfl
theorem f_call0_c : fin V main_call0_c = (t_call0_c : IVec S_ 32) :=
  once0 V 74 main_call0_c _ rfl
theorem f_call0_v1_0 : fin V main_call0_v1_0 = t_call0_v1_0 (rin V) := by
  refine (once4 V 75 main_v66 main_call0_v0 main_call0_cst main_call0_c main_call0_v1_0 _ rfl).trans ?_
  rw [f_v66, f_call0_v0, f_call0_cst, f_call0_c]
  rfl
theorem f_v68 : fin V main_v68 = t_v68 (rin V) := by
  refine (once4 V 76 main_v66 main_call0_v0 main_call0_cst main_call0_c main_v68 _ rfl).trans ?_
  rw [f_v66, f_call0_v0, f_call0_cst, f_call0_c]
  rfl
theorem f_call1_v0 : fin V main_call1_v0 = (t_call1_v0 : IVec S8x100x20000 32) :=
  once0 V 77 main_call1_v0 _ rfl
theorem f_call1_cst : fin V main_call1_cst = (t_call1_cst (F := F) : FVec F S_ .f32) :=
  once0 V 78 main_call1_cst _ rfl
theorem f_call1_c : fin V main_call1_c = (t_call1_c : IVec S_ 32) :=
  once0 V 79 main_call1_c _ rfl
theorem f_call1_v1_0 : fin V main_call1_v1_0 = t_call1_v1_0 (rin V) := by
  refine (once4 V 80 main_v66 main_call1_v0 main_call1_cst main_call1_c main_call1_v1_0 _ rfl).trans ?_
  rw [f_v66, f_call1_v0, f_call1_cst, f_call1_c]
  rfl
theorem f_v69 : fin V main_v69 = t_v69 (rin V) := by
  refine (once4 V 81 main_v66 main_call1_v0 main_call1_cst main_call1_c main_v69 _ rfl).trans ?_
  rw [f_v66, f_call1_v0, f_call1_cst, f_call1_c]
  rfl
theorem f_v70 : fin V main_v70 = (t_v70 : IVec S100 32) :=
  once0 V 82 main_v70 _ rfl
theorem f_v71 : fin V main_v71 = (t_v71 : IVec S8x100 32) := by
  refine (once1 V 83 main_v70 main_v71 _ rfl).trans ?_
  rw [f_v70]
  rfl
theorem f_c : fin V main_c = (t_c : IVec S_ 32) :=
  once0 V 84 main_c _ rfl
theorem f_v72 : fin V main_v72 = (t_v72 : IVec S8x1 32) := by
  refine (once1 V 85 main_c main_v72 _ rfl).trans ?_
  rw [f_c]
  rfl
theorem f_v73 : fin V main_v73 = (t_v73 : IVec S8x1 1) := by
  refine (once2 V 86 main_v1 main_v72 main_v73 _ rfl).trans ?_
  rw [f_v1, f_v72]
  rfl
theorem f_c_3 : fin V main_c_3 = (t_c_3 : IVec S_ 32) :=
  once0 V 87 main_c_3 _ rfl
theorem f_v74 : fin V main_v74 = (t_v74 : IVec S8x1 32) := by
  refine (once1 V 88 main_c_3 main_v74 _ rfl).trans ?_
  rw [f_c_3]
  rfl
theorem f_v75 : fin V main_v75 = (t_v75 : IVec S8x1 32) := by
  refine (once2 V 89 main_v1 main_v74 main_v75 _ rfl).trans ?_
  rw [f_v1, f_v74]
  rfl
theorem f_v76 : fin V main_v76 = (t_v76 : IVec S8x1 32) := by
  refine (once3 V 90 main_v73 main_v75 main_v1 main_v76 _ rfl).trans ?_
  rw [f_v73, f_v75, f_v1]
  rfl
theorem f_c_4 : fin V main_c_4 = (t_c_4 : IVec S_ 32) :=
  once0 V 91 main_c_4 _ rfl
theorem f_v77 : fin V main_v77 = (t_v77 : IVec S8x100 32) := by
  refine (once1 V 92 main_c_4 main_v77 _ rfl).trans ?_
  rw [f_c_4]
  rfl
theorem f_v78 : fin V main_v78 = t_v78 (rin V) := by
  refine (once2 V 93 main_v69 main_v77 main_v78 _ rfl).trans ?_
  rw [f_v69, f_v77]
  rfl
theorem f_c_5 : fin V main_c_5 = (t_c_5 : IVec S_ 32) :=
  once0 V 94 main_c_5 _ rfl
theorem f_v79 : fin V main_v79 = (t_v79 : IVec S8x100 32) := by
  refine (once1 V 95 main_c_5 main_v79 _ rfl).trans ?_
  rw [f_c_5]
  rfl
theorem f_v80 : fin V main_v80 = t_v80 (rin V) := by
  refine (once2 V 96 main_v69 main_v79 main_v80 _ rfl).trans ?_
  rw [f_v69, f_v79]
  rfl
theorem f_v81 : fin V main_v81 = t_v81 (rin V) := by
  refine (once3 V 97 main_v78 main_v80 main_v69 main_v81 _ rfl).trans ?_
  rw [f_v78, f_v80, f_v69]
  rfl
theorem f_v82 : fin V main_v82 = (t_v82 : IVec S8x100 32) := by
  refine (once1 V 98 main_v76 main_v82 _ rfl).trans ?_
  rw [f_v76]
  rfl
theorem f_v83 : fin V main_v83 = (t_v83 : IVec S8x100x1 32) := by
  refine (once1 V 99 main_v82 main_v83 _ rfl).trans ?_
  rw [f_v82]
  rfl
theorem f_v84 : fin V main_v84 = t_v84 (rin V) := by
  refine (once1 V 100 main_v81 main_v84 _ rfl).trans ?_
  rw [f_v81]
  rfl
theorem f_v85 : fin V main_v85 = t_v85 (rin V) := by
  refine (once2 V 101 main_v83 main_v84 main_v85 _ rfl).trans ?_
  rw [f_v83, f_v84]
  rfl
theorem f_v86 : fin V main_v86 = t_v86 (rin V) := by
  refine (once3 V 102 main_v68 main_v85 main_v71 main_v86 _ rfl).trans ?_
  rw [f_v68, f_v85, f_v71]
  rfl
theorem f_c_6 : fin V main_c_6 = (t_c_6 : IVec S_ 32) :=
  once0 V 103 main_c_6 _ rfl
theorem f_v87 : fin V main_v87 = (t_v87 : IVec S8x1 32) := by
  refine (once1 V 104 main_c_6 main_v87 _ rfl).trans ?_
  rw [f_c_6]
  rfl
theorem f_v88 : fin V main_v88 = (t_v88 : IVec S8x1 1) := by
  refine (once2 V 105 main_v1 main_v87 main_v88 _ rfl).trans ?_
  rw [f_v1, f_v87]
  rfl
theorem f_c_7 : fin V main_c_7 = (t_c_7 : IVec S_ 32) :=
  once0 V 106 main_c_7 _ rfl
theorem f_v89 : fin V main_v89 = (t_v89 : IVec S8x1 32) := by
  refine (once1 V 107 main_c_7 main_v89 _ rfl).trans ?_
  rw [f_c_7]
  rfl
theorem f_v90 : fin V main_v90 = (t_v90 : IVec S8x1 32) := by
  refine (once2 V 108 main_v1 main_v89 main_v90 _ rfl).trans ?_
  rw [f_v1, f_v89]
  rfl
theorem f_v91 : fin V main_v91 = (t_v91 : IVec S8x1 32) := by
  refine (once3 V 109 main_v88 main_v90 main_v1 main_v91 _ rfl).trans ?_
  rw [f_v88, f_v90, f_v1]
  rfl
theorem f_c_8 : fin V main_c_8 = (t_c_8 : IVec S_ 32) :=
  once0 V 110 main_c_8 _ rfl
theorem f_v92 : fin V main_v92 = (t_v92 : IVec S8x100 32) := by
  refine (once1 V 111 main_c_8 main_v92 _ rfl).trans ?_
  rw [f_c_8]
  rfl
theorem f_v93 : fin V main_v93 = t_v93 (rin V) := by
  refine (once2 V 112 main_v69 main_v92 main_v93 _ rfl).trans ?_
  rw [f_v69, f_v92]
  rfl
theorem f_c_9 : fin V main_c_9 = (t_c_9 : IVec S_ 32) :=
  once0 V 113 main_c_9 _ rfl
theorem f_v94 : fin V main_v94 = (t_v94 : IVec S8x100 32) := by
  refine (once1 V 114 main_c_9 main_v94 _ rfl).trans ?_
  rw [f_c_9]
  rfl
theorem f_v95 : fin V main_v95 = t_v95 (rin V) := by
  refine (once2 V 115 main_v69 main_v94 main_v95 _ rfl).trans ?_
  rw [f_v69, f_v94]
  rfl
theorem f_v96 : fin V main_v96 = t_v96 (rin V) := by
  refine (once3 V 116 main_v93 main_v95 main_v69 main_v96 _ rfl).trans ?_
  rw [f_v93, f_v95, f_v69]
  rfl
theorem f_v97 : fin V main_v97 = (t_v97 : IVec S8x100 32) := by
  refine (once1 V 117 main_v91 main_v97 _ rfl).trans ?_
  rw [f_v91]
  rfl
theorem f_v98 : fin V main_v98 = (t_v98 : IVec S8x100x1 32) := by
  refine (once1 V 118 main_v97 main_v98 _ rfl).trans ?_
  rw [f_v97]
  rfl
theorem f_v99 : fin V main_v99 = t_v99 (rin V) := by
  refine (once1 V 119 main_v96 main_v99 _ rfl).trans ?_
  rw [f_v96]
  rfl
theorem f_v100 : fin V main_v100 = t_v100 (rin V) := by
  refine (once2 V 120 main_v98 main_v99 main_v100 _ rfl).trans ?_
  rw [f_v98, f_v99]
  rfl
theorem f_cst_10 : fin V main_cst_10 = (t_cst_10 (F := F) : FVec F S_ .f32) :=
  once0 V 121 main_cst_10 _ rfl
theorem f_v101 : fin V main_v101 = (t_v101 (F := F) : FVec F S8x100 .f32) := by
  refine (once1 V 122 main_cst_10 main_v101 _ rfl).trans ?_
  rw [f_cst_10]
  rfl
theorem f_v102 : fin V main_v102 = t_v102 (rin V) := by
  refine (once3 V 123 main_v67 main_v100 main_v101 main_v102 _ rfl).trans ?_
  rw [f_v67, f_v100, f_v101]
  rfl
theorem f_c_11 : fin V main_c_11 = (t_c_11 : IVec S_ 32) :=
  once0 V 124 main_c_11 _ rfl
theorem f_v103 : fin V main_v103 = (t_v103 : IVec S8x1 32) := by
  refine (once1 V 125 main_c_11 main_v103 _ rfl).trans ?_
  rw [f_c_11]
  rfl
theorem f_v104 : fin V main_v104 = (t_v104 : IVec S8x1 1) := by
  refine (once2 V 126 main_v1 main_v103 main_v104 _ rfl).trans ?_
  rw [f_v1, f_v103]
  rfl
theorem f_c_12 : fin V main_c_12 = (t_c_12 : IVec S_ 32) :=
  once0 V 127 main_c_12 _ rfl
theorem f_v105 : fin V main_v105 = (t_v105 : IVec S8x1 32) := by
  refine (once1 V 128 main_c_12 main_v105 _ rfl).trans ?_
  rw [f_c_12]
  rfl
theorem f_v106 : fin V main_v106 = (t_v106 : IVec S8x1 32) := by
  refine (once2 V 129 main_v1 main_v105 main_v106 _ rfl).trans ?_
  rw [f_v1, f_v105]
  rfl
theorem f_v107 : fin V main_v107 = (t_v107 : IVec S8x1 32) := by
  refine (once3 V 130 main_v104 main_v106 main_v1 main_v107 _ rfl).trans ?_
  rw [f_v104, f_v106, f_v1]
  rfl
theorem f_c_13 : fin V main_c_13 = (t_c_13 : IVec S_ 32) :=
  once0 V 131 main_c_13 _ rfl
theorem f_v108 : fin V main_v108 = (t_v108 : IVec S8x20000 32) := by
  refine (once1 V 132 main_c_13 main_v108 _ rfl).trans ?_
  rw [f_c_13]
  rfl
theorem f_v109 : fin V main_v109 = t_v109 (rin V) := by
  refine (once2 V 133 main_v86 main_v108 main_v109 _ rfl).trans ?_
  rw [f_v86, f_v108]
  rfl
theorem f_c_14 : fin V main_c_14 = (t_c_14 : IVec S_ 32) :=
  once0 V 134 main_c_14 _ rfl
theorem f_v110 : fin V main_v110 = (t_v110 : IVec S8x20000 32) := by
  refine (once1 V 135 main_c_14 main_v110 _ rfl).trans ?_
  rw [f_c_14]
  rfl
theorem f_v111 : fin V main_v111 = t_v111 (rin V) := by
  refine (once2 V 136 main_v86 main_v110 main_v111 _ rfl).trans ?_
  rw [f_v86, f_v110]
  rfl
theorem f_v112 : fin V main_v112 = t_v112 (rin V) := by
  refine (once3 V 137 main_v109 main_v111 main_v86 main_v112 _ rfl).trans ?_
  rw [f_v109, f_v111, f_v86]
  rfl
theorem f_v113 : fin V main_v113 = (t_v113 : IVec S8x20000 32) := by
  refine (once1 V 138 main_v107 main_v113 _ rfl).trans ?_
  rw [f_v107]
  rfl
theorem f_v114 : fin V main_v114 = (t_v114 : IVec S8x20000x1 32) := by
  refine (once1 V 139 main_v113 main_v114 _ rfl).trans ?_
  rw [f_v113]
  rfl
theorem f_v115 : fin V main_v115 = t_v115 (rin V) := by
  refine (once1 V 140 main_v112 main_v115 _ rfl).trans ?_
  rw [f_v112]
  rfl
theorem f_v116 : fin V main_v116 = t_v116 (rin V) := by
  refine (once2 V 141 main_v114 main_v115 main_v116 _ rfl).trans ?_
  rw [f_v114, f_v115]
  rfl
theorem f_v117 : fin V main_v117 = t_v117 (rin V) := by
  refine (once2 V 142 main_arg2 main_v116 main_v117 _ rfl).trans ?_
  rw [f_v116]
  rfl
theorem f_cst_15 : fin V main_cst_15 = (t_cst_15 (F := F) : FVec F S_ .f32) :=
  once0 V 143 main_cst_15 _ rfl
theorem f_v118 : fin V main_v118 = (t_v118 (F := F) : FVec F S8x20000 .f32) := by
  refine (once1 V 144 main_cst_15 main_v118 _ rfl).trans ?_
  rw [f_cst_15]
  rfl
theorem f_v119 : fin V main_v119 = t_v119 (rin V) := by
  refine (once2 V 145 main_v102 main_v118 main_v119 _ rfl).trans ?_
  rw [f_v102, f_v118]
  rfl
theorem f_c_16 : fin V main_c_16 = (t_c_16 : IVec S_ 32) :=
  once0 V 146 main_c_16 _ rfl
theorem f_call2_v0 : fin V main_call2_v0 = (t_call2_v0 : IVec S_ 32) := by
  refine (once1 V 147 main_c_16 main_call2_v0 _ rfl).trans ?_
  rw [f_c_16]
  rfl
theorem f_call2_v1 : fin V main_call2_v1 = (t_call2_v1 : IVec S8x20000 32) := by
  refine (once1 V 148 main_call2_v0 main_call2_v1 _ rfl).trans ?_
  rw [f_call2_v0]
  rfl
theorem f_v120 : fin V main_v120 = t_v120 (rin V) := by
  refine (once3 V 149 main_v119 main_call2_v1 main_v117 main_v120 _ rfl).trans ?_
  rw [f_v119, f_call2_v1, f_v117]
  rfl
theorem f_c_17 : fin V main_c_17 = (t_c_17 : IVec S_ 32) :=
  once0 V 150 main_c_17 _ rfl
theorem f_v121 : fin V main_v121 = (t_v121 : IVec S8x1 32) := by
  refine (once1 V 151 main_c_17 main_v121 _ rfl).trans ?_
  rw [f_c_17]
  rfl
theorem f_v122 : fin V main_v122 = (t_v122 : IVec S8x1 1) := by
  refine (once2 V 152 main_v1 main_v121 main_v122 _ rfl).trans ?_
  rw [f_v1, f_v121]
  rfl
theorem f_c_18 : fin V main_c_18 = (t_c_18 : IVec S_ 32) :=
  once0 V 153 main_c_18 _ rfl
theorem f_v123 : fin V main_v123 = (t_v123 : IVec S8x1 32) := by
  refine (once1 V 154 main_c_18 main_v123 _ rfl).trans ?_
  rw [f_c_18]
  rfl
theorem f_v124 : fin V main_v124 = (t_v124 : IVec S8x1 32) := by
  refine (once2 V 155 main_v1 main_v123 main_v124 _ rfl).trans ?_
  rw [f_v1, f_v123]
  rfl
theorem f_v125 : fin V main_v125 = (t_v125 : IVec S8x1 32) := by
  refine (once3 V 156 main_v122 main_v124 main_v1 main_v125 _ rfl).trans ?_
  rw [f_v122, f_v124, f_v1]
  rfl
theorem f_c_19 : fin V main_c_19 = (t_c_19 : IVec S_ 32) :=
  once0 V 157 main_c_19 _ rfl
theorem f_v126 : fin V main_v126 = (t_v126 : IVec S8x20000 32) := by
  refine (once1 V 158 main_c_19 main_v126 _ rfl).trans ?_
  rw [f_c_19]
  rfl
theorem f_v127 : fin V main_v127 = t_v127 (rin V) := by
  refine (once2 V 159 main_v86 main_v126 main_v127 _ rfl).trans ?_
  rw [f_v86, f_v126]
  rfl
theorem f_c_20 : fin V main_c_20 = (t_c_20 : IVec S_ 32) :=
  once0 V 160 main_c_20 _ rfl
theorem f_v128 : fin V main_v128 = (t_v128 : IVec S8x20000 32) := by
  refine (once1 V 161 main_c_20 main_v128 _ rfl).trans ?_
  rw [f_c_20]
  rfl
theorem f_v129 : fin V main_v129 = t_v129 (rin V) := by
  refine (once2 V 162 main_v86 main_v128 main_v129 _ rfl).trans ?_
  rw [f_v86, f_v128]
  rfl
theorem f_v130 : fin V main_v130 = t_v130 (rin V) := by
  refine (once3 V 163 main_v127 main_v129 main_v86 main_v130 _ rfl).trans ?_
  rw [f_v127, f_v129, f_v86]
  rfl
theorem f_v131 : fin V main_v131 = (t_v131 : IVec S8x20000 32) := by
  refine (once1 V 164 main_v125 main_v131 _ rfl).trans ?_
  rw [f_v125]
  rfl
theorem f_v132 : fin V main_v132 = (t_v132 : IVec S8x20000x1 32) := by
  refine (once1 V 165 main_v131 main_v132 _ rfl).trans ?_
  rw [f_v131]
  rfl
theorem f_v133 : fin V main_v133 = t_v133 (rin V) := by
  refine (once1 V 166 main_v130 main_v133 _ rfl).trans ?_
  rw [f_v130]
  rfl
theorem f_v134 : fin V main_v134 = t_v134 (rin V) := by
  refine (once2 V 167 main_v132 main_v133 main_v134 _ rfl).trans ?_
  rw [f_v132, f_v133]
  rfl
theorem f_v135 : fin V main_v135 = t_v135 (rin V) := by
  refine (once2 V 168 main_arg1 main_v134 main_v135 _ rfl).trans ?_
  rw [f_v134]
  rfl
theorem f_v136 : fin V main_v136 = t_v136 (rin V) := by
  refine (once1 V 169 main_v135 main_v136 _ rfl).trans ?_
  rw [f_v135]
  rfl
theorem f_v137 : fin V main_v137 = t_v137 (rin V) := by
  refine (once1 V 170 main_v135 main_v137 _ rfl).trans ?_
  rw [f_v135]
  rfl
theorem f_v138 : fin V main_v138 = t_v138 (rin V) := by
  refine (once2 V 171 main_v136 main_v137 main_v138 _ rfl).trans ?_
  rw [f_v136, f_v137]
  rfl
theorem f_cst_21 : fin V main_cst_21 = (t_cst_21 (F := F) : FVec F S_ .f32) :=
  once0 V 172 main_cst_21 _ rfl
theorem f_v139 : fin V main_v139 = (t_v139 (F := F) : FVec F S8x20000x2 .f32) := by
  refine (once1 V 173 main_cst_21 main_v139 _ rfl).trans ?_
  rw [f_cst_21]
  rfl
theorem f_v140 : fin V main_v140 = t_v140 (rin V) := by
  refine (once2 V 174 main_v138 main_v139 main_v140 _ rfl).trans ?_
  rw [f_v138, f_v139]
  rfl
theorem f_v141 : fin V main_v141 = t_v141 (rin V) := by
  refine (once1 V 175 main_v135 main_v141 _ rfl).trans ?_
  rw [f_v135]
  rfl
theorem f_v142 : fin V main_v142 = t_v142 (rin V) := by
  refine (once1 V 176 main_v135 main_v142 _ rfl).trans ?_
  rw [f_v135]
  rfl
theorem f_v143 : fin V main_v143 = t_v143 (rin V) := by
  refine (once2 V 177 main_v141 main_v142 main_v143 _ rfl).trans ?_
  rw [f_v141, f_v142]
  rfl
theorem f_v144 : fin V main_v144 = t_v144 (rin V) := by
  refine (once2 V 178 main_v140 main_v143 main_v144 _ rfl).trans ?_
  rw [f_v140, f_v143]
  rfl
theorem f_v145 : fin V main_v145 = t_v145 (rin V) := by
  refine (once1 V 179 main_v144 main_v145 _ rfl).trans ?_
  rw [f_v144]
  rfl
theorem f_v146 : fin V main_v146 = t_v146 (rin V) :=
  once1 V 180 main_arg0 main_v146 _ rfl
theorem f_v147 : fin V main_v147 = t_v147 (rin V) := by
  refine (once1 V 181 main_v146 main_v147 _ rfl).trans ?_
  rw [f_v146]
  rfl
theorem f_v148 : fin V main_v148 = t_v148 (rin V) := by
  refine (once1 V 182 main_v147 main_v148 _ rfl).trans ?_
  rw [f_v147]
  rfl
theorem f_v149 : fin V main_v149 = t_v149 (rin V) := by
  refine (once2 V 183 main_v145 main_v148 main_v149 _ rfl).trans ?_
  rw [f_v145, f_v148]
  rfl
theorem f_v150 : fin V main_v150 = t_v150 (rin V) :=
  once1 V 184 main_arg0 main_v150 _ rfl
theorem f_v151 : fin V main_v151 = t_v151 (rin V) := by
  refine (once1 V 185 main_v150 main_v151 _ rfl).trans ?_
  rw [f_v150]
  rfl
theorem f_v152 : fin V main_v152 = t_v152 (rin V) := by
  refine (once1 V 186 main_v151 main_v152 _ rfl).trans ?_
  rw [f_v151]
  rfl
theorem f_v153 : fin V main_v153 = t_v153 (rin V) := by
  refine (once2 V 187 main_v149 main_v152 main_v153 _ rfl).trans ?_
  rw [f_v149, f_v152]
  rfl
theorem f_cst_22 : fin V main_cst_22 = (t_cst_22 (F := F) : FVec F S_ .f32) :=
  once0 V 188 main_cst_22 _ rfl
theorem f_v154 : fin V main_v154 = (t_v154 (F := F) : FVec F S8x20000x2 .f32) := by
  refine (once1 V 189 main_cst_22 main_v154 _ rfl).trans ?_
  rw [f_cst_22]
  rfl
theorem f_v155 : fin V main_v155 = t_v155 (rin V) := by
  refine (once2 V 190 main_v153 main_v154 main_v155 _ rfl).trans ?_
  rw [f_v153, f_v154]
  rfl
theorem f_v156 : fin V main_v156 = t_v156 (rin V) := by
  refine (once1 V 191 main_v144 main_v156 _ rfl).trans ?_
  rw [f_v144]
  rfl
theorem f_v157 : fin V main_v157 = t_v157 (rin V) :=
  once1 V 192 main_arg0 main_v157 _ rfl
theorem f_v158 : fin V main_v158 = t_v158 (rin V) := by
  refine (once1 V 193 main_v157 main_v158 _ rfl).trans ?_
  rw [f_v157]
  rfl
theorem f_v159 : fin V main_v159 = t_v159 (rin V) := by
  refine (once1 V 194 main_v158 main_v159 _ rfl).trans ?_
  rw [f_v158]
  rfl
theorem f_v160 : fin V main_v160 = t_v160 (rin V) := by
  refine (once2 V 195 main_v156 main_v159 main_v160 _ rfl).trans ?_
  rw [f_v156, f_v159]
  rfl
theorem f_v161 : fin V main_v161 = t_v161 (rin V) := by
  refine (once1 V 196 main_v160 main_v161 _ rfl).trans ?_
  rw [f_v160]
  rfl
theorem f_cst_23 : fin V main_cst_23 = (t_cst_23 (F := F) : FVec F S_ .f32) :=
  once0 V 197 main_cst_23 _ rfl
theorem f_v162 : fin V main_v162 = (t_v162 (F := F) : FVec F S8x20000x2 .f32) := by
  refine (once1 V 198 main_cst_23 main_v162 _ rfl).trans ?_
  rw [f_cst_23]
  rfl
theorem f_v163 : fin V main_v163 = t_v163 (rin V) := by
  refine (once2 V 199 main_v161 main_v162 main_v163 _ rfl).trans ?_
  rw [f_v161, f_v162]
  rfl
theorem f_v164 : fin V main_v164 = t_v164 (rin V) := by
  refine (once2 V 200 main_v155 main_v163 main_v164 _ rfl).trans ?_
  rw [f_v155, f_v163]
  rfl

end Cert.Proof.Ref

end
-- ==== Proof.RefVal.lean ====
/-
  The reference, read at an index: overlaps, arg-maxima, forced matches, labels and encoded boxes.
-/
module

public import Idealize.ShloMosaic.Lib.Pointwise
public import proofs.«01_k».proof.Proof.Spec
public import Idealize.ShloMosaic.Lib.Routing.OpsSet
public import proofs.«01_k».proof.Proof.RefOnce

@[expose] public section

set_option maxRecDepth 16384

noncomputable section

namespace Cert.Proof.Ref

open Cert.Proof.Spec

open Cert.ReferenceIdeal Cert.ReferenceIdeal.Gen

open Idealize.ShloMosaic
open Idealize.ShloMosaic.TcCoe
open Idealize.SL.Sem

/-- The overlap ratios. -/
def ov' (I : RIn Ideal) (i : S8x100x20000.Idx) : EReal := t_v66 I i

theorem v66_at (I : RIn Ideal) (i : S8x100x20000.Idx) : ov' I i = Ideal.div (t_v36 I i) (t_v64 I i - t_v36 I i) := by
  unfold ov'
  pointwise [t_v66, t_v65]

attribute [local irreducible] Host.argReduce t_v66

variable (I : RIn Ideal)

/-! ## The matches -/

/-- The overlap ratio of ground truth `t` of image `b` with prior `n`. -/
def ov (b : Fin 8) (t : Fin 100) (n : Fin 20000) : EReal := t_v66 I (ix3 b t n)
/-- The best ground truth of a prior. -/
def bestT (b : Fin 8) (n : Fin 20000) : Fin 100 := Arg.first fun t => ov I b t n
/-- The best prior of a ground truth. -/
def bestN (b : Fin 8) (t : Fin 100) : Fin 20000 := Arg.first fun n => ov I b t n

theorem v67_eq (b : Fin 8) (n : Fin 20000) : t_v67 I (ix2 b n) = ov I b (bestT I b n) n := by
  pointwise [t_v67, t_cst_2]
  rw [ninf_f32]
  exact Arg.fold_max fun t => ov I b t n

theorem drop_d1 (b : Fin 8) (n : Fin 20000) (i : S8x100x20000.Idx) : reducesTo_S8x100x20000_S8x20000_d1.drop i = ix2 b n ↔ ∃ k, i = ix3 b k n := by
  have d0 := reducesTo_S8x100x20000_S8x20000_d1.drop_apply_val_of_eq i 0 0
  have d1 := reducesTo_S8x100x20000_S8x20000_d1.drop_apply_val_of_eq i 1 2
  constructor
  · intro h
    rw [h] at d0 d1
    refine ⟨i 1, ?_⟩
    funext a
    match a with
    | 0 => exact Fin.ext d0.symm
    | 1 => rfl
    | 2 => exact Fin.ext d1.symm
  · rintro ⟨k, rfl⟩
    funext a
    match a with
    | 0 => exact Fin.ext d0
    | 1 => exact Fin.ext d1

theorem iota_d1 (b : Fin 8) (n : Fin 20000) (k : Fin 100) : t_call0_v0 (ix3 b k n) = BitVec.ofNat 32 k.val := by
  pointwise [t_call0_v0]

theorem bot_d1 (i : S_.Idx) : t_call0_cst (F := Ideal) i = (⊥ : EReal) := by
  pointwise [t_call0_cst]
  exact ninf_f32

theorem zero_d1 (i : S_.Idx) : t_call0_c i = 0#32 := by
  pointwise [t_call0_c]

theorem v68_fun : t_v68 I = fun j => (Host.argReduce reducer_argmax_f32_i32 (t_v66 I) t_call0_v0 (t_call0_cst (F := Ideal)) t_call0_c reducesTo_S8x100x20000_S8x20000_d1 h_S_ j).2 := rfl

theorem v68_at (j : S8x20000.Idx) : t_v68 I j = (Host.argReduce reducer_argmax_f32_i32 (t_v66 I) t_call0_v0 (t_call0_cst (F := Ideal)) t_call0_c reducesTo_S8x100x20000_S8x20000_d1 h_S_ j).2 :=
  congrFun (v68_fun I) j

theorem v68_key (b : Fin 8) (n : Fin 20000) : (Host.argReduce reducer_argmax_f32_i32 (t_v66 I) t_call0_v0 (t_call0_cst (F := Ideal)) t_call0_c reducesTo_S8x100x20000_S8x20000_d1 h_S_ (ix2 b n)).2 = BitVec.ofNat 32 (bestT I b n).val :=
  Arg.argReduce_first (by norm_num) reducesTo_S8x100x20000_S8x20000_d1 h_S_ (ix2 b n) (fun k => ix3 b k n) (drop_d1 b n) (t_v66 I) t_call0_v0 (iota_d1 b n)
    (t_call0_cst (F := Ideal)) t_call0_c (bot_d1 _) (zero_d1 _)

theorem v68_eq (b : Fin 8) (n : Fin 20000) : t_v68 I (ix2 b n) = BitVec.ofNat 32 (bestT I b n).val :=
  (v68_at I (ix2 b n)).trans (v68_key I b n)

theorem drop_d2 (b : Fin 8) (t : Fin 100) (i : S8x100x20000.Idx) : reducesTo_S8x100x20000_S8x100_d2.drop i = ix2 b t ↔ ∃ k, i = ix3 b t k := by
  have d0 := reducesTo_S8x100x20000_S8x100_d2.drop_apply_val_of_eq i 0 0
  have d1 := reducesTo_S8x100x20000_S8x100_d2.drop_apply_val_of_eq i 1 1
  constructor
  · intro h
    rw [h] at d0 d1
    refine ⟨i 2, ?_⟩
    funext a
    match a with
    | 0 => exact Fin.ext d0.symm
    | 1 => exact Fin.ext d1.symm
    | 2 => rfl
  · rintro ⟨k, rfl⟩
    funext a
    match a with
    | 0 => exact Fin.ext d0
    | 1 => exact Fin.ext d1

theorem iota_d2 (b : Fin 8) (t : Fin 100) (k : Fin 20000) : t_call1_v0 (ix3 b t k) = BitVec.ofNat 32 k.val := by
  pointwise [t_call1_v0]

theorem bot_d2 (i : S_.Idx) : t_call1_cst (F := Ideal) i = (⊥ : EReal) := by
  pointwise [t_call1_cst]
  exact ninf_f32

theorem zero_d2 (i : S_.Idx) : t_call1_c i = 0#32 := by
  pointwise [t_call1_c]

theorem v69_fun : t_v69 I = fun j => (Host.argReduce reducer_argmax_f32_i32 (t_v66 I) t_call1_v0 (t_call1_cst (F := Ideal)) t_call1_c reducesTo_S8x100x20000_S8x100_d2 h_S_ j).2 := rfl

theorem v69_at (j : S8x100.Idx) : t_v69 I j = (Host.argReduce reducer_argmax_f32_i32 (t_v66 I) t_call1_v0 (t_call1_cst (F := Ideal)) t_call1_c reducesTo_S8x100x20000_S8x100_d2 h_S_ j).2 :=
  congrFun (v69_fun I) j

theorem v69_key (b : Fin 8) (t : Fin 100) : (Host.argReduce reducer_argmax_f32_i32 (t_v66 I) t_call1_v0 (t_call1_cst (F := Ideal)) t_call1_c reducesTo_S8x100x20000_S8x100_d2 h_S_ (ix2 b t)).2 = BitVec.ofNat 32 (bestN I b t).val :=
  Arg.argReduce_first (by norm_num) reducesTo_S8x100x20000_S8x100_d2 h_S_ (ix2 b t) (fun k => ix3 b t k) (drop_d2 b t) (t_v66 I) t_call1_v0 (iota_d2 b t)
    (t_call1_cst (F := Ideal)) t_call1_c (bot_d2 _) (zero_d2 _)

theorem v69_eq (b : Fin 8) (t : Fin 100) : t_v69 I (ix2 b t) = BitVec.ofNat 32 (bestN I b t).val :=
  (v69_at I (ix2 b t)).trans (v69_key I b t)

theorem wrap (k : Nat) (a : BitVec 32) (h : k < 2 ^ 31) : Scalar.select (IntOp.cmpi .slt (BitVec.ofNat 32 k) 0#32) a (BitVec.ofNat 32 k) = BitVec.ofNat 32 k :=
  Routing.wrap_of_lt _ _ (by rw [BitVec.toNat_ofNat]; omega)

theorem v85_0 (b : Fin 8) (t : Fin 100) : t_v85 I (ix3 b t 0) = BitVec.ofNat 32 b.val := by
  pointwise [t_v85, t_v83, t_v82, t_v76, t_v73, t_v75, t_v72, t_v74, t_c, t_c_3, t_v1, t_v0]
  exact wrap _ _ (by omega)

theorem v85_1 (b : Fin 8) (t : Fin 100) : t_v85 I (ix3 b t 1) = BitVec.ofNat 32 (bestN I b t).val := by
  pointwise [t_v85, t_v84, t_v81, t_v78, t_v80, t_v77, t_v79, t_c_4, t_c_5, v69_eq]
  exact wrap _ _ (by omega)

theorem v100_0 (b : Fin 8) (t : Fin 100) : t_v100 I (ix3 b t 0) = BitVec.ofNat 32 b.val := by
  pointwise [t_v100, t_v98, t_v97, t_v91, t_v88, t_v90, t_v87, t_v89, t_c_6, t_c_7, t_v1, t_v0]
  exact wrap _ _ (by omega)

theorem v100_1 (b : Fin 8) (t : Fin 100) : t_v100 I (ix3 b t 1) = BitVec.ofNat 32 (bestN I b t).val := by
  pointwise [t_v100, t_v99, t_v96, t_v93, t_v95, t_v92, t_v94, t_c_8, t_c_9, v69_eq]
  exact wrap _ _ (by omega)

/-- The match of prior `n` once the forced ones are in. -/
def mtc (b : Fin 8) (n : Fin 20000) : Fin 100 := pick (bestN I b) n (bestT I b n)

theorem lands (idx : IVec S8x100x2 32) (h0 : ∀ b t, idx (ix3 b t 0) = BitVec.ofNat 32 b.val) (h1 : ∀ b t, idx (ix3 b t 1) = BitVec.ofNat 32 (bestN I b t).val)
    (b' : Fin 8) (t : Fin 100) (b : Fin 8) (n : Fin 20000) :
    scatter_S8x20000_S8x100x2_S8x100_n_01_01_2.resultIdx? (ix2 b' t) idx = some (ix2 b n) ↔ b' = b ∧ bestN I b' t = n := by
  refine (Routing.scatter_lands2 (R := 8) (C := 20000) (A := 8) (B := 100) scatter_S8x20000_S8x100x2_S8x100_n_01_01_2 rfl rfl rfl idx b' t b n).trans ?_
  show (idx (ix3 b' t 0)).toInt = (b.val : Int) ∧ (idx (ix3 b' t 1)).toInt = (n.val : Int) ↔ _
  rw [h0, h1, Arg.toInt_small _ (by omega), Arg.toInt_small _ (by omega), Fin.ext_iff, Fin.ext_iff]
  omega

theorem scatter_eq {α : Type} (idx : IVec S8x100x2 32) (h0 : ∀ b t, idx (ix3 b t 0) = BitVec.ofNat 32 b.val) (h1 : ∀ b t, idx (ix3 b t 1) = BitVec.ofNat 32 (bestN I b t).val)
    (x : S8x20000.Idx → α) (u : S8x100.Idx → α) (b : Fin 8) (n : Fin 20000) :
    Host.scatter scatter_S8x20000_S8x100x2_S8x100_n_01_01_2 (fun _ b => b) x idx u (ix2 b n)
      = if h : (Finset.univ.filter fun t => bestN I b t = n).Nonempty then u (ix2 b ((Finset.univ.filter fun t => bestN I b t = n).max' h)) else x (ix2 b n) := by
  split_ifs with h
  · have hm := Finset.max'_mem _ h
    rw [Finset.mem_filter] at hm
    refine Arg.scatter_last _ _ _ _ _ (ix2 b _) ((lands I idx h0 h1 _ _ _ _).2 ⟨rfl, hm.2⟩) ?_
    intro k' hk'
    rw [eq_ix2 k'] at hk' ⊢
    obtain ⟨q0, q1⟩ := (lands I idx h0 h1 (k' 0) (k' 1) b n).1 hk'
    have hle := Finset.le_max' (Finset.univ.filter fun t => bestN I b t = n) (k' 1) (Finset.mem_filter.2 ⟨Finset.mem_univ _, q0 ▸ q1⟩)
    rw [Fin.le_def, Shape.rowMajor_val_two, Shape.rowMajor_val_two]
    have e0 : (k' 0).val = b.val := congrArg Fin.val q0
    have e1 := Fin.le_def.1 hle
    show (k' 0).val * 100 + (k' 1).val ≤ b.val * 100 + (Finset.max' _ h).val
    omega
  · refine Routing.scatter_set_miss _ _ _ _ _ fun k' hk' => h ?_
    rw [eq_ix2 k'] at hk'
    obtain ⟨q0, q1⟩ := (lands I idx h0 h1 (k' 0) (k' 1) b n).1 hk'
    exact ⟨k' 1, Finset.mem_filter.2 ⟨Finset.mem_univ _, q0 ▸ q1⟩⟩

theorem v86_eq (b : Fin 8) (n : Fin 20000) : t_v86 I (ix2 b n) = BitVec.ofNat 32 (mtc I b n).val := by
  refine (scatter_eq I (t_v85 I) (v85_0 I) (v85_1 I) (t_v68 I) t_v71 b n).trans ?_
  unfold mtc pick
  split_ifs with h
  · rfl
  · exact v68_eq I b n

theorem v102_eq (b : Fin 8) (n : Fin 20000) :
    t_v102 I (ix2 b n) = if (Finset.univ.filter fun t => bestN I b t = n).Nonempty then ((2 : ℝ) : EReal) else ov I b (bestT I b n) n := by
  refine (scatter_eq I (t_v100 I) (v100_0 I) (v100_1 I) (t_v67 I) (t_v101 (F := Ideal)) b n).trans ?_
  split_ifs with h
  · exact two_f32
  · exact v67_eq I b n

/-! ## The gathers -/

theorem v116_0 (b : Fin 8) (n : Fin 20000) : t_v116 I (ix3 b n 0) = BitVec.ofNat 32 b.val := by
  pointwise [t_v116, t_v114, t_v113, t_v107, t_v104, t_v106, t_v103, t_v105, t_c_11, t_c_12, t_v1, t_v0]
  exact wrap _ _ (by omega)

theorem v116_1 (b : Fin 8) (n : Fin 20000) : t_v116 I (ix3 b n 1) = BitVec.ofNat 32 (mtc I b n).val := by
  pointwise [t_v116, t_v115, t_v112, t_v109, t_v111, t_v108, t_v110, t_c_13, t_c_14, v86_eq]
  exact wrap _ _ (by omega)

theorem v134_0 (b : Fin 8) (n : Fin 20000) : t_v134 I (ix3 b n 0) = BitVec.ofNat 32 b.val := by
  pointwise [t_v134, t_v132, t_v131, t_v125, t_v122, t_v124, t_v121, t_v123, t_c_17, t_c_18, t_v1, t_v0]
  exact wrap _ _ (by omega)

theorem v134_1 (b : Fin 8) (n : Fin 20000) : t_v134 I (ix3 b n 1) = BitVec.ofNat 32 (mtc I b n).val := by
  pointwise [t_v134, t_v133, t_v130, t_v127, t_v129, t_v126, t_v128, t_c_19, t_c_20, v86_eq]
  exact wrap _ _ (by omega)

theorem si_v117 (b : Fin 8) (n : Fin 20000) (c : Fin gather_S8x100_S8x20000x2_S8x20000_n_01_n_n_01_2_11.startIndexMap.length) (q : Fin 2) (hq : c.val = q.val) :
    gather_S8x100_S8x20000x2_S8x20000_n_01_n_n_01_2_11.siIdx (ix2 b n) c = ix3 b n q := by
  have e0 : ∀ X : Fin 2, X = 0 → ((ix2 b n : S8x20000.Idx) X).val = b.val := fun X h => by subst h; rfl
  have e1 : ∀ X : Fin 2, X = 1 → ((ix2 b n : S8x20000.Idx) X).val = n.val := fun X h => by subst h; rfl
  funext a
  apply Fin.ext
  match a with
  | ⟨0, _⟩ =>
    refine (congrArg Fin.val (dif_neg (show ¬ (0 = 2) by decide))).trans ?_
    unfold GatherDims.siCoord
    simp only [Fin.val_cast]
    exact e0 _ (by decide +kernel +revert)
  | ⟨1, _⟩ =>
    refine (congrArg Fin.val (dif_neg (show ¬ (1 = 2) by decide))).trans ?_
    unfold GatherDims.siCoord
    simp only [Fin.val_cast]
    exact e1 _ (by decide +kernel +revert)
  | ⟨2, _⟩ =>
    exact (congrArg Fin.val (dif_pos (show 2 = 2 from rfl))).trans hq

theorem v117_eq (b : Fin 8) (n : Fin 20000) : t_v117 I (ix2 b n) = I.L (ix2 b (mtc I b n)) := by
  unfold t_v117 Host.gather
  refine congrArg I.L (funext fun a => Fin.ext ?_)
  have hm : ∀ a : Fin 2, a.val < 2 → a ∈ gather_S8x100_S8x20000x2_S8x20000_n_01_n_n_01_2_11.startIndexMap := by decide +kernel
  have hk : ∀ a : Fin 2, a.val < 2 → a ∉ gather_S8x100_S8x20000x2_S8x20000_n_01_n_n_01_2_11.sKept := by decide +kernel
  match a with
  | ⟨0, _⟩ =>
    show gather_S8x100_S8x20000x2_S8x20000_n_01_n_n_01_2_11.start (ix2 b n) (t_v116 I) 0 + gather_S8x100_S8x20000x2_S8x20000_n_01_n_n_01_2_11.batchCoord (ix2 b n) 0 + gather_S8x100_S8x20000x2_S8x20000_n_01_n_n_01_2_11.offCoord (ix2 b n) 0 = b.val
    rw [GatherDims.batchCoord_eq_zero _ _ _ List.not_mem_nil, GatherDims.offCoord_eq_zero _ _ _ (hk 0 (by decide))]
    unfold GatherDims.start
    rw [dif_pos (hm 0 (by decide)), si_v117 b n ⟨List.idxOf 0 gather_S8x100_S8x20000x2_S8x20000_n_01_n_n_01_2_11.startIndexMap, List.idxOf_lt_length_iff.2 (hm 0 (by decide))⟩ 0 rfl, v116_0, Arg.toInt_small _ (by omega)]
    show min ((b.val : Nat) : Int).toNat (8 - 1) + 0 + 0 = b.val
    omega
  | ⟨1, _⟩ =>
    show gather_S8x100_S8x20000x2_S8x20000_n_01_n_n_01_2_11.start (ix2 b n) (t_v116 I) 1 + gather_S8x100_S8x20000x2_S8x20000_n_01_n_n_01_2_11.batchCoord (ix2 b n) 1 + gather_S8x100_S8x20000x2_S8x20000_n_01_n_n_01_2_11.offCoord (ix2 b n) 1 = (mtc I b n).val
    rw [GatherDims.batchCoord_eq_zero _ _ _ List.not_mem_nil, GatherDims.offCoord_eq_zero _ _ _ (hk 1 (by decide))]
    unfold GatherDims.start
    rw [dif_pos (hm 1 (by decide)), si_v117 b n ⟨List.idxOf 1 gather_S8x100_S8x20000x2_S8x20000_n_01_n_n_01_2_11.startIndexMap, List.idxOf_lt_length_iff.2 (hm 1 (by decide))⟩ 1 rfl, v116_1, Arg.toInt_small _ (by omega)]
    show min (((mtc I b n).val : Nat) : Int).toNat (100 - 1) + 0 + 0 = (mtc I b n).val
    omega

theorem si_v135 (b : Fin 8) (n : Fin 20000) (k : Fin 4) (c : Fin gather_S8x100x4_S8x20000x2_S8x20000x4_2_01_n_n_01_2_114.startIndexMap.length) (q : Fin 2) (hq : c.val = q.val) :
    gather_S8x100x4_S8x20000x2_S8x20000x4_2_01_n_n_01_2_114.siIdx (ix3 b n k) c = ix3 b n q := by
  have e0 : ∀ X : Fin 3, X = 0 → ((ix3 b n k : S8x20000x4.Idx) X).val = b.val := fun X h => by subst h; rfl
  have e1 : ∀ X : Fin 3, X = 1 → ((ix3 b n k : S8x20000x4.Idx) X).val = n.val := fun X h => by subst h; rfl
  funext a
  apply Fin.ext
  match a with
  | ⟨0, _⟩ =>
    refine (congrArg Fin.val (dif_neg (show ¬ (0 = 2) by decide))).trans ?_
    unfold GatherDims.siCoord
    simp only [Fin.val_cast]
    exact e0 _ (by decide +kernel +revert)
  | ⟨1, _⟩ =>
    refine (congrArg Fin.val (dif_neg (show ¬ (1 = 2) by decide))).trans ?_
    unfold GatherDims.siCoord
    simp only [Fin.val_cast]
    exact e1 _ (by decide +kernel +revert)
  | ⟨2, _⟩ =>
    exact (congrArg Fin.val (dif_pos (show 2 = 2 from rfl))).trans hq

theorem v135_eq (b : Fin 8) (n : Fin 20000) (k : Fin 4) : t_v135 I (ix3 b n k) = I.G (ix3 b (mtc I b n) k) := by
  unfold t_v135 Host.gather
  refine congrArg I.G (funext fun a => Fin.ext ?_)
  have hm : ∀ a : Fin 3, a.val < 2 → a ∈ gather_S8x100x4_S8x20000x2_S8x20000x4_2_01_n_n_01_2_114.startIndexMap := by decide +kernel
  have hk : ∀ a : Fin 3, a.val < 2 → a ∉ gather_S8x100x4_S8x20000x2_S8x20000x4_2_01_n_n_01_2_114.sKept := by decide +kernel
  match a with
  | ⟨0, _⟩ =>
    show gather_S8x100x4_S8x20000x2_S8x20000x4_2_01_n_n_01_2_114.start (ix3 b n k) (t_v134 I) 0 + gather_S8x100x4_S8x20000x2_S8x20000x4_2_01_n_n_01_2_114.batchCoord (ix3 b n k) 0 + gather_S8x100x4_S8x20000x2_S8x20000x4_2_01_n_n_01_2_114.offCoord (ix3 b n k) 0 = b.val
    rw [GatherDims.batchCoord_eq_zero _ _ _ List.not_mem_nil, GatherDims.offCoord_eq_zero _ _ _ (hk 0 (by decide))]
    unfold GatherDims.start
    rw [dif_pos (hm 0 (by decide)), si_v135 b n k ⟨List.idxOf 0 gather_S8x100x4_S8x20000x2_S8x20000x4_2_01_n_n_01_2_114.startIndexMap, List.idxOf_lt_length_iff.2 (hm 0 (by decide))⟩ 0 rfl, v134_0, Arg.toInt_small _ (by omega)]
    show min ((b.val : Nat) : Int).toNat (8 - 1) + 0 + 0 = b.val
    omega
  | ⟨1, _⟩ =>
    show gather_S8x100x4_S8x20000x2_S8x20000x4_2_01_n_n_01_2_114.start (ix3 b n k) (t_v134 I) 1 + gather_S8x100x4_S8x20000x2_S8x20000x4_2_01_n_n_01_2_114.batchCoord (ix3 b n k) 1 + gather_S8x100x4_S8x20000x2_S8x20000x4_2_01_n_n_01_2_114.offCoord (ix3 b n k) 1 = (mtc I b n).val
    rw [GatherDims.batchCoord_eq_zero _ _ _ List.not_mem_nil, GatherDims.offCoord_eq_zero _ _ _ (hk 1 (by decide))]
    unfold GatherDims.start
    rw [dif_pos (hm 1 (by decide)), si_v135 b n k ⟨List.idxOf 1 gather_S8x100x4_S8x20000x2_S8x20000x4_2_01_n_n_01_2_114.startIndexMap, List.idxOf_lt_length_iff.2 (hm 1 (by decide))⟩ 1 rfl, v134_1, Arg.toInt_small _ (by omega)]
    show min (((mtc I b n).val : Nat) : Int).toNat (100 - 1) + 0 + 0 = (mtc I b n).val
    omega
  | ⟨2, _⟩ =>
    have e2 : ∀ X : Fin 3, X = 2 → ((ix3 b n k : S8x20000x4.Idx) X).val = k.val := fun X h => by subst h; rfl
    show gather_S8x100x4_S8x20000x2_S8x20000x4_2_01_n_n_01_2_114.start (ix3 b n k) (t_v134 I) 2 + gather_S8x100x4_S8x20000x2_S8x20000x4_2_01_n_n_01_2_114.batchCoord (ix3 b n k) 2 + gather_S8x100x4_S8x20000x2_S8x20000x4_2_01_n_n_01_2_114.offCoord (ix3 b n k) 2 = k.val
    rw [GatherDims.batchCoord_eq_zero _ _ _ List.not_mem_nil]
    unfold GatherDims.start GatherDims.offCoord
    rw [dif_neg (by decide +kernel), dif_pos (by decide +kernel), e2 _ (by decide +kernel)]
    omega

/-! ## The results -/

theorem v118_eq (i : S8x20000.Idx) : t_v118 (F := Ideal) i = Ideal.ofBits .f32 0x3F000000#32 := rfl

theorem v119_fun : t_v119 I = cmpf .olt (t_v102 I) (t_v118 (F := Ideal)) := rfl

theorem cmp_at (x y : FVec Ideal S8x20000 .f32) (i : S8x20000.Idx) : cmpf .olt x y i = Ideal.cmp .olt (x i) (y i) := rfl

theorem v119_eq (b : Fin 8) (n : Fin 20000) : t_v119 I (ix2 b n) = Ideal.cmp .olt (t_v102 I (ix2 b n)) (Ideal.ofBits .f32 0x3F000000#32) := by
  rw [v119_fun, cmp_at, v118_eq]

theorem v120_eq (b : Fin 8) (n : Fin 20000) :
    t_v120 I (ix2 b n) = if (Finset.univ.filter fun t => bestN I b t = n).Nonempty ∨ ((1 / 2 : ℝ) : EReal) ≤ ov I b (bestT I b n) n then I.L (ix2 b (mtc I b n)) else 0#32 := by
  have h : t_v120 I (ix2 b n) = Scalar.select (t_v119 I (ix2 b n)) 0#32 (t_v117 I (ix2 b n)) := by
    pointwise [t_v120, t_call2_v1, t_call2_v0, t_c_16]
  rw [h, v117_eq, v119_eq, v102_eq, half_f32]
  have h2 : ¬ ((2 : ℝ) : EReal) < ((1 / 2 : ℝ) : EReal) := by rw [EReal.coe_lt_coe_iff]; norm_num
  by_cases hf : (Finset.univ.filter fun t => bestN I b t = n).Nonempty
  · rw [if_pos hf, if_pos (Or.inl hf)]
    unfold Ideal.cmp Scalar.select
    rw [decide_eq_false h2]
    rfl
  · rw [if_neg hf]
    by_cases hq : ((1 / 2 : ℝ) : EReal) ≤ ov I b (bestT I b n) n
    · rw [if_pos (Or.inr hq)]
      unfold Ideal.cmp Scalar.select
      rw [decide_eq_false (not_lt.2 hq)]
      rfl
    · rw [if_neg (by rintro (q | q); exacts [hf q, hq q])]
      unfold Ideal.cmp Scalar.select
      rw [decide_eq_true (not_le.1 hq)]
      rfl

theorem v164_0 (b : Fin 8) (n : Fin 20000) : t_v164 I (ix3 b n 0)
    = Ideal.div (Ideal.div (Ideal.div (I.G (ix3 b (mtc I b n) 0) + I.G (ix3 b (mtc I b n) 2)) ((2 : ℝ) : EReal) - I.P (ix2 n 0)) (I.P (ix2 n 2))) ((13421773 / 134217728 : ℝ) : EReal) := by
  rw [← two_f32, ← tenth_f32]
  pointwise [t_v164, t_v155, t_v153, t_v149, t_v145, t_v144, t_v140, t_v138, t_v136, t_v137, t_v139, t_cst_21, t_v148, t_v147, t_v146, t_v152, t_v151, t_v150, t_v154, t_cst_22, v135_eq]

theorem v164_1 (b : Fin 8) (n : Fin 20000) : t_v164 I (ix3 b n 1)
    = Ideal.div (Ideal.div (Ideal.div (I.G (ix3 b (mtc I b n) 1) + I.G (ix3 b (mtc I b n) 3)) ((2 : ℝ) : EReal) - I.P (ix2 n 1)) (I.P (ix2 n 3))) ((13421773 / 134217728 : ℝ) : EReal) := by
  rw [← two_f32, ← tenth_f32]
  pointwise [t_v164, t_v155, t_v153, t_v149, t_v145, t_v144, t_v140, t_v138, t_v136, t_v137, t_v139, t_cst_21, t_v148, t_v147, t_v146, t_v152, t_v151, t_v150, t_v154, t_cst_22, v135_eq]

theorem v164_2 (b : Fin 8) (n : Fin 20000) : t_v164 I (ix3 b n 2)
    = Ideal.div (Ideal.log (Ideal.div (I.G (ix3 b (mtc I b n) 2) - I.G (ix3 b (mtc I b n) 0)) (I.P (ix2 n 2)))) ((13421773 / 67108864 : ℝ) : EReal) := by
  rw [← fifth_f32]
  pointwise [t_v164, t_v163, t_v161, t_v160, t_v156, t_v144, t_v143, t_v141, t_v142, t_v159, t_v158, t_v157, t_v162, t_cst_23, v135_eq]

theorem v164_3 (b : Fin 8) (n : Fin 20000) : t_v164 I (ix3 b n 3)
    = Ideal.div (Ideal.log (Ideal.div (I.G (ix3 b (mtc I b n) 3) - I.G (ix3 b (mtc I b n) 1)) (I.P (ix2 n 3)))) ((13421773 / 67108864 : ℝ) : EReal) := by
  rw [← fifth_f32]
  pointwise [t_v164, t_v163, t_v161, t_v160, t_v156, t_v144, t_v143, t_v141, t_v142, t_v159, t_v158, t_v157, t_v162, t_cst_23, v135_eq]

/-! ## The overlap ratio -/

theorem corner_lo (n : Fin 20000) (k : Fin 4) (hk : k.val < 2) : t_v12 I (ix2 n k) = I.P (ix2 n k) - Ideal.div (I.P (ix2 n ⟨2 + k.val, by omega⟩)) (Ideal.ofBits .f32 0x40000000#32) := by
  pointwise [t_v12, t_v6, t_v11, t_v2, t_v5, t_v3, t_v4, t_cst, t_v7, t_v10, t_v8, t_v9, t_cst_0]
  rw [dif_pos hk]

theorem corner_hi (n : Fin 20000) (k : Fin 4) (hk : ¬ k.val < 2) : t_v12 I (ix2 n k) = I.P (ix2 n ⟨k.val - 2, by omega⟩) + Ideal.div (I.P (ix2 n ⟨2 + (k.val - 2), by omega⟩)) (Ideal.ofBits .f32 0x40000000#32) := by
  pointwise [t_v12, t_v6, t_v11, t_v2, t_v5, t_v3, t_v4, t_cst, t_v7, t_v10, t_v8, t_v9, t_cst_0]
  rw [dif_neg hk]

theorem v36_at (b : Fin 8) (t : Fin 100) (n : Fin 20000) : t_v36 I (ix3 b t n)
    = max (min (I.G (ix3 b t 2)) (t_v12 I (ix2 n 2)) - max (I.G (ix3 b t 0)) (t_v12 I (ix2 n 0))) 0
      * max (min (I.G (ix3 b t 3)) (t_v12 I (ix2 n 3)) - max (I.G (ix3 b t 1)) (t_v12 I (ix2 n 1))) 0 := by
  pointwise [t_v36, t_v33, t_v35, t_v32, t_v34, t_v31, t_v30, t_cst_1, t_v29, t_v28, t_v20, t_v27, t_v26, t_v25, t_v24, t_v23, t_v22, t_v21, t_v19, t_v18, t_v17, t_v16, t_v15, t_v14, t_v13]

theorem v64_at (b : Fin 8) (t : Fin 100) (n : Fin 20000) : t_v64 I (ix3 b t n)
    = (I.G (ix3 b t 2) - I.G (ix3 b t 0)) * (I.G (ix3 b t 3) - I.G (ix3 b t 1))
      + (t_v12 I (ix2 n 2) - t_v12 I (ix2 n 0)) * (t_v12 I (ix2 n 3) - t_v12 I (ix2 n 1)) := by
  pointwise [t_v64, t_v63, t_v62, t_v61, t_v60, t_v59, t_v58, t_v57, t_v56, t_v55, t_v54, t_v53, t_v52, t_v51, t_v50, t_v49, t_v48, t_v47, t_v46, t_v45, t_v44, t_v43, t_v42, t_v41, t_v40, t_v39, t_v38, t_v37]

theorem ov_eq (b : Fin 8) (t : Fin 100) (n : Fin 20000) (hx : I.P (ix2 n 0) ≠ ⊤ ∧ I.P (ix2 n 0) ≠ ⊥) (hy : I.P (ix2 n 1) ≠ ⊤ ∧ I.P (ix2 n 1) ≠ ⊥) :
    ov I b t n = iou (I.P (ix2 n 0)) (I.P (ix2 n 1)) (I.P (ix2 n 2)) (I.P (ix2 n 3)) (I.G (ix3 b t 0)) (I.G (ix3 b t 1)) (I.G (ix3 b t 2)) (I.G (ix3 b t 3)) := by
  have c0 : t_v12 I (ix2 n 0) = I.P (ix2 n 0) - I.P (ix2 n 2) * ((1 / 2 : ℝ) : EReal) := by
    rw [corner_lo I n 0 (by decide), two_f32, div_two]; rfl
  have c1 : t_v12 I (ix2 n 1) = I.P (ix2 n 1) - I.P (ix2 n 3) * ((1 / 2 : ℝ) : EReal) := by
    rw [corner_lo I n 1 (by decide), two_f32, div_two]; rfl
  have c2 : t_v12 I (ix2 n 2) = I.P (ix2 n 0) + I.P (ix2 n 2) * ((1 / 2 : ℝ) : EReal) := by
    rw [corner_hi I n 2 (by decide), two_f32, div_two]; rfl
  have c3 : t_v12 I (ix2 n 3) = I.P (ix2 n 1) + I.P (ix2 n 3) * ((1 / 2 : ℝ) : EReal) := by
    rw [corner_hi I n 3 (by decide), two_f32, div_two]; rfl
  refine (v66_at I (ix3 b t n)).trans ?_
  rw [v36_at, v64_at, c0, c1, c2, c3, span _ _ hx.1 hx.2, span _ _ hy.1 hy.2]
  unfold iou inter
  rw [min_comm (I.G (ix3 b t 2)), min_comm (I.G (ix3 b t 3)), max_comm (I.G (ix3 b t 0)), max_comm (I.G (ix3 b t 1)), add_comm (_ * _) (I.P (ix2 n 2) * I.P (ix2 n 3))]

end Cert.Proof.Ref

end
-- ==== Proof.Algebraic.lean ====
/-
  The value claim: at the extended reals, of priors with finite centres, the kernel's two results are the reference's.
-/
module

public import proofs.«01_k».proof.Defs
public import proofs.«01_k».proof.Proof.Pre
public import proofs.«01_k».proof.Proof.KerVal
public import proofs.«01_k».proof.Proof.RefVal

@[expose] public section

set_option maxRecDepth 16384

noncomputable section

namespace Cert.Proof

open Idealize.ShloMosaic
open Idealize.ShloMosaic.TcCoe
open Idealize.SL Idealize.SL.Sem

/-! ## The precondition -/

theorem inf_f32 : Ideal.ofBits .f32 0x7F800000#32 = (⊤ : EReal) := by
  simp [Ideal.ofBits, Ideal.ieee]

theorem ofBool_one (p : Prop) [Decidable p] (h : BitVec.ofBool (decide p) = 1#1) : p := by
  by_contra hp
  rw [decide_eq_false hp] at h
  exact absurd h (by decide)

theorem below_top (x : EReal) (h : Ideal.cmp .olt (max x (-x)) (Ideal.ofBits .f32 0x7F800000#32) = 1#1) : x ≠ ⊤ ∧ x ≠ ⊥ := by
  rw [inf_f32, cmp_olt] at h
  have h2 := max_lt_iff.1 (ofBool_one _ h)
  refine ⟨ne_of_lt h2.1, fun e => ?_⟩
  rw [e, EReal.neg_bot] at h2
  exact lt_irrefl _ h2.2

theorem pre_at (a0 : Vec Ideal Cert.Pre_finite_centres.S20000x4 .f32) (a1 : Vec Ideal Cert.Pre_finite_centres.S8x100x4 .f32)
    (a2 : IVec Cert.Pre_finite_centres.S8x100 32) (h : Cert.Pre_finite_centres.fn (F := Ideal) a0 a1 a2 = fun _ => 1#1) (n : Fin 20000) :
    (a0 (ix2 n 0) ≠ ⊤ ∧ a0 (ix2 n 0) ≠ ⊥) ∧ (a0 (ix2 n 1) ≠ ⊤ ∧ a0 (ix2 n 1) ≠ ⊥) := by
  have e0 : Cert.Pre_finite_centres.fn (F := Ideal) a0 a1 a2 (ix2 n 0)
      = Ideal.cmp .olt (max (a0 (ix2 n 0)) (-(a0 (ix2 n 0)))) (Ideal.ofBits .f32 0x7F800000#32) := by
    pointwise [Cert.Pre_finite_centres.fn]
    rfl
  have e1 : Cert.Pre_finite_centres.fn (F := Ideal) a0 a1 a2 (ix2 n 1)
      = Ideal.cmp .olt (max (a0 (ix2 n 1)) (-(a0 (ix2 n 1)))) (Ideal.ofBits .f32 0x7F800000#32) := by
    pointwise [Cert.Pre_finite_centres.fn]
    rfl
  exact ⟨below_top _ (e0.symm.trans (congrFun h _)), below_top _ (e1.symm.trans (congrFun h _))⟩

/-! ## The two programs' values -/

variable (m : (ℓ : Loc Cert.KernelIdeal.nD Cert.KernelIdeal.τ Cert.KernelIdeal.sig) → Buf (Elt Ideal) ℓ) (d : Dev Cert.KernelIdeal.nD)

/-- The reference's arguments, being the kernel's. -/
def RK : Ref.RIn Ideal := ⟨A0 m d, A1 m d, A2 m d⟩

/-- Every prior's centre is finite. -/
def Fin2 : Prop := ∀ n : Fin 20000, (A0 m d (ix2 n 0) ≠ ⊤ ∧ A0 m d (ix2 n 0) ≠ ⊥) ∧ (A0 m d (ix2 n 1) ≠ ⊤ ∧ A0 m d (ix2 n 1) ≠ ⊥)

theorem ov_kb (h : Fin2 m d) (b : Fin 8) (t : Fin 100) (n : Fin 20000) : Ref.ov (RK m d) b t n = kb m d b t n := by
  rw [Ref.ov_eq (RK m d) b t n (h n).1 (h n).2]
  unfold kb
  rfl

theorem bestT_k (h : Fin2 m d) (b : Fin 8) (n : Fin 20000) : Ref.bestT (RK m d) b n = kT m d b n := by
  unfold Ref.bestT kT
  exact congrArg Arg.first (funext fun t => ov_kb m d h b t n)

theorem bestN_k (h : Fin2 m d) (b : Fin 8) : Ref.bestN (RK m d) b = kN m d b := by
  funext t
  unfold Ref.bestN kN
  exact congrArg Arg.first (funext fun n => ov_kb m d h b t n)

theorem mtc_k (h : Fin2 m d) (b : Fin 8) (n : Fin 20000) : Ref.mtc (RK m d) b n = kM m d b n := by
  unfold Ref.mtc kM
  rw [bestN_k m d h b, bestT_k m d h b n]

theorem pair_ix (i : Cert.KernelIdeal.S8x20000.Idx) : i = ix2 (i 0) (i 1) := by
  funext a
  match a with
  | 0 => rfl
  | 1 => rfl

theorem triple_ix (i : Cert.KernelIdeal.S8x20000x4.Idx) : i = ix3 (i 0) (i 1) (i 2) := by
  funext a
  match a with
  | 0 => rfl
  | 1 => rfl
  | 2 => rfl

theorem lab_at (h : Fin2 m d) (b : Fin 8) (n : Fin 20000) :
    Ref.t_v120 (RK m d) (ix2 b n) = V5 m d (Proc.devRef .tc Cert.KernelIdeal.main_v28) (ix2 b n) := by
  rw [lab_eq, Ref.v120_eq, mtc_k m d h, bestN_k m d h, bestT_k m d h, ov_kb m d h]
  rfl

theorem loc_at (h : Fin2 m d) (b : Fin 8) (n : Fin 20000) (k : Fin 4) :
    Ref.t_v164 (RK m d) (ix3 b n k) = V5 m d (Proc.devRef .tc Cert.KernelIdeal.main_v27) (ix3 b n k) := by
  rw [loc_eq]
  match k with
  | 0 =>
    rw [Ref.v164_0, mtc_k m d h]
    exact (encC_eq _ _ _ _).symm
  | 1 =>
    rw [Ref.v164_1, mtc_k m d h]
    exact (encC_eq _ _ _ _).symm
  | 2 =>
    rw [Ref.v164_2, mtc_k m d h]
    exact (encS_eq _ _ _).symm
  | 3 =>
    rw [Ref.v164_3, mtc_k m d h]
    exact (encS_eq _ _ _).symm

theorem lab_all (h : Fin2 m d) : Ref.t_v120 (RK m d) = V5 m d (Proc.devRef .tc Cert.KernelIdeal.main_v28) := by
  refine funext fun i => ?_
  have e := pair_ix i
  generalize i 0 = b at e
  generalize i 1 = n at e
  subst e
  exact lab_at m d h b n

theorem loc_all (h : Fin2 m d) : Ref.t_v164 (RK m d) = V5 m d (Proc.devRef .tc Cert.KernelIdeal.main_v27) := by
  refine funext fun i => ?_
  have e := triple_ix i
  generalize i 0 = b at e
  generalize i 1 = n at e
  generalize i 2 = k at e
  subst e
  exact loc_at m d h b n k

/-! ## The claim -/

variable (m' : (ℓ : Loc Cert.ReferenceIdeal.nD Cert.ReferenceIdeal.τ Cert.ReferenceIdeal.sig) → Buf (Elt Ideal) ℓ)

theorem args_k (h0 : m' ((d.tc : Thread Cert.ReferenceIdeal.nD Cert.ReferenceIdeal.τ).loc Cert.ReferenceIdeal.main_arg0) = A0 m d)
    (h1 : m' ((d.tc : Thread Cert.ReferenceIdeal.nD Cert.ReferenceIdeal.τ).loc Cert.ReferenceIdeal.main_arg1) = A1 m d)
    (h2 : m' ((d.tc : Thread Cert.ReferenceIdeal.nD Cert.ReferenceIdeal.τ).loc Cert.ReferenceIdeal.main_arg2) = A2 m d) :
    Ref.rin (StableHlo.launchContents m' d) = RK m d := by
  have e0 := (Ref.keeps (StableHlo.launchContents m' d) Cert.ReferenceIdeal.main_arg0 (by decide)).trans h0
  have e1 := (Ref.keeps (StableHlo.launchContents m' d) Cert.ReferenceIdeal.main_arg1 (by decide)).trans h1
  have e2 := (Ref.keeps (StableHlo.launchContents m' d) Cert.ReferenceIdeal.main_arg2 (by decide)).trans h2
  unfold Ref.rin RK
  exact congr (congr (congrArg Ref.RIn.mk e0) e1) e2

theorem algebraic : Cert.algebraic_KernelIdeal_ReferenceIdeal_pre_finite_centres := by
  intro m g m' g' hpre hag
  have hF : ∀ c : Dev Cert.KernelIdeal.nD, Fin2 m c := fun c n => pre_at _ _ _ (hpre c) n
  have hR : ∀ c : Dev Cert.KernelIdeal.nD, Ref.rin (StableHlo.launchContents m' c) = RK m c :=
    fun c => args_k m c m' (hag c).1 (hag c).2.1 (hag c).2.2
  refine ⟨fun c => V5 m c (Proc.devRef .tc Cert.KernelIdeal.main_v27), fun c => V5 m c (Proc.devRef .tc Cert.KernelIdeal.main_v28), ?_, ?_⟩
  · refine (θ_run Cert.KernelIdeal.defs _ _).mono (fun r h c => ⟨h.1 c _ (mem_uc _ (by decide)), h.1 c _ (mem_uc _ (by decide)),
      keeps m r h c _ (by decide), keeps m r h c _ (by decide), keeps m r h c _ (by decide)⟩) (run_main (F := Ideal) m g)
  · refine (θ_run Cert.ReferenceIdeal.defs _ _).mono (fun r h c => ⟨?_, ?_,
      (h c Cert.ReferenceIdeal.main_arg0).trans (Ref.keeps _ _ (by decide)), (h c Cert.ReferenceIdeal.main_arg1).trans (Ref.keeps _ _ (by decide)),
      (h c Cert.ReferenceIdeal.main_arg2).trans (Ref.keeps _ _ (by decide))⟩) (Ref.run (F := Ideal) m' g')
    · have e := Ref.f_v164 (StableHlo.launchContents m' c)
      rw [hR c, loc_all m c (hF c)] at e
      exact (h c Cert.ReferenceIdeal.main_v164).trans e
    · have e := Ref.f_v120 (StableHlo.launchContents m' c)
      rw [hR c, lab_all m c (hF c)] at e
      exact (h c Cert.ReferenceIdeal.main_v120).trans e

end Cert.Proof

end
-- ==== Proof.lean ====
/-
  The claims, put together.
-/
module

public import proofs.«01_k».proof.Defs
public import proofs.«01_k».proof.Proof.Frames
public import proofs.«01_k».proof.Proof.Ref
public import proofs.«01_k».proof.Proof.Pre
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, preFacts, frame_kernel, frame_ideal, frame_ideal_pre,
    Ref.frame_reference, frame_reference_pre, preserves, algebraic⟩

end Cert.Proof

end
